-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_mlp_finite [hPre_mlp_finite : Cert.Pre_mlp_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_mlp_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_mlp_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_mlp_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_mlp_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_mlp_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_mlp_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_mlp_finite [hPre_mlp_finite : Cert.Pre_mlp_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_mlp_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_mlp_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_mlp_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_mlp_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_mlp_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_mlp_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_att_finite [hPre_att_finite : Cert.Pre_att_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_att_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_att_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_att_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_att_finite [hPre_att_finite : Cert.Pre_att_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_att_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_att_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_att_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_gate_finite [hPre_gate_finite : Cert.Pre_gate_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_gate_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 = (fun _ => 1#1)
    ∧ (Cert.Pre_gate_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.1 = (fun _ => 1#1)
    ∧ (Cert.Pre_gate_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.1 = (fun _ => 1#1)
    ∧ (Cert.Pre_gate_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.1 = (fun _ => 1#1)
    ∧ (Cert.Pre_gate_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.2.1 = (fun _ => 1#1)
    ∧ (Cert.Pre_gate_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_gate_finite [hPre_gate_finite : Cert.Pre_gate_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_gate_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).1 = (fun _ => 1#1)
    ∧ (Cert.Pre_gate_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.1 = (fun _ => 1#1)
    ∧ (Cert.Pre_gate_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.1 = (fun _ => 1#1)
    ∧ (Cert.Pre_gate_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.1 = (fun _ => 1#1)
    ∧ (Cert.Pre_gate_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.2.1 = (fun _ => 1#1)
    ∧ (Cert.Pre_gate_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_mlp_finite [hKernel2Ideal : Cert.Kernel2Ideal.Facts] [hPre_mlp_finite : Cert.Pre_mlp_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_mlp_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_mlp_finite [hReference2Ideal : Cert.Reference2Ideal.Facts] [hPre_mlp_finite : Cert.Pre_mlp_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_mlp_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_att_finite [hKernel5Ideal : Cert.Kernel5Ideal.Facts] [hPre_att_finite : Cert.Pre_att_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_att_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_att_finite [hReference5Ideal : Cert.Reference5Ideal.Facts] [hPre_att_finite : Cert.Pre_att_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_att_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_gate_finite [hKernel7Ideal : Cert.Kernel7Ideal.Facts] [hPre_gate_finite : Cert.Pre_gate_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_gate_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_gate_finite [hReference7Ideal : Cert.Reference7Ideal.Facts] [hPre_gate_finite : Cert.Pre_gate_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_gate_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v124) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_mlp_finite [hKernel2Ideal : Cert.Kernel2Ideal.Facts] [hReference2Ideal : Cert.Reference2Ideal.Facts] [hPre_mlp_finite : Cert.Pre_mlp_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_mlp_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)) (v1 : (c : Dev Cert.Kernel2Ideal.nD) → Buf (Elt Ideal) ((c.tc : Thread Cert.Kernel2Ideal.nD Cert.Kernel2Ideal.τ).loc Cert.Kernel2Ideal.main_v10_0)) (v2 : (c : Dev Cert.Kernel2Ideal.nD) → Buf (Elt Ideal) ((c.tc : Thread Cert.Kernel2Ideal.nD Cert.Kernel2Ideal.τ).loc Cert.Kernel2Ideal.main_v10_1)) (v3 : (c : Dev Cert.Kernel2Ideal.nD) → Buf (Elt Ideal) ((c.tc : Thread Cert.Kernel2Ideal.nD Cert.Kernel2Ideal.τ).loc Cert.Kernel2Ideal.main_v10_2)) (v4 : (c : Dev Cert.Kernel2Ideal.nD) → Buf (Elt Ideal) ((c.tc : Thread Cert.Kernel2Ideal.nD Cert.Kernel2Ideal.τ).loc Cert.Kernel2Ideal.main_v8)) (v5 : (c : Dev Cert.Kernel2Ideal.nD) → Buf (Elt Ideal) ((c.tc : Thread Cert.Kernel2Ideal.nD Cert.Kernel2Ideal.τ).loc Cert.Kernel2Ideal.main_v9)) (v6 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_v10_0) = v1 c
          ∧ r.2.mem ((c.tc : Thread Cert.Kernel2Ideal.nD Cert.Kernel2Ideal.τ).loc Cert.Kernel2Ideal.main_v10_1) = v2 c
          ∧ r.2.mem ((c.tc : Thread Cert.Kernel2Ideal.nD Cert.Kernel2Ideal.τ).loc Cert.Kernel2Ideal.main_v10_2) = v3 c
          ∧ r.2.mem ((c.tc : Thread Cert.Kernel2Ideal.nD Cert.Kernel2Ideal.τ).loc Cert.Kernel2Ideal.main_v8) = v4 c
          ∧ r.2.mem ((c.tc : Thread Cert.Kernel2Ideal.nD Cert.Kernel2Ideal.τ).loc Cert.Kernel2Ideal.main_v9) = v5 c
          ∧ r.2.mem ((c.tc : Thread Cert.Kernel2Ideal.nD Cert.Kernel2Ideal.τ).loc Cert.Kernel2Ideal.main_v5) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_v66) = v2 c
          ∧ r.2.mem ((c.tc : Thread Cert.Reference2Ideal.nD Cert.Reference2Ideal.τ).loc Cert.Reference2Ideal.main_v65) = v3 c
          ∧ r.2.mem ((c.tc : Thread Cert.Reference2Ideal.nD Cert.Reference2Ideal.τ).loc Cert.Reference2Ideal.main_v67) = v4 c
          ∧ r.2.mem ((c.tc : Thread Cert.Reference2Ideal.nD Cert.Reference2Ideal.τ).loc Cert.Reference2Ideal.main_v68) = v5 c
          ∧ r.2.mem ((c.tc : Thread Cert.Reference2Ideal.nD Cert.Reference2Ideal.τ).loc Cert.Reference2Ideal.main_v69) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)) (v1 : (c : Dev Cert.Kernel3Ideal.nD) → Buf (Elt Ideal) ((c.tc : Thread Cert.Kernel3Ideal.nD Cert.Kernel3Ideal.τ).loc Cert.Kernel3Ideal.main_v1)) (v2 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_v1) = v1 c
          ∧ r.2.mem ((c.tc : Thread Cert.Kernel3Ideal.nD Cert.Kernel3Ideal.τ).loc Cert.Kernel3Ideal.main_v2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_v8) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)) (v1 : (c : Dev Cert.Kernel4Ideal.nD) → Buf (Elt Ideal) ((c.tc : Thread Cert.Kernel4Ideal.nD Cert.Kernel4Ideal.τ).loc Cert.Kernel4Ideal.main_v4_0)) (v2 : (c : Dev Cert.Kernel4Ideal.nD) → Buf (Elt Ideal) ((c.tc : Thread Cert.Kernel4Ideal.nD Cert.Kernel4Ideal.τ).loc Cert.Kernel4Ideal.main_v4_1)) (v3 : (c : Dev Cert.Kernel4Ideal.nD) → Buf (Elt Ideal) ((c.tc : Thread Cert.Kernel4Ideal.nD Cert.Kernel4Ideal.τ).loc Cert.Kernel4Ideal.main_v4_2)) (v4 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_v4_0) = v1 c
          ∧ r.2.mem ((c.tc : Thread Cert.Kernel4Ideal.nD Cert.Kernel4Ideal.τ).loc Cert.Kernel4Ideal.main_v4_1) = v2 c
          ∧ r.2.mem ((c.tc : Thread Cert.Kernel4Ideal.nD Cert.Kernel4Ideal.τ).loc Cert.Kernel4Ideal.main_v4_2) = v3 c
          ∧ r.2.mem ((c.tc : Thread Cert.Kernel4Ideal.nD Cert.Kernel4Ideal.τ).loc Cert.Kernel4Ideal.main_v3) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v43) = v1 c
          ∧ r.2.mem ((c.tc : Thread Cert.Reference4Ideal.nD Cert.Reference4Ideal.τ).loc Cert.Reference4Ideal.main_v45) = v2 c
          ∧ r.2.mem ((c.tc : Thread Cert.Reference4Ideal.nD Cert.Reference4Ideal.τ).loc Cert.Reference4Ideal.main_v44) = v3 c
          ∧ r.2.mem ((c.tc : Thread Cert.Reference4Ideal.nD Cert.Reference4Ideal.τ).loc Cert.Reference4Ideal.main_v46) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_att_finite [hKernel5Ideal : Cert.Kernel5Ideal.Facts] [hReference5Ideal : Cert.Reference5Ideal.Facts] [hPre_att_finite : Cert.Pre_att_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_att_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_gate_finite [hKernel7Ideal : Cert.Kernel7Ideal.Facts] [hReference7Ideal : Cert.Reference7Ideal.Facts] [hPre_gate_finite : Cert.Pre_gate_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_gate_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v87) = v0 c
          ∧ r.2.mem ((c.tc : Thread Cert.Reference7Ideal.nD Cert.Reference7Ideal.τ).loc Cert.Reference7Ideal.main_v66) = v1 c
          ∧ r.2.mem ((c.tc : Thread Cert.Reference7Ideal.nD Cert.Reference7Ideal.τ).loc Cert.Reference7Ideal.main_v89) = v2 c
          ∧ r.2.mem ((c.tc : Thread Cert.Reference7Ideal.nD Cert.Reference7Ideal.τ).loc Cert.Reference7Ideal.main_v88) = v3 c
          ∧ r.2.mem ((c.tc : Thread Cert.Reference7Ideal.nD Cert.Reference7Ideal.τ).loc Cert.Reference7Ideal.main_v48) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_mlp_finite : Cert.Pre_mlp_finite.Facts) (hPre_att_finite : Cert.Pre_att_finite.Facts) (hPre_gate_finite : Cert.Pre_gate_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_mlp_finite (hKernel2Ideal := hKernel2Ideal) (hPre_mlp_finite := hPre_mlp_finite)
    ∧ quiescent_Reference2Ideal (hReference2Ideal := hReference2Ideal)
    ∧ quiescent_Reference2Ideal_pre_mlp_finite (hReference2Ideal := hReference2Ideal) (hPre_mlp_finite := hPre_mlp_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_att_finite (hKernel5Ideal := hKernel5Ideal) (hPre_att_finite := hPre_att_finite)
    ∧ quiescent_Reference5Ideal (hReference5Ideal := hReference5Ideal)
    ∧ quiescent_Reference5Ideal_pre_att_finite (hReference5Ideal := hReference5Ideal) (hPre_att_finite := hPre_att_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_gate_finite (hKernel7Ideal := hKernel7Ideal) (hPre_gate_finite := hPre_gate_finite)
    ∧ quiescent_Reference7Ideal (hReference7Ideal := hReference7Ideal)
    ∧ quiescent_Reference7Ideal_pre_gate_finite (hReference7Ideal := hReference7Ideal) (hPre_gate_finite := hPre_gate_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_mlp_finite (hKernel2Ideal := hKernel2Ideal) (hReference2Ideal := hReference2Ideal) (hPre_mlp_finite := hPre_mlp_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_att_finite (hKernel5Ideal := hKernel5Ideal) (hReference5Ideal := hReference5Ideal) (hPre_att_finite := hPre_att_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_gate_finite (hKernel7Ideal := hKernel7Ideal) (hReference7Ideal := hReference7Ideal) (hPre_gate_finite := hPre_gate_finite)
-- ==== Pre_att_finite.lean ====
abbrev S4096x6144 : Shape := ⟨2, ![4096, 6144]⟩
abbrev S1x128 : Shape := ⟨2, ![1, 128]⟩
abbrev S_ : Shape := ⟨0, ![]⟩

class Facts : Prop where
  bcast_S_S4096x6144 : S_.BroadcastsInDim S4096x6144 (![] : Fin 0 → Fin S4096x6144.rank)
  bcast_S_S1x128 : S_.BroadcastsInDim S1x128 (![] : Fin 0 → Fin S1x128.rank)

variable [Facts]

def fn {F : FTy → Type} [FloatOps F] (main_arg0 : FVec F S4096x6144 .f32) (main_arg1 : FVec F S1x128 .f32) (main_arg2 : FVec F S1x128 .f32) : IVec S4096x6144 1 × IVec S1x128 1 × IVec S1x128 1 :=
  let main_v0 : FVec F S4096x6144 .f32 := Host.absf main_arg0
  let main_cst : FVec F S_ .f32 := constant S_ .f32 0x7F800000#32
  let main_v1 : FVec F S4096x6144 .f32 := broadcastInDim S4096x6144 ![] bcast_S_S4096x6144 main_cst
  let main_v2 : IVec S4096x6144 1 := cmpf .olt main_v0 main_v1
  let main_v3 : FVec F S1x128 .f32 := Host.absf main_arg1
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  (main_v2, main_v5, main_v8)
-- ==== Pre_finite.lean ====
abbrev S4096x6144 : Shape := ⟨2, ![4096, 6144]⟩
abbrev S4096x1024 : Shape := ⟨2, ![4096, 1024]⟩
abbrev S1x128 : Shape := ⟨2, ![1, 128]⟩
abbrev S_ : Shape := ⟨0, ![]⟩

class Facts : Prop where
  bcast_S_S4096x6144 : S_.BroadcastsInDim S4096x6144 (![] : Fin 0 → Fin S4096x6144.rank)
  bcast_S_S4096x1024 : S_.BroadcastsInDim S4096x1024 (![] : Fin 0 → Fin S4096x1024.rank)
  bcast_S_S1x128 : S_.BroadcastsInDim S1x128 (![] : Fin 0 → Fin S1x128.rank)

variable [Facts]

def fn {F : FTy → Type} [FloatOps F] (main_arg0 : FVec F S4096x6144 .f32) (main_arg1 : FVec F S4096x1024 .f32) (main_arg2 : FVec F S1x128 .f32) (main_arg3 : FVec F S1x128 .f32) : IVec S4096x6144 1 × IVec S4096x1024 1 × IVec S1x128 1 × IVec S1x128 1 :=
  let main_v0 : FVec F S4096x6144 .f32 := Host.absf main_arg0
  let main_cst : FVec F S_ .f32 := constant S_ .f32 0x7F800000#32
  let main_v1 : FVec F S4096x6144 .f32 := broadcastInDim S4096x6144 ![] bcast_S_S4096x6144 main_cst
  let main_v2 : IVec S4096x6144 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  (main_v2, main_v5, main_v8, main_v11)
-- ==== Pre_gate_finite.lean ====
abbrev S4096x2048 : Shape := ⟨2, ![4096, 2048]⟩
abbrev S4096x1024 : Shape := ⟨2, ![4096, 1024]⟩
abbrev S4096x6144 : Shape := ⟨2, ![4096, 6144]⟩
abbrev S1x1024 : Shape := ⟨2, ![1, 1024]⟩
abbrev S_ : Shape := ⟨0, ![]⟩

class Facts : Prop where
  bcast_S_S4096x2048 : S_.BroadcastsInDim S4096x2048 (![] : Fin 0 → Fin S4096x2048.rank)
  bcast_S_S4096x1024 : S_.BroadcastsInDim S4096x1024 (![] : Fin 0 → Fin S4096x1024.rank)
  bcast_S_S4096x6144 : S_.BroadcastsInDim S4096x6144 (![] : Fin 0 → Fin S4096x6144.rank)
  bcast_S_S1x1024 : S_.BroadcastsInDim S1x1024 (![] : Fin 0 → Fin S1x1024.rank)

variable [Facts]

def fn {F : FTy → Type} [FloatOps F] (main_arg0 : FVec F S4096x2048 .f32) (main_arg1 : FVec F S4096x1024 .f32) (main_arg2 : FVec F S4096x1024 .f32) (main_arg3 : FVec F S4096x6144 .f32) (main_arg4 : FVec F S1x1024 .f32) (main_arg5 : FVec F S1x1024 .f32) : IVec S4096x2048 1 × IVec S4096x1024 1 × IVec S4096x1024 1 × IVec S4096x6144 1 × IVec S1x1024 1 × IVec S1x1024 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x6144 .f32 := Host.absf main_arg3
  let main_cst_2 : FVec F S_ .f32 := constant S_ .f32 0x7F800000#32
  let main_v10 : FVec F S4096x6144 .f32 := broadcastInDim S4096x6144 ![] bcast_S_S4096x6144 main_cst_2
  let main_v11 : IVec S4096x6144 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_mlp_finite.lean ====
abbrev S4096x2048 : Shape := ⟨2, ![4096, 2048]⟩
abbrev S1x2048 : Shape := ⟨2, ![1, 2048]⟩
abbrev S6144x2048 : Shape := ⟨2, ![6144, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)
  bcast_S_S6144x2048 : S_.BroadcastsInDim S6144x2048 (![] : Fin 0 → Fin S6144x2048.rank)

variable [Facts]

def fn {F : FTy → Type} [FloatOps F] (main_arg0 : FVec F S4096x2048 .f32) (main_arg1 : FVec F S1x2048 .f32) (main_arg2 : FVec F S6144x2048 .bf16) (main_arg3 : FVec F S6144x2048 .bf16) (main_arg4 : FVec F S6144x2048 .bf16) (main_arg5 : FVec F S4096x2048 .f32) : IVec S4096x2048 1 × IVec S1x2048 1 × IVec S6144x2048 1 × IVec S6144x2048 1 × IVec S6144x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S6144x2048 .bf16 := Host.absf main_arg2
  let main_cst_1 : FVec F S_ .bf16 := constant S_ .bf16 0x7F80#16
  let main_v7 : FVec F S6144x2048 .bf16 := broadcastInDim S6144x2048 ![] bcast_S_S6144x2048 main_cst_1
  let main_v8 : IVec S6144x2048 1 := cmpf .olt main_v6 main_v7
  let main_v9 : FVec F S6144x2048 .bf16 := Host.absf main_arg3
  let main_cst_2 : FVec F S_ .bf16 := constant S_ .bf16 0x7F80#16
  let main_v10 : FVec F S6144x2048 .bf16 := broadcastInDim S6144x2048 ![] bcast_S_S6144x2048 main_cst_2
  let main_v11 : IVec S6144x2048 1 := cmpf .olt main_v9 main_v10
  let main_v12 : FVec F S6144x2048 .bf16 := Host.absf main_arg4
  let main_cst_3 : FVec F S_ .bf16 := constant S_ .bf16 0x7F80#16
  let main_v13 : FVec F S6144x2048 .bf16 := broadcastInDim S6144x2048 ![] bcast_S_S6144x2048 main_cst_3
  let main_v14 : IVec S6144x2048 1 := cmpf .olt main_v12 main_v13
  let main_v15 : FVec F S4096x2048 .f32 := Host.absf main_arg5
  let main_cst_4 : FVec F S_ .f32 := constant S_ .f32 0x7F800000#32
  let main_v16 : FVec F S4096x2048 .f32 := broadcastInDim S4096x2048 ![] bcast_S_S4096x2048 main_cst_4
  let main_v17 : IVec S4096x2048 1 := cmpf .olt main_v15 main_v16
  (main_v2, main_v5, main_v8, main_v11, main_v14, main_v17)
-- ==== Kernel.lean ====
abbrev S4096x6144 : Shape := ⟨2, ![4096, 6144]⟩
abbrev S4096x1024 : Shape := ⟨2, ![4096, 1024]⟩
abbrev S1x128 : Shape := ⟨2, ![1, 128]⟩
abbrev S2048x256 : Shape := ⟨2, ![2048, 256]⟩
abbrev S16x256x256 : Shape := ⟨3, ![16, 256, 256]⟩
abbrev S2048x128 : Shape := ⟨2, ![2048, 128]⟩
abbrev S2048 : Shape := ⟨1, ![2048]⟩
abbrev S2048x1 : Shape := ⟨2, ![2048, 1]⟩
abbrev S256x256 : Shape := ⟨2, ![256, 256]⟩
abbrev S512x256 : Shape := ⟨2, ![512, 256]⟩
abbrev S256x128 : Shape := ⟨2, ![256, 128]⟩
abbrev S256x1 : Shape := ⟨2, ![256, 1]⟩
abbrev S256x512 : Shape := ⟨2, ![256, 512]⟩
abbrev S1x256x256 : Shape := ⟨3, ![1, 256, 256]⟩
abbrev S256 : Shape := ⟨1, ![256]⟩
abbrev S128 : Shape := ⟨1, ![128]⟩

abbrev nBuf : Space → Nat
  | .hbm => 9
  | .vmem => 27
  | .smem => 0
  | _ => 0

abbrev bufTy : (tb : Table) → Fin (tcTables nBuf tb) → BufTy
  | .hbm, ⟨0, _⟩ => ⟨S4096x6144, .f32⟩
  | .hbm, ⟨1, _⟩ => ⟨S4096x1024, .f32⟩
  | .hbm, ⟨2, _⟩ => ⟨S1x128, .f32⟩
  | .hbm, ⟨3, _⟩ => ⟨S1x128, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S1x128, .f32⟩
  | .hbm, ⟨8, _⟩ => ⟨S1x128, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S1x128, .f32⟩
  | .local _ .vmem, ⟨9, _⟩ => ⟨S1x128, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S1x128, .f32⟩
  | .local _ .vmem, ⟨17, _⟩ => ⟨S1x128, .f32⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .f32⟩
  | .local _ .vmem, ⟨23, _⟩ => ⟨S2048x256, .f32⟩
  | .local _ .vmem, ⟨24, _⟩ => ⟨S2048x256, .f32⟩
  | .local _ .vmem, ⟨25, _⟩ => ⟨S16x256x256, .f32⟩
  | .local _ .vmem, ⟨26, _⟩ => ⟨S16x256x256, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_58 : BitVec 32 := 0#32
  let c8_i32 : BitVec 32 := 8#32
  let v120 : BitVec 32 := Scalar.addi c0_i32_58 c8_i32
  let c1_i32 : BitVec 32 := 1#32
  ⟨c0_i32_58, v120, c1_i32⟩
def k0_mult1 (k0_t1 : Fin k0_t1_loop.trips) : BitVec 32 :=
  let c0_i32_58 : BitVec 32 := 0#32
  let c1_i32 : BitVec 32 := 1#32
  let arg21 : BitVec 32 := Scf.iv c0_i32_58 c1_i32 k0_t1
  let c256_i32 : BitVec 32 := 256#32
  let v267 : BitVec 32 := Scalar.muli arg21 c256_i32
  v267
def k0_off1 (k0_t1 : Fin k0_t1_loop.trips) : Fin 2 → Nat :=
  let c0_i32_58 : BitVec 32 := 0#32
  let c1_i32 : BitVec 32 := 1#32
  let arg21 : BitVec 32 := Scf.iv c0_i32_58 c1_i32 k0_t1
  let c256_i32 : BitVec 32 := 256#32
  let v267 : BitVec 32 := Scalar.muli arg21 c256_i32
  let v268 : BitVec 32 := v267
  let v269 : Index := Scalar.indexCast v268
  let c0_142 : Index := 0#32
  ![v269.toNat, 0]
def k0_off2 (k0_t1 : Fin k0_t1_loop.trips) : Fin 2 → Nat :=
  let c0_i32_58 : BitVec 32 := 0#32
  let c1_i32 : BitVec 32 := 1#32
  let arg21 : BitVec 32 := Scf.iv c0_i32_58 c1_i32 k0_t1
  let c256_i32 : BitVec 32 := 256#32
  let v267 : BitVec 32 := Scalar.muli arg21 c256_i32
  let v268 : BitVec 32 := v267
  let v271 : Index := Scalar.indexCast v268
  let c128_143 : Index := 128#32
  ![v271.toNat, 128]
def k0_mult2 (k0_t1 : Fin k0_t1_loop.trips) : BitVec 32 :=
  let c0_i32_58 : BitVec 32 := 0#32
  let c1_i32 : BitVec 32 := 1#32
  let arg21 : BitVec 32 := Scf.iv c0_i32_58 c1_i32 k0_t1
  let c256_i32_147 : BitVec 32 := 256#32
  let v278 : BitVec 32 := Scalar.muli arg21 c256_i32_147
  v278
def k0_mult3 (k0_t1 : Fin k0_t1_loop.trips) : BitVec 32 :=
  let c0_i32_58 : BitVec 32 := 0#32
  let c1_i32 : BitVec 32 := 1#32
  let arg21 : BitVec 32 := Scf.iv c0_i32_58 c1_i32 k0_t1
  let c256_i32_151 : BitVec 32 := 256#32
  let v284 : BitVec 32 := Scalar.muli arg21 c256_i32_151
  v284
def k0_mult4 (k0_t1 : Fin k0_t1_loop.trips) : BitVec 32 :=
  let c0_i32_58 : BitVec 32 := 0#32
  let c1_i32 : BitVec 32 := 1#32
  let arg21 : BitVec 32 := Scf.iv c0_i32_58 c1_i32 k0_t1
  let c256_i32_155 : BitVec 32 := 256#32
  let v290 : BitVec 32 := Scalar.muli arg21 c256_i32_155
  v290
def k0_mult5 (k0_t1 : Fin k0_t1_loop.trips) : BitVec 32 :=
  let c0_i32_58 : BitVec 32 := 0#32
  let c1_i32 : BitVec 32 := 1#32
  let arg21 : BitVec 32 := Scf.iv c0_i32_58 c1_i32 k0_t1
  let c1_i32_156 : BitVec 32 := 1#32
  let v292 : BitVec 32 := Scalar.subi arg21 c1_i32_156
  let c0_i32_157 : BitVec 32 := 0#32
  let v293 : BitVec 32 := Scalar.maxsi v292 c0_i32_157
  let c256_i32_158 : BitVec 32 := 256#32
  let v294 : BitVec 32 := Scalar.muli v293 c256_i32_158
  v294
def k0_off3 (k0_t1 : Fin k0_t1_loop.trips) : Fin 2 → Nat :=
  let c0_i32_58 : BitVec 32 := 0#32
  let c1_i32 : BitVec 32 := 1#32
  let arg21 : BitVec 32 := Scf.iv c0_i32_58 c1_i32 k0_t1
  let c1_i32_156 : BitVec 32 := 1#32
  let v292 : BitVec 32 := Scalar.subi arg21 c1_i32_156
  let c0_i32_157 : BitVec 32 := 0#32
  let v293 : BitVec 32 := Scalar.maxsi v292 c0_i32_157
  let c256_i32_158 : BitVec 32 := 256#32
  let v294 : BitVec 32 := Scalar.muli v293 c256_i32_158
  let v295 : BitVec 32 := v294
  let v296 : Index := Scalar.indexCast v295
  let c0_159 : Index := 0#32
  ![v296.toNat, 0]
def k0_off4 (k0_t1 : Fin k0_t1_loop.trips) (c0_i32_171 : BitVec 32) : Fin 3 → Nat :=
  let c0_i32_58 : BitVec 32 := 0#32
  let c1_i32 : BitVec 32 := 1#32
  let arg21 : BitVec 32 := Scf.iv c0_i32_58 c1_i32 k0_t1
  let v332 : BitVec 32 := Scalar.addi c0_i32_171 arg21
  let v333 : Index := Scalar.indexCast v332
  let c0_172 : Index := 0#32
  let c0_173 : Index := 0#32
  ![v333.toNat, 0, 0]
def k0_mult6 (k0_t1 : Fin k0_t1_loop.trips) : BitVec 32 :=
  let c0_i32_58 : BitVec 32 := 0#32
  let c1_i32 : BitVec 32 := 1#32
  let arg21 : BitVec 32 := Scf.iv c0_i32_58 c1_i32 k0_t1
  let c1_i32_181 : BitVec 32 := 1#32
  let v355 : BitVec 32 := Scalar.subi arg21 c1_i32_181
  let c0_i32_182 : BitVec 32 := 0#32
  let v356 : BitVec 32 := Scalar.maxsi v355 c0_i32_182
  let c256_i32_183 : BitVec 32 := 256#32
  let v357 : BitVec 32 := Scalar.muli v356 c256_i32_183
  v357
def k0_off5 (k0_t1 : Fin k0_t1_loop.trips) : Fin 2 → Nat :=
  let c0_i32_58 : BitVec 32 := 0#32
  let c1_i32 : BitVec 32 := 1#32
  let arg21 : BitVec 32 := Scf.iv c0_i32_58 c1_i32 k0_t1
  let c1_i32_181 : BitVec 32 := 1#32
  let v355 : BitVec 32 := Scalar.subi arg21 c1_i32_181
  let c0_i32_182 : BitVec 32 := 0#32
  let v356 : BitVec 32 := Scalar.maxsi v355 c0_i32_182
  let c256_i32_183 : BitVec 32 := 256#32
  let v357 : BitVec 32 := Scalar.muli v356 c256_i32_183
  let v358 : BitVec 32 := v357
  let v359 : Index := Scalar.indexCast v358
  let c128_184 : Index := 128#32
  ![v359.toNat, 128]
@[reducible] def k0_t2_loop (k0_t1 : Fin k0_t1_loop.trips) : Scf.Loop 32 :=
  let c1_i32_206 : BitVec 32 := 1#32
  let c0_i32_58 : BitVec 32 := 0#32
  let c1_i32 : BitVec 32 := 1#32
  let arg21 : BitVec 32 := Scf.iv c0_i32_58 c1_i32 k0_t1
  let c1_i32_154 : BitVec 32 := 1#32
  let v289 : BitVec 32 := Scalar.addi arg21 c1_i32_154
  let v418 : BitVec 32 := Scalar.subi v289 c1_i32_206
  let c1_i32_207 : BitVec 32 := 1#32
  let v420 : BitVec 32 := Scalar.divsi v418 c1_i32_207
  let v421 : BitVec 32 := Scalar.muli v420 c1_i32_207
  let v422 : BitVec 32 := Scalar.addi c1_i32_206 v421
  let c1_i32_208 : BitVec 32 := 1#32
  ⟨c1_i32_206, v422, c1_i32_208⟩
def k0_mult7 (k0_t1 : Fin k0_t1_loop.trips) (k0_t2 : Fin (k0_t2_loop k0_t1).trips) : BitVec 32 :=
  let c0_i32_58 : BitVec 32 := 0#32
  let c1_i32 : BitVec 32 := 1#32
  let arg21 : BitVec 32 := Scf.iv c0_i32_58 c1_i32 k0_t1
  let c1_i32_206 : BitVec 32 := 1#32
  let c1_i32_208 : BitVec 32 := 1#32
  let arg22 : BitVec 32 := Scf.iv c1_i32_206 c1_i32_208 k0_t2
  let v518 : BitVec 32 := Scalar.subi arg21 arg22
  let c256_i32_252 : BitVec 32 := 256#32
  let v519 : BitVec 32 := Scalar.muli v518 c256_i32_252
  v519
def k0_mult8 (k0_t1 : Fin k0_t1_loop.trips) (k0_t2 : Fin (k0_t2_loop k0_t1).trips) : BitVec 32 :=
  let c0_i32_58 : BitVec 32 := 0#32
  let c1_i32 : BitVec 32 := 1#32
  let arg21 : BitVec 32 := Scf.iv c0_i32_58 c1_i32 k0_t1
  let c1_i32_206 : BitVec 32 := 1#32
  let c1_i32_208 : BitVec 32 := 1#32
  let arg22 : BitVec 32 := Scf.iv c1_i32_206 c1_i32_208 k0_t2
  let v518 : BitVec 32 := Scalar.subi arg21 arg22
  let c1_i32_253 : BitVec 32 := 1#32
  let v521 : BitVec 32 := Scalar.subi v518 c1_i32_253
  let c0_i32_254 : BitVec 32 := 0#32
  let v522 : BitVec 32 := Scalar.maxsi v521 c0_i32_254
  let c256_i32_255 : BitVec 32 := 256#32
  let v523 : BitVec 32 := Scalar.muli v522 c256_i32_255
  v523
def k0_off6 (k0_t1 : Fin k0_t1_loop.trips) (k0_t2 : Fin (k0_t2_loop k0_t1).trips) : Fin 2 → Nat :=
  let c0_i32_58 : BitVec 32 := 0#32
  let c1_i32 : BitVec 32 := 1#32
  let arg21 : BitVec 32 := Scf.iv c0_i32_58 c1_i32 k0_t1
  let c1_i32_206 : BitVec 32 := 1#32
  let c1_i32_208 : BitVec 32 := 1#32
  let arg22 : BitVec 32 := Scf.iv c1_i32_206 c1_i32_208 k0_t2
  let v518 : BitVec 32 := Scalar.subi arg21 arg22
  let c1_i32_253 : BitVec 32 := 1#32
  let v521 : BitVec 32 := Scalar.subi v518 c1_i32_253
  let c0_i32_254 : BitVec 32 := 0#32
  let v522 : BitVec 32 := Scalar.maxsi v521 c0_i32_254
  let c256_i32_255 : BitVec 32 := 256#32
  let v523 : BitVec 32 := Scalar.muli v522 c256_i32_255
  let v524 : BitVec 32 := v523
  let v525 : Index := Scalar.indexCast v524
  let c0_256 : Index := 0#32
  ![v525.toNat, 0]
def k0_off7 (k0_t1 : Fin k0_t1_loop.trips) (k0_t2 : Fin (k0_t2_loop k0_t1).trips) : Fin 2 → Nat :=
  let c0_i32_58 : BitVec 32 := 0#32
  let c1_i32 : BitVec 32 := 1#32
  let arg21 : BitVec 32 := Scf.iv c0_i32_58 c1_i32 k0_t1
  let c1_i32_206 : BitVec 32 := 1#32
  let c1_i32_208 : BitVec 32 := 1#32
  let arg22 : BitVec 32 := Scf.iv c1_i32_206 c1_i32_208 k0_t2
  let v518 : BitVec 32 := Scalar.subi arg21 arg22
  let c256_i32_252 : BitVec 32 := 256#32
  let v519 : BitVec 32 := Scalar.muli v518 c256_i32_252
  let v520 : BitVec 32 := v519
  let v553 : Index := Scalar.indexCast v520
  let c0_264 : Index := 0#32
  ![v553.toNat, 0]
def k0_off8 (k0_t1 : Fin k0_t1_loop.trips) (k0_t2 : Fin (k0_t2_loop k0_t1).trips) (c0_i32_266 : BitVec 32) : Fin 3 → Nat :=
  let c0_i32_58 : BitVec 32 := 0#32
  let c1_i32 : BitVec 32 := 1#32
  let arg21 : BitVec 32 := Scf.iv c0_i32_58 c1_i32 k0_t1
  let c1_i32_206 : BitVec 32 := 1#32
  let c1_i32_208 : BitVec 32 := 1#32
  let arg22 : BitVec 32 := Scf.iv c1_i32_206 c1_i32_208 k0_t2
  let v518 : BitVec 32 := Scalar.subi arg21 arg22
  let v557 : BitVec 32 := Scalar.addi c0_i32_266 v518
  let v558 : Index := Scalar.indexCast v557
  let c0_267 : Index := 0#32
  let c0_268 : Index := 0#32
  ![v558.toNat, 0, 0]
def k0_mult9 (k0_t1 : Fin k0_t1_loop.trips) (k0_t2 : Fin (k0_t2_loop k0_t1).trips) : BitVec 32 :=
  let c0_i32_58 : BitVec 32 := 0#32
  let c1_i32 : BitVec 32 := 1#32
  let arg21 : BitVec 32 := Scf.iv c0_i32_58 c1_i32 k0_t1
  let c1_i32_206 : BitVec 32 := 1#32
  let c1_i32_208 : BitVec 32 := 1#32
  let arg22 : BitVec 32 := Scf.iv c1_i32_206 c1_i32_208 k0_t2
  let v518 : BitVec 32 := Scalar.subi arg21 arg22
  let c1_i32_276 : BitVec 32 := 1#32
  let v580 : BitVec 32 := Scalar.subi v518 c1_i32_276
  let c0_i32_277 : BitVec 32 := 0#32
  let v581 : BitVec 32 := Scalar.maxsi v580 c0_i32_277
  let c256_i32_278 : BitVec 32 := 256#32
  let v582 : BitVec 32 := Scalar.muli v581 c256_i32_278
  v582
def k0_off9 (k0_t1 : Fin k0_t1_loop.trips) (k0_t2 : Fin (k0_t2_loop k0_t1).trips) : Fin 2 → Nat :=
  let c0_i32_58 : BitVec 32 := 0#32
  let c1_i32 : BitVec 32 := 1#32
  let arg21 : BitVec 32 := Scf.iv c0_i32_58 c1_i32 k0_t1
  let c1_i32_206 : BitVec 32 := 1#32
  let c1_i32_208 : BitVec 32 := 1#32
  let arg22 : BitVec 32 := Scf.iv c1_i32_206 c1_i32_208 k0_t2
  let v518 : BitVec 32 := Scalar.subi arg21 arg22
  let c1_i32_276 : BitVec 32 := 1#32
  let v580 : BitVec 32 := Scalar.subi v518 c1_i32_276
  let c0_i32_277 : BitVec 32 := 0#32
  let v581 : BitVec 32 := Scalar.maxsi v580 c0_i32_277
  let c256_i32_278 : BitVec 32 := 256#32
  let v582 : BitVec 32 := Scalar.muli v581 c256_i32_278
  let v583 : BitVec 32 := v582
  let v584 : Index := Scalar.indexCast v583
  let c128_279 : Index := 128#32
  ![v584.toNat, 128]
def k0_off10 (k0_t1 : Fin k0_t1_loop.trips) (k0_t2 : Fin (k0_t2_loop k0_t1).trips) : Fin 2 → Nat :=
  let c0_i32_58 : BitVec 32 := 0#32
  let c1_i32 : BitVec 32 := 1#32
  let arg21 : BitVec 32 := Scf.iv c0_i32_58 c1_i32 k0_t1
  let c1_i32_206 : BitVec 32 := 1#32
  let c1_i32_208 : BitVec 32 := 1#32
  let arg22 : BitVec 32 := Scf.iv c1_i32_206 c1_i32_208 k0_t2
  let v518 : BitVec 32 := Scalar.subi arg21 arg22
  let c256_i32_252 : BitVec 32 := 256#32
  let v519 : BitVec 32 := Scalar.muli v518 c256_i32_252
  let v520 : BitVec 32 := v519
  let v612 : Index := Scalar.indexCast v520
  let c128_287 : Index := 128#32
  ![v612.toNat, 128]
@[reducible] def k0_t3_loop (k0_t1 : Fin k0_t1_loop.trips) : Scf.Loop 32 :=
  let c1_i32_206 : BitVec 32 := 1#32
  let c0_i32_58 : BitVec 32 := 0#32
  let c1_i32 : BitVec 32 := 1#32
  let arg21 : BitVec 32 := Scf.iv c0_i32_58 c1_i32 k0_t1
  let c1_i32_154 : BitVec 32 := 1#32
  let v289 : BitVec 32 := Scalar.addi arg21 c1_i32_154
  let v418 : BitVec 32 := Scalar.subi v289 c1_i32_206
  let c1_i32_207 : BitVec 32 := 1#32
  let v420 : BitVec 32 := Scalar.divsi v418 c1_i32_207
  let v421 : BitVec 32 := Scalar.muli v420 c1_i32_207
  let v422 : BitVec 32 := Scalar.addi c1_i32_206 v421
  let v419 : BitVec 32 := Scalar.addi c1_i32_206 v418
  let c1_i32_209 : BitVec 32 := 1#32
  ⟨v422, v419, c1_i32_209⟩
def k0_mult10 (k0_t1 : Fin k0_t1_loop.trips) (k0_t3 : Fin (k0_t3_loop k0_t1).trips) : BitVec 32 :=
  let c0_i32_58 : BitVec 32 := 0#32
  let c1_i32 : BitVec 32 := 1#32
  let arg21 : BitVec 32 := Scf.iv c0_i32_58 c1_i32 k0_t1
  let c1_i32_206 : BitVec 32 := 1#32
  let c1_i32_154 : BitVec 32 := 1#32
  let v289 : BitVec 32 := Scalar.addi arg21 c1_i32_154
  let v418 : BitVec 32 := Scalar.subi v289 c1_i32_206
  let c1_i32_207 : BitVec 32 := 1#32
  let v420 : BitVec 32 := Scalar.divsi v418 c1_i32_207
  let v421 : BitVec 32 := Scalar.muli v420 c1_i32_207
  let v422 : BitVec 32 := Scalar.addi c1_i32_206 v421
  let c1_i32_209 : BitVec 32 := 1#32
  let arg22 : BitVec 32 := Scf.iv v422 c1_i32_209 k0_t3
  let v518 : BitVec 32 := Scalar.subi arg21 arg22
  let c256_i32_252 : BitVec 32 := 256#32
  let v519 : BitVec 32 := Scalar.muli v518 c256_i32_252
  v519
def k0_mult11 (k0_t1 : Fin k0_t1_loop.trips) (k0_t3 : Fin (k0_t3_loop k0_t1).trips) : BitVec 32 :=
  let c0_i32_58 : BitVec 32 := 0#32
  let c1_i32 : BitVec 32 := 1#32
  let arg21 : BitVec 32 := Scf.iv c0_i32_58 c1_i32 k0_t1
  let c1_i32_206 : BitVec 32 := 1#32
  let c1_i32_154 : BitVec 32 := 1#32
  let v289 : BitVec 32 := Scalar.addi arg21 c1_i32_154
  let v418 : BitVec 32 := Scalar.subi v289 c1_i32_206
  let c1_i32_207 : BitVec 32 := 1#32
  let v420 : BitVec 32 := Scalar.divsi v418 c1_i32_207
  let v421 : BitVec 32 := Scalar.muli v420 c1_i32_207
  let v422 : BitVec 32 := Scalar.addi c1_i32_206 v421
  let c1_i32_209 : BitVec 32 := 1#32
  let arg22 : BitVec 32 := Scf.iv v422 c1_i32_209 k0_t3
  let v518 : BitVec 32 := Scalar.subi arg21 arg22
  let c1_i32_253 : BitVec 32 := 1#32
  let v521 : BitVec 32 := Scalar.subi v518 c1_i32_253
  let c0_i32_254 : BitVec 32 := 0#32
  let v522 : BitVec 32 := Scalar.maxsi v521 c0_i32_254
  let c256_i32_255 : BitVec 32 := 256#32
  let v523 : BitVec 32 := Scalar.muli v522 c256_i32_255
  v523
def k0_off11 (k0_t1 : Fin k0_t1_loop.trips) (k0_t3 : Fin (k0_t3_loop k0_t1).trips) : Fin 2 → Nat :=
  let c0_i32_58 : BitVec 32 := 0#32
  let c1_i32 : BitVec 32 := 1#32
  let arg21 : BitVec 32 := Scf.iv c0_i32_58 c1_i32 k0_t1
  let c1_i32_206 : BitVec 32 := 1#32
  let c1_i32_154 : BitVec 32 := 1#32
  let v289 : BitVec 32 := Scalar.addi arg21 c1_i32_154
  let v418 : BitVec 32 := Scalar.subi v289 c1_i32_206
  let c1_i32_207 : BitVec 32 := 1#32
  let v420 : BitVec 32 := Scalar.divsi v418 c1_i32_207
  let v421 : BitVec 32 := Scalar.muli v420 c1_i32_207
  let v422 : BitVec 32 := Scalar.addi c1_i32_206 v421
  let c1_i32_209 : BitVec 32 := 1#32
  let arg22 : BitVec 32 := Scf.iv v422 c1_i32_209 k0_t3
  let v518 : BitVec 32 := Scalar.subi arg21 arg22
  let c1_i32_253 : BitVec 32 := 1#32
  let v521 : BitVec 32 := Scalar.subi v518 c1_i32_253
  let c0_i32_254 : BitVec 32 := 0#32
  let v522 : BitVec 32 := Scalar.maxsi v521 c0_i32_254
  let c256_i32_255 : BitVec 32 := 256#32
  let v523 : BitVec 32 := Scalar.muli v522 c256_i32_255
  let v524 : BitVec 32 := v523
  let v525 : Index := Scalar.indexCast v524
  let c0_256 : Index := 0#32
  ![v525.toNat, 0]
def k0_off12 (k0_t1 : Fin k0_t1_loop.trips) (k0_t3 : Fin (k0_t3_loop k0_t1).trips) : Fin 2 → Nat :=
  let c0_i32_58 : BitVec 32 := 0#32
  let c1_i32 : BitVec 32 := 1#32
  let arg21 : BitVec 32 := Scf.iv c0_i32_58 c1_i32 k0_t1
  let c1_i32_206 : BitVec 32 := 1#32
  let c1_i32_154 : BitVec 32 := 1#32
  let v289 : BitVec 32 := Scalar.addi arg21 c1_i32_154
  let v418 : BitVec 32 := Scalar.subi v289 c1_i32_206
  let c1_i32_207 : BitVec 32 := 1#32
  let v420 : BitVec 32 := Scalar.divsi v418 c1_i32_207
  let v421 : BitVec 32 := Scalar.muli v420 c1_i32_207
  let v422 : BitVec 32 := Scalar.addi c1_i32_206 v421
  let c1_i32_209 : BitVec 32 := 1#32
  let arg22 : BitVec 32 := Scf.iv v422 c1_i32_209 k0_t3
  let v518 : BitVec 32 := Scalar.subi arg21 arg22
  let c256_i32_252 : BitVec 32 := 256#32
  let v519 : BitVec 32 := Scalar.muli v518 c256_i32_252
  let v520 : BitVec 32 := v519
  let v553 : Index := Scalar.indexCast v520
  let c0_264 : Index := 0#32
  ![v553.toNat, 0]
def k0_off13 (k0_t1 : Fin k0_t1_loop.trips) (k0_t3 : Fin (k0_t3_loop k0_t1).trips) (c0_i32_266 : BitVec 32) : Fin 3 → Nat :=
  let c0_i32_58 : BitVec 32 := 0#32
  let c1_i32 : BitVec 32 := 1#32
  let arg21 : BitVec 32 := Scf.iv c0_i32_58 c1_i32 k0_t1
  let c1_i32_206 : BitVec 32 := 1#32
  let c1_i32_154 : BitVec 32 := 1#32
  let v289 : BitVec 32 := Scalar.addi arg21 c1_i32_154
  let v418 : BitVec 32 := Scalar.subi v289 c1_i32_206
  let c1_i32_207 : BitVec 32 := 1#32
  let v420 : BitVec 32 := Scalar.divsi v418 c1_i32_207
  let v421 : BitVec 32 := Scalar.muli v420 c1_i32_207
  let v422 : BitVec 32 := Scalar.addi c1_i32_206 v421
  let c1_i32_209 : BitVec 32 := 1#32
  let arg22 : BitVec 32 := Scf.iv v422 c1_i32_209 k0_t3
  let v518 : BitVec 32 := Scalar.subi arg21 arg22
  let v557 : BitVec 32 := Scalar.addi c0_i32_266 v518
  let v558 : Index := Scalar.indexCast v557
  let c0_267 : Index := 0#32
  let c0_268 : Index := 0#32
  ![v558.toNat, 0, 0]
def k0_mult12 (k0_t1 : Fin k0_t1_loop.trips) (k0_t3 : Fin (k0_t3_loop k0_t1).trips) : BitVec 32 :=
  let c0_i32_58 : BitVec 32 := 0#32
  let c1_i32 : BitVec 32 := 1#32
  let arg21 : BitVec 32 := Scf.iv c0_i32_58 c1_i32 k0_t1
  let c1_i32_206 : BitVec 32 := 1#32
  let c1_i32_154 : BitVec 32 := 1#32
  let v289 : BitVec 32 := Scalar.addi arg21 c1_i32_154
  let v418 : BitVec 32 := Scalar.subi v289 c1_i32_206
  let c1_i32_207 : BitVec 32 := 1#32
  let v420 : BitVec 32 := Scalar.divsi v418 c1_i32_207
  let v421 : BitVec 32 := Scalar.muli v420 c1_i32_207
  let v422 : BitVec 32 := Scalar.addi c1_i32_206 v421
  let c1_i32_209 : BitVec 32 := 1#32
  let arg22 : BitVec 32 := Scf.iv v422 c1_i32_209 k0_t3
  let v518 : BitVec 32 := Scalar.subi arg21 arg22
  let c1_i32_276 : BitVec 32 := 1#32
  let v580 : BitVec 32 := Scalar.subi v518 c1_i32_276
  let c0_i32_277 : BitVec 32 := 0#32
  let v581 : BitVec 32 := Scalar.maxsi v580 c0_i32_277
  let c256_i32_278 : BitVec 32 := 256#32
  let v582 : BitVec 32 := Scalar.muli v581 c256_i32_278
  v582
def k0_off14 (k0_t1 : Fin k0_t1_loop.trips) (k0_t3 : Fin (k0_t3_loop k0_t1).trips) : Fin 2 → Nat :=
  let c0_i32_58 : BitVec 32 := 0#32
  let c1_i32 : BitVec 32 := 1#32
  let arg21 : BitVec 32 := Scf.iv c0_i32_58 c1_i32 k0_t1
  let c1_i32_206 : BitVec 32 := 1#32
  let c1_i32_154 : BitVec 32 := 1#32
  let v289 : BitVec 32 := Scalar.addi arg21 c1_i32_154
  let v418 : BitVec 32 := Scalar.subi v289 c1_i32_206
  let c1_i32_207 : BitVec 32 := 1#32
  let v420 : BitVec 32 := Scalar.divsi v418 c1_i32_207
  let v421 : BitVec 32 := Scalar.muli v420 c1_i32_207
  let v422 : BitVec 32 := Scalar.addi c1_i32_206 v421
  let c1_i32_209 : BitVec 32 := 1#32
  let arg22 : BitVec 32 := Scf.iv v422 c1_i32_209 k0_t3
  let v518 : BitVec 32 := Scalar.subi arg21 arg22
  let c1_i32_276 : BitVec 32 := 1#32
  let v580 : BitVec 32 := Scalar.subi v518 c1_i32_276
  let c0_i32_277 : BitVec 32 := 0#32
  let v581 : BitVec 32 := Scalar.maxsi v580 c0_i32_277
  let c256_i32_278 : BitVec 32 := 256#32
  let v582 : BitVec 32 := Scalar.muli v581 c256_i32_278
  let v583 : BitVec 32 := v582
  let v584 : Index := Scalar.indexCast v583
  let c128_279 : Index := 128#32
  ![v584.toNat, 128]
def k0_off15 (k0_t1 : Fin k0_t1_loop.trips) (k0_t3 : Fin (k0_t3_loop k0_t1).trips) : Fin 2 → Nat :=
  let c0_i32_58 : BitVec 32 := 0#32
  let c1_i32 : BitVec 32 := 1#32
  let arg21 : BitVec 32 := Scf.iv c0_i32_58 c1_i32 k0_t1
  let c1_i32_206 : BitVec 32 := 1#32
  let c1_i32_154 : BitVec 32 := 1#32
  let v289 : BitVec 32 := Scalar.addi arg21 c1_i32_154
  let v418 : BitVec 32 := Scalar.subi v289 c1_i32_206
  let c1_i32_207 : BitVec 32 := 1#32
  let v420 : BitVec 32 := Scalar.divsi v418 c1_i32_207
  let v421 : BitVec 32 := Scalar.muli v420 c1_i32_207
  let v422 : BitVec 32 := Scalar.addi c1_i32_206 v421
  let c1_i32_209 : BitVec 32 := 1#32
  let arg22 : BitVec 32 := Scf.iv v422 c1_i32_209 k0_t3
  let v518 : BitVec 32 := Scalar.subi arg21 arg22
  let c256_i32_252 : BitVec 32 := 256#32
  let v519 : BitVec 32 := Scalar.muli v518 c256_i32_252
  let v520 : BitVec 32 := v519
  let v612 : Index := Scalar.indexCast v520
  let c128_287 : Index := 128#32
  ![v612.toNat, 128]
@[reducible] def k0_t4_loop (k0_t1 : Fin k0_t1_loop.trips) : Scf.Loop 32 :=
  let c0_i32_221 : BitVec 32 := 0#32
  let c0_i32_58 : BitVec 32 := 0#32
  let c1_i32 : BitVec 32 := 1#32
  let arg21 : BitVec 32 := Scf.iv c0_i32_58 c1_i32 k0_t1
  let v445 : BitVec 32 := Scalar.subi arg21 c0_i32_221
  let c1_i32_222 : BitVec 32 := 1#32
  let v447 : BitVec 32 := Scalar.divsi v445 c1_i32_222
  let v448 : BitVec 32 := Scalar.muli v447 c1_i32_222
  let v449 : BitVec 32 := Scalar.addi c0_i32_221 v448
  let c1_i32_223 : BitVec 32 := 1#32
  ⟨c0_i32_221, v449, c1_i32_223⟩
def k0_mult13 (k0_t1 : Fin k0_t1_loop.trips) (k0_t4 : Fin (k0_t4_loop k0_t1).trips) : BitVec 32 :=
  let c0_i32_221 : BitVec 32 := 0#32
  let c1_i32_223 : BitVec 32 := 1#32
  let arg22 : BitVec 32 := Scf.iv c0_i32_221 c1_i32_223 k0_t4
  let c256_i32_252 : BitVec 32 := 256#32
  let v518 : BitVec 32 := Scalar.muli arg22 c256_i32_252
  v518
def k0_off16 (k0_t1 : Fin k0_t1_loop.trips) (k0_t4 : Fin (k0_t4_loop k0_t1).trips) (c0_i32_253 : BitVec 32) : Fin 3 → Nat :=
  let c0_i32_221 : BitVec 32 := 0#32
  let c1_i32_223 : BitVec 32 := 1#32
  let arg22 : BitVec 32 := Scf.iv c0_i32_221 c1_i32_223 k0_t4
  let v520 : BitVec 32 := Scalar.addi c0_i32_253 arg22
  let v521 : Index := Scalar.indexCast v520
  let c0_254 : Index := 0#32
  let c0_255 : Index := 0#32
  ![v521.toNat, 0, 0]
def k0_off17 (k0_t1 : Fin k0_t1_loop.trips) (k0_t4 : Fin (k0_t4_loop k0_t1).trips) (c0_i32_260 : BitVec 32) : Fin 3 → Nat :=
  let c0_i32_221 : BitVec 32 := 0#32
  let c1_i32_223 : BitVec 32 := 1#32
  let arg22 : BitVec 32 := Scf.iv c0_i32_221 c1_i32_223 k0_t4
  let c1_i32_259 : BitVec 32 := 1#32
  let v528 : BitVec 32 := Scalar.addi arg22 c1_i32_259
  let c0_i32_58 : BitVec 32 := 0#32
  let c1_i32 : BitVec 32 := 1#32
  let arg21 : BitVec 32 := Scf.iv c0_i32_58 c1_i32 k0_t1
  let v529 : BitVec 32 := Scalar.minsi v528 arg21
  let v530 : BitVec 32 := Scalar.addi c0_i32_260 v529
  let v531 : Index := Scalar.indexCast v530
  let c0_261 : Index := 0#32
  let c0_262 : Index := 0#32
  ![v531.toNat, 0, 0]
def k0_off18 (k0_t1 : Fin k0_t1_loop.trips) (k0_t4 : Fin (k0_t4_loop k0_t1).trips) : Fin 2 → Nat :=
  let c0_i32_221 : BitVec 32 := 0#32
  let c1_i32_223 : BitVec 32 := 1#32
  let arg22 : BitVec 32 := Scf.iv c0_i32_221 c1_i32_223 k0_t4
  let c256_i32_252 : BitVec 32 := 256#32
  let v518 : BitVec 32 := Scalar.muli arg22 c256_i32_252
  let v519 : BitVec 32 := v518
  let v546 : Index := Scalar.indexCast v519
  let c0_264 : Index := 0#32
  ![v546.toNat, 0]
def k0_off19 (k0_t1 : Fin k0_t1_loop.trips) (k0_t4 : Fin (k0_t4_loop k0_t1).trips) : Fin 2 → Nat :=
  let c0_i32_221 : BitVec 32 := 0#32
  let c1_i32_223 : BitVec 32 := 1#32
  let arg22 : BitVec 32 := Scf.iv c0_i32_221 c1_i32_223 k0_t4
  let c256_i32_252 : BitVec 32 := 256#32
  let v518 : BitVec 32 := Scalar.muli arg22 c256_i32_252
  let v519 : BitVec 32 := v518
  let v587 : Index := Scalar.indexCast v519
  let c128_281 : Index := 128#32
  ![v587.toNat, 128]
@[reducible] def k0_t5_loop (k0_t1 : Fin k0_t1_loop.trips) : Scf.Loop 32 :=
  let c0_i32_221 : BitVec 32 := 0#32
  let c0_i32_58 : BitVec 32 := 0#32
  let c1_i32 : BitVec 32 := 1#32
  let arg21 : BitVec 32 := Scf.iv c0_i32_58 c1_i32 k0_t1
  let v445 : BitVec 32 := Scalar.subi arg21 c0_i32_221
  let c1_i32_222 : BitVec 32 := 1#32
  let v447 : BitVec 32 := Scalar.divsi v445 c1_i32_222
  let v448 : BitVec 32 := Scalar.muli v447 c1_i32_222
  let v449 : BitVec 32 := Scalar.addi c0_i32_221 v448
  let v446 : BitVec 32 := Scalar.addi c0_i32_221 v445
  let c1_i32_224 : BitVec 32 := 1#32
  ⟨v449, v446, c1_i32_224⟩
def k0_mult14 (k0_t1 : Fin k0_t1_loop.trips) (k0_t5 : Fin (k0_t5_loop k0_t1).trips) : BitVec 32 :=
  let c0_i32_221 : BitVec 32 := 0#32
  let c0_i32_58 : BitVec 32 := 0#32
  let c1_i32 : BitVec 32 := 1#32
  let arg21 : BitVec 32 := Scf.iv c0_i32_58 c1_i32 k0_t1
  let v445 : BitVec 32 := Scalar.subi arg21 c0_i32_221
  let c1_i32_222 : BitVec 32 := 1#32
  let v447 : BitVec 32 := Scalar.divsi v445 c1_i32_222
  let v448 : BitVec 32 := Scalar.muli v447 c1_i32_222
  let v449 : BitVec 32 := Scalar.addi c0_i32_221 v448
  let c1_i32_224 : BitVec 32 := 1#32
  let arg22 : BitVec 32 := Scf.iv v449 c1_i32_224 k0_t5
  let c256_i32_252 : BitVec 32 := 256#32
  let v518 : BitVec 32 := Scalar.muli arg22 c256_i32_252
  v518
def k0_off20 (k0_t1 : Fin k0_t1_loop.trips) (k0_t5 : Fin (k0_t5_loop k0_t1).trips) (c0_i32_253 : BitVec 32) : Fin 3 → Nat :=
  let c0_i32_221 : BitVec 32 := 0#32
  let c0_i32_58 : BitVec 32 := 0#32
  let c1_i32 : BitVec 32 := 1#32
  let arg21 : BitVec 32 := Scf.iv c0_i32_58 c1_i32 k0_t1
  let v445 : BitVec 32 := Scalar.subi arg21 c0_i32_221
  let c1_i32_222 : BitVec 32 := 1#32
  let v447 : BitVec 32 := Scalar.divsi v445 c1_i32_222
  let v448 : BitVec 32 := Scalar.muli v447 c1_i32_222
  let v449 : BitVec 32 := Scalar.addi c0_i32_221 v448
  let c1_i32_224 : BitVec 32 := 1#32
  let arg22 : BitVec 32 := Scf.iv v449 c1_i32_224 k0_t5
  let v520 : BitVec 32 := Scalar.addi c0_i32_253 arg22
  let v521 : Index := Scalar.indexCast v520
  let c0_254 : Index := 0#32
  let c0_255 : Index := 0#32
  ![v521.toNat, 0, 0]
def k0_off21 (k0_t1 : Fin k0_t1_loop.trips) (k0_t5 : Fin (k0_t5_loop k0_t1).trips) (c0_i32_260 : BitVec 32) : Fin 3 → Nat :=
  let c0_i32_221 : BitVec 32 := 0#32
  let c0_i32_58 : BitVec 32 := 0#32
  let c1_i32 : BitVec 32 := 1#32
  let arg21 : BitVec 32 := Scf.iv c0_i32_58 c1_i32 k0_t1
  let v445 : BitVec 32 := Scalar.subi arg21 c0_i32_221
  let c1_i32_222 : BitVec 32 := 1#32
  let v447 : BitVec 32 := Scalar.divsi v445 c1_i32_222
  let v448 : BitVec 32 := Scalar.muli v447 c1_i32_222
  let v449 : BitVec 32 := Scalar.addi c0_i32_221 v448
  let c1_i32_224 : BitVec 32 := 1#32
  let arg22 : BitVec 32 := Scf.iv v449 c1_i32_224 k0_t5
  let c1_i32_259 : BitVec 32 := 1#32
  let v528 : BitVec 32 := Scalar.addi arg22 c1_i32_259
  let v529 : BitVec 32 := Scalar.minsi v528 arg21
  let v530 : BitVec 32 := Scalar.addi c0_i32_260 v529
  let v531 : Index := Scalar.indexCast v530
  let c0_261 : Index := 0#32
  let c0_262 : Index := 0#32
  ![v531.toNat, 0, 0]
def k0_off22 (k0_t1 : Fin k0_t1_loop.trips) (k0_t5 : Fin (k0_t5_loop k0_t1).trips) : Fin 2 → Nat :=
  let c0_i32_221 : BitVec 32 := 0#32
  let c0_i32_58 : BitVec 32 := 0#32
  let c1_i32 : BitVec 32 := 1#32
  let arg21 : BitVec 32 := Scf.iv c0_i32_58 c1_i32 k0_t1
  let v445 : BitVec 32 := Scalar.subi arg21 c0_i32_221
  let c1_i32_222 : BitVec 32 := 1#32
  let v447 : BitVec 32 := Scalar.divsi v445 c1_i32_222
  let v448 : BitVec 32 := Scalar.muli v447 c1_i32_222
  let v449 : BitVec 32 := Scalar.addi c0_i32_221 v448
  let c1_i32_224 : BitVec 32 := 1#32
  let arg22 : BitVec 32 := Scf.iv v449 c1_i32_224 k0_t5
  let c256_i32_252 : BitVec 32 := 256#32
  let v518 : BitVec 32 := Scalar.muli arg22 c256_i32_252
  let v519 : BitVec 32 := v518
  let v546 : Index := Scalar.indexCast v519
  let c0_264 : Index := 0#32
  ![v546.toNat, 0]
def k0_off23 (k0_t1 : Fin k0_t1_loop.trips) (k0_t5 : Fin (k0_t5_loop k0_t1).trips) : Fin 2 → Nat :=
  let c0_i32_221 : BitVec 32 := 0#32
  let c0_i32_58 : BitVec 32 := 0#32
  let c1_i32 : BitVec 32 := 1#32
  let arg21 : BitVec 32 := Scf.iv c0_i32_58 c1_i32 k0_t1
  let v445 : BitVec 32 := Scalar.subi arg21 c0_i32_221
  let c1_i32_222 : BitVec 32 := 1#32
  let v447 : BitVec 32 := Scalar.divsi v445 c1_i32_222
  let v448 : BitVec 32 := Scalar.muli v447 c1_i32_222
  let v449 : BitVec 32 := Scalar.addi c0_i32_221 v448
  let c1_i32_224 : BitVec 32 := 1#32
  let arg22 : BitVec 32 := Scf.iv v449 c1_i32_224 k0_t5
  let c256_i32_252 : BitVec 32 := 256#32
  let v518 : BitVec 32 := Scalar.muli arg22 c256_i32_252
  let v519 : BitVec 32 := v518
  let v587 : Index := Scalar.indexCast v519
  let c128_281 : Index := 128#32
  ![v587.toNat, 128]
def k0_mult15 (k0_t1 : Fin k0_t1_loop.trips) : BitVec 32 :=
  let c0_i32_58 : BitVec 32 := 0#32
  let c1_i32 : BitVec 32 := 1#32
  let arg21 : BitVec 32 := Scf.iv c0_i32_58 c1_i32 k0_t1
  let c256_i32_225 : BitVec 32 := 256#32
  let v452 : BitVec 32 := Scalar.muli arg21 c256_i32_225
  v452
def cc0_transform_0 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, v27.toNat]

def cc0_transform_1 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32_10 : BitVec 32 := 4#32
  let v27 : BitVec 32 := Scalar.addi c4_i32_10 v26
  let c0_i32_11 : BitVec 32 := 0#32
  ![v16.toNat, v27.toNat]

def cc0_transform_2 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.addi c8_i32 v26
  let c0_i32_10 : BitVec 32 := 0#32
  ![v16.toNat, v27.toNat]

def cc0_transform_3 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, v27.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, v27.toNat]

def cc0_transform_7 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, v27.toNat]

def cc0_transform_8 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, v27.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x6144 : Shape := ⟨2, ![4096, 6144]⟩
abbrev S4096x1024 : Shape := ⟨2, ![4096, 1024]⟩
abbrev S1x128 : Shape := ⟨2, ![1, 128]⟩
abbrev S2x2048x8x128 : Shape := ⟨4, ![2, 2048, 8, 128]⟩
abbrev S128 : Shape := ⟨1, ![128]⟩
abbrev S_ : Shape := ⟨0, ![]⟩
abbrev S2x2048x8 : Shape := ⟨3, ![2, 2048, 8]⟩
abbrev S2x2048x8x1 : Shape := ⟨4, ![2, 2048, 8, 1]⟩
abbrev S1x1x1x128 : Shape := ⟨4, ![1, 1, 1, 128]⟩
abbrev S2x8x2048x2048 : Shape := ⟨4, ![2, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x128x2048 : Shape := ⟨4, ![2, 8, 128, 2048]⟩
abbrev S2x8x2048x128 : Shape := ⟨4, ![2, 8, 2048, 128]⟩

abbrev nBuf : Space → Nat
  | .hbm => 222
  | .vmem => 0
  | .smem => 0
  | _ => 0

abbrev hbmTy0_0 (i : Nat) : BufTy := match i % 128 with
  | 0 => ⟨S4096x6144, .f32⟩
  | 1 => ⟨S4096x1024, .f32⟩
  | 2 => ⟨S1x128, .f32⟩
  | 3 => ⟨S1x128, .f32⟩
  | 4 => ⟨S4096x1024, .f32⟩
  | 5 => ⟨S4096x1024, .f32⟩
  | 6 => ⟨S4096x1024, .f32⟩
  | 7 => ⟨S2x2048x8x128, .f32⟩
  | 8 => ⟨S128, .f32⟩
  | 9 => ⟨S2x2048x8x128, .f32⟩
  | 10 => ⟨S_, .f32⟩
  | 11 => ⟨S2x2048x8, .f32⟩
  | 12 => ⟨S2x2048x8x1, .f32⟩
  | 13 => ⟨S_, .f32⟩
  | 14 => ⟨S2x2048x8x1, .f32⟩
  | 15 => ⟨S2x2048x8x1, .f32⟩
  | 16 => ⟨S_, .f32⟩
  | 17 => ⟨S2x2048x8x1, .f32⟩
  | 18 => ⟨S2x2048x8x1, .f32⟩
  | 19 => ⟨S2x2048x8x1, .f32⟩
  | 20 => ⟨S2x2048x8x1, .f32⟩
  | 21 => ⟨S_, .f32⟩
  | 22 => ⟨S2x2048x8x1, .f32⟩
  | 23 => ⟨S2x2048x8x1, .f32⟩
  | 24 => ⟨S2x2048x8x128, .f32⟩
  | 25 => ⟨S2x2048x8x128, .f32⟩
  | 26 => ⟨S1x1x1x128, .f32⟩
  | 27 => ⟨S2x2048x8x128, .f32⟩
  | 28 => ⟨S2x2048x8x128, .f32⟩
  | 29 => ⟨S2x2048x8x128, .f32⟩
  | 30 => ⟨S128, .f32⟩
  | 31 => ⟨S2x2048x8x128, .f32⟩
  | 32 => ⟨S_, .f32⟩
  | 33 => ⟨S2x2048x8, .f32⟩
  | 34 => ⟨S2x2048x8x1, .f32⟩
  | 35 => ⟨S_, .f32⟩
  | 36 => ⟨S2x2048x8x1, .f32⟩
  | 37 => ⟨S2x2048x8x1, .f32⟩
  | 38 => ⟨S_, .f32⟩
  | 39 => ⟨S2x2048x8x1, .f32⟩
  | 40 => ⟨S2x2048x8x1, .f32⟩
  | 41 => ⟨S2x2048x8x1, .f32⟩
  | 42 => ⟨S2x2048x8x1, .f32⟩
  | 43 => ⟨S_, .f32⟩
  | 44 => ⟨S2x2048x8x1, .f32⟩
  | 45 => ⟨S2x2048x8x1, .f32⟩
  | 46 => ⟨S2x2048x8x128, .f32⟩
  | 47 => ⟨S2x2048x8x128, .f32⟩
  | 48 => ⟨S1x1x1x128, .f32⟩
  | 49 => ⟨S2x2048x8x128, .f32⟩
  | 50 => ⟨S2x2048x8x128, .f32⟩
  | 51 => ⟨S2x2048x8x128, .f32⟩
  | 52 => ⟨S2x8x2048x2048, .f32⟩
  | 53 => ⟨S_, .f32⟩
  | 54 => ⟨S2x8x2048x2048, .f32⟩
  | 55 => ⟨S2x8x2048x2048, .f32⟩
  | 56 => ⟨S2048, .i32⟩
  | 57 => ⟨S1x2048, .i32⟩
  | 58 => ⟨S2048x1, .i32⟩
  | 59 => ⟨S2048x2048, .i32⟩
  | 60 => ⟨S2048x2048, .i32⟩
  | 61 => ⟨S2048x2048, .i1⟩
  | 62 => ⟨S2x8x2048x2048, .f32⟩
  | 63 => ⟨S_, .f32⟩
  | 64 => ⟨S2x8x2048x2048, .f32⟩
  | 65 => ⟨S2x8x2048x2048, .f32⟩
  | 66 => ⟨S2x8x2048x2048, .f32⟩
  | 67 => ⟨S2x8x2048x2048, .f32⟩
  | 68 => ⟨S2x8x2048x2048, .i1⟩
  | 69 => ⟨S2x8x2048x2048, .f32⟩
  | 70 => ⟨S2x8x2048x2048, .f32⟩
  | 71 => ⟨S2x8x2048x2048, .f32⟩
  | 72 => ⟨S2x8x2048x2048, .f32⟩
  | 73 => ⟨S2x8x2048x2048, .f32⟩
  | 74 => ⟨S2x8x2048x2048, .f32⟩
  | 75 => ⟨S2x8x2048x2048, .f32⟩
  | 76 => ⟨S2x8x2048x2048, .f32⟩
  | 77 => ⟨S_, .f32⟩
  | 78 => ⟨S2x8x2048x2048, .f32⟩
  | 79 => ⟨S2x8x2048x2048, .i1⟩
  | 80 => ⟨S_, .f32⟩
  | 81 => ⟨S2x8x2048x2048, .f32⟩
  | 82 => ⟨S2x8x2048x2048, .f32⟩
  | 83 => ⟨S_, .f32⟩
  | 84 => ⟨S2x8x2048x2048, .f32⟩
  | 85 => ⟨S2x8x2048x2048, .i1⟩
  | 86 => ⟨S_, .f32⟩
  | 87 => ⟨S2x8x2048x2048, .f32⟩
  | 88 => ⟨S2x8x2048x2048, .f32⟩
  | 89 => ⟨S2x8x2048x2048, .f32⟩
  | 90 => ⟨S2x8x2048x2048, .f32⟩
  | 91 => ⟨S_, .f32⟩
  | 92 => ⟨S_, .f32⟩
  | 93 => ⟨S_, .i1⟩
  | 94 => ⟨S_, .f32⟩
  | 95 => ⟨S_, .f32⟩
  | 96 => ⟨S_, .f32⟩
  | 97 => ⟨S_, .f32⟩
  | 98 => ⟨S2x8x2048x2048, .f32⟩
  | 99 => ⟨S2x8x2048x2048, .i1⟩
  | 100 => ⟨S_, .f32⟩
  | 101 => ⟨S2x8x2048x2048, .f32⟩
  | 102 => ⟨S2x8x2048x2048, .f32⟩
  | 103 => ⟨S2x8x2048x2048, .f32⟩
  | 104 => ⟨S2x8x2048x2048, .f32⟩
  | 105 => ⟨S2x8x2048x2048, .f32⟩
  | 106 => ⟨S_, .f32⟩
  | 107 => ⟨S2x8x2048x2048, .f32⟩
  | 108 => ⟨S2x8x2048x2048, .f32⟩
  | 109 => ⟨S2x8x2048x2048, .f32⟩
  | 110 => ⟨S2x8x2048x2048, .f32⟩
  | 111 => ⟨S_, .f32⟩
  | 112 => ⟨S_, .f32⟩
  | 113 => ⟨S2x8x2048x2048, .i1⟩
  | 114 => ⟨S2x8x2048x2048, .f32⟩
  | 115 => ⟨S2x8x2048x2048, .f32⟩
  | 116 => ⟨S_, .f32⟩
  | 117 => ⟨S2x8x2048x2048, .f32⟩
  | 118 => ⟨S_, .f32⟩
  | 119 => ⟨S_, .f32⟩
  | 120 => ⟨S2x8x2048x2048, .f32⟩
  | 121 => ⟨S2x8x2048x2048, .f32⟩
  | 122 => ⟨S2x8x2048x2048, .f32⟩
  | 123 => ⟨S2x8x2048x2048, .f32⟩
  | 124 => ⟨S_, .f32⟩
  | 125 => ⟨S_, .f32⟩
  | 126 => ⟨S2x8x2048x2048, .i1⟩
  | 127 => ⟨S2x8x2048x2048, .f32⟩
  | _ => ⟨S4096x6144, .f32⟩

abbrev hbmTy0_1 (i : Nat) : BufTy := match i % 128 with
  | 0 => ⟨S2x8x2048x2048, .f32⟩
  | 1 => ⟨S_, .f32⟩
  | 2 => ⟨S2x8x2048x2048, .f32⟩
  | 3 => ⟨S2x8x128x2048, .f32⟩
  | 4 => ⟨S2x2048x8x128, .f32⟩
  | 5 => ⟨S4096x1024, .f32⟩
  | 6 => ⟨S2x2048x8x128, .f32⟩
  | 7 => ⟨S2x8x128x2048, .f32⟩
  | 8 => ⟨S2x8x2048x2048, .f32⟩
  | 9 => ⟨S2x8x128x2048, .f32⟩
  | 10 => ⟨S2x2048x8x128, .f32⟩
  | 11 => ⟨S_, .f32⟩
  | 12 => ⟨S2x8x2048x2048, .f32⟩
  | 13 => ⟨S2x8x2048x2048, .f32⟩
  | 14 => ⟨S2x8x2048x2048, .f32⟩
  | 15 => ⟨S2x8x2048x2048, .f32⟩
  | 16 => ⟨S_, .f32⟩
  | 17 => ⟨S_, .f32⟩
  | 18 => ⟨S2x8x2048x2048, .f32⟩
  | 19 => ⟨S2x8x2048x2048, .f32⟩
  | 20 => ⟨S_, .f32⟩
  | 21 => ⟨S2x8x2048x2048, .f32⟩
  | 22 => ⟨S2x8x2048x2048, .f32⟩
  | 23 => ⟨S2x8x2048x2048, .f32⟩
  | 24 => ⟨S2x8x2048x2048, .f32⟩
  | 25 => ⟨S2x8x2048x2048, .f32⟩
  | 26 => ⟨S2x8x2048x2048, .f32⟩
  | 27 => ⟨S2x8x2048x2048, .f32⟩
  | 28 => ⟨S2x8x2048x2048, .f32⟩
  | 29 => ⟨S_, .f32⟩
  | 30 => ⟨S2x8x2048x2048, .f32⟩
  | 31 => ⟨S2x8x2048x2048, .f32⟩
  | 32 => ⟨S2x8x2048x128, .f32⟩
  | 33 => ⟨S2x2048x8x128, .f32⟩
  | 34 => ⟨S2x8x2048x128, .f32⟩
  | 35 => ⟨S2x2048x8x128, .f32⟩
  | 36 => ⟨S4096x1024, .f32⟩
  | 37 => ⟨S2x2048x8x128, .f32⟩
  | 38 => ⟨S_, .f32⟩
  | 39 => ⟨S128, .f32⟩
  | 40 => ⟨S1x1x1x128, .f32⟩
  | 41 => ⟨S2x2048x8x128, .f32⟩
  | 42 => ⟨S2x2048x8x128, .f32⟩
  | 43 => ⟨S_, .f32⟩
  | 44 => ⟨S128, .f32⟩
  | 45 => ⟨S2x2048x8x128, .f32⟩
  | 46 => ⟨S_, .f32⟩
  | 47 => ⟨S2x2048x8, .f32⟩
  | 48 => ⟨S2x2048x8x1, .f32⟩
  | 49 => ⟨S2x2048x8x128, .f32⟩
  | 50 => ⟨S2x2048x8x128, .f32⟩
  | 51 => ⟨S2x2048x8x1, .f32⟩
  | 52 => ⟨S_, .f32⟩
  | 53 => ⟨S2x2048x8x1, .f32⟩
  | 54 => ⟨S2x2048x8x1, .f32⟩
  | 55 => ⟨S_, .f32⟩
  | 56 => ⟨S2x2048x8, .f32⟩
  | 57 => ⟨S2x2048x8x128, .f32⟩
  | 58 => ⟨S2x2048x8x128, .f32⟩
  | 59 => ⟨S2x2048x8x128, .f32⟩
  | 60 => ⟨S2x2048x8x128, .f32⟩
  | 61 => ⟨S2x2048x8x128, .f32⟩
  | 62 => ⟨S1x128, .f32⟩
  | 63 => ⟨S4096x1024, .f32⟩
  | 64 => ⟨S2x2048x8x128, .f32⟩
  | 65 => ⟨S_, .f32⟩
  | 66 => ⟨S128, .f32⟩
  | 67 => ⟨S1x1x1x128, .f32⟩
  | 68 => ⟨S2x2048x8x128, .f32⟩
  | 69 => ⟨S2x2048x8x128, .f32⟩
  | 70 => ⟨S_, .f32⟩
  | 71 => ⟨S128, .f32⟩
  | 72 => ⟨S2x2048x8x128, .f32⟩
  | 73 => ⟨S_, .f32⟩
  | 74 => ⟨S2x2048x8, .f32⟩
  | 75 => ⟨S2x2048x8x1, .f32⟩
  | 76 => ⟨S2x2048x8x128, .f32⟩
  | 77 => ⟨S2x2048x8x128, .f32⟩
  | 78 => ⟨S2x2048x8x1, .f32⟩
  | 79 => ⟨S_, .f32⟩
  | 80 => ⟨S2x2048x8x1, .f32⟩
  | 81 => ⟨S2x2048x8x1, .f32⟩
  | 82 => ⟨S_, .f32⟩
  | 83 => ⟨S2x2048x8, .f32⟩
  | 84 => ⟨S2x2048x8x128, .f32⟩
  | 85 => ⟨S2x2048x8x128, .f32⟩
  | 86 => ⟨S2x2048x8x128, .f32⟩
  | 87 => ⟨S2x2048x8x128, .f32⟩
  | 88 => ⟨S2x2048x8x128, .f32⟩
  | 89 => ⟨S1x128, .f32⟩
  | 90 => ⟨S4096x1024, .f32⟩
  | 91 => ⟨S4096x1024, .bf16⟩
  | 92 => ⟨S4096x1024, .bf16⟩
  | 93 => ⟨S4096x1024, .bf16⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call0_v0 : Ref sig .tc := ⟨.hbm, 62, rfl⟩
abbrev main_call0_call0_cst : Ref sig .tc := ⟨.hbm, 63, rfl⟩
abbrev main_call0_call0_v0 : Ref sig .tc := ⟨.hbm, 64, rfl⟩
abbrev main_call0_call0_v1 : Ref sig .tc := ⟨.hbm, 65, rfl⟩
abbrev main_call0_call0_v2 : Ref sig .tc := ⟨.hbm, 66, rfl⟩
abbrev main_call0_call0_v3 : Ref sig .tc := ⟨.hbm, 67, rfl⟩
abbrev main_call0_call0_v4 : Ref sig .tc := ⟨.hbm, 68, rfl⟩
abbrev main_call0_call0_v5 : Ref sig .tc := ⟨.hbm, 69, rfl⟩
abbrev main_call0_call0_v6 : Ref sig .tc := ⟨.hbm, 70, rfl⟩
abbrev main_call0_call0_v7 : Ref sig .tc := ⟨.hbm, 71, rfl⟩
abbrev main_call0_call0_v8 : Ref sig .tc := ⟨.hbm, 72, rfl⟩
abbrev main_call0_call0_v9 : Ref sig .tc := ⟨.hbm, 73, rfl⟩
abbrev main_call0_call0_v10 : Ref sig .tc := ⟨.hbm, 74, rfl⟩
abbrev main_call0_call0_v11 : Ref sig .tc := ⟨.hbm, 75, rfl⟩
abbrev main_call0_v1_0 : Ref sig .tc := ⟨.hbm, 76, rfl⟩
abbrev main_call0_call0_cst_0 : Ref sig .tc := ⟨.hbm, 77, rfl⟩
abbrev main_call0_call0_v13 : Ref sig .tc := ⟨.hbm, 78, rfl⟩
abbrev main_call0_call0_v14 : Ref sig .tc := ⟨.hbm, 79, rfl⟩
abbrev main_call0_call0_cst_1 : Ref sig .tc := ⟨.hbm, 80, rfl⟩
abbrev main_call0_call0_v15 : Ref sig .tc := ⟨.hbm, 81, rfl⟩
abbrev main_call0_call0_v16 : Ref sig .tc := ⟨.hbm, 82, rfl⟩
abbrev main_call0_call0_cst_2 : Ref sig .tc := ⟨.hbm, 83, rfl⟩
abbrev main_call0_call0_v17 : Ref sig .tc := ⟨.hbm, 84, rfl⟩
abbrev main_call0_call0_v18 : Ref sig .tc := ⟨.hbm, 85, rfl⟩
abbrev main_call0_call0_cst_3 : Ref sig .tc := ⟨.hbm, 86, rfl⟩
abbrev main_call0_call0_v19 : Ref sig .tc := ⟨.hbm, 87, rfl⟩
abbrev main_call0_call0_v20 : Ref sig .tc := ⟨.hbm, 88, rfl⟩
abbrev main_call0_call0_v21 : Ref sig .tc := ⟨.hbm, 89, rfl⟩
abbrev main_v49_1 : Ref sig .tc := ⟨.hbm, 90, rfl⟩
abbrev main_call0_call0_cst_4 : Ref sig .tc := ⟨.hbm, 91, rfl⟩
abbrev main_call0_call0_cst_5 : Ref sig .tc := ⟨.hbm, 92, rfl⟩
abbrev main_call0_call0_v23 : Ref sig .tc := ⟨.hbm, 93, rfl⟩
abbrev main_call0_call0_cst_6 : Ref sig .tc := ⟨.hbm, 94, rfl⟩
abbrev main_call0_call0_cst_7 : Ref sig .tc := ⟨.hbm, 95, rfl⟩
abbrev main_call0_call0_v24 : Ref sig .tc := ⟨.hbm, 96, rfl⟩
abbrev main_call0_call0_cst_8 : Ref sig .tc := ⟨.hbm, 97, rfl⟩
abbrev main_call0_call0_v25 : Ref sig .tc := ⟨.hbm, 98, rfl⟩
abbrev main_call0_call0_v26 : Ref sig .tc := ⟨.hbm, 99, rfl⟩
abbrev main_call0_call0_cst_9 : Ref sig .tc := ⟨.hbm, 100, rfl⟩
abbrev main_call0_call0_v27 : Ref sig .tc := ⟨.hbm, 101, rfl⟩
abbrev main_call0_call0_v28 : Ref sig .tc := ⟨.hbm, 102, rfl⟩
abbrev main_call0_call0_v29 : Ref sig .tc := ⟨.hbm, 103, rfl⟩
abbrev main_call0_call0_v30 : Ref sig .tc := ⟨.hbm, 104, rfl⟩
abbrev main_call0_call0_v31 : Ref sig .tc := ⟨.hbm, 105, rfl⟩
abbrev main_call0_call0_cst_10 : Ref sig .tc := ⟨.hbm, 106, rfl⟩
abbrev main_call0_call0_v32 : Ref sig .tc := ⟨.hbm, 107, rfl⟩
abbrev main_v49_2 : Ref sig .tc := ⟨.hbm, 108, rfl⟩
abbrev main_v49_0 : Ref sig .tc := ⟨.hbm, 109, rfl⟩
abbrev main_v50 : Ref sig .tc := ⟨.hbm, 110, rfl⟩
abbrev main_cst_8 : Ref sig .tc := ⟨.hbm, 111, rfl⟩
abbrev main_call1_v0 : Ref sig .tc := ⟨.hbm, 112, rfl⟩
abbrev main_v51_1 : Ref sig .tc := ⟨.hbm, 113, rfl⟩
abbrev main_call1_v2 : Ref sig .tc := ⟨.hbm, 114, rfl⟩
abbrev main_v51_0 : Ref sig .tc := ⟨.hbm, 115, rfl⟩
abbrev main_call1_cst : Ref sig .tc := ⟨.hbm, 116, rfl⟩
abbrev main_v51_2 : Ref sig .tc := ⟨.hbm, 117, rfl⟩
abbrev main_call2_cst : Ref sig .tc := ⟨.hbm, 118, rfl⟩
abbrev main_call2_v0 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_cst_9 : Ref sig .tc := ⟨.hbm, 124, rfl⟩
abbrev main_call3_v0 : Ref sig .tc := ⟨.hbm, 125, rfl⟩
abbrev main_v56_1 : Ref sig .tc := ⟨.hbm, 126, rfl⟩
abbrev main_call3_v2 : Ref sig .tc := ⟨.hbm, 127, rfl⟩
abbrev main_v56_0 : Ref sig .tc := ⟨.hbm, 128, rfl⟩
abbrev main_call3_cst : Ref sig .tc := ⟨.hbm, 129, rfl⟩
abbrev main_v56_2 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_call4_cst : Ref sig .tc := ⟨.hbm, 139, rfl⟩
abbrev main_call4_v0 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_call5_cst : Ref sig .tc := ⟨.hbm, 144, rfl⟩
abbrev main_call5_v0 : Ref sig .tc := ⟨.hbm, 145, rfl⟩
abbrev main_v68 : Ref sig .tc := ⟨.hbm, 146, rfl⟩
abbrev main_v69 : Ref sig .tc := ⟨.hbm, 147, rfl⟩
abbrev main_call6_cst : Ref sig .tc := ⟨.hbm, 148, rfl⟩
abbrev main_call6_v0 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_call7_v0 : Ref sig .tc := ⟨.hbm, 153, rfl⟩
abbrev main_call7_v1 : Ref sig .tc := ⟨.hbm, 154, rfl⟩
abbrev main_v73 : Ref sig .tc := ⟨.hbm, 155, rfl⟩
abbrev main_v74 : Ref sig .tc := ⟨.hbm, 156, rfl⟩
abbrev main_cst_10 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_11 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_cst_12 : Ref sig .tc := ⟨.hbm, 171, rfl⟩
abbrev main_v87 : Ref sig .tc := ⟨.hbm, 172, rfl⟩
abbrev main_v88 : Ref sig .tc := ⟨.hbm, 173, rfl⟩
abbrev main_cst_13 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_cst_14 : Ref sig .tc := ⟨.hbm, 180, rfl⟩
abbrev main_v94 : Ref sig .tc := ⟨.hbm, 181, rfl⟩
abbrev main_v95 : Ref sig .tc := ⟨.hbm, 182, rfl⟩
abbrev main_cst_15 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_cst_16 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_cst_17 : Ref sig .tc := ⟨.hbm, 198, rfl⟩
abbrev main_v109 : Ref sig .tc := ⟨.hbm, 199, rfl⟩
abbrev main_v110 : Ref sig .tc := ⟨.hbm, 200, rfl⟩
abbrev main_cst_18 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_cst_19 : Ref sig .tc := ⟨.hbm, 207, rfl⟩
abbrev main_v116 : Ref sig .tc := ⟨.hbm, 208, rfl⟩
abbrev main_v117 : Ref sig .tc := ⟨.hbm, 209, rfl⟩
abbrev main_cst_20 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩

abbrev nD : Nat := 1
abbrev τ : Topo := Topo.v7x

variable {F : FTy → Type} [FloatOps F]
-- ==== Kernel2.lean ====
abbrev S4096x2048 : Shape := ⟨2, ![4096, 2048]⟩
abbrev S1x2048 : Shape := ⟨2, ![1, 2048]⟩
abbrev S6144x2048 : Shape := ⟨2, ![6144, 2048]⟩
abbrev S512x2048 : Shape := ⟨2, ![512, 2048]⟩
abbrev S512 : Shape := ⟨1, ![512]⟩
abbrev S512x1 : Shape := ⟨2, ![512, 1]⟩
abbrev S4096x6144 : Shape := ⟨2, ![4096, 6144]⟩
abbrev S1024x2048 : Shape := ⟨2, ![1024, 2048]⟩
abbrev S512x1024 : Shape := ⟨2, ![512, 1024]⟩
abbrev S512x6144 : Shape := ⟨2, ![512, 6144]⟩
abbrev S6144x512 : Shape := ⟨2, ![6144, 512]⟩
abbrev S512x512 : Shape := ⟨2, ![512, 512]⟩
abbrev S4096x512 : Shape := ⟨2, ![4096, 512]⟩
abbrev S4096x1024 : Shape := ⟨2, ![4096, 1024]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 22
  | .vmem => 81
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S6144x2048, .bf16⟩
  | .hbm, ⟨3, _⟩ => ⟨S6144x2048, .bf16⟩
  | .hbm, ⟨4, _⟩ => ⟨S6144x2048, .bf16⟩
  | .hbm, ⟨5, _⟩ => ⟨S4096x2048, .f32⟩
  | .hbm, ⟨6, _⟩ => ⟨S4096x2048, .bf16⟩
  | .hbm, ⟨7, _⟩ => ⟨S4096x2048, .bf16⟩
  | .hbm, ⟨8, _⟩ => ⟨S4096x6144, .bf16⟩
  | .hbm, ⟨9, _⟩ => ⟨S4096x6144, .bf16⟩
  | .hbm, ⟨10, _⟩ => ⟨S4096x6144, .bf16⟩
  | .hbm, ⟨11, _⟩ => ⟨S4096x2048, .f32⟩
  | .hbm, ⟨12, _⟩ => ⟨S4096x6144, .bf16⟩
  | .hbm, ⟨13, _⟩ => ⟨S4096x6144, .bf16⟩
  | .hbm, ⟨14, _⟩ => ⟨S6144x2048, .bf16⟩
  | .hbm, ⟨15, _⟩ => ⟨S4096x2048, .f32⟩
  | .hbm, ⟨16, _⟩ => ⟨S4096x2048, .f32⟩
  | .hbm, ⟨17, _⟩ => ⟨S6144x2048, .bf16⟩
  | .hbm, ⟨18, _⟩ => ⟨S6144x2048, .bf16⟩
  | .hbm, ⟨19, _⟩ => ⟨S4096x2048, .f32⟩
  | .hbm, ⟨20, _⟩ => ⟨S4096x2048, .bf16⟩
  | .hbm, ⟨21, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x6144, .bf16⟩
  | .local _ .vmem, ⟨18, _⟩ => ⟨S512x6144, .bf16⟩
  | .local _ .vmem, ⟨19, _⟩ => ⟨S6144x512, .bf16⟩
  | .local _ .vmem, ⟨20, _⟩ => ⟨S6144x512, .bf16⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x2048, .bf16⟩
  | .local _ .vmem, ⟨26, _⟩ => ⟨S512x2048, .bf16⟩
  | .local _ .vmem, ⟨27, _⟩ => ⟨S1024x2048, .bf16⟩
  | .local _ .vmem, ⟨28, _⟩ => ⟨S1024x2048, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S4096x512, .bf16⟩
  | .local _ .vmem, ⟨38, _⟩ => ⟨S4096x512, .bf16⟩
  | .local _ .vmem, ⟨39, _⟩ => ⟨S4096x1024, .bf16⟩
  | .local _ .vmem, ⟨40, _⟩ => ⟨S4096x1024, .bf16⟩
  | .local _ .vmem, ⟨41, _⟩ => ⟨S512x1024, .bf16⟩
  | .local _ .vmem, ⟨42, _⟩ => ⟨S512x1024, .bf16⟩
  | .local _ .vmem, ⟨43, _⟩ => ⟨S512x6144, .bf16⟩
  | .local _ .vmem, ⟨44, _⟩ => ⟨S512x6144, .bf16⟩
  | .local _ .vmem, ⟨45, _⟩ => ⟨S6144x512, .bf16⟩
  | .local _ .vmem, ⟨46, _⟩ => ⟨S6144x512, .bf16⟩
  | .local _ .vmem, ⟨47, _⟩ => ⟨S512x512, .f32⟩
  | .local _ .vmem, ⟨48, _⟩ => ⟨S512x512, .f32⟩
  | .local _ .vmem, ⟨49, _⟩ => ⟨S512x6144, .bf16⟩
  | .local _ .vmem, ⟨50, _⟩ => ⟨S512x6144, .bf16⟩
  | .local _ .vmem, ⟨51, _⟩ => ⟨S6144x512, .bf16⟩
  | .local _ .vmem, ⟨52, _⟩ => ⟨S6144x512, .bf16⟩
  | .local _ .vmem, ⟨53, _⟩ => ⟨S512x512, .f32⟩
  | .local _ .vmem, ⟨54, _⟩ => ⟨S512x512, .f32⟩
  | .local _ .vmem, ⟨55, _⟩ => ⟨S512x512, .f32⟩
  | .local _ .vmem, ⟨56, _⟩ => ⟨S512x512, .f32⟩
  | .local _ .vmem, ⟨57, _⟩ => ⟨S4096x512, .bf16⟩
  | .local _ .vmem, ⟨58, _⟩ => ⟨S4096x512, .bf16⟩
  | .local _ .vmem, ⟨59, _⟩ => ⟨S4096x1024, .bf16⟩
  | .local _ .vmem, ⟨60, _⟩ => ⟨S4096x1024, .bf16⟩
  | .local _ .vmem, ⟨61, _⟩ => ⟨S512x1024, .bf16⟩
  | .local _ .vmem, ⟨62, _⟩ => ⟨S512x1024, .bf16⟩
  | .local _ .vmem, ⟨63, _⟩ => ⟨S4096x512, .bf16⟩
  | .local _ .vmem, ⟨64, _⟩ => ⟨S4096x512, .bf16⟩
  | .local _ .vmem, ⟨65, _⟩ => ⟨S4096x1024, .bf16⟩
  | .local _ .vmem, ⟨66, _⟩ => ⟨S4096x1024, .bf16⟩
  | .local _ .vmem, ⟨67, _⟩ => ⟨S512x1024, .bf16⟩
  | .local _ .vmem, ⟨68, _⟩ => ⟨S512x1024, .bf16⟩
  | .local _ .vmem, ⟨69, _⟩ => ⟨S256x2048, .f32⟩
  | .local _ .vmem, ⟨70, _⟩ => ⟨S256x2048, .f32⟩
  | .local _ .vmem, ⟨71, _⟩ => ⟨S1x2048, .f32⟩
  | .local _ .vmem, ⟨72, _⟩ => ⟨S256x2048, .f32⟩
  | .local _ .vmem, ⟨73, _⟩ => ⟨S256x2048, .f32⟩
  | .local _ .vmem, ⟨74, _⟩ => ⟨S256x2048, .f32⟩
  | .local _ .vmem, ⟨75, _⟩ => ⟨S256x2048, .f32⟩
  | .local _ .vmem, ⟨76, _⟩ => ⟨S256x2048, .f32⟩
  | .local _ .vmem, ⟨77, _⟩ => ⟨S256x2048, .f32⟩
  | .local _ .vmem, ⟨78, _⟩ => ⟨S256x2048, .bf16⟩
  | .local _ .vmem, ⟨79, _⟩ => ⟨S256x2048, .bf16⟩
  | .local _ .vmem, ⟨80, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg4_1 : Ref sig .tc := ⟨.vmem, 34, rfl⟩
abbrev cc3_stg5_0 : Ref sig .tc := ⟨.vmem, 35, rfl⟩
abbrev cc3_stg5_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg2_1 : Ref sig .tc := ⟨.vmem, 48, rfl⟩
abbrev cc6_stg0_0 : Ref sig .tc := ⟨.vmem, 49, rfl⟩
abbrev cc6_stg0_1 : Ref sig .tc := ⟨.vmem, 50, rfl⟩
abbrev cc6_stg1_0 : Ref sig .tc := ⟨.vmem, 51, rfl⟩
abbrev cc6_stg1_1 : Ref sig .tc := ⟨.vmem, 52, rfl⟩
abbrev cc6_stg2_0 : Ref sig .tc := ⟨.vmem, 53, rfl⟩
abbrev cc6_stg2_1 : Ref sig .tc := ⟨.vmem, 54, rfl⟩
abbrev cc6_stg3_0 : Ref sig .tc := ⟨.vmem, 55, rfl⟩
abbrev cc6_stg3_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg2_1 : Ref sig .tc := ⟨.vmem, 62, rfl⟩
abbrev cc8_stg0_0 : Ref sig .tc := ⟨.vmem, 63, rfl⟩
abbrev cc8_stg0_1 : Ref sig .tc := ⟨.vmem, 64, rfl⟩
abbrev cc8_stg1_0 : Ref sig .tc := ⟨.vmem, 65, rfl⟩
abbrev cc8_stg1_1 : Ref sig .tc := ⟨.vmem, 66, rfl⟩
abbrev cc8_stg2_0 : Ref sig .tc := ⟨.vmem, 67, rfl⟩
abbrev cc8_stg2_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg2_0 : Ref sig .tc := ⟨.vmem, 72, rfl⟩
abbrev cc9_stg2_1 : Ref sig .tc := ⟨.vmem, 73, rfl⟩
abbrev cc9_stg3_0 : Ref sig .tc := ⟨.vmem, 74, rfl⟩
abbrev cc9_stg3_1 : Ref sig .tc := ⟨.vmem, 75, rfl⟩
abbrev cc9_stg4_0 : Ref sig .tc := ⟨.vmem, 76, rfl⟩
abbrev cc9_stg4_1 : Ref sig .tc := ⟨.vmem, 77, rfl⟩
abbrev cc9_stg5_0 : Ref sig .tc := ⟨.vmem, 78, rfl⟩
abbrev cc9_stg5_1 : Ref sig .tc := ⟨.vmem, 79, rfl⟩
abbrev cc9_stg6_0 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc3_sem4_0 : DmaSem sig := 33
abbrev cc3_sem4_1 : DmaSem sig := 34
abbrev cc3_sem5_0 : DmaSem sig := 35
abbrev cc3_sem5_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem2_1 : DmaSem sig := 48
abbrev cc6_sem0_0 : DmaSem sig := 49
abbrev cc6_sem0_1 : DmaSem sig := 50
abbrev cc6_sem1_0 : DmaSem sig := 51
abbrev cc6_sem1_1 : DmaSem sig := 52
abbrev cc6_sem2_0 : DmaSem sig := 53
abbrev cc6_sem2_1 : DmaSem sig := 54
abbrev cc6_sem3_0 : DmaSem sig := 55
abbrev cc6_sem3_1 : DmaSem sig := 56
abbrev cc7_sem0_0 : DmaSem sig := 57
abbrev cc7_sem0_1 : DmaSem sig := 58
abbrev cc7_sem1_0 : DmaSem sig := 59
abbrev cc7_sem1_1 : DmaSem sig := 60
abbrev cc7_sem2_0 : DmaSem sig := 61
abbrev cc7_sem2_1 : DmaSem sig := 62
abbrev cc8_sem0_0 : DmaSem sig := 63
abbrev cc8_sem0_1 : DmaSem sig := 64
abbrev cc8_sem1_0 : DmaSem sig := 65
abbrev cc8_sem1_1 : DmaSem sig := 66
abbrev cc8_sem2_0 : DmaSem sig := 67
abbrev cc8_sem2_1 : DmaSem sig := 68
abbrev cc9_sem0_0 : DmaSem sig := 69
abbrev cc9_sem0_1 : DmaSem sig := 70
abbrev cc9_sem1_0 : DmaSem sig := 71
abbrev cc9_sem2_0 : DmaSem sig := 72
abbrev cc9_sem2_1 : DmaSem sig := 73
abbrev cc9_sem3_0 : DmaSem sig := 74
abbrev cc9_sem3_1 : DmaSem sig := 75
abbrev cc9_sem4_0 : DmaSem sig := 76
abbrev cc9_sem4_1 : DmaSem sig := 77
abbrev cc9_sem5_0 : DmaSem sig := 78
abbrev cc9_sem5_1 : DmaSem sig := 79
abbrev cc9_sem6_0 : DmaSem sig := 80

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨3, ![8, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x6144 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S6144x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨2, ![8, 6], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S512x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨3, ![12, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S512x6144 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S6144x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![8, 4, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S512x6144 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S6144x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S512x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev stage6_3 : Fin 2 → Memref sig .tc .vmem S512x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev grid7 : Pipeline.Grid := ⟨3, ![12, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S4096x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S4096x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S512x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![12, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S4096x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S4096x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S512x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨1, ![16], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S256x2048 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x2048 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S256x2048 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S256x2048 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S256x2048 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S256x2048 .bf16 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 1 → Memref sig .tc .vmem S1x2048 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]
-- ==== Reference2Ideal.lean ====
abbrev S4096x2048 : Shape := ⟨2, ![4096, 2048]⟩
abbrev S1x2048 : Shape := ⟨2, ![1, 2048]⟩
abbrev S6144x2048 : Shape := ⟨2, ![6144, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S2048x6144 : Shape := ⟨2, ![2048, 6144]⟩
abbrev S4096x6144 : Shape := ⟨2, ![4096, 6144]⟩

abbrev nBuf : Space → Nat
  | .hbm => 100
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S6144x2048, .bf16⟩
  | .hbm, ⟨3, _⟩ => ⟨S6144x2048, .bf16⟩
  | .hbm, ⟨4, _⟩ => ⟨S6144x2048, .bf16⟩
  | .hbm, ⟨5, _⟩ => ⟨S4096x2048, .f32⟩
  | .hbm, ⟨6, _⟩ => ⟨S6144x2048, .f32⟩
  | .hbm, ⟨7, _⟩ => ⟨S6144x2048, .f32⟩
  | .hbm, ⟨8, _⟩ => ⟨S6144x2048, .f32⟩
  | .hbm, ⟨9, _⟩ => ⟨S2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S2048x6144, .f32⟩
  | .hbm, ⟨31, _⟩ => ⟨S4096x6144, .f32⟩
  | .hbm, ⟨32, _⟩ => ⟨S4096x6144, .f32⟩
  | .hbm, ⟨33, _⟩ => ⟨S4096x6144, .f32⟩
  | .hbm, ⟨34, _⟩ => ⟨S_, .f32⟩
  | .hbm, ⟨35, _⟩ => ⟨S4096x6144, .f32⟩
  | .hbm, ⟨36, _⟩ => ⟨S4096x6144, .f32⟩
  | .hbm, ⟨37, _⟩ => ⟨S_, .f32⟩
  | .hbm, ⟨38, _⟩ => ⟨S4096x6144, .f32⟩
  | .hbm, ⟨39, _⟩ => ⟨S4096x6144, .f32⟩
  | .hbm, ⟨40, _⟩ => ⟨S_, .f32⟩
  | .hbm, ⟨41, _⟩ => ⟨S4096x6144, .f32⟩
  | .hbm, ⟨42, _⟩ => ⟨S4096x6144, .f32⟩
  | .hbm, ⟨43, _⟩ => ⟨S4096x6144, .f32⟩
  | .hbm, ⟨44, _⟩ => ⟨S4096x6144, .f32⟩
  | .hbm, ⟨45, _⟩ => ⟨S2048x6144, .f32⟩
  | .hbm, ⟨46, _⟩ => ⟨S4096x6144, .f32⟩
  | .hbm, ⟨47, _⟩ => ⟨S4096x6144, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S2048x6144, .f32⟩
  | .hbm, ⟨52, _⟩ => ⟨S6144x2048, .f32⟩
  | .hbm, ⟨53, _⟩ => ⟨S4096x6144, .f32⟩
  | .hbm, ⟨54, _⟩ => ⟨S4096x6144, .f32⟩
  | .hbm, ⟨55, _⟩ => ⟨S4096x6144, .f32⟩
  | .hbm, ⟨56, _⟩ => ⟨S6144x2048, .f32⟩
  | .hbm, ⟨57, _⟩ => ⟨S2048x6144, .f32⟩
  | .hbm, ⟨58, _⟩ => ⟨S4096x2048, .f32⟩
  | .hbm, ⟨59, _⟩ => ⟨S6144x2048, .f32⟩
  | .hbm, ⟨60, _⟩ => ⟨S4096x6144, .f32⟩
  | .hbm, ⟨61, _⟩ => ⟨S4096x6144, .f32⟩
  | .hbm, ⟨62, _⟩ => ⟨S4096x6144, .f32⟩
  | .hbm, ⟨63, _⟩ => ⟨S4096x6144, .f32⟩
  | .hbm, ⟨64, _⟩ => ⟨S6144x2048, .f32⟩
  | .hbm, ⟨65, _⟩ => ⟨S2048x6144, .f32⟩
  | .hbm, ⟨66, _⟩ => ⟨S4096x2048, .f32⟩
  | .hbm, ⟨67, _⟩ => ⟨S4096x2048, .f32⟩
  | .hbm, ⟨68, _⟩ => ⟨S6144x2048, .f32⟩
  | .hbm, ⟨69, _⟩ => ⟨S4096x2048, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S2048, .f32⟩
  | .hbm, ⟨77, _⟩ => ⟨S4096x2048, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x2048, .f32⟩
  | .hbm, ⟨94, _⟩ => ⟨S4096x2048, .f32⟩
  | .hbm, ⟨95, _⟩ => ⟨S1x2048, .f32⟩
  | .hbm, ⟨96, _⟩ => ⟨S4096x2048, .bf16⟩
  | .hbm, ⟨97, _⟩ => ⟨S6144x2048, .bf16⟩
  | .hbm, ⟨98, _⟩ => ⟨S6144x2048, .bf16⟩
  | .hbm, ⟨99, _⟩ => ⟨S6144x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v22_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v22_1 : Ref sig .tc := ⟨.hbm, 43, rfl⟩
abbrev main_v22_0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_3 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_4 : Ref sig .tc := ⟨.hbm, 75, rfl⟩
abbrev main_v49 : Ref sig .tc := ⟨.hbm, 76, rfl⟩
abbrev main_v50 : Ref sig .tc := ⟨.hbm, 77, rfl⟩
abbrev main_cst_5 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_6 : Ref sig .tc := ⟨.hbm, 85, rfl⟩
abbrev main_v57 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]
-- ==== Kernel3.lean ====
abbrev S4096x2048 : Shape := ⟨2, ![4096, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩
abbrev S1024x2048 : Shape := ⟨2, ![1024, 2048]⟩
abbrev S4096x512 : Shape := ⟨2, ![4096, 512]⟩
abbrev S4096x1024 : Shape := ⟨2, ![4096, 1024]⟩

abbrev nBuf : Space → Nat
  | .hbm => 7
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .bf16⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x2048, .bf16⟩
  | .local _ .vmem, ⟨9, _⟩ => ⟨S512x2048, .bf16⟩
  | .local _ .vmem, ⟨10, _⟩ => ⟨S1024x2048, .bf16⟩
  | .local _ .vmem, ⟨11, _⟩ => ⟨S1024x2048, .bf16⟩
  | .local _ .vmem, ⟨12, _⟩ => ⟨S512x1024, .f32⟩
  | .local _ .vmem, ⟨13, _⟩ => ⟨S512x1024, .f32⟩
  | .local _ .vmem, ⟨14, _⟩ => ⟨S4096x512, .bf16⟩
  | .local _ .vmem, ⟨15, _⟩ => ⟨S4096x512, .bf16⟩
  | .local _ .vmem, ⟨16, _⟩ => ⟨S4096x1024, .bf16⟩
  | .local _ .vmem, ⟨17, _⟩ => ⟨S4096x1024, .bf16⟩
  | .local _ .vmem, ⟨18, _⟩ => ⟨S512x1024, .bf16⟩
  | .local _ .vmem, ⟨19, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference3Ideal.lean ====
abbrev S4096x2048 : Shape := ⟨2, ![4096, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .bf16⟩
  | .hbm, ⟨3, _⟩ => ⟨S4096x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S2048x2048, .f32⟩
  | .hbm, ⟨11, _⟩ => ⟨S4096x2048, .f32⟩
  | .hbm, ⟨12, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel4.lean ====
abbrev S4096x2048 : Shape := ⟨2, ![4096, 2048]⟩
abbrev S1x2048 : Shape := ⟨2, ![1, 2048]⟩
abbrev S2048x6144 : Shape := ⟨2, ![2048, 6144]⟩
abbrev S4096x6144 : Shape := ⟨2, ![4096, 6144]⟩
abbrev S512x2048 : Shape := ⟨2, ![512, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S512x6144 : Shape := ⟨2, ![512, 6144]⟩
abbrev S512x512 : Shape := ⟨2, ![512, 512]⟩
abbrev S4096x512 : Shape := ⟨2, ![4096, 512]⟩
abbrev S4096x1024 : Shape := ⟨2, ![4096, 1024]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 12
  | .vmem => 35
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x6144, .bf16⟩
  | .hbm, ⟨3, _⟩ => ⟨S4096x6144, .bf16⟩
  | .hbm, ⟨4, _⟩ => ⟨S4096x2048, .f32⟩
  | .hbm, ⟨5, _⟩ => ⟨S4096x2048, .bf16⟩
  | .hbm, ⟨6, _⟩ => ⟨S4096x6144, .f32⟩
  | .hbm, ⟨7, _⟩ => ⟨S4096x2048, .f32⟩
  | .hbm, ⟨8, _⟩ => ⟨S2048x6144, .bf16⟩
  | .hbm, ⟨9, _⟩ => ⟨S4096x2048, .f32⟩
  | .hbm, ⟨10, _⟩ => ⟨S4096x2048, .bf16⟩
  | .hbm, ⟨11, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x1024, .bf16⟩
  | .local _ .vmem, ⟨8, _⟩ => ⟨S2048x1024, .bf16⟩
  | .local _ .vmem, ⟨9, _⟩ => ⟨S512x1024, .f32⟩
  | .local _ .vmem, ⟨10, _⟩ => ⟨S512x1024, .f32⟩
  | .local _ .vmem, ⟨11, _⟩ => ⟨S512x6144, .bf16⟩
  | .local _ .vmem, ⟨12, _⟩ => ⟨S512x6144, .bf16⟩
  | .local _ .vmem, ⟨13, _⟩ => ⟨S512x6144, .bf16⟩
  | .local _ .vmem, ⟨14, _⟩ => ⟨S512x6144, .bf16⟩
  | .local _ .vmem, ⟨15, _⟩ => ⟨S512x512, .f32⟩
  | .local _ .vmem, ⟨16, _⟩ => ⟨S512x512, .f32⟩
  | .local _ .vmem, ⟨17, _⟩ => ⟨S4096x512, .bf16⟩
  | .local _ .vmem, ⟨18, _⟩ => ⟨S4096x512, .bf16⟩
  | .local _ .vmem, ⟨19, _⟩ => ⟨S4096x1024, .bf16⟩
  | .local _ .vmem, ⟨20, _⟩ => ⟨S4096x1024, .bf16⟩
  | .local _ .vmem, ⟨21, _⟩ => ⟨S512x1024, .bf16⟩
  | .local _ .vmem, ⟨22, _⟩ => ⟨S512x1024, .bf16⟩
  | .local _ .vmem, ⟨23, _⟩ => ⟨S256x2048, .f32⟩
  | .local _ .vmem, ⟨24, _⟩ => ⟨S256x2048, .f32⟩
  | .local _ .vmem, ⟨25, _⟩ => ⟨S1x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | .local _ .vmem, ⟨32, _⟩ => ⟨S256x2048, .bf16⟩
  | .local _ .vmem, ⟨33, _⟩ => ⟨S256x2048, .bf16⟩
  | .local _ .vmem, ⟨34, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc4_stg3_1 : Ref sig .tc := ⟨.vmem, 29, rfl⟩
abbrev cc4_stg4_0 : Ref sig .tc := ⟨.vmem, 30, rfl⟩
abbrev cc4_stg4_1 : Ref sig .tc := ⟨.vmem, 31, rfl⟩
abbrev cc4_stg5_0 : Ref sig .tc := ⟨.vmem, 32, rfl⟩
abbrev cc4_stg5_1 : Ref sig .tc := ⟨.vmem, 33, rfl⟩
abbrev cc4_stg6_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc4_sem3_0 : DmaSem sig := 28
abbrev cc4_sem3_1 : DmaSem sig := 29
abbrev cc4_sem4_0 : DmaSem sig := 30
abbrev cc4_sem4_1 : DmaSem sig := 31
abbrev cc4_sem5_0 : DmaSem sig := 32
abbrev cc4_sem5_1 : DmaSem sig := 33
abbrev cc4_sem6_0 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 6, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x6144 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x6144 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 6, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x2048 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x2048 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]
-- ==== Reference4Ideal.lean ====
abbrev S4096x2048 : Shape := ⟨2, ![4096, 2048]⟩
abbrev S1x2048 : Shape := ⟨2, ![1, 2048]⟩
abbrev S2048x6144 : Shape := ⟨2, ![2048, 6144]⟩
abbrev S4096x6144 : Shape := ⟨2, ![4096, 6144]⟩
abbrev S2048 : Shape := ⟨1, ![2048]⟩
abbrev S_ : Shape := ⟨0, ![]⟩
abbrev S4096 : Shape := ⟨1, ![4096]⟩
abbrev S4096x1 : Shape := ⟨2, ![4096, 1]⟩
abbrev S6144x2048 : Shape := ⟨2, ![6144, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x6144, .bf16⟩
  | .hbm, ⟨3, _⟩ => ⟨S4096x6144, .bf16⟩
  | .hbm, ⟨4, _⟩ => ⟨S4096x2048, .f32⟩
  | .hbm, ⟨5, _⟩ => ⟨S2048x6144, .f32⟩
  | .hbm, ⟨6, _⟩ => ⟨S2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x6144, .f32⟩
  | .hbm, ⟨28, _⟩ => ⟨S4096x6144, .f32⟩
  | .hbm, ⟨29, _⟩ => ⟨S6144x2048, .f32⟩
  | .hbm, ⟨30, _⟩ => ⟨S2048x6144, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S4096x2048, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S1x2048, .f32⟩
  | .hbm, ⟨59, _⟩ => ⟨S4096x2048, .bf16⟩
  | .hbm, ⟨60, _⟩ => ⟨S2048x6144, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel5.lean ====
abbrev S4096x6144 : Shape := ⟨2, ![4096, 6144]⟩
abbrev S1x128 : Shape := ⟨2, ![1, 128]⟩
abbrev S4096x1024 : Shape := ⟨2, ![4096, 1024]⟩
abbrev S2048x512 : Shape := ⟨2, ![2048, 512]⟩
abbrev S2048x128 : Shape := ⟨2, ![2048, 128]⟩
abbrev S2048 : Shape := ⟨1, ![2048]⟩
abbrev S2048x1 : Shape := ⟨2, ![2048, 1]⟩
abbrev S256x256 : Shape := ⟨2, ![256, 256]⟩
abbrev S512x256 : Shape := ⟨2, ![512, 256]⟩
abbrev S256x128 : Shape := ⟨2, ![256, 128]⟩
abbrev S256x1 : Shape := ⟨2, ![256, 1]⟩
abbrev S256x512 : Shape := ⟨2, ![256, 512]⟩
abbrev S256 : Shape := ⟨1, ![256]⟩

abbrev nBuf : Space → Nat
  | .hbm => 4
  | .vmem => 13
  | .smem => 0
  | _ => 0

abbrev bufTy : (tb : Table) → Fin (tcTables nBuf tb) → BufTy
  | .hbm, ⟨0, _⟩ => ⟨S4096x6144, .f32⟩
  | .hbm, ⟨1, _⟩ => ⟨S1x128, .f32⟩
  | .hbm, ⟨2, _⟩ => ⟨S1x128, .f32⟩
  | .hbm, ⟨3, _⟩ => ⟨S4096x1024, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1x128, .f32⟩
  | .local _ .vmem, ⟨7, _⟩ => ⟨S1x128, .f32⟩
  | .local _ .vmem, ⟨8, _⟩ => ⟨S2048x512, .f32⟩
  | .local _ .vmem, ⟨9, _⟩ => ⟨S2048x512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v180 : BitVec 32 := Scalar.addi c0_i32 c8_i32
  let c1_i32 : BitVec 32 := 1#32
  ⟨c0_i32, v180, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v181 : BitVec 32 := Scalar.muli arg10 c256_i32
  v181
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v181 : BitVec 32 := Scalar.muli arg10 c256_i32
  let v182 : BitVec 32 := v181
  let v183 : Index := Scalar.indexCast v182
  let c0_88 : Index := 0#32
  ![v183.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v181 : BitVec 32 := Scalar.muli arg10 c256_i32
  let v182 : BitVec 32 := v181
  let v185 : Index := Scalar.indexCast v182
  let c128_89 : Index := 128#32
  ![v185.toNat, 128]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v181 : BitVec 32 := Scalar.muli arg10 c256_i32
  let v182 : BitVec 32 := v181
  let v187 : Index := Scalar.indexCast v182
  let c256_90 : Index := 256#32
  ![v187.toNat, 256]
def k0_off4 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v181 : BitVec 32 := Scalar.muli arg10 c256_i32
  let v182 : BitVec 32 := v181
  let v189 : Index := Scalar.indexCast v182
  let c384_91 : Index := 384#32
  ![v189.toNat, 384]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_94 : BitVec 32 := 256#32
  let v193 : BitVec 32 := Scalar.muli arg10 c256_i32_94
  v193
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_99 : BitVec 32 := 256#32
  let v200 : BitVec 32 := Scalar.muli arg10 c256_i32_99
  v200
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_104 : BitVec 32 := 256#32
  let v207 : BitVec 32 := Scalar.muli arg10 c256_i32_104
  v207
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_109 : BitVec 32 := 256#32
  let v214 : BitVec 32 := Scalar.muli arg10 c256_i32_109
  v214
def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32_113 : BitVec 32 := 256#32
  let v220 : BitVec 32 := Scalar.muli arg10 c256_i32_113
  v220
def k0_mult7 (k0_t1 : Fin k0_t1_loop.trips) : BitVec 32 :=
  let c0_i32 : BitVec 32 := 0#32
  let c1_i32 : BitVec 32 := 1#32
  let arg10 : BitVec 32 := Scf.iv c0_i32 c1_i32 k0_t1
  let c1_i32_114 : BitVec 32 := 1#32
  let v222 : BitVec 32 := Scalar.subi arg10 c1_i32_114
  let c0_i32_115 : BitVec 32 := 0#32
  let v223 : BitVec 32 := Scalar.maxsi v222 c0_i32_115
  let c256_i32_116 : BitVec 32 := 256#32
  let v224 : BitVec 32 := Scalar.muli v223 c256_i32_116
  v224
def k0_off5 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1_i32_114 : BitVec 32 := 1#32
  let v222 : BitVec 32 := Scalar.subi arg10 c1_i32_114
  let c0_i32_115 : BitVec 32 := 0#32
  let v223 : BitVec 32 := Scalar.maxsi v222 c0_i32_115
  let c256_i32_116 : BitVec 32 := 256#32
  let v224 : BitVec 32 := Scalar.muli v223 c256_i32_116
  let v225 : BitVec 32 := v224
  let v226 : Index := Scalar.indexCast v225
  let c0_117 : Index := 0#32
  ![v226.toNat, 0]
def k0_mult8 (k0_t1 : Fin k0_t1_loop.trips) : BitVec 32 :=
  let c0_i32 : BitVec 32 := 0#32
  let c1_i32 : BitVec 32 := 1#32
  let arg10 : BitVec 32 := Scf.iv c0_i32 c1_i32 k0_t1
  let c1_i32_130 : BitVec 32 := 1#32
  let v266 : BitVec 32 := Scalar.subi arg10 c1_i32_130
  let c0_i32_131 : BitVec 32 := 0#32
  let v267 : BitVec 32 := Scalar.maxsi v266 c0_i32_131
  let c256_i32_132 : BitVec 32 := 256#32
  let v268 : BitVec 32 := Scalar.muli v267 c256_i32_132
  v268
def k0_off6 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1_i32_130 : BitVec 32 := 1#32
  let v266 : BitVec 32 := Scalar.subi arg10 c1_i32_130
  let c0_i32_131 : BitVec 32 := 0#32
  let v267 : BitVec 32 := Scalar.maxsi v266 c0_i32_131
  let c256_i32_132 : BitVec 32 := 256#32
  let v268 : BitVec 32 := Scalar.muli v267 c256_i32_132
  let v269 : BitVec 32 := v268
  let v270 : Index := Scalar.indexCast v269
  let c128_133 : Index := 128#32
  ![v270.toNat, 128]
def k0_mult9 (k0_t1 : Fin k0_t1_loop.trips) : BitVec 32 :=
  let c0_i32 : BitVec 32 := 0#32
  let c1_i32 : BitVec 32 := 1#32
  let arg10 : BitVec 32 := Scf.iv c0_i32 c1_i32 k0_t1
  let c1_i32_146 : BitVec 32 := 1#32
  let v310 : BitVec 32 := Scalar.subi arg10 c1_i32_146
  let c0_i32_147 : BitVec 32 := 0#32
  let v311 : BitVec 32 := Scalar.maxsi v310 c0_i32_147
  let c256_i32_148 : BitVec 32 := 256#32
  let v312 : BitVec 32 := Scalar.muli v311 c256_i32_148
  v312
def k0_off7 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1_i32_146 : BitVec 32 := 1#32
  let v310 : BitVec 32 := Scalar.subi arg10 c1_i32_146
  let c0_i32_147 : BitVec 32 := 0#32
  let v311 : BitVec 32 := Scalar.maxsi v310 c0_i32_147
  let c256_i32_148 : BitVec 32 := 256#32
  let v312 : BitVec 32 := Scalar.muli v311 c256_i32_148
  let v313 : BitVec 32 := v312
  let v314 : Index := Scalar.indexCast v313
  let c256_149 : Index := 256#32
  ![v314.toNat, 256]
def k0_mult10 (k0_t1 : Fin k0_t1_loop.trips) : BitVec 32 :=
  let c0_i32 : BitVec 32 := 0#32
  let c1_i32 : BitVec 32 := 1#32
  let arg10 : BitVec 32 := Scf.iv c0_i32 c1_i32 k0_t1
  let c1_i32_162 : BitVec 32 := 1#32
  let v354 : BitVec 32 := Scalar.subi arg10 c1_i32_162
  let c0_i32_163 : BitVec 32 := 0#32
  let v355 : BitVec 32 := Scalar.maxsi v354 c0_i32_163
  let c256_i32_164 : BitVec 32 := 256#32
  let v356 : BitVec 32 := Scalar.muli v355 c256_i32_164
  v356
def k0_off8 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1_i32_162 : BitVec 32 := 1#32
  let v354 : BitVec 32 := Scalar.subi arg10 c1_i32_162
  let c0_i32_163 : BitVec 32 := 0#32
  let v355 : BitVec 32 := Scalar.maxsi v354 c0_i32_163
  let c256_i32_164 : BitVec 32 := 256#32
  let v356 : BitVec 32 := Scalar.muli v355 c256_i32_164
  let v357 : BitVec 32 := v356
  let v358 : Index := Scalar.indexCast v357
  let c384_165 : Index := 384#32
  ![v358.toNat, 384]
@[reducible] def k0_t2_loop (k0_t1 : Fin k0_t1_loop.trips) : Scf.Loop 32 :=
  let c1_i32_178 : BitVec 32 := 1#32
  let c0_i32 : BitVec 32 := 0#32
  let c1_i32 : BitVec 32 := 1#32
  let arg10 : BitVec 32 := Scf.iv c0_i32 c1_i32 k0_t1
  let c1_i32_112 : BitVec 32 := 1#32
  let v219 : BitVec 32 := Scalar.addi arg10 c1_i32_112
  let v398 : BitVec 32 := Scalar.subi v219 c1_i32_178
  let c1_i32_179 : BitVec 32 := 1#32
  let v400 : BitVec 32 := Scalar.divsi v398 c1_i32_179
  let v401 : BitVec 32 := Scalar.muli v400 c1_i32_179
  let v402 : BitVec 32 := Scalar.addi c1_i32_178 v401
  let c1_i32_180 : BitVec 32 := 1#32
  ⟨c1_i32_178, v402, c1_i32_180⟩
def k0_mult11 (k0_t1 : Fin k0_t1_loop.trips) (k0_t2 : Fin (k0_t2_loop k0_t1).trips) : BitVec 32 :=
  let c0_i32 : BitVec 32 := 0#32
  let c1_i32 : BitVec 32 := 1#32
  let arg10 : BitVec 32 := Scf.iv c0_i32 c1_i32 k0_t1
  let c1_i32_178 : BitVec 32 := 1#32
  let c1_i32_180 : BitVec 32 := 1#32
  let arg11 : BitVec 32 := Scf.iv c1_i32_178 c1_i32_180 k0_t2
  let v413 : BitVec 32 := Scalar.subi arg10 arg11
  let c256_i32_186 : BitVec 32 := 256#32
  let v414 : BitVec 32 := Scalar.muli v413 c256_i32_186
  v414
def k0_mult12 (k0_t1 : Fin k0_t1_loop.trips) (k0_t2 : Fin (k0_t2_loop k0_t1).trips) : BitVec 32 :=
  let c0_i32 : BitVec 32 := 0#32
  let c1_i32 : BitVec 32 := 1#32
  let arg10 : BitVec 32 := Scf.iv c0_i32 c1_i32 k0_t1
  let c1_i32_178 : BitVec 32 := 1#32
  let c1_i32_180 : BitVec 32 := 1#32
  let arg11 : BitVec 32 := Scf.iv c1_i32_178 c1_i32_180 k0_t2
  let v413 : BitVec 32 := Scalar.subi arg10 arg11
  let c1_i32_187 : BitVec 32 := 1#32
  let v416 : BitVec 32 := Scalar.subi v413 c1_i32_187
  let c0_i32_188 : BitVec 32 := 0#32
  let v417 : BitVec 32 := Scalar.maxsi v416 c0_i32_188
  let c256_i32_189 : BitVec 32 := 256#32
  let v418 : BitVec 32 := Scalar.muli v417 c256_i32_189
  v418
def k0_off9 (k0_t1 : Fin k0_t1_loop.trips) (k0_t2 : Fin (k0_t2_loop k0_t1).trips) : Fin 2 → Nat :=
  let c0_i32 : BitVec 32 := 0#32
  let c1_i32 : BitVec 32 := 1#32
  let arg10 : BitVec 32 := Scf.iv c0_i32 c1_i32 k0_t1
  let c1_i32_178 : BitVec 32 := 1#32
  let c1_i32_180 : BitVec 32 := 1#32
  let arg11 : BitVec 32 := Scf.iv c1_i32_178 c1_i32_180 k0_t2
  let v413 : BitVec 32 := Scalar.subi arg10 arg11
  let c1_i32_187 : BitVec 32 := 1#32
  let v416 : BitVec 32 := Scalar.subi v413 c1_i32_187
  let c0_i32_188 : BitVec 32 := 0#32
  let v417 : BitVec 32 := Scalar.maxsi v416 c0_i32_188
  let c256_i32_189 : BitVec 32 := 256#32
  let v418 : BitVec 32 := Scalar.muli v417 c256_i32_189
  let v419 : BitVec 32 := v418
  let v420 : Index := Scalar.indexCast v419
  let c0_190 : Index := 0#32
  ![v420.toNat, 0]
def k0_off10 (k0_t1 : Fin k0_t1_loop.trips) (k0_t2 : Fin (k0_t2_loop k0_t1).trips) : Fin 2 → Nat :=
  let c0_i32 : BitVec 32 := 0#32
  let c1_i32 : BitVec 32 := 1#32
  let arg10 : BitVec 32 := Scf.iv c0_i32 c1_i32 k0_t1
  let c1_i32_178 : BitVec 32 := 1#32
  let c1_i32_180 : BitVec 32 := 1#32
  let arg11 : BitVec 32 := Scf.iv c1_i32_178 c1_i32_180 k0_t2
  let v413 : BitVec 32 := Scalar.subi arg10 arg11
  let c256_i32_186 : BitVec 32 := 256#32
  let v414 : BitVec 32 := Scalar.muli v413 c256_i32_186
  let v415 : BitVec 32 := v414
  let v449 : Index := Scalar.indexCast v415
  let c0_198 : Index := 0#32
  ![v449.toNat, 0]
def k0_mult13 (k0_t1 : Fin k0_t1_loop.trips) (k0_t2 : Fin (k0_t2_loop k0_t1).trips) : BitVec 32 :=
  let c0_i32 : BitVec 32 := 0#32
  let c1_i32 : BitVec 32 := 1#32
  let arg10 : BitVec 32 := Scf.iv c0_i32 c1_i32 k0_t1
  let c1_i32_178 : BitVec 32 := 1#32
  let c1_i32_180 : BitVec 32 := 1#32
  let arg11 : BitVec 32 := Scf.iv c1_i32_178 c1_i32_180 k0_t2
  let v413 : BitVec 32 := Scalar.subi arg10 arg11
  let c1_i32_201 : BitVec 32 := 1#32
  let v456 : BitVec 32 := Scalar.subi v413 c1_i32_201
  let c0_i32_202 : BitVec 32 := 0#32
  let v457 : BitVec 32 := Scalar.maxsi v456 c0_i32_202
  let c256_i32_203 : BitVec 32 := 256#32
  let v458 : BitVec 32 := Scalar.muli v457 c256_i32_203
  v458
def k0_off11 (k0_t1 : Fin k0_t1_loop.trips) (k0_t2 : Fin (k0_t2_loop k0_t1).trips) : Fin 2 → Nat :=
  let c0_i32 : BitVec 32 := 0#32
  let c1_i32 : BitVec 32 := 1#32
  let arg10 : BitVec 32 := Scf.iv c0_i32 c1_i32 k0_t1
  let c1_i32_178 : BitVec 32 := 1#32
  let c1_i32_180 : BitVec 32 := 1#32
  let arg11 : BitVec 32 := Scf.iv c1_i32_178 c1_i32_180 k0_t2
  let v413 : BitVec 32 := Scalar.subi arg10 arg11
  let c1_i32_201 : BitVec 32 := 1#32
  let v456 : BitVec 32 := Scalar.subi v413 c1_i32_201
  let c0_i32_202 : BitVec 32 := 0#32
  let v457 : BitVec 32 := Scalar.maxsi v456 c0_i32_202
  let c256_i32_203 : BitVec 32 := 256#32
  let v458 : BitVec 32 := Scalar.muli v457 c256_i32_203
  let v459 : BitVec 32 := v458
  let v460 : Index := Scalar.indexCast v459
  let c128_204 : Index := 128#32
  ![v460.toNat, 128]
def k0_off12 (k0_t1 : Fin k0_t1_loop.trips) (k0_t2 : Fin (k0_t2_loop k0_t1).trips) : Fin 2 → Nat :=
  let c0_i32 : BitVec 32 := 0#32
  let c1_i32 : BitVec 32 := 1#32
  let arg10 : BitVec 32 := Scf.iv c0_i32 c1_i32 k0_t1
  let c1_i32_178 : BitVec 32 := 1#32
  let c1_i32_180 : BitVec 32 := 1#32
  let arg11 : BitVec 32 := Scf.iv c1_i32_178 c1_i32_180 k0_t2
  let v413 : BitVec 32 := Scalar.subi arg10 arg11
  let c256_i32_186 : BitVec 32 := 256#32
  let v414 : BitVec 32 := Scalar.muli v413 c256_i32_186
  let v415 : BitVec 32 := v414
  let v489 : Index := Scalar.indexCast v415
  let c128_212 : Index := 128#32
  ![v489.toNat, 128]
def k0_mult14 (k0_t1 : Fin k0_t1_loop.trips) (k0_t2 : Fin (k0_t2_loop k0_t1).trips) : BitVec 32 :=
  let c0_i32 : BitVec 32 := 0#32
  let c1_i32 : BitVec 32 := 1#32
  let arg10 : BitVec 32 := Scf.iv c0_i32 c1_i32 k0_t1
  let c1_i32_178 : BitVec 32 := 1#32
  let c1_i32_180 : BitVec 32 := 1#32
  let arg11 : BitVec 32 := Scf.iv c1_i32_178 c1_i32_180 k0_t2
  let v413 : BitVec 32 := Scalar.subi arg10 arg11
  let c1_i32_215 : BitVec 32 := 1#32
  let v496 : BitVec 32 := Scalar.subi v413 c1_i32_215
  let c0_i32_216 : BitVec 32 := 0#32
  let v497 : BitVec 32 := Scalar.maxsi v496 c0_i32_216
  let c256_i32_217 : BitVec 32 := 256#32
  let v498 : BitVec 32 := Scalar.muli v497 c256_i32_217
  v498
def k0_off13 (k0_t1 : Fin k0_t1_loop.trips) (k0_t2 : Fin (k0_t2_loop k0_t1).trips) : Fin 2 → Nat :=
  let c0_i32 : BitVec 32 := 0#32
  let c1_i32 : BitVec 32 := 1#32
  let arg10 : BitVec 32 := Scf.iv c0_i32 c1_i32 k0_t1
  let c1_i32_178 : BitVec 32 := 1#32
  let c1_i32_180 : BitVec 32 := 1#32
  let arg11 : BitVec 32 := Scf.iv c1_i32_178 c1_i32_180 k0_t2
  let v413 : BitVec 32 := Scalar.subi arg10 arg11
  let c1_i32_215 : BitVec 32 := 1#32
  let v496 : BitVec 32 := Scalar.subi v413 c1_i32_215
  let c0_i32_216 : BitVec 32 := 0#32
  let v497 : BitVec 32 := Scalar.maxsi v496 c0_i32_216
  let c256_i32_217 : BitVec 32 := 256#32
  let v498 : BitVec 32 := Scalar.muli v497 c256_i32_217
  let v499 : BitVec 32 := v498
  let v500 : Index := Scalar.indexCast v499
  let c256_218 : Index := 256#32
  ![v500.toNat, 256]
def k0_off14 (k0_t1 : Fin k0_t1_loop.trips) (k0_t2 : Fin (k0_t2_loop k0_t1).trips) : Fin 2 → Nat :=
  let c0_i32 : BitVec 32 := 0#32
  let c1_i32 : BitVec 32 := 1#32
  let arg10 : BitVec 32 := Scf.iv c0_i32 c1_i32 k0_t1
  let c1_i32_178 : BitVec 32 := 1#32
  let c1_i32_180 : BitVec 32 := 1#32
  let arg11 : BitVec 32 := Scf.iv c1_i32_178 c1_i32_180 k0_t2
  let v413 : BitVec 32 := Scalar.subi arg10 arg11
  let c256_i32_186 : BitVec 32 := 256#32
  let v414 : BitVec 32 := Scalar.muli v413 c256_i32_186
  let v415 : BitVec 32 := v414
  let v529 : Index := Scalar.indexCast v415
  let c256_226 : Index := 256#32
  ![v529.toNat, 256]
def k0_mult15 (k0_t1 : Fin k0_t1_loop.trips) (k0_t2 : Fin (k0_t2_loop k0_t1).trips) : BitVec 32 :=
  let c0_i32 : BitVec 32 := 0#32
  let c1_i32 : BitVec 32 := 1#32
  let arg10 : BitVec 32 := Scf.iv c0_i32 c1_i32 k0_t1
  let c1_i32_178 : BitVec 32 := 1#32
  let c1_i32_180 : BitVec 32 := 1#32
  let arg11 : BitVec 32 := Scf.iv c1_i32_178 c1_i32_180 k0_t2
  let v413 : BitVec 32 := Scalar.subi arg10 arg11
  let c1_i32_229 : BitVec 32 := 1#32
  let v536 : BitVec 32 := Scalar.subi v413 c1_i32_229
  let c0_i32_230 : BitVec 32 := 0#32
  let v537 : BitVec 32 := Scalar.maxsi v536 c0_i32_230
  let c256_i32_231 : BitVec 32 := 256#32
  let v538 : BitVec 32 := Scalar.muli v537 c256_i32_231
  v538
def k0_off15 (k0_t1 : Fin k0_t1_loop.trips) (k0_t2 : Fin (k0_t2_loop k0_t1).trips) : Fin 2 → Nat :=
  let c0_i32 : BitVec 32 := 0#32
  let c1_i32 : BitVec 32 := 1#32
  let arg10 : BitVec 32 := Scf.iv c0_i32 c1_i32 k0_t1
  let c1_i32_178 : BitVec 32 := 1#32
  let c1_i32_180 : BitVec 32 := 1#32
  let arg11 : BitVec 32 := Scf.iv c1_i32_178 c1_i32_180 k0_t2
  let v413 : BitVec 32 := Scalar.subi arg10 arg11
  let c1_i32_229 : BitVec 32 := 1#32
  let v536 : BitVec 32 := Scalar.subi v413 c1_i32_229
  let c0_i32_230 : BitVec 32 := 0#32
  let v537 : BitVec 32 := Scalar.maxsi v536 c0_i32_230
  let c256_i32_231 : BitVec 32 := 256#32
  let v538 : BitVec 32 := Scalar.muli v537 c256_i32_231
  let v539 : BitVec 32 := v538
  let v540 : Index := Scalar.indexCast v539
  let c384_232 : Index := 384#32
  ![v540.toNat, 384]
def k0_off16 (k0_t1 : Fin k0_t1_loop.trips) (k0_t2 : Fin (k0_t2_loop k0_t1).trips) : Fin 2 → Nat :=
  let c0_i32 : BitVec 32 := 0#32
  let c1_i32 : BitVec 32 := 1#32
  let arg10 : BitVec 32 := Scf.iv c0_i32 c1_i32 k0_t1
  let c1_i32_178 : BitVec 32 := 1#32
  let c1_i32_180 : BitVec 32 := 1#32
  let arg11 : BitVec 32 := Scf.iv c1_i32_178 c1_i32_180 k0_t2
  let v413 : BitVec 32 := Scalar.subi arg10 arg11
  let c256_i32_186 : BitVec 32 := 256#32
  let v414 : BitVec 32 := Scalar.muli v413 c256_i32_186
  let v415 : BitVec 32 := v414
  let v569 : Index := Scalar.indexCast v415
  let c384_240 : Index := 384#32
  ![v569.toNat, 384]
@[reducible] def k0_t3_loop (k0_t1 : Fin k0_t1_loop.trips) : Scf.Loop 32 :=
  let c1_i32_178 : BitVec 32 := 1#32
  let c0_i32 : BitVec 32 := 0#32
  let c1_i32 : BitVec 32 := 1#32
  let arg10 : BitVec 32 := Scf.iv c0_i32 c1_i32 k0_t1
  let c1_i32_112 : BitVec 32 := 1#32
  let v219 : BitVec 32 := Scalar.addi arg10 c1_i32_112
  let v398 : BitVec 32 := Scalar.subi v219 c1_i32_178
  let c1_i32_179 : BitVec 32 := 1#32
  let v400 : BitVec 32 := Scalar.divsi v398 c1_i32_179
  let v401 : BitVec 32 := Scalar.muli v400 c1_i32_179
  let v402 : BitVec 32 := Scalar.addi c1_i32_178 v401
  let v399 : BitVec 32 := Scalar.addi c1_i32_178 v398
  let c1_i32_181 : BitVec 32 := 1#32
  ⟨v402, v399, c1_i32_181⟩
def k0_mult16 (k0_t1 : Fin k0_t1_loop.trips) (k0_t3 : Fin (k0_t3_loop k0_t1).trips) : BitVec 32 :=
  let c0_i32 : BitVec 32 := 0#32
  let c1_i32 : BitVec 32 := 1#32
  let arg10 : BitVec 32 := Scf.iv c0_i32 c1_i32 k0_t1
  let c1_i32_178 : BitVec 32 := 1#32
  let c1_i32_112 : BitVec 32 := 1#32
  let v219 : BitVec 32 := Scalar.addi arg10 c1_i32_112
  let v398 : BitVec 32 := Scalar.subi v219 c1_i32_178
  let c1_i32_179 : BitVec 32 := 1#32
  let v400 : BitVec 32 := Scalar.divsi v398 c1_i32_179
  let v401 : BitVec 32 := Scalar.muli v400 c1_i32_179
  let v402 : BitVec 32 := Scalar.addi c1_i32_178 v401
  let c1_i32_181 : BitVec 32 := 1#32
  let arg11 : BitVec 32 := Scf.iv v402 c1_i32_181 k0_t3
  let v413 : BitVec 32 := Scalar.subi arg10 arg11
  let c256_i32_186 : BitVec 32 := 256#32
  let v414 : BitVec 32 := Scalar.muli v413 c256_i32_186
  v414
def k0_mult17 (k0_t1 : Fin k0_t1_loop.trips) (k0_t3 : Fin (k0_t3_loop k0_t1).trips) : BitVec 32 :=
  let c0_i32 : BitVec 32 := 0#32
  let c1_i32 : BitVec 32 := 1#32
  let arg10 : BitVec 32 := Scf.iv c0_i32 c1_i32 k0_t1
  let c1_i32_178 : BitVec 32 := 1#32
  let c1_i32_112 : BitVec 32 := 1#32
  let v219 : BitVec 32 := Scalar.addi arg10 c1_i32_112
  let v398 : BitVec 32 := Scalar.subi v219 c1_i32_178
  let c1_i32_179 : BitVec 32 := 1#32
  let v400 : BitVec 32 := Scalar.divsi v398 c1_i32_179
  let v401 : BitVec 32 := Scalar.muli v400 c1_i32_179
  let v402 : BitVec 32 := Scalar.addi c1_i32_178 v401
  let c1_i32_181 : BitVec 32 := 1#32
  let arg11 : BitVec 32 := Scf.iv v402 c1_i32_181 k0_t3
  let v413 : BitVec 32 := Scalar.subi arg10 arg11
  let c1_i32_187 : BitVec 32 := 1#32
  let v416 : BitVec 32 := Scalar.subi v413 c1_i32_187
  let c0_i32_188 : BitVec 32 := 0#32
  let v417 : BitVec 32 := Scalar.maxsi v416 c0_i32_188
  let c256_i32_189 : BitVec 32 := 256#32
  let v418 : BitVec 32 := Scalar.muli v417 c256_i32_189
  v418
def k0_off17 (k0_t1 : Fin k0_t1_loop.trips) (k0_t3 : Fin (k0_t3_loop k0_t1).trips) : Fin 2 → Nat :=
  let c0_i32 : BitVec 32 := 0#32
  let c1_i32 : BitVec 32 := 1#32
  let arg10 : BitVec 32 := Scf.iv c0_i32 c1_i32 k0_t1
  let c1_i32_178 : BitVec 32 := 1#32
  let c1_i32_112 : BitVec 32 := 1#32
  let v219 : BitVec 32 := Scalar.addi arg10 c1_i32_112
  let v398 : BitVec 32 := Scalar.subi v219 c1_i32_178
  let c1_i32_179 : BitVec 32 := 1#32
  let v400 : BitVec 32 := Scalar.divsi v398 c1_i32_179
  let v401 : BitVec 32 := Scalar.muli v400 c1_i32_179
  let v402 : BitVec 32 := Scalar.addi c1_i32_178 v401
  let c1_i32_181 : BitVec 32 := 1#32
  let arg11 : BitVec 32 := Scf.iv v402 c1_i32_181 k0_t3
  let v413 : BitVec 32 := Scalar.subi arg10 arg11
  let c1_i32_187 : BitVec 32 := 1#32
  let v416 : BitVec 32 := Scalar.subi v413 c1_i32_187
  let c0_i32_188 : BitVec 32 := 0#32
  let v417 : BitVec 32 := Scalar.maxsi v416 c0_i32_188
  let c256_i32_189 : BitVec 32 := 256#32
  let v418 : BitVec 32 := Scalar.muli v417 c256_i32_189
  let v419 : BitVec 32 := v418
  let v420 : Index := Scalar.indexCast v419
  let c0_190 : Index := 0#32
  ![v420.toNat, 0]
def k0_off18 (k0_t1 : Fin k0_t1_loop.trips) (k0_t3 : Fin (k0_t3_loop k0_t1).trips) : Fin 2 → Nat :=
  let c0_i32 : BitVec 32 := 0#32
  let c1_i32 : BitVec 32 := 1#32
  let arg10 : BitVec 32 := Scf.iv c0_i32 c1_i32 k0_t1
  let c1_i32_178 : BitVec 32 := 1#32
  let c1_i32_112 : BitVec 32 := 1#32
  let v219 : BitVec 32 := Scalar.addi arg10 c1_i32_112
  let v398 : BitVec 32 := Scalar.subi v219 c1_i32_178
  let c1_i32_179 : BitVec 32 := 1#32
  let v400 : BitVec 32 := Scalar.divsi v398 c1_i32_179
  let v401 : BitVec 32 := Scalar.muli v400 c1_i32_179
  let v402 : BitVec 32 := Scalar.addi c1_i32_178 v401
  let c1_i32_181 : BitVec 32 := 1#32
  let arg11 : BitVec 32 := Scf.iv v402 c1_i32_181 k0_t3
  let v413 : BitVec 32 := Scalar.subi arg10 arg11
  let c256_i32_186 : BitVec 32 := 256#32
  let v414 : BitVec 32 := Scalar.muli v413 c256_i32_186
  let v415 : BitVec 32 := v414
  let v449 : Index := Scalar.indexCast v415
  let c0_198 : Index := 0#32
  ![v449.toNat, 0]
def k0_mult18 (k0_t1 : Fin k0_t1_loop.trips) (k0_t3 : Fin (k0_t3_loop k0_t1).trips) : BitVec 32 :=
  let c0_i32 : BitVec 32 := 0#32
  let c1_i32 : BitVec 32 := 1#32
  let arg10 : BitVec 32 := Scf.iv c0_i32 c1_i32 k0_t1
  let c1_i32_178 : BitVec 32 := 1#32
  let c1_i32_112 : BitVec 32 := 1#32
  let v219 : BitVec 32 := Scalar.addi arg10 c1_i32_112
  let v398 : BitVec 32 := Scalar.subi v219 c1_i32_178
  let c1_i32_179 : BitVec 32 := 1#32
  let v400 : BitVec 32 := Scalar.divsi v398 c1_i32_179
  let v401 : BitVec 32 := Scalar.muli v400 c1_i32_179
  let v402 : BitVec 32 := Scalar.addi c1_i32_178 v401
  let c1_i32_181 : BitVec 32 := 1#32
  let arg11 : BitVec 32 := Scf.iv v402 c1_i32_181 k0_t3
  let v413 : BitVec 32 := Scalar.subi arg10 arg11
  let c1_i32_201 : BitVec 32 := 1#32
  let v456 : BitVec 32 := Scalar.subi v413 c1_i32_201
  let c0_i32_202 : BitVec 32 := 0#32
  let v457 : BitVec 32 := Scalar.maxsi v456 c0_i32_202
  let c256_i32_203 : BitVec 32 := 256#32
  let v458 : BitVec 32 := Scalar.muli v457 c256_i32_203
  v458
def k0_off19 (k0_t1 : Fin k0_t1_loop.trips) (k0_t3 : Fin (k0_t3_loop k0_t1).trips) : Fin 2 → Nat :=
  let c0_i32 : BitVec 32 := 0#32
  let c1_i32 : BitVec 32 := 1#32
  let arg10 : BitVec 32 := Scf.iv c0_i32 c1_i32 k0_t1
  let c1_i32_178 : BitVec 32 := 1#32
  let c1_i32_112 : BitVec 32 := 1#32
  let v219 : BitVec 32 := Scalar.addi arg10 c1_i32_112
  let v398 : BitVec 32 := Scalar.subi v219 c1_i32_178
  let c1_i32_179 : BitVec 32 := 1#32
  let v400 : BitVec 32 := Scalar.divsi v398 c1_i32_179
  let v401 : BitVec 32 := Scalar.muli v400 c1_i32_179
  let v402 : BitVec 32 := Scalar.addi c1_i32_178 v401
  let c1_i32_181 : BitVec 32 := 1#32
  let arg11 : BitVec 32 := Scf.iv v402 c1_i32_181 k0_t3
  let v413 : BitVec 32 := Scalar.subi arg10 arg11
  let c1_i32_201 : BitVec 32 := 1#32
  let v456 : BitVec 32 := Scalar.subi v413 c1_i32_201
  let c0_i32_202 : BitVec 32 := 0#32
  let v457 : BitVec 32 := Scalar.maxsi v456 c0_i32_202
  let c256_i32_203 : BitVec 32 := 256#32
  let v458 : BitVec 32 := Scalar.muli v457 c256_i32_203
  let v459 : BitVec 32 := v458
  let v460 : Index := Scalar.indexCast v459
  let c128_204 : Index := 128#32
  ![v460.toNat, 128]
def k0_off20 (k0_t1 : Fin k0_t1_loop.trips) (k0_t3 : Fin (k0_t3_loop k0_t1).trips) : Fin 2 → Nat :=
  let c0_i32 : BitVec 32 := 0#32
  let c1_i32 : BitVec 32 := 1#32
  let arg10 : BitVec 32 := Scf.iv c0_i32 c1_i32 k0_t1
  let c1_i32_178 : BitVec 32 := 1#32
  let c1_i32_112 : BitVec 32 := 1#32
  let v219 : BitVec 32 := Scalar.addi arg10 c1_i32_112
  let v398 : BitVec 32 := Scalar.subi v219 c1_i32_178
  let c1_i32_179 : BitVec 32 := 1#32
  let v400 : BitVec 32 := Scalar.divsi v398 c1_i32_179
  let v401 : BitVec 32 := Scalar.muli v400 c1_i32_179
  let v402 : BitVec 32 := Scalar.addi c1_i32_178 v401
  let c1_i32_181 : BitVec 32 := 1#32
  let arg11 : BitVec 32 := Scf.iv v402 c1_i32_181 k0_t3
  let v413 : BitVec 32 := Scalar.subi arg10 arg11
  let c256_i32_186 : BitVec 32 := 256#32
  let v414 : BitVec 32 := Scalar.muli v413 c256_i32_186
  let v415 : BitVec 32 := v414
  let v489 : Index := Scalar.indexCast v415
  let c128_212 : Index := 128#32
  ![v489.toNat, 128]
def k0_mult19 (k0_t1 : Fin k0_t1_loop.trips) (k0_t3 : Fin (k0_t3_loop k0_t1).trips) : BitVec 32 :=
  let c0_i32 : BitVec 32 := 0#32
  let c1_i32 : BitVec 32 := 1#32
  let arg10 : BitVec 32 := Scf.iv c0_i32 c1_i32 k0_t1
  let c1_i32_178 : BitVec 32 := 1#32
  let c1_i32_112 : BitVec 32 := 1#32
  let v219 : BitVec 32 := Scalar.addi arg10 c1_i32_112
  let v398 : BitVec 32 := Scalar.subi v219 c1_i32_178
  let c1_i32_179 : BitVec 32 := 1#32
  let v400 : BitVec 32 := Scalar.divsi v398 c1_i32_179
  let v401 : BitVec 32 := Scalar.muli v400 c1_i32_179
  let v402 : BitVec 32 := Scalar.addi c1_i32_178 v401
  let c1_i32_181 : BitVec 32 := 1#32
  let arg11 : BitVec 32 := Scf.iv v402 c1_i32_181 k0_t3
  let v413 : BitVec 32 := Scalar.subi arg10 arg11
  let c1_i32_215 : BitVec 32 := 1#32
  let v496 : BitVec 32 := Scalar.subi v413 c1_i32_215
  let c0_i32_216 : BitVec 32 := 0#32
  let v497 : BitVec 32 := Scalar.maxsi v496 c0_i32_216
  let c256_i32_217 : BitVec 32 := 256#32
  let v498 : BitVec 32 := Scalar.muli v497 c256_i32_217
  v498
def k0_off21 (k0_t1 : Fin k0_t1_loop.trips) (k0_t3 : Fin (k0_t3_loop k0_t1).trips) : Fin 2 → Nat :=
  let c0_i32 : BitVec 32 := 0#32
  let c1_i32 : BitVec 32 := 1#32
  let arg10 : BitVec 32 := Scf.iv c0_i32 c1_i32 k0_t1
  let c1_i32_178 : BitVec 32 := 1#32
  let c1_i32_112 : BitVec 32 := 1#32
  let v219 : BitVec 32 := Scalar.addi arg10 c1_i32_112
  let v398 : BitVec 32 := Scalar.subi v219 c1_i32_178
  let c1_i32_179 : BitVec 32 := 1#32
  let v400 : BitVec 32 := Scalar.divsi v398 c1_i32_179
  let v401 : BitVec 32 := Scalar.muli v400 c1_i32_179
  let v402 : BitVec 32 := Scalar.addi c1_i32_178 v401
  let c1_i32_181 : BitVec 32 := 1#32
  let arg11 : BitVec 32 := Scf.iv v402 c1_i32_181 k0_t3
  let v413 : BitVec 32 := Scalar.subi arg10 arg11
  let c1_i32_215 : BitVec 32 := 1#32
  let v496 : BitVec 32 := Scalar.subi v413 c1_i32_215
  let c0_i32_216 : BitVec 32 := 0#32
  let v497 : BitVec 32 := Scalar.maxsi v496 c0_i32_216
  let c256_i32_217 : BitVec 32 := 256#32
  let v498 : BitVec 32 := Scalar.muli v497 c256_i32_217
  let v499 : BitVec 32 := v498
  let v500 : Index := Scalar.indexCast v499
  let c256_218 : Index := 256#32
  ![v500.toNat, 256]
def k0_off22 (k0_t1 : Fin k0_t1_loop.trips) (k0_t3 : Fin (k0_t3_loop k0_t1).trips) : Fin 2 → Nat :=
  let c0_i32 : BitVec 32 := 0#32
  let c1_i32 : BitVec 32 := 1#32
  let arg10 : BitVec 32 := Scf.iv c0_i32 c1_i32 k0_t1
  let c1_i32_178 : BitVec 32 := 1#32
  let c1_i32_112 : BitVec 32 := 1#32
  let v219 : BitVec 32 := Scalar.addi arg10 c1_i32_112
  let v398 : BitVec 32 := Scalar.subi v219 c1_i32_178
  let c1_i32_179 : BitVec 32 := 1#32
  let v400 : BitVec 32 := Scalar.divsi v398 c1_i32_179
  let v401 : BitVec 32 := Scalar.muli v400 c1_i32_179
  let v402 : BitVec 32 := Scalar.addi c1_i32_178 v401
  let c1_i32_181 : BitVec 32 := 1#32
  let arg11 : BitVec 32 := Scf.iv v402 c1_i32_181 k0_t3
  let v413 : BitVec 32 := Scalar.subi arg10 arg11
  let c256_i32_186 : BitVec 32 := 256#32
  let v414 : BitVec 32 := Scalar.muli v413 c256_i32_186
  let v415 : BitVec 32 := v414
  let v529 : Index := Scalar.indexCast v415
  let c256_226 : Index := 256#32
  ![v529.toNat, 256]
def k0_mult20 (k0_t1 : Fin k0_t1_loop.trips) (k0_t3 : Fin (k0_t3_loop k0_t1).trips) : BitVec 32 :=
  let c0_i32 : BitVec 32 := 0#32
  let c1_i32 : BitVec 32 := 1#32
  let arg10 : BitVec 32 := Scf.iv c0_i32 c1_i32 k0_t1
  let c1_i32_178 : BitVec 32 := 1#32
  let c1_i32_112 : BitVec 32 := 1#32
  let v219 : BitVec 32 := Scalar.addi arg10 c1_i32_112
  let v398 : BitVec 32 := Scalar.subi v219 c1_i32_178
  let c1_i32_179 : BitVec 32 := 1#32
  let v400 : BitVec 32 := Scalar.divsi v398 c1_i32_179
  let v401 : BitVec 32 := Scalar.muli v400 c1_i32_179
  let v402 : BitVec 32 := Scalar.addi c1_i32_178 v401
  let c1_i32_181 : BitVec 32 := 1#32
  let arg11 : BitVec 32 := Scf.iv v402 c1_i32_181 k0_t3
  let v413 : BitVec 32 := Scalar.subi arg10 arg11
  let c1_i32_229 : BitVec 32 := 1#32
  let v536 : BitVec 32 := Scalar.subi v413 c1_i32_229
  let c0_i32_230 : BitVec 32 := 0#32
  let v537 : BitVec 32 := Scalar.maxsi v536 c0_i32_230
  let c256_i32_231 : BitVec 32 := 256#32
  let v538 : BitVec 32 := Scalar.muli v537 c256_i32_231
  v538
def k0_off23 (k0_t1 : Fin k0_t1_loop.trips) (k0_t3 : Fin (k0_t3_loop k0_t1).trips) : Fin 2 → Nat :=
  let c0_i32 : BitVec 32 := 0#32
  let c1_i32 : BitVec 32 := 1#32
  let arg10 : BitVec 32 := Scf.iv c0_i32 c1_i32 k0_t1
  let c1_i32_178 : BitVec 32 := 1#32
  let c1_i32_112 : BitVec 32 := 1#32
  let v219 : BitVec 32 := Scalar.addi arg10 c1_i32_112
  let v398 : BitVec 32 := Scalar.subi v219 c1_i32_178
  let c1_i32_179 : BitVec 32 := 1#32
  let v400 : BitVec 32 := Scalar.divsi v398 c1_i32_179
  let v401 : BitVec 32 := Scalar.muli v400 c1_i32_179
  let v402 : BitVec 32 := Scalar.addi c1_i32_178 v401
  let c1_i32_181 : BitVec 32 := 1#32
  let arg11 : BitVec 32 := Scf.iv v402 c1_i32_181 k0_t3
  let v413 : BitVec 32 := Scalar.subi arg10 arg11
  let c1_i32_229 : BitVec 32 := 1#32
  let v536 : BitVec 32 := Scalar.subi v413 c1_i32_229
  let c0_i32_230 : BitVec 32 := 0#32
  let v537 : BitVec 32 := Scalar.maxsi v536 c0_i32_230
  let c256_i32_231 : BitVec 32 := 256#32
  let v538 : BitVec 32 := Scalar.muli v537 c256_i32_231
  let v539 : BitVec 32 := v538
  let v540 : Index := Scalar.indexCast v539
  let c384_232 : Index := 384#32
  ![v540.toNat, 384]
def k0_off24 (k0_t1 : Fin k0_t1_loop.trips) (k0_t3 : Fin (k0_t3_loop k0_t1).trips) : Fin 2 → Nat :=
  let c0_i32 : BitVec 32 := 0#32
  let c1_i32 : BitVec 32 := 1#32
  let arg10 : BitVec 32 := Scf.iv c0_i32 c1_i32 k0_t1
  let c1_i32_178 : BitVec 32 := 1#32
  let c1_i32_112 : BitVec 32 := 1#32
  let v219 : BitVec 32 := Scalar.addi arg10 c1_i32_112
  let v398 : BitVec 32 := Scalar.subi v219 c1_i32_178
  let c1_i32_179 : BitVec 32 := 1#32
  let v400 : BitVec 32 := Scalar.divsi v398 c1_i32_179
  let v401 : BitVec 32 := Scalar.muli v400 c1_i32_179
  let v402 : BitVec 32 := Scalar.addi c1_i32_178 v401
  let c1_i32_181 : BitVec 32 := 1#32
  let arg11 : BitVec 32 := Scf.iv v402 c1_i32_181 k0_t3
  let v413 : BitVec 32 := Scalar.subi arg10 arg11
  let c256_i32_186 : BitVec 32 := 256#32
  let v414 : BitVec 32 := Scalar.muli v413 c256_i32_186
  let v415 : BitVec 32 := v414
  let v569 : Index := Scalar.indexCast v415
  let c384_240 : Index := 384#32
  ![v569.toNat, 384]
def cc0_transform_0 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, v27.toNat]

def cc0_transform_1 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi c2_i32_10 v26
  let c0_i32_11 : BitVec 32 := 0#32
  ![v16.toNat, v27.toNat]

def cc0_transform_2 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.addi c4_i32 v26
  let c0_i32_10 : BitVec 32 := 0#32
  ![v16.toNat, v27.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  ![v16.toNat, v27.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4096x6144 : Shape := ⟨2, ![4096, 6144]⟩
abbrev S1x128 : Shape := ⟨2, ![1, 128]⟩
abbrev S4096x1024 : Shape := ⟨2, ![4096, 1024]⟩
abbrev S2x2048x8x128 : Shape := ⟨4, ![2, 2048, 8, 128]⟩
abbrev S128 : Shape := ⟨1, ![128]⟩
abbrev S_ : Shape := ⟨0, ![]⟩
abbrev S2x2048x8 : Shape := ⟨3, ![2, 2048, 8]⟩
abbrev S2x2048x8x1 : Shape := ⟨4, ![2, 2048, 8, 1]⟩
abbrev S1x1x1x128 : Shape := ⟨4, ![1, 1, 1, 128]⟩
abbrev S2x8x2048x2048 : Shape := ⟨4, ![2, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x128x2048 : Shape := ⟨4, ![2, 8, 128, 2048]⟩

abbrev nBuf : Space → Nat
  | .hbm => 89
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S1x128, .f32⟩
  | .hbm, ⟨2, _⟩ => ⟨S1x128, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S2x2048x8x128, .f32⟩
  | .hbm, ⟨7, _⟩ => ⟨S128, .f32⟩
  | .hbm, ⟨8, _⟩ => ⟨S2x2048x8x128, .f32⟩
  | .hbm, ⟨9, _⟩ => ⟨S_, .f32⟩
  | .hbm, ⟨10, _⟩ => ⟨S2x2048x8, .f32⟩
  | .hbm, ⟨11, _⟩ => ⟨S2x2048x8x1, .f32⟩
  | .hbm, ⟨12, _⟩ => ⟨S_, .f32⟩
  | .hbm, ⟨13, _⟩ => ⟨S2x2048x8x1, .f32⟩
  | .hbm, ⟨14, _⟩ => ⟨S2x2048x8x1, .f32⟩
  | .hbm, ⟨15, _⟩ => ⟨S_, .f32⟩
  | .hbm, ⟨16, _⟩ => ⟨S2x2048x8x1, .f32⟩
  | .hbm, ⟨17, _⟩ => ⟨S2x2048x8x1, .f32⟩
  | .hbm, ⟨18, _⟩ => ⟨S2x2048x8x1, .f32⟩
  | .hbm, ⟨19, _⟩ => ⟨S2x2048x8x128, .f32⟩
  | .hbm, ⟨20, _⟩ => ⟨S2x2048x8x128, .f32⟩
  | .hbm, ⟨21, _⟩ => ⟨S1x1x1x128, .f32⟩
  | .hbm, ⟨22, _⟩ => ⟨S2x2048x8x128, .f32⟩
  | .hbm, ⟨23, _⟩ => ⟨S2x2048x8x128, .f32⟩
  | .hbm, ⟨24, _⟩ => ⟨S2x2048x8x128, .f32⟩
  | .hbm, ⟨25, _⟩ => ⟨S128, .f32⟩
  | .hbm, ⟨26, _⟩ => ⟨S2x2048x8x128, .f32⟩
  | .hbm, ⟨27, _⟩ => ⟨S_, .f32⟩
  | .hbm, ⟨28, _⟩ => ⟨S2x2048x8, .f32⟩
  | .hbm, ⟨29, _⟩ => ⟨S2x2048x8x1, .f32⟩
  | .hbm, ⟨30, _⟩ => ⟨S_, .f32⟩
  | .hbm, ⟨31, _⟩ => ⟨S2x2048x8x1, .f32⟩
  | .hbm, ⟨32, _⟩ => ⟨S2x2048x8x1, .f32⟩
  | .hbm, ⟨33, _⟩ => ⟨S_, .f32⟩
  | .hbm, ⟨34, _⟩ => ⟨S2x2048x8x1, .f32⟩
  | .hbm, ⟨35, _⟩ => ⟨S2x2048x8x1, .f32⟩
  | .hbm, ⟨36, _⟩ => ⟨S2x2048x8x1, .f32⟩
  | .hbm, ⟨37, _⟩ => ⟨S2x2048x8x128, .f32⟩
  | .hbm, ⟨38, _⟩ => ⟨S2x2048x8x128, .f32⟩
  | .hbm, ⟨39, _⟩ => ⟨S1x1x1x128, .f32⟩
  | .hbm, ⟨40, _⟩ => ⟨S2x2048x8x128, .f32⟩
  | .hbm, ⟨41, _⟩ => ⟨S2x2048x8x128, .f32⟩
  | .hbm, ⟨42, _⟩ => ⟨S2x2048x8x128, .f32⟩
  | .hbm, ⟨43, _⟩ => ⟨S2x8x2048x2048, .f32⟩
  | .hbm, ⟨44, _⟩ => ⟨S_, .f32⟩
  | .hbm, ⟨45, _⟩ => ⟨S2x8x2048x2048, .f32⟩
  | .hbm, ⟨46, _⟩ => ⟨S2x8x2048x2048, .f32⟩
  | .hbm, ⟨47, _⟩ => ⟨S2048, .i32⟩
  | .hbm, ⟨48, _⟩ => ⟨S1x2048, .i32⟩
  | .hbm, ⟨49, _⟩ => ⟨S2048x1, .i32⟩
  | .hbm, ⟨50, _⟩ => ⟨S2048x2048, .i32⟩
  | .hbm, ⟨51, _⟩ => ⟨S2048x2048, .i32⟩
  | .hbm, ⟨52, _⟩ => ⟨S2048x2048, .i1⟩
  | .hbm, ⟨53, _⟩ => ⟨S2x8x2048x2048, .f32⟩
  | .hbm, ⟨54, _⟩ => ⟨S_, .f32⟩
  | .hbm, ⟨55, _⟩ => ⟨S2x8x2048x2048, .f32⟩
  | .hbm, ⟨56, _⟩ => ⟨S2x8x2048x2048, .f32⟩
  | .hbm, ⟨57, _⟩ => ⟨S2x8x2048x2048, .f32⟩
  | .hbm, ⟨58, _⟩ => ⟨S2x8x2048x2048, .f32⟩
  | .hbm, ⟨59, _⟩ => ⟨S2x8x2048x2048, .i1⟩
  | .hbm, ⟨60, _⟩ => ⟨S2x8x2048x2048, .f32⟩
  | .hbm, ⟨61, _⟩ => ⟨S2x8x2048x2048, .f32⟩
  | .hbm, ⟨62, _⟩ => ⟨S2x8x2048x2048, .f32⟩
  | .hbm, ⟨63, _⟩ => ⟨S2x8x2048x2048, .f32⟩
  | .hbm, ⟨64, _⟩ => ⟨S2x8x2048x2048, .f32⟩
  | .hbm, ⟨65, _⟩ => ⟨S2x8x2048x2048, .f32⟩
  | .hbm, ⟨66, _⟩ => ⟨S2x8x2048x2048, .f32⟩
  | .hbm, ⟨67, _⟩ => ⟨S2x8x2048x2048, .f32⟩
  | .hbm, ⟨68, _⟩ => ⟨S2x8x2048x2048, .f32⟩
  | .hbm, ⟨69, _⟩ => ⟨S2x8x2048x2048, .f32⟩
  | .hbm, ⟨70, _⟩ => ⟨S_, .f32⟩
  | .hbm, ⟨71, _⟩ => ⟨S_, .f32⟩
  | .hbm, ⟨72, _⟩ => ⟨S2x8x2048x2048, .i1⟩
  | .hbm, ⟨73, _⟩ => ⟨S2x8x2048x2048, .f32⟩
  | .hbm, ⟨74, _⟩ => ⟨S2x8x2048x2048, .f32⟩
  | .hbm, ⟨75, _⟩ => ⟨S_, .f32⟩
  | .hbm, ⟨76, _⟩ => ⟨S_, .f32⟩
  | .hbm, ⟨77, _⟩ => ⟨S2x8x2048x2048, .f32⟩
  | .hbm, ⟨78, _⟩ => ⟨S2x8x2048x2048, .f32⟩
  | .hbm, ⟨79, _⟩ => ⟨S2x8x2048x2048, .f32⟩
  | .hbm, ⟨80, _⟩ => ⟨S2x8x2048x2048, .f32⟩
  | .hbm, ⟨81, _⟩ => ⟨S_, .f32⟩
  | .hbm, ⟨82, _⟩ => ⟨S_, .f32⟩
  | .hbm, ⟨83, _⟩ => ⟨S2x8x2048x2048, .i1⟩
  | .hbm, ⟨84, _⟩ => ⟨S2x8x2048x2048, .f32⟩
  | .hbm, ⟨85, _⟩ => ⟨S2x8x2048x2048, .f32⟩
  | .hbm, ⟨86, _⟩ => ⟨S2x8x128x2048, .f32⟩
  | .hbm, ⟨87, _⟩ => ⟨S2x2048x8x128, .f32⟩
  | .hbm, ⟨88, _⟩ => ⟨S4096x1024, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_call0_v0 : Ref sig .tc := ⟨.hbm, 53, rfl⟩
abbrev main_call0_call0_cst : Ref sig .tc := ⟨.hbm, 54, rfl⟩
abbrev main_call0_call0_v0 : Ref sig .tc := ⟨.hbm, 55, rfl⟩
abbrev main_call0_call0_v1 : Ref sig .tc := ⟨.hbm, 56, rfl⟩
abbrev main_call0_call0_v2 : Ref sig .tc := ⟨.hbm, 57, rfl⟩
abbrev main_call0_call0_v3 : Ref sig .tc := ⟨.hbm, 58, rfl⟩
abbrev main_call0_call0_v4 : Ref sig .tc := ⟨.hbm, 59, rfl⟩
abbrev main_call0_call0_v5 : Ref sig .tc := ⟨.hbm, 60, rfl⟩
abbrev main_call0_call0_v6 : Ref sig .tc := ⟨.hbm, 61, rfl⟩
abbrev main_call0_call0_v7 : Ref sig .tc := ⟨.hbm, 62, rfl⟩
abbrev main_call0_call0_v8 : Ref sig .tc := ⟨.hbm, 63, rfl⟩
abbrev main_call0_call0_v9 : Ref sig .tc := ⟨.hbm, 64, rfl⟩
abbrev main_call0_call0_v10 : Ref sig .tc := ⟨.hbm, 65, rfl⟩
abbrev main_call0_call0_v11 : Ref sig .tc := ⟨.hbm, 66, rfl⟩
abbrev main_call0_v1 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v45 : Ref sig .tc := ⟨.hbm, 74, rfl⟩
abbrev main_call2_cst : Ref sig .tc := ⟨.hbm, 75, rfl⟩
abbrev main_call2_v0 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_7 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩

abbrev nD : Nat := 1
abbrev τ : Topo := Topo.v7x

variable {F : FTy → Type} [FloatOps F]
-- ==== Kernel6.lean ====
abbrev S4096x1024 : Shape := ⟨2, ![4096, 1024]⟩
abbrev S4096x6144 : Shape := ⟨2, ![4096, 6144]⟩
abbrev S1x1024 : Shape := ⟨2, ![1, 1024]⟩
abbrev S4096x2048 : Shape := ⟨2, ![4096, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x6144, .f32⟩
  | .hbm, ⟨3, _⟩ => ⟨S1x1024, .f32⟩
  | .hbm, ⟨4, _⟩ => ⟨S1x1024, .f32⟩
  | .hbm, ⟨5, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x2048, .bf16⟩
  | .local _ .vmem, ⟨9, _⟩ => ⟨S256x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4096x1024 : Shape := ⟨2, ![4096, 1024]⟩
abbrev S4096x6144 : Shape := ⟨2, ![4096, 6144]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2x512 : Shape := ⟨3, ![4096, 2, 512]⟩
abbrev S4096x2 : Shape := ⟨2, ![4096, 2]⟩
abbrev S4096x2x1 : Shape := ⟨3, ![4096, 2, 1]⟩
abbrev S4096x2048 : Shape := ⟨2, ![4096, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x6144, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x2x512, .f32⟩
  | .hbm, ⟨34, _⟩ => ⟨S4096x2x512, .f32⟩
  | .hbm, ⟨35, _⟩ => ⟨S_, .f32⟩
  | .hbm, ⟨36, _⟩ => ⟨S4096x2, .f32⟩
  | .hbm, ⟨37, _⟩ => ⟨S4096x2x1, .f32⟩
  | .hbm, ⟨38, _⟩ => ⟨S_, .f32⟩
  | .hbm, ⟨39, _⟩ => ⟨S4096x2x1, .f32⟩
  | .hbm, ⟨40, _⟩ => ⟨S4096x2x1, .f32⟩
  | .hbm, ⟨41, _⟩ => ⟨S_, .f32⟩
  | .hbm, ⟨42, _⟩ => ⟨S4096x2x1, .f32⟩
  | .hbm, ⟨43, _⟩ => ⟨S4096x2x1, .f32⟩
  | .hbm, ⟨44, _⟩ => ⟨S4096x2x1, .f32⟩
  | .hbm, ⟨45, _⟩ => ⟨S4096x2x512, .f32⟩
  | .hbm, ⟨46, _⟩ => ⟨S4096x2x512, .f32⟩
  | .hbm, ⟨47, _⟩ => ⟨S4096x1024, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x2048, .f32⟩
  | .hbm, ⟨53, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Kernel7.lean ====
abbrev S4096x2048 : Shape := ⟨2, ![4096, 2048]⟩
abbrev S4096x1024 : Shape := ⟨2, ![4096, 1024]⟩
abbrev S4096x6144 : Shape := ⟨2, ![4096, 6144]⟩
abbrev S1x1024 : Shape := ⟨2, ![1, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S256x512 : Shape := ⟨2, ![256, 512]⟩
abbrev S1x512 : Shape := ⟨2, ![1, 512]⟩
abbrev S512 : Shape := ⟨1, ![512]⟩

abbrev nBuf : Space → Nat
  | .hbm => 11
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x6144, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference7Ideal.lean ====
abbrev S4096x2048 : Shape := ⟨2, ![4096, 2048]⟩
abbrev S4096x1024 : Shape := ⟨2, ![4096, 1024]⟩
abbrev S4096x6144 : Shape := ⟨2, ![4096, 6144]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2x512 : Shape := ⟨3, ![4096, 2, 512]⟩
abbrev S4096x2 : Shape := ⟨2, ![4096, 2]⟩
abbrev S4096x2x1 : Shape := ⟨3, ![4096, 2, 1]⟩

abbrev nBuf : Space → Nat
  | .hbm => 129
  | .vmem => 0
  | .smem => 0
  | _ => 0

abbrev hbmTy0_0 (i : Nat) : BufTy := match i % 128 with
  | 0 => ⟨S4096x2048, .f32⟩
  | 1 => ⟨S4096x1024, .f32⟩
  | 2 => ⟨S4096x1024, .f32⟩
  | 3 => ⟨S4096x6144, .f32⟩
  | 4 => ⟨S1x1024, .f32⟩
  | 5 => ⟨S1x1024, .f32⟩
  | 6 => ⟨S4096x1024, .f32⟩
  | 7 => ⟨S1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x2x512, .f32⟩
  | 43 => ⟨S4096x2x512, .f32⟩
  | 44 => ⟨S_, .f32⟩
  | 45 => ⟨S4096x2, .f32⟩
  | 46 => ⟨S4096x2x1, .f32⟩
  | 47 => ⟨S_, .f32⟩
  | 48 => ⟨S4096x2x1, .f32⟩
  | 49 => ⟨S4096x2x1, .f32⟩
  | 50 => ⟨S_, .f32⟩
  | 51 => ⟨S4096x2x1, .f32⟩
  | 52 => ⟨S4096x2x1, .f32⟩
  | 53 => ⟨S4096x2x1, .f32⟩
  | 54 => ⟨S4096x2x1, .f32⟩
  | 55 => ⟨S_, .f32⟩
  | 56 => ⟨S4096x2x1, .f32⟩
  | 57 => ⟨S4096x2x1, .f32⟩
  | 58 => ⟨S4096x2x512, .f32⟩
  | 59 => ⟨S4096x2x512, .f32⟩
  | 60 => ⟨S4096x1024, .f32⟩
  | 61 => ⟨S1024, .f32⟩
  | 62 => ⟨S1x1024, .f32⟩
  | 63 => ⟨S4096x1024, .f32⟩
  | 64 => ⟨S4096x1024, .f32⟩
  | 65 => ⟨S4096x2048, .f32⟩
  | 66 => ⟨S4096x1024, .f32⟩
  | 67 => ⟨S4096x1024, .f32⟩
  | 68 => ⟨S4096x1024, .f32⟩
  | 69 => ⟨S_, .f32⟩
  | 70 => ⟨S1024, .f32⟩
  | 71 => ⟨S1x1024, .f32⟩
  | 72 => ⟨S4096x1024, .f32⟩
  | 73 => ⟨S4096x1024, .f32⟩
  | 74 => ⟨S_, .f32⟩
  | 75 => ⟨S1024, .f32⟩
  | 76 => ⟨S1x1024, .f32⟩
  | 77 => ⟨S4096x2x512, .f32⟩
  | 78 => ⟨S4096x2x512, .f32⟩
  | 79 => ⟨S_, .f32⟩
  | 80 => ⟨S4096x2, .f32⟩
  | 81 => ⟨S4096x2x1, .f32⟩
  | 82 => ⟨S4096x2x512, .f32⟩
  | 83 => ⟨S4096x2x512, .f32⟩
  | 84 => ⟨S4096x2x1, .f32⟩
  | 85 => ⟨S_, .f32⟩
  | 86 => ⟨S4096x2x1, .f32⟩
  | 87 => ⟨S4096x2x1, .f32⟩
  | 88 => ⟨S_, .f32⟩
  | 89 => ⟨S4096x2, .f32⟩
  | 90 => ⟨S4096x2x512, .f32⟩
  | 91 => ⟨S4096x2x512, .f32⟩
  | 92 => ⟨S4096x2x512, .f32⟩
  | 93 => ⟨S4096x2x512, .f32⟩
  | 94 => ⟨S4096x2x512, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S_, .f32⟩
  | 104 => ⟨S1024, .f32⟩
  | 105 => ⟨S1x1024, .f32⟩
  | 106 => ⟨S4096x1024, .f32⟩
  | 107 => ⟨S4096x1024, .f32⟩
  | 108 => ⟨S_, .f32⟩
  | 109 => ⟨S1024, .f32⟩
  | 110 => ⟨S4096x1024, .f32⟩
  | 111 => ⟨S_, .f32⟩
  | 112 => ⟨S4096, .f32⟩
  | 113 => ⟨S4096x1, .f32⟩
  | 114 => ⟨S4096x1024, .f32⟩
  | 115 => ⟨S4096x1024, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S1x1024, .f32⟩
  | _ => ⟨S4096x2048, .f32⟩

abbrev hbmTy0_1 (i : Nat) : BufTy := match i % 128 with
  | 0 => ⟨S4096x1024, .bf16⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_cst_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v67 : Ref sig .tc := ⟨.hbm, 101, rfl⟩
abbrev main_v68 : Ref sig .tc := ⟨.hbm, 102, rfl⟩
abbrev main_cst_12 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_13 : Ref sig .tc := ⟨.hbm, 108, rfl⟩
abbrev main_v73 : Ref sig .tc := ⟨.hbm, 109, rfl⟩
abbrev main_v74 : Ref sig .tc := ⟨.hbm, 110, rfl⟩
abbrev main_cst_14 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_15 : Ref sig .tc := ⟨.hbm, 117, rfl⟩
abbrev main_v80 : Ref sig .tc := ⟨.hbm, 118, rfl⟩
abbrev main_v81 : Ref sig .tc := ⟨.hbm, 119, rfl⟩
abbrev main_cst_16 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩

abbrev nD : Nat := 1
abbrev τ : Topo := Topo.v7x

variable {F : FTy → Type} [FloatOps F]
-- ==== Proof.Offsets.lean ====
/- The offsets of the accesses inside the walk towards earlier key tiles, in closed form, and the places of those
   accesses as the run compares them. -/
module

public import proofs.«01_k».proof.Proof.Gen.KernelIdeal.Loops
public import Idealize.ShloMosaic.Lib.VecWindow

@[expose] public section

namespace Cert.KernelIdeal.Gen

open Idealize.ShloMosaic

/-- The row of the key tile before the own one, clamped at the first. -/
theorem k0_off3_eq : ∀ k0_t1 : Fin k0_t1_loop.trips, k0_off3 k0_t1 = ![256 * (k0_t1.val - 1), 0] := by decide +kernel
theorem k0_off5_eq : ∀ k0_t1 : Fin k0_t1_loop.trips, k0_off5 k0_t1 = ![256 * (k0_t1.val - 1), 128] := by decide +kernel
instance closedOff_k0_off3 (k0_t1 : Fin k0_t1_loop.trips) : ClosedOff (k0_off3 k0_t1) := ⟨_, k0_off3_eq k0_t1⟩
instance closedOff_k0_off5 (k0_t1 : Fin k0_t1_loop.trips) : ClosedOff (k0_off5 k0_t1) := ⟨_, k0_off5_eq k0_t1⟩

theorem k0_off6_eq : ∀ (k0_t1 : Fin k0_t1_loop.trips) (k0_t2 : Fin (k0_t2_loop k0_t1).trips),
    k0_off6 k0_t1 k0_t2 = ![256 * (k0_t1.val - 1 - k0_t2.val - 1), 0] := by decide +kernel
theorem k0_off7_eq : ∀ (k0_t1 : Fin k0_t1_loop.trips) (k0_t2 : Fin (k0_t2_loop k0_t1).trips),
    k0_off7 k0_t1 k0_t2 = ![256 * (k0_t1.val - 1 - k0_t2.val), 0] := by decide +kernel
theorem k0_off8_eq : ∀ (k0_t1 : Fin k0_t1_loop.trips) (k0_t2 : Fin (k0_t2_loop k0_t1).trips), ∀ r : Fin 2,
    k0_off8 k0_t1 k0_t2 (BitVec.ofNat 32 (8 * r.val)) = ![8 * r.val + (k0_t1.val - 1 - k0_t2.val), 0, 0] := by decide +kernel
theorem k0_off9_eq : ∀ (k0_t1 : Fin k0_t1_loop.trips) (k0_t2 : Fin (k0_t2_loop k0_t1).trips),
    k0_off9 k0_t1 k0_t2 = ![256 * (k0_t1.val - 1 - k0_t2.val - 1), 128] := by decide +kernel
theorem k0_off10_eq : ∀ (k0_t1 : Fin k0_t1_loop.trips) (k0_t2 : Fin (k0_t2_loop k0_t1).trips),
    k0_off10 k0_t1 k0_t2 = ![256 * (k0_t1.val - 1 - k0_t2.val), 128] := by decide +kernel

section
variable (k0_t1 : Fin k0_t1_loop.trips) (k0_t2 : Fin (k0_t2_loop k0_t1).trips)
instance closedOff_k0_off6 : ClosedOff (k0_off6 k0_t1 k0_t2) := ⟨_, k0_off6_eq k0_t1 k0_t2⟩
instance closedOff_k0_off7 : ClosedOff (k0_off7 k0_t1 k0_t2) := ⟨_, k0_off7_eq k0_t1 k0_t2⟩
instance closedOff_k0_off8_0 : ClosedOff (k0_off8 k0_t1 k0_t2 (BitVec.ofNat 32 0)) :=
  ⟨![8 * 0 + (k0_t1.val - 1 - k0_t2.val), 0, 0], k0_off8_eq k0_t1 k0_t2 ⟨0, by decide⟩⟩
instance closedOff_k0_off8_1 : ClosedOff (k0_off8 k0_t1 k0_t2 (BitVec.ofNat 32 8)) :=
  ⟨![8 * 1 + (k0_t1.val - 1 - k0_t2.val), 0, 0], k0_off8_eq k0_t1 k0_t2 ⟨1, by decide⟩⟩
instance closedOff_k0_off9 : ClosedOff (k0_off9 k0_t1 k0_t2) := ⟨_, k0_off9_eq k0_t1 k0_t2⟩
instance closedOff_k0_off10 : ClosedOff (k0_off10 k0_t1 k0_t2) := ⟨_, k0_off10_eq k0_t1 k0_t2⟩
end

/-- The loop over the rest of an unrolled count makes no trip. -/
theorem k0_t3_trips : ∀ k0_t1 : Fin k0_t1_loop.trips, (k0_t3_loop k0_t1).trips = 0 := by decide +kernel
theorem k0_t5_trips : ∀ k0_t1 : Fin k0_t1_loop.trips, (k0_t5_loop k0_t1).trips = 0 := by decide +kernel
theorem k0_t2_trips : ∀ k0_t1 : Fin k0_t1_loop.trips, (k0_t2_loop k0_t1).trips = k0_t1.val := by decide +kernel
theorem k0_t4_trips : ∀ k0_t1 : Fin k0_t1_loop.trips, (k0_t4_loop k0_t1).trips = k0_t1.val := by decide +kernel
theorem k0_t1_trips : k0_t1_loop.trips = 8 := by decide +kernel

end Cert.KernelIdeal.Gen
-- ==== Proof.Model.lean ====
/- What one trip of each loop of the kernel computes, as functions of plain vectors over any float type. -/
module

public import proofs.«01_k».proof.Proof.Offsets

@[expose] public section

set_option maxRecDepth 8192
set_option maxHeartbeats 200000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

open VecWindow (put)

/-! ## States -/

/-- What a loop carries along the walk towards earlier key tiles: for each of the two heads the discount so far and the scores of
    the next tile. -/
abbrev DAcc (F : FTy → Type) : Type := FVec F S256x1 .f32 × FVec F S256x256 .f32 × FVec F S256x1 .f32 × FVec F S256x256 .f32

/-- What a loop carries along the walk back towards later key tiles: for each head the gradient of the queries so far, the sum of
    the weights' gradients so far, and the prefix sums of the next tile. -/
abbrev UAcc (F : FTy → Type) : Type :=
  FVec F S256x128 .f32 × FVec F S256x1 .f32 × FVec F S256x256 .f32 × FVec F S256x128 .f32 × FVec F S256x1 .f32 × FVec F S256x256 .f32

/-- The state of the first walk: the carried value, the gradient of the values so far, and the two buffers that it fills tile by
    tile (the gradient of the weights times the weights, and the sigmoid of the scores). -/
structure DownSt (F : FTy → Type) where
  acc : DAcc F
  dv : Vec F S2048x256 .f32
  g : Vec F S16x256x256 .f32
  b : Vec F S16x256x256 .f32

/-- The state of the second walk: the carried value and the gradient of the keys so far. -/
structure UpSt (F : FTy → Type) where
  acc : UAcc F
  dk : Vec F S2048x256 .f32

/-- The state of the loop over the query tiles. -/
structure RowSt (F : FTy → Type) where
  dq : Vec F S2048x256 .f32
  dk : Vec F S2048x256 .f32
  dv : Vec F S2048x256 .f32
  g : Vec F S16x256x256 .f32
  b : Vec F S16x256x256 .f32

/-- `n` steps of at most `T`, from `s`. -/
def iter {σ : Type} (T : ℕ) (f : Fin T → σ → σ) (s : σ) : ℕ → σ
  | 0 => s
  | n + 1 => if h : n < T then f ⟨n, h⟩ (iter T f s n) else iter T f s n

theorem iter_zero {σ : Type} (T : ℕ) (f : Fin T → σ → σ) (s : σ) : iter T f s 0 = s := rfl
theorem iter_succ {σ : Type} (T : ℕ) (f : Fin T → σ → σ) (s : σ) (k : Fin T) :
    iter T f s (k.val + 1) = f k (iter T f s k.val) := by
  rw [iter.eq_2, dif_pos k.isLt]

/-! ## The tile of a buffer at given offsets -/

/-- A tile of 256 rows and one head of a buffer of rows. -/
abbrev tile {e : EltTy} (x : Vec F S2048x256 e) (off : Fin 2 → ℕ) (inb : ∀ a, off a + S256x128.size a ≤ S2048x256.size a) : Vec F S256x128 e :=
  View.ld x (Rect.unit (s := S2048x256) off S256x128.size inb)

/-- One 256 × 256 tile of a buffer of tiles. -/
abbrev page {e : EltTy} (x : Vec F S16x256x256 e) (off : Fin 3 → ℕ) (inb : ∀ a, off a + S1x256x256.size a ≤ S16x256x256.size a) : Vec F S1x256x256 e :=
  View.ld x (Rect.unit (s := S16x256x256) off S1x256x256.size inb)

/-- `x` with the tile at `off` replaced by `w`. -/
abbrev setTile {e : EltTy} (x : Vec F S2048x256 e) (off : Fin 2 → ℕ) (w : Vec F S256x128 e) : Vec F S2048x256 e :=
  put (s := S2048x256) x off S256x128.size w

/-- `x` with the page at `off` replaced by `w`. -/
abbrev setPage {e : EltTy} (x : Vec F S16x256x256 e) (off : Fin 3 → ℕ) (w : Vec F S1x256x256 e) : Vec F S16x256x256 e :=
  put (s := S16x256x256) x off S1x256x256.size w

/-- What a view reads after a tile is stored. -/
theorem read_tile {sig : RefSig} {κ : Kind} {sp : Space} {e : EltTy} (v : View sig κ sp S2048x256 e) (f : v.ty.Contents (Elt F)) (off : Fin 2 → ℕ)
    (inb : ∀ a, off a + S256x128.size a ≤ S2048x256.size a) (w : Vec F S256x128 e) (L : List (View.Piece (Elt F) S2048x256 e))
    (y : Vec F S2048x256 e) (hy : v.read (Elt F) (v.writes (Elt F) f L) = y) :
    v.read (Elt F) (v.writes (Elt F) f (⟨Rect.unit (s := S2048x256) off S256x128.size inb, w⟩ :: L)) = setTile y off w := by
  subst hy; exact View.read_writes_cons_put v f inb w L rfl

/-- What a view reads after a page is stored. -/
theorem read_page {sig : RefSig} {κ : Kind} {sp : Space} {e : EltTy} (v : View sig κ sp S16x256x256 e) (f : v.ty.Contents (Elt F)) (off : Fin 3 → ℕ)
    (inb : ∀ a, off a + S1x256x256.size a ≤ S16x256x256.size a) (w : Vec F S1x256x256 e) (L : List (View.Piece (Elt F) S16x256x256 e))
    (y : Vec F S16x256x256 e) (hy : v.read (Elt F) (v.writes (Elt F) f L) = y) :
    v.read (Elt F) (v.writes (Elt F) f (⟨Rect.unit (s := S16x256x256) off S1x256x256.size inb, w⟩ :: L)) = setPage y off w := by
  subst hy; exact View.read_writes_cons_put v f inb w L rfl

/-! ## One trip of the first walk -/

/-- One trip of the walk towards earlier key tiles. -/
def downStep (v113 : FVec F S512x256 .bf16) (v270 v272 v274 v276 : Vec F S256x128 .bf16) (x13 x14 : Vec F S2048x256 .bf16)
    (t1 : Fin k0_t1_loop.trips) (k : Fin (k0_t2_loop t1).trips) (s : DownSt F) : DownSt F :=
  { acc := (k0_pay12 s.acc.1 (k0_pay6 s.acc.2.1),
      k0_pay3 v270 (tile x13 (k0_off6 t1 k) (k0_off6_inb t1 k)),
      k0_pay89 s.acc.2.2.1 (k0_pay14 s.acc.2.2.2) (k0_pay16 s.acc.2.2.2) k0_pay17,
      k0_pay13 v272 (tile x13 (k0_off9 t1 k) (k0_off9_inb t1 k)))
    dv := setTile (setTile s.dv (k0_off7 t1 k)
        (k0_pay11 v274 (k0_pay7 v113 s.acc.1 s.acc.2.1) (tile s.dv (k0_off7 t1 k) (k0_off7_inb t1 k)))) (k0_off10 t1 k)
        (k0_pay88 v113 v276 s.acc.2.2.1 (k0_pay14 s.acc.2.2.2) (k0_pay15 s.acc.2.2.2) (k0_pay16 s.acc.2.2.2) k0_pay17
          (tile s.dv (k0_off10 t1 k) (k0_off10_inb t1 k)))
    g := setPage (setPage s.g (k0_off8 t1 k 0#32)
        (k0_pay9 (k0_pay8 v113 v274 s.acc.1 s.acc.2.1 (tile x14 (k0_off7 t1 k) (k0_off7_inb t1 k))))) (k0_off8 t1 k 8#32)
        (k0_pay86 v113 v276 s.acc.2.2.1 (k0_pay14 s.acc.2.2.2) (k0_pay15 s.acc.2.2.2) (k0_pay16 s.acc.2.2.2) k0_pay17
          (tile x14 (k0_off10 t1 k) (k0_off10_inb t1 k)))
    b := setPage (setPage s.b (k0_off8 t1 k 0#32) (k0_pay10 (k0_pay5 s.acc.2.1))) (k0_off8 t1 k 8#32)
        (k0_pay87 (k0_pay15 s.acc.2.2.2)) }

/-- The state of the first walk before trip `n`. -/
def downSt (v113 : FVec F S512x256 .bf16) (v270 v272 v274 v276 : Vec F S256x128 .bf16) (x13 x14 : Vec F S2048x256 .bf16)
    (t1 : Fin k0_t1_loop.trips) (s : DownSt F) : ℕ → DownSt F :=
  iter (k0_t2_loop t1).trips (downStep v113 v270 v272 v274 v276 x13 x14 t1) s

/-! ## One trip of the second walk -/

/-- One trip of the walk back towards later key tiles. -/
def upStep (v118 : FVec F S512x256 .bf16) (v270 v272 : Vec F S256x128 .bf16) (x13 : Vec F S2048x256 .bf16) (g b : Vec F S16x256x256 .f32)
    (t1 : Fin k0_t1_loop.trips) (k : Fin (k0_t4_loop t1).trips) (s : UpSt F) : UpSt F :=
  { acc :=
      (k0_pay36 s.acc.1 s.acc.2.1 s.acc.2.2.1 (page g (k0_off16 t1 k 0#32) (k0_off16_inb t1 k 0)) (page b (k0_off16 t1 k 0#32) (k0_off16_inb t1 k 0))
          (tile x13 (k0_off18 t1 k) (k0_off18_inb t1 k)),
        k0_pay38 s.acc.2.1 (k0_pay33 (page g (k0_off16 t1 k 0#32) (k0_off16_inb t1 k 0))),
        k0_pay34 v118 (page g (k0_off17 t1 k 0#32) (k0_off17_inb t1 k 0)),
        k0_pay42 s.acc.2.2.2.1 s.acc.2.2.2.2.1 s.acc.2.2.2.2.2 (page g (k0_off16 t1 k 8#32) (k0_off16_inb t1 k 1)) (page b (k0_off16 t1 k 8#32) (k0_off16_inb t1 k 1))
          (tile x13 (k0_off19 t1 k) (k0_off19_inb t1 k)),
        k0_pay102 s.acc.2.2.2.2.1 (k0_pay44 (page g (k0_off16 t1 k 8#32) (k0_off16_inb t1 k 1))),
        k0_pay40 v118 (page g (k0_off17 t1 k 8#32) (k0_off17_inb t1 k 1)))
    dk := setTile (setTile s.dk (k0_off18 t1 k)
        (k0_pay37 v270 s.acc.2.1 s.acc.2.2.1 (page g (k0_off16 t1 k 0#32) (k0_off16_inb t1 k 0)) (page b (k0_off16 t1 k 0#32) (k0_off16_inb t1 k 0))
          (tile s.dk (k0_off18 t1 k) (k0_off18_inb t1 k)))) (k0_off19 t1 k)
        (k0_pay43 v272 s.acc.2.2.2.2.1 s.acc.2.2.2.2.2 (page g (k0_off16 t1 k 8#32) (k0_off16_inb t1 k 1)) (page b (k0_off16 t1 k 8#32) (k0_off16_inb t1 k 1))
          (tile s.dk (k0_off19 t1 k) (k0_off19_inb t1 k))) }

/-- The state of the second walk before trip `n`. -/
def upSt (v118 : FVec F S512x256 .bf16) (v270 v272 : Vec F S256x128 .bf16) (x13 : Vec F S2048x256 .bf16) (g b : Vec F S16x256x256 .f32)
    (t1 : Fin k0_t1_loop.trips) (s : UpSt F) : ℕ → UpSt F :=
  iter (k0_t4_loop t1).trips (upStep v118 v270 v272 x13 g b t1) s

end Cert.KernelIdeal.Attn
-- ==== Proof.RowModel.lean ====
/- What one trip of the loop over the query tiles computes. -/
module

public import proofs.«01_k».proof.Proof.Model

@[expose] public section

set_option maxRecDepth 8192
set_option maxHeartbeats 200000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-! ## One trip of the loop over the query tiles -/

section row
variable (x12 x13 x14 x15 : Vec F S2048x256 .bf16) (t1 : Fin k0_t1_loop.trips)

/-- The tile at the trip's rows, of the left and of the right head. -/
abbrev tl {e : EltTy} (x : Vec F S2048x256 e) (t1 : Fin k0_t1_loop.trips) : Vec F S256x128 e := tile x (k0_off1 t1) (k0_off1_inb t1)
abbrev tr {e : EltTy} (x : Vec F S2048x256 e) (t1 : Fin k0_t1_loop.trips) : Vec F S256x128 e := tile x (k0_off2 t1) (k0_off2_inb t1)

/-- The scores of the diagonal tile, for each head. -/
abbrev zl : FVec F S256x256 .f32 := k0_pay58 (tl x12 t1) (tl x13 t1)
abbrev zr : FVec F S256x256 .f32 := k0_pay60 (tr x12 t1) (tr x13 t1)

/-- The state in which the first walk starts: the diagonal tile is done. -/
def rowDown0 (s : RowSt F) : DownSt F :=
  { acc := (k0_pay72 k0_pay57 (k0_pay66 k0_pay126 (zl x12 x13 t1) (k0_pay62 (tl x12 t1) (tl x13 t1)) k0_pay63),
      k0_pay61 (tl x12 t1) (tile x13 (k0_off3 t1) (k0_off3_inb t1)),
      k0_pay83 k0_pay59 (k0_pay76 k0_pay126 (zr x12 x13 t1)),
      k0_pay73 (tr x12 t1) (tile x13 (k0_off5 t1) (k0_off5_inb t1)))
    dv := setTile (setTile s.dv (k0_off1 t1)
        (k0_pay71 (tl x15 t1) (tl s.dv t1)
          (k0_pay70 (k0_pay124 (F := F)) k0_pay126 k0_pay57 (zl x12 x13 t1) (k0_pay62 (tl x12 t1) (tl x13 t1)) k0_pay63)
          (constant S256x128 .f32 0x00000000#32))) (k0_off2 t1)
        (k0_pay82 k0_pay126 (tr x15 t1) (k0_pay77 (k0_pay124 (F := F)) k0_pay126 k0_pay59 (zr x12 x13 t1)) k0_pay78 (tr s.dv t1))
    g := setPage (setPage s.g (k0_off4 t1 0#32)
        (k0_pay68 (k0_pay124 (F := F)) k0_pay126 (tl x15 t1) k0_pay57 (zl x12 x13 t1) (k0_pay62 (tl x12 t1) (tl x13 t1)) k0_pay63 (tl x14 t1)))
        (k0_off4 t1 8#32)
        (k0_pay80 k0_pay126 (tr x15 t1) (k0_pay77 (k0_pay124 (F := F)) k0_pay126 k0_pay59 (zr x12 x13 t1)) k0_pay78 (tr x14 t1))
    b := setPage (setPage s.b (k0_off4 t1 0#32) (k0_pay69 (zl x12 x13 t1) (k0_pay62 (tl x12 t1) (tl x13 t1)) k0_pay63))
        (k0_off4 t1 8#32) (k0_pay81 (k0_pay75 (zr x12 x13 t1))) }

/-- The state in which the second walk starts. -/
def rowUp0 (dk : Vec F S2048x256 .f32) (g : Vec F S16x256x256 .f32) : UpSt F :=
  { acc := (k0_pay96, k0_pay97, k0_pay98 (k0_pay125 (F := F)) (page g ![0, 0, 0] inb_S16x256x256_S1x256x256_0_0_0), k0_pay99, k0_pay100,
      k0_pay101 (k0_pay125 (F := F)) (page g ![8, 0, 0] inb_S16x256x256_S1x256x256_8_0_0))
    dk := dk }

/-- The diagonal tile of the gradient of the scores of the left head, not yet masked. -/
abbrev rowZl (D : DownSt F) (U : UpSt F) : FVec F S256x256 .f32 :=
  k0_pay104 U.acc.2.1 U.acc.2.2.1 (page D.g (k0_off4 t1 0#32) (k0_off4_inb t1 0)) (page D.b (k0_off4 t1 0#32) (k0_off4_inb t1 0))

/-- The end of a trip: the diagonal tile of the second walk, and the tiles of the gradient of the queries. -/
def rowEnd (dq : Vec F S2048x256 .f32) (D : DownSt F) (U : UpSt F) : RowSt F :=
  { dq := setTile (setTile dq (k0_off1 t1)
        (k0_pay128 (k0_pay106 k0_pay126 U.acc.1 (rowZl t1 D U) (Scalar.ofBits (F := F) .f32 0x00000000#32) (tl x13 t1)))) (k0_off2 t1)
        (k0_pay129 (k0_pay109 k0_pay126 U.acc.2.2.2.1 U.acc.2.2.2.2.1 U.acc.2.2.2.2.2 (page D.g (k0_off4 t1 8#32) (k0_off4_inb t1 1))
          (page D.b (k0_off4 t1 8#32) (k0_off4_inb t1 1)) (tr x13 t1)))
    dk := setTile (setTile U.dk (k0_off1 t1)
        (k0_pay107 k0_pay126 (tl x12 t1) (rowZl t1 D U) (Scalar.ofBits (F := F) .f32 0x00000000#32) (tl U.dk t1))) (k0_off2 t1)
        (k0_pay127 (k0_pay110 k0_pay126 (tr x12 t1) U.acc.2.2.2.2.1 U.acc.2.2.2.2.2 (page D.g (k0_off4 t1 8#32) (k0_off4_inb t1 1))
          (page D.b (k0_off4 t1 8#32) (k0_off4_inb t1 1))
          (tr (setTile U.dk (k0_off1 t1) (k0_pay107 k0_pay126 (tl x12 t1) (rowZl t1 D U) (Scalar.ofBits (F := F) .f32 0x00000000#32) (tl U.dk t1))) t1)))
    dv := D.dv
    g := D.g
    b := D.b }

/-- The state after the first walk, and after the second. -/
def rowD (s : RowSt F) : DownSt F :=
  downSt (k0_pay124 (F := F)) (tl x12 t1) (tr x12 t1) (tl x15 t1) (tr x15 t1) x13 x14 t1 (rowDown0 x12 x13 x14 x15 t1 s) (k0_t2_loop t1).trips
def rowU (dk : Vec F S2048x256 .f32) (D : DownSt F) : UpSt F :=
  upSt (k0_pay125 (F := F)) (tl x12 t1) (tr x12 t1) x13 D.g D.b t1 (rowUp0 dk D.g) (k0_t4_loop t1).trips

/-- One trip of the loop over the query tiles. -/
def rowStep (s : RowSt F) : RowSt F :=
  rowEnd x12 x13 t1 s.dq (rowD x12 x13 x14 x15 t1 s) (rowU x12 x13 t1 s.dk (rowD x12 x13 x14 x15 t1 s))

end row

/-- The state of the loop over the query tiles before trip `n`. -/
def rowSt (x12 x13 x14 x15 : Vec F S2048x256 .bf16) (s : RowSt F) : ℕ → RowSt F :=
  iter k0_t1_loop.trips (rowStep x12 x13 x14 x15) s

end Cert.KernelIdeal.Attn
-- ==== Proof.BlockModel.lean ====
/- What one grid point computes, as functions of its input blocks. -/
module

public import proofs.«01_k».proof.Proof.RowModel

@[expose] public section

set_option maxRecDepth 8192
set_option maxHeartbeats 200000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

open VecWindow (put)

/-! ## What one grid point computes, from its input blocks -/

/-- The left and the right head of a block. -/
abbrev hl {e : EltTy} (x : Vec F S2048x256 e) : Vec F S2048x128 e := View.ld x (Rect.unit (s := S2048x256) ![0, 0] S2048x128.size inb_S2048x256_S2048x128_0_0)
abbrev hr {e : EltTy} (x : Vec F S2048x256 e) : Vec F S2048x128 e := View.ld x (Rect.unit (s := S2048x256) ![0, 128] S2048x128.size inb_S2048x256_S2048x128_0_128)

/-- `y` with its two heads replaced. -/
abbrev both {e : EltTy} (y : Vec F S2048x256 e) (wl wr : Vec F S2048x128 e) : Vec F S2048x256 e :=
  put (s := S2048x256) (put (s := S2048x256) y ![0, 0] S2048x128.size wl) ![0, 128] S2048x128.size wr

/-- A gain as the body loads it. -/
abbrev row1 (x : Vec F S1x128 .f32) : Vec F S1x128 .f32 := View.ld x (Rect.unit (s := S1x128) ![0, 0] S1x128.size inb_S1x128_S1x128_0_0)

theorem read_both {sig : RefSig} {κ : Kind} {sp : Space} {e : EltTy} (v : View sig κ sp S2048x256 e) (f : v.ty.Contents (Elt F)) (wl wr : Vec F S2048x128 e) :
    v.read (Elt F) (v.writes (Elt F) f [⟨Rect.unit (s := S2048x256) ![0, 128] S2048x128.size inb_S2048x256_S2048x128_0_128, wr⟩,
      ⟨Rect.unit (s := S2048x256) ![0, 0] S2048x128.size inb_S2048x256_S2048x128_0_0, wl⟩]) = both (v.read (Elt F) f) wl wr := by
  rw [View.read_writes_cons_put v f _ _ _ rfl, View.read_writes_cons_put v f _ _ _ rfl]
  rfl

/-- What the scratch buffers hold when a point starts. -/
structure Scr (F : FTy → Type) where
  q : Vec F S2048x256 .bf16
  k : Vec F S2048x256 .bf16
  v : Vec F S2048x256 .bf16
  o : Vec F S2048x256 .bf16
  r : RowSt F

section block
variable (y : Scr F) (x1 x2 x3 x4 : Vec F S2048x256 .f32) (x5 x6 : Vec F S1x128 .f32)

/-- The normalised queries and keys, the values and the output's gradient as the loops read them. -/
def bq : Vec F S2048x256 .bf16 := both y.q (k0_pay113 (hl x1) (row1 x5)) (k0_pay118 (hr x1) (row1 x5))
def bk : Vec F S2048x256 .bf16 := both y.k (k0_pay115 (k0_pay114 (hl x2) (row1 x6))) (k0_pay119 (hr x2) (row1 x6))
def bv : Vec F S2048x256 .bf16 := both y.v (k0_pay116 (hl x3)) (k0_pay120 (hr x3))
def bo : Vec F S2048x256 .bf16 := both y.o (k0_pay117 (hl x4)) (k0_pay121 (hr x4))

/-- The state in which the loop over the query tiles starts, and ends. -/
def bR0 : RowSt F := { y.r with dk := k0_pay122, dv := k0_pay123 }
def bR : RowSt F := rowSt (bq y x1 x5) (bk y x2 x6) (bv y x3) (bo y x4) (bR0 y) k0_t1_loop.trips

/-- The blocks that a point writes. -/
def o7 (p : Vec F S2048x256 .bf16) (R : RowSt F) : Vec F S2048x256 .bf16 :=
  both p (k0_pay139 (k0_pay131 (hl x1)) (k0_pay134 (row1 x5) (hl R.dq)) (k0_pay135 (hl x1) (row1 x5) (hl R.dq)))
    (k0_pay152 (k0_pay145 (hr x1)) (k0_pay148 (hr x1) (row1 x5) (hr R.dq)))
def o8 (p : Vec F S2048x256 .bf16) (R : RowSt F) : Vec F S2048x256 .bf16 :=
  both p (k0_pay140 (hl x2) (row1 x6) (hl R.dk)) (k0_pay153 (hr x2) (row1 x6) (hr R.dk))
def o9 (p : Vec F S2048x256 .bf16) (R : RowSt F) : Vec F S2048x256 .bf16 := both p (k0_pay141 (hl R.dv)) (k0_pay154 (hr R.dv))
def o10 (d : Vec F S1x128 .f32) (R : RowSt F) : Vec F S1x128 .f32 :=
  k0_pay1 (k0_pay147 (hr x1) (hr R.dq)) (k0_pay142 (k0_pay133 (hl x1) (hl R.dq)) d)
def o11 (d : Vec F S1x128 .f32) (R : RowSt F) : Vec F S1x128 .f32 :=
  k0_pay2 (k0_pay151 (hr x2) (hr R.dk)) (k0_pay143 (k0_pay138 (hl x2) (hl R.dk)) d)

end block

end Cert.KernelIdeal.Attn
-- ==== Proof.Down.lean ====
/- The walk towards earlier key tiles, one trip at a symbolic trip. -/
module

public import proofs.«01_k».proof.Proof.Model

@[expose] public section

set_option maxRecDepth 8192
set_option maxHeartbeats 200000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

open VecWindow (put)

local notation "𝕄G" => MT nD τ sig Unit (Elt F) ℕ (UR sig nD τ) ℕ

section down
variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .f32) (harg16 : arg16.IsWhole) (arg17 : Memref sig .tc .vmem S2048x256 .f32) (harg17 : arg17.IsWhole) (arg18 : Memref sig .tc .vmem S2048x256 .f32) (harg18 : arg18.IsWhole) (arg19 : Memref sig .tc .vmem S16x256x256 .f32) (harg19 : arg19.IsWhole) (arg20 : Memref sig .tc .vmem S16x256x256 .f32) (harg20 : arg20.IsWhole)
  (v113 : FVec F S512x256 .bf16) (v119 : IVec S256x256 1) (k0_t1 : Fin k0_t1_loop.trips) (arg21 : BitVec 32) (v270 v272 v274 v276 : Vec F S256x128 .bf16) (v283 : FVec F S256x1 .f32) (v289 : BitVec 32) (v291 : BitVec 32) (v298 : FVec F S256x256 .f32) (v354 : FVec F S256x1 .f32) (v361 : FVec F S256x256 .f32) (v371 : FVec F S256x256 .f32) (v378 : FVec F S256x256 .f32) (v388 : FVec F S256x256 .f32) (v389 : FVec F S256x256 .f32)

/-- The state of the first walk as the buffers hold it: the carried value given, the others read. -/
abbrev mkDown (acc : DAcc F) (f18 : BufTy.Contents (Elt F) arg18.view.ty) (f19 : BufTy.Contents (Elt F) arg19.view.ty) (f20 : BufTy.Contents (Elt F) arg20.view.ty) : DownSt F :=
  ⟨acc, arg18.view.read (Elt F) f18, arg19.view.read (Elt F) f19, arg20.view.read (Elt F) f20⟩

theorem down_trip (E : Set ℕ) (X13 : BufTy.Contents (Elt F) arg13.view.ty) (X14 : BufTy.Contents (Elt F) arg14.view.ty) (f18 : BufTy.Contents (Elt F) arg18.view.ty) (f19 : BufTy.Contents (Elt F) arg19.view.ty) (f20 : BufTy.Contents (Elt F) arg20.view.ty)
    (k : Fin (k0_t2_loop k0_t1).trips) (acc : DAcc F) :
    (iprop((arg13.view.loc (c : Thread nD τ) ↦[arg13.view.set]{fullShare} X13) ∗ (arg14.view.loc (c : Thread nD τ) ↦[arg14.view.set]{fullShare} X14) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20)) : sProp 𝕄G)
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v113 v119 k0_t1 arg21 v270 v272 v274 v276 v283 v289 v291 v298 v354 v361 v371 v378 v388 v389 k acc)
          (fun yld => iprop((arg13.view.loc (c : Thread nD τ) ↦[arg13.view.set]{fullShare} X13) ∗ (arg14.view.loc (c : Thread nD τ) ↦[arg14.view.set]{fullShare} X14) ∗ ∃ g18 g19 g20, (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20)
            ∗ ⌜mkDown (F := F) arg18 arg19 arg20 yld g18 g19 g20
              = downStep v113 v270 v272 v274 v276 (arg13.view.read (Elt F) X13) (arg14.view.read (Elt F) X14) k0_t1 k (mkDown (F := F) arg18 arg19 arg20 acc f18 f19 f20)⌝)) := by
  unfold k0_t2_body
  iintro ⟨H13, H14, H18, H19, H20⟩
  sl_exec
  sl_step
  isplitl [H13]; · iexact H13
  isplitl [H14]; · iexact H14
  iexists _; iexists _; iexists _
  isplitl [H18]; · iexact H18
  isplitl [H19]; · iexact H19
  isplitl [H20]; · iexact H20
  ipureintro
  sl_unfold_run_names
  refine DownSt.mk.injEq .. |>.mpr ⟨rfl, ?_, ?_, ?_⟩
  · exact read_tile _ _ _ _ _ _ _ (read_tile _ _ _ _ _ _ _ rfl)
  · exact read_page _ _ _ _ _ _ _ (read_page _ _ _ _ _ _ _ rfl)
  · exact read_page _ _ _ _ _ _ _ (read_page _ _ _ _ _ _ _ rfl)

/-- The invariant of the first walk: the buffers it only reads as they are, and the carried value and the buffers it writes together
    in the state that the trips before have reached. -/
abbrev downInv (X13 : BufTy.Contents (Elt F) arg13.view.ty) (X14 : BufTy.Contents (Elt F) arg14.view.ty) (G18 : BufTy.Contents (Elt F) arg18.view.ty) (G19 : BufTy.Contents (Elt F) arg19.view.ty) (G20 : BufTy.Contents (Elt F) arg20.view.ty) (init : DAcc F) (k : ℕ) (acc : DAcc F) : sProp 𝕄G :=
  iprop((arg13.view.loc (c : Thread nD τ) ↦[arg13.view.set]{fullShare} X13) ∗ (arg14.view.loc (c : Thread nD τ) ↦[arg14.view.set]{fullShare} X14) ∗ ∃ g18 g19 g20, (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20)
    ∗ ⌜mkDown (F := F) arg18 arg19 arg20 acc g18 g19 g20
      = downSt v113 v270 v272 v274 v276 (arg13.view.read (Elt F) X13) (arg14.view.read (Elt F) X14) k0_t1 (mkDown (F := F) arg18 arg19 arg20 init G18 G19 G20) k⌝)

set_option warn.classDefReducibility false in
@[sl_loop] def loopInv_down (E : Set ℕ) (X13 : BufTy.Contents (Elt F) arg13.view.ty) (X14 : BufTy.Contents (Elt F) arg14.view.ty) (G18 : BufTy.Contents (Elt F) arg18.view.ty) (G19 : BufTy.Contents (Elt F) arg19.view.ty) (G20 : BufTy.Contents (Elt F) arg20.view.ty) (init : DAcc F) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v113 v119 k0_t1 arg21 v270 v272 v274 v276 v283 v289 v291 v298 v354 v361 v371 v378 v388 v389 init where
  inv := downInv c arg13 arg14 arg18 arg19 arg20 v113 k0_t1 v270 v272 v274 v276 X13 X14 G18 G19 G20 init
  step k acc := by
    iintro ⟨H13, H14, %g18, %g19, %g20, H18, H19, H20, %h⟩
    iapply (wp_wand_r Idealize.ShloMosaic.frame (wpE (defs₀ (F := F)) 𝒱 (c : Thread nD τ) bd) E)
    isplitl [H13 H14 H18 H19 H20]
    · iapply (down_trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v113 v119 k0_t1 arg21 v270 v272 v274 v276 v283 v289 v291 v298 v354 v361 v371 v378 v388 v389 E X13 X14 g18 g19 g20 k acc)
      isplitl [H13]; · iexact H13
      isplitl [H14]; · iexact H14
      isplitl [H18]; · iexact H18
      isplitl [H19]; · iexact H19
      iexact H20
    · iintro %yld ⟨H13, H14, %g18', %g19', %g20', H18, H19, H20, %h'⟩
      isplitl [H13]; · iexact H13
      isplitl [H14]; · iexact H14
      iexists g18'; iexists g19'; iexists g20'
      isplitl [H18]; · iexact H18
      isplitl [H19]; · iexact H19
      isplitl [H20]; · iexact H20
      ipureintro
      rw [h', h]
      exact (iter_succ _ _ _ k).symm

end down

end Cert.KernelIdeal.Attn
-- ==== Proof.Up.lean ====
/- The walk back towards later key tiles, one trip at a symbolic trip. -/
module

public import proofs.«01_k».proof.Proof.Model

@[expose] public section

set_option maxRecDepth 8192
set_option maxHeartbeats 200000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

section up
variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .f32) (harg16 : arg16.IsWhole) (arg17 : Memref sig .tc .vmem S2048x256 .f32) (harg17 : arg17.IsWhole) (arg18 : Memref sig .tc .vmem S2048x256 .f32) (harg18 : arg18.IsWhole) (arg19 : Memref sig .tc .vmem S16x256x256 .f32) (harg19 : arg19.IsWhole) (arg20 : Memref sig .tc .vmem S16x256x256 .f32) (harg20 : arg20.IsWhole)
  (v118 : FVec F S512x256 .bf16) (k0_t1 : Fin k0_t1_loop.trips) (arg21 : BitVec 32) (v270 v272 : Vec F S256x128 .bf16) (v425 : FVec F S256x128 .f32) (v426 : FVec F S256x1 .f32)

/-- The state of the second walk as the buffer holds it. -/
abbrev mkUp (acc : UAcc F) (f17 : BufTy.Contents (Elt F) arg17.view.ty) : UpSt F := ⟨acc, arg17.view.read (Elt F) f17⟩

theorem up_trip (E : Set ℕ) (X13 : BufTy.Contents (Elt F) arg13.view.ty) (X19 : BufTy.Contents (Elt F) arg19.view.ty) (X20 : BufTy.Contents (Elt F) arg20.view.ty) (f17 : BufTy.Contents (Elt F) arg17.view.ty)
    (k : Fin (k0_t4_loop k0_t1).trips) (acc : UAcc F) :
    (iprop((arg13.view.loc (c : Thread nD τ) ↦[arg13.view.set]{fullShare} X13) ∗ (arg19.view.loc (c : Thread nD τ) ↦[arg19.view.set]{fullShare} X19) ∗ (arg20.view.loc (c : Thread nD τ) ↦[arg20.view.set]{fullShare} X20) ∗ (arg17.view.loc (c : Thread nD τ) ↦[arg17.view.set]{fullShare} f17)) : sProp 𝕄G)
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v118 k0_t1 arg21 v270 v272 v425 v426 k acc)
          (fun yld => iprop((arg13.view.loc (c : Thread nD τ) ↦[arg13.view.set]{fullShare} X13) ∗ (arg19.view.loc (c : Thread nD τ) ↦[arg19.view.set]{fullShare} X19) ∗ (arg20.view.loc (c : Thread nD τ) ↦[arg20.view.set]{fullShare} X20) ∗ ∃ g17, (arg17.view.loc (c : Thread nD τ) ↦[arg17.view.set]{fullShare} g17)
            ∗ ⌜mkUp (F := F) arg17 yld g17
              = upStep v118 v270 v272 (arg13.view.read (Elt F) X13) (arg19.view.read (Elt F) X19) (arg20.view.read (Elt F) X20) k0_t1 k (mkUp (F := F) arg17 acc f17)⌝)) := by
  unfold k0_t4_body
  iintro ⟨H13, H19, H20, H17⟩
  sl_exec
  sl_step
  isplitl [H13]; · iexact H13
  isplitl [H19]; · iexact H19
  isplitl [H20]; · iexact H20
  iexists _
  isplitl [H17]; · iexact H17
  ipureintro
  sl_unfold_run_names
  refine UpSt.mk.injEq .. |>.mpr ⟨rfl, ?_⟩
  exact read_tile _ _ _ _ _ _ _ (read_tile _ _ _ _ _ _ _ rfl)

/-- The invariant of the second walk. -/
abbrev upInv (X13 : BufTy.Contents (Elt F) arg13.view.ty) (X19 : BufTy.Contents (Elt F) arg19.view.ty) (X20 : BufTy.Contents (Elt F) arg20.view.ty) (G17 : BufTy.Contents (Elt F) arg17.view.ty) (init : UAcc F) (k : ℕ) (acc : UAcc F) : sProp 𝕄G :=
  iprop((arg13.view.loc (c : Thread nD τ) ↦[arg13.view.set]{fullShare} X13) ∗ (arg19.view.loc (c : Thread nD τ) ↦[arg19.view.set]{fullShare} X19) ∗ (arg20.view.loc (c : Thread nD τ) ↦[arg20.view.set]{fullShare} X20) ∗ ∃ g17, (arg17.view.loc (c : Thread nD τ) ↦[arg17.view.set]{fullShare} g17)
    ∗ ⌜mkUp (F := F) arg17 acc g17
      = upSt v118 v270 v272 (arg13.view.read (Elt F) X13) (arg19.view.read (Elt F) X19) (arg20.view.read (Elt F) X20) k0_t1 (mkUp (F := F) arg17 init G17) k⌝)

set_option warn.classDefReducibility false in
@[sl_loop] def loopInv_up (E : Set ℕ) (X13 : BufTy.Contents (Elt F) arg13.view.ty) (X19 : BufTy.Contents (Elt F) arg19.view.ty) (X20 : BufTy.Contents (Elt F) arg20.view.ty) (G17 : BufTy.Contents (Elt F) arg17.view.ty) (init : UAcc F) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v118 k0_t1 arg21 v270 v272 v425 v426 init where
  inv := upInv c arg13 arg17 arg19 arg20 v118 k0_t1 v270 v272 X13 X19 X20 G17 init
  step k acc := by
    iintro ⟨H13, H19, H20, %g17, H17, %h⟩
    iapply (wp_wand_r Idealize.ShloMosaic.frame (wpE (defs₀ (F := F)) 𝒱 (c : Thread nD τ) bd) E)
    isplitl [H13 H19 H20 H17]
    · iapply (up_trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v118 k0_t1 arg21 v270 v272 v425 v426 E X13 X19 X20 g17 k acc)
      isplitl [H13]; · iexact H13
      isplitl [H19]; · iexact H19
      isplitl [H20]; · iexact H20
      iexact H17
    · iintro %yld ⟨H13, H19, H20, %g17', H17, %h'⟩
      isplitl [H13]; · iexact H13
      isplitl [H19]; · iexact H19
      isplitl [H20]; · iexact H20
      iexists g17'
      isplitl [H17]; · iexact H17
      ipureintro
      rw [h', h]
      exact (iter_succ _ _ _ k).symm

end up

end Cert.KernelIdeal.Attn
-- ==== Proof.Row.lean ====
/- The loop over the query tiles, one trip at a symbolic trip. -/
module

public import proofs.«01_k».proof.Proof.RowModel
public import proofs.«01_k».proof.Proof.Down
public import proofs.«01_k».proof.Proof.Up

@[expose] public section

set_option maxRecDepth 8192
set_option maxHeartbeats 200000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

section row
variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .f32) (harg16 : arg16.IsWhole) (arg17 : Memref sig .tc .vmem S2048x256 .f32) (harg17 : arg17.IsWhole) (arg18 : Memref sig .tc .vmem S2048x256 .f32) (harg18 : arg18.IsWhole) (arg19 : Memref sig .tc .vmem S16x256x256 .f32) (harg19 : arg19.IsWhole) (arg20 : Memref sig .tc .vmem S16x256x256 .f32) (harg20 : arg20.IsWhole) (v106 : FVec F S2048x256 .f32)

/-- The state of the loop as the buffers hold it. -/
abbrev mkRow (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) : RowSt F :=
  ⟨arg16.view.read (Elt F) f16, arg17.view.read (Elt F) f17, arg18.view.read (Elt F) f18, arg19.view.read (Elt F) f19, arg20.view.read (Elt F) f20⟩

theorem row_trip (E : Set ℕ) (X12 : BufTy.Contents (Elt F) arg12.view.ty) (X13 : BufTy.Contents (Elt F) arg13.view.ty) (X14 : BufTy.Contents (Elt F) arg14.view.ty) (X15 : BufTy.Contents (Elt F) arg15.view.ty)
    (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (k : Fin k0_t1_loop.trips) (u : Unit) :
    (iprop((arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20)) : sProp 𝕄G)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v106 k u)
          (fun _ => iprop((arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15)
            ∗ ∃ g16 g17 g18 g19 g20, (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20)
            ∗ ⌜mkRow (F := F) arg16 arg17 arg18 arg19 arg20 g16 g17 g18 g19 g20
              = rowStep (arg12.view.read (Elt F) X12) (arg13.view.read (Elt F) X13) (arg14.view.read (Elt F) X14) (arg15.view.read (Elt F) X15) k
                (mkRow (F := F) arg16 arg17 arg18 arg19 arg20 f16 f17 f18 f19 f20)⌝)) := by
  have htr := k0_t3_trips k
  have htr' := k0_t5_trips k
  unfold k0_t1_body
  iintro ⟨H12, H13, H14, H15, H16, H17, H18, H19, H20⟩
  sl_exec
  rename (_ : DownSt F) = _ => hD
  rename (_ : UpSt F) = _ => hU
  rename UAcc F => accU
  rename DAcc F => accD
  sl_step
  isplitl [H12]; · iexact H12
  isplitl [H13]; · iexact H13
  isplitl [H14]; · iexact H14
  isplitl [H15]; · iexact H15
  iexists _; iexists _; iexists _; iexists _; iexists _
  isplitl [H16]; · iexact H16
  isplitl [H17]; · iexact H17
  isplitl [H18]; · iexact H18
  isplitl [H19]; · iexact H19
  isplitl [H20]; · iexact H20
  ipureintro
  sl_unfold_run_names
  have h5 : Scf.trips (k0_t5_loop k).lb (k0_t5_loop k).ub (k0_t5_loop k).st = 0 := htr'
  simp only [h5, st_k0_t5.eq_1]
  unfold rowStep
  have eD : rowD (arg12.view.read (Elt F) X12) (arg13.view.read (Elt F) X13) (arg14.view.read (Elt F) X14) (arg15.view.read (Elt F) X15) k
      (mkRow (F := F) arg16 arg17 arg18 arg19 arg20 f16 f17 f18 f19 f20) = _ := Eq.trans ?d hD.symm
  have eU : rowU (arg12.view.read (Elt F) X12) (arg13.view.read (Elt F) X13) k (arg17.view.read (Elt F) f17)
      (mkDown (F := F) arg18 arg19 arg20 accD g18L0 g19L1 g20L2) = mkUp (F := F) arg17 accU g17L3 := hU.symm
  rw [eD]
  rw [show (mkRow (F := F) arg16 arg17 arg18 arg19 arg20 f16 f17 f18 f19 f20).dk = arg17.view.read (Elt F) f17 from rfl, eU]
  refine RowSt.mk.injEq .. |>.mpr ⟨?_, ?_, rfl, rfl, rfl⟩
  · exact read_tile _ _ _ _ _ _ _ (read_tile _ _ _ _ _ _ _ rfl)
  · refine (read_tile _ _ _ _ _ _ _ (read_tile _ _ _ _ _ _ _ rfl)).trans ?_
    refine congrArg (setTile (F := F) (e := .f32) _ (k0_off2 k)) (congrArg (k0_pay127 (F := F)) (congrArg (k0_pay110 (F := F) k0_pay126 _ _ _ _ _) ?_))
    exact congrArg (fun y => tr y k) (read_tile _ _ _ _ _ _ _ rfl)
  case d =>
    sl_unfold_run_names
    unfold rowD
    congr 1
    refine DownSt.mk.injEq .. |>.mpr ⟨rfl, ?_, ?_, ?_⟩
    · symm; exact read_tile _ _ _ _ _ _ _ (read_tile _ _ _ _ _ _ _ rfl)
    · symm; exact read_page _ _ _ _ _ _ _ (read_page _ _ _ _ _ _ _ rfl)
    · symm; exact read_page _ _ _ _ _ _ _ (read_page _ _ _ _ _ _ _ rfl)

/-- The invariant of the loop over the query tiles. -/
abbrev rowInv (X12 : BufTy.Contents (Elt F) arg12.view.ty) (X13 : BufTy.Contents (Elt F) arg13.view.ty) (X14 : BufTy.Contents (Elt F) arg14.view.ty) (X15 : BufTy.Contents (Elt F) arg15.view.ty)
    (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (k : ℕ) (_ : Unit) : sProp 𝕄G :=
  iprop((arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15)
    ∗ ∃ g16 g17 g18 g19 g20, (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20)
    ∗ ⌜mkRow (F := F) arg16 arg17 arg18 arg19 arg20 g16 g17 g18 g19 g20
      = rowSt (arg12.view.read (Elt F) X12) (arg13.view.read (Elt F) X13) (arg14.view.read (Elt F) X14) (arg15.view.read (Elt F) X15)
          (mkRow (F := F) arg16 arg17 arg18 arg19 arg20 G16 G17 G18 G19 G20) k⌝)

set_option warn.classDefReducibility false in
@[sl_loop] def loopInv_row (E : Set ℕ) (X12 : BufTy.Contents (Elt F) arg12.view.ty) (X13 : BufTy.Contents (Elt F) arg13.view.ty) (X14 : BufTy.Contents (Elt F) arg14.view.ty) (X15 : BufTy.Contents (Elt F) arg15.view.ty)
    (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v106 where
  inv := rowInv c arg12 arg13 arg14 arg15 arg16 arg17 arg18 arg19 arg20 X12 X13 X14 X15 G16 G17 G18 G19 G20
  step k acc := by
    iintro ⟨H12, H13, H14, H15, %g16, %g17, %g18, %g19, %g20, H16, H17, H18, H19, H20, %h⟩
    iapply (wp_wand_r Idealize.ShloMosaic.frame (wpE (defs₀ (F := F)) 𝒱 (c : Thread nD τ) bd) E)
    isplitl [H12 H13 H14 H15 H16 H17 H18 H19 H20]
    · iapply (row_trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v106 E X12 X13 X14 X15 g16 g17 g18 g19 g20 k acc)
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    · iintro %yld ⟨H12, H13, H14, H15, %g16', %g17', %g18', %g19', %g20', H16, H17, H18, H19, H20, %h'⟩
      isplitl [H12]; · iexact H12
      isplitl [H13]; · iexact H13
      isplitl [H14]; · iexact H14
      isplitl [H15]; · iexact H15
      iexists g16'; iexists g17'; iexists g18'; iexists g19'; iexists g20'
      isplitl [H16]; · iexact H16
      isplitl [H17]; · iexact H17
      isplitl [H18]; · iexact H18
      isplitl [H19]; · iexact H19
      isplitl [H20]; · iexact H20
      ipureintro
      rw [h', h]
      exact (iter_succ _ _ _ k).symm

end row

end Cert.KernelIdeal.Attn
-- ==== Proof.Body.lean ====
/- The body at one grid point. -/
module

public import proofs.«01_k».proof.Proof.BlockModel
public import proofs.«01_k».proof.Proof.Row

@[expose] public section

set_option maxRecDepth 8192
set_option maxHeartbeats 200000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- What the five output blocks are at the end of a point. -/
def ouWrites (p7 p8 p9 z7 z8 z9 : Vec F S2048x256 .bf16) (z10 z11 : Vec F S1x128 .f32)
    (x1 x2 : Vec F S2048x256 .f32) (x5 x6 : Vec F S1x128 .f32) (d10 d11 : Vec F S1x128 .f32) (R : RowSt F) : Prop :=
  z7 = o7 x1 x5 p7 R ∧ z8 = o8 x2 x6 p8 R ∧ z9 = o9 p9 R ∧ z10 = o10 x1 d10 R ∧ z11 = o11 x2 d11 R

theorem bR_eq (y : Scr F) (x1 x2 x3 x4 : Vec F S2048x256 .f32) (x5 x6 : Vec F S1x128 .f32) {z12 z13 z14 z15 : Vec F S2048x256 .bf16} {r : RowSt F}
    (h12 : z12 = bq y x1 x5) (h13 : z13 = bk y x2 x6) (h14 : z14 = bv y x3) (h15 : z15 = bo y x4) (hr : r = bR0 y) :
    bR y x1 x2 x3 x4 x5 x6 = rowSt z12 z13 z14 z15 r (Scf.trips k0_t1_loop.lb k0_t1_loop.ub k0_t1_loop.st) := by
  subst h12 h13 h14 h15 hr; rfl

/-- The accumulator after a point's two additions to it. -/
theorem acc_read (m : Memref sig .tc .vmem S1x128 .f32) (f : BufTy.Contents (Elt F) m.view.ty) (A B : FVec F S1x128 .f32) (L : List (View.Piece (Elt F) S1x128 .f32)) :
    m.view.read (Elt F) (m.view.writes (Elt F) f (⟨Rect.unit (s := S1x128) ![0, 0] S1x128.size inb_S1x128_S1x128_0_0,
        k0_pay1 B (m.view.readCov [⟨Rect.unit (s := S1x128) ![0, 0] S1x128.size inb_S1x128_S1x128_0_0,
          k0_pay142 A (m.view.readAt (Elt F) (Rect.unit (s := S1x128) ![0, 0] S1x128.size inb_S1x128_S1x128_0_0).toLoadRect f)⟩]
          (Rect.unit (s := S1x128) ![0, 0] S1x128.size inb_S1x128_S1x128_0_0).toLoadRect)⟩ :: L))
      = k0_pay1 B (k0_pay142 A (m.view.read (Elt F) f)) := by
  rw [View.read_writes_full, View.readCov_full, View.readAt_full]

/-- The accumulator before a point's additions: zeros at the first point. -/
theorem first_read (i : grid0.Coords) (m : Memref sig .tc .vmem S1x128 .f32) (f : BufTy.Contents (Elt F) m.view.ty) (z : FVec F S1x128 .f32) :
    m.view.read (Elt F) (if hc : Scalar.cmpi .ne (Scalar.extui (Scalar.cmpi .eq (BitVec.ofNat 32 (i 0).val) 0#32) : BitVec 32) 0#32 = 1#1 then
        m.view.writes (Elt F) f [⟨Rect.unit (s := S1x128) ![0, 0] S1x128.size inb_S1x128_S1x128_0_0, z⟩] else f)
      = if (i 0).val = 0 then z else m.view.read (Elt F) f := by
  have hb : (Scalar.cmpi .ne (Scalar.extui (Scalar.cmpi .eq (BitVec.ofNat 32 (i 0).val) 0#32) : BitVec 32) 0#32 = 1#1) ↔ (i 0).val = 0 := by
    generalize (i 0) = a; revert a; decide
  by_cases h : (i 0).val = 0
  · rw [dif_pos (hb.mpr h), if_pos h, View.read_writes_full]
  · rw [dif_neg (fun h' => h (hb.mp h')), if_neg h]

section body
variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .f32) (harg16 : arg16.IsWhole) (arg17 : Memref sig .tc .vmem S2048x256 .f32) (harg17 : arg17.IsWhole) (arg18 : Memref sig .tc .vmem S2048x256 .f32) (harg18 : arg18.IsWhole) (arg19 : Memref sig .tc .vmem S16x256x256 .f32) (harg19 : arg19.IsWhole) (arg20 : Memref sig .tc .vmem S16x256x256 .f32) (harg20 : arg20.IsWhole)

theorem body_run (E : Set ℕ) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20)) : sProp 𝕄G)
      ⊢ wp frame (wpE (defs₀ (F := F)) 𝒱 (c : Thread nD τ) bd) E (cc0_attn (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ ∃ g7 g8 g9 g10 g11 g12 g13 g14 g15 g16 g17 g18 g19 g20, (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20)
            ∗ ⌜∃ (y : Scr F) (p7 p8 p9 : Vec F S2048x256 .bf16), ouWrites (F := F) p7 p8 p9 (arg7.view.read (Elt F) g7) (arg8.view.read (Elt F) g8) (arg9.view.read (Elt F) g9) (arg10.view.read (Elt F) g10) (arg11.view.read (Elt F) g11) (arg1.view.read (Elt F) X1) (arg2.view.read (Elt F) X2) (arg5.view.read (Elt F) X5) (arg6.view.read (Elt F) X6)
                (if (i 0).val = 0 then k0_pay111 else arg10.view.read (Elt F) f10) (if (i 0).val = 0 then k0_pay112 else arg11.view.read (Elt F) f11)
                (bR y (arg1.view.read (Elt F) X1) (arg2.view.read (Elt F) X2) (arg3.view.read (Elt F) X3) (arg4.view.read (Elt F) X4) (arg5.view.read (Elt F) X5) (arg6.view.read (Elt F) X6))⌝)) := by
  unfold cc0_attn
  iintro ⟨H1, H2, H3, H4, H5, H6, H7, H8, H9, H10, H11, H12, H13, H14, H15, H16, H17, H18, H19, H20⟩
  sl_exec
  rename (_ : RowSt F) = _ => hR
  sl_step
  isplitl [H1]; · iexact H1
  isplitl [H2]; · iexact H2
  isplitl [H3]; · iexact H3
  isplitl [H4]; · iexact H4
  isplitl [H5]; · iexact H5
  isplitl [H6]; · iexact H6
  iexists _; iexists _; iexists _; iexists _; iexists _; iexists _; iexists _; iexists _; iexists _; iexists _; iexists _; iexists _; iexists _; iexists _
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  ipureintro
  sl_unfold_run_names
  refine ⟨⟨arg12.view.read (Elt F) arg12.view.junk, arg13.view.read (Elt F) arg13.view.junk, arg14.view.read (Elt F) arg14.view.junk,
    arg15.view.read (Elt F) arg15.view.junk, mkRow (F := F) arg16 arg17 arg18 arg19 arg20 f16 arg17.view.junk arg18.view.junk f19 f20⟩,
    arg7.view.read (Elt F) f7, arg8.view.read (Elt F) f8, arg9.view.read (Elt F) f9, ?_⟩
  have eR : bR (F := F) ⟨arg12.view.read (Elt F) arg12.view.junk, arg13.view.read (Elt F) arg13.view.junk, arg14.view.read (Elt F) arg14.view.junk,
      arg15.view.read (Elt F) arg15.view.junk, mkRow (F := F) arg16 arg17 arg18 arg19 arg20 f16 arg17.view.junk arg18.view.junk f19 f20⟩
      (arg1.view.read (Elt F) X1) (arg2.view.read (Elt F) X2) (arg3.view.read (Elt F) X3) (arg4.view.read (Elt F) X4) (arg5.view.read (Elt F) X5) (arg6.view.read (Elt F) X6) = mkRow (F := F) arg16 arg17 arg18 arg19 arg20 g16L0 g17L1 g18L2 g19L3 g20L4 := by
    refine Eq.trans ?_ hR.symm
    sl_unfold_run_names
    refine bR_eq _ _ _ _ _ _ _ (read_both _ _ _ _) (read_both _ _ _ _) (read_both _ _ _ _) (read_both _ _ _ _) ?_
    exact congrArg₂ (fun a b => (⟨arg16.view.read (Elt F) f16, a, b, arg19.view.read (Elt F) f19, arg20.view.read (Elt F) f20⟩ : RowSt F))
      (View.read_writes_full _ _ _ _ _) (View.read_writes_full _ _ _ _ _)
  rw [eR]
  clear eR hR
  sl_unfold_run_names
  refine ⟨?_, ?_, ?_, ?_, ?_⟩
  · exact read_both _ _ _ _
  · exact read_both _ _ _ _
  · exact read_both _ _ _ _
  · exact (acc_read (F := F) arg10 _ _ _ _).trans (congrArg (fun d => o10 (arg1.view.read (Elt F) X1) d (mkRow (F := F) arg16 arg17 arg18 arg19 arg20 g16L0 g17L1 g18L2 g19L3 g20L4)) (first_read (F := F) i arg10 f10 _))
  · exact (acc_read (F := F) arg11 _ _ _ _).trans (congrArg (fun d => o11 (arg2.view.read (Elt F) X2) d (mkRow (F := F) arg16 arg17 arg18 arg19 arg20 g16L0 g17L1 g18L2 g19L3 g20L4)) (first_read (F := F) i arg11 f11 _))

end body

end Cert.KernelIdeal.Attn
-- ==== Proof.Run.lean ====
/- The kernel's run. -/
module

public import proofs.«01_k».proof.Proof.Body
public import proofs.«01_k».proof.Proof.Gen.KernelIdeal.Frame

@[expose] public section

set_option maxRecDepth 8192
set_option maxHeartbeats 200000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

section body
variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x128 .f32) (harg10 : arg10.IsWhole) (arg11 : Memref sig .tc .vmem S1x128 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .f32) (harg16 : arg16.IsWhole) (arg17 : Memref sig .tc .vmem S2048x256 .f32) (harg17 : arg17.IsWhole) (arg18 : Memref sig .tc .vmem S2048x256 .f32) (harg18 : arg18.IsWhole) (arg19 : Memref sig .tc .vmem S16x256x256 .f32) (harg19 : arg19.IsWhole) (arg20 : Memref sig .tc .vmem S16x256x256 .f32) (harg20 : arg20.IsWhole)

/-- The body at one point, from what the pipeline gives it: the staged blocks and the scratch buffers. -/
theorem body_owns (E : Set ℕ) (Y1 : Vec F S2048x256 .f32) (Y2 : Vec F S2048x256 .f32) (Y3 : Vec F S2048x256 .f32) (Y4 : Vec F S2048x256 .f32) (Y5 : Vec F S1x128 .f32) (Y6 : Vec F S1x128 .f32) (Y7 : Vec F S2048x256 .bf16) (Y8 : Vec F S2048x256 .bf16) (Y9 : Vec F S2048x256 .bf16) (Y10 : Vec F S1x128 .f32) (Y11 : Vec F S1x128 .f32) :
    (iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f))) : sProp 𝕄G)
      ⊢ wp frame (wpE (defs₀ (F := F)) 𝒱 (c : Thread nD τ) bd) E (cc0_attn (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ (∃ (y : Scr F) (p : Vec F S2048x256 .bf16), owns (c : Thread nD τ) arg7 fullShare (o7 Y1 Y5 p (bR y Y1 Y2 Y3 Y4 Y5 Y6))) ∗ (∃ (y : Scr F) (p : Vec F S2048x256 .bf16), owns (c : Thread nD τ) arg8 fullShare (o8 Y2 Y6 p (bR y Y1 Y2 Y3 Y4 Y5 Y6))) ∗ (∃ (y : Scr F) (p : Vec F S2048x256 .bf16), owns (c : Thread nD τ) arg9 fullShare (o9 p (bR y Y1 Y2 Y3 Y4 Y5 Y6))) ∗ (∃ y : Scr F, owns (c : Thread nD τ) arg10 fullShare (o10 Y1 (if (i 0).val = 0 then k0_pay111 else Y10) (bR y Y1 Y2 Y3 Y4 Y5 Y6))) ∗ (∃ y : Scr F, owns (c : Thread nD τ) arg11 fullShare (o11 Y2 (if (i 0).val = 0 then k0_pay112 else Y11) (bR y Y1 Y2 Y3 Y4 Y5 Y6))) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)))) := by
  unfold owns
  iintro ⟨⟨%X1, %h1, H1⟩, ⟨%X2, %h2, H2⟩, ⟨%X3, %h3, H3⟩, ⟨%X4, %h4, H4⟩, ⟨%X5, %h5, H5⟩, ⟨%X6, %h6, H6⟩, ⟨%f7, %h7, H7⟩, ⟨%f8, %h8, H8⟩, ⟨%f9, %h9, H9⟩, ⟨%f10, %h10, H10⟩, ⟨%f11, %h11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩⟩
  subst h1 h2 h3 h4 h5 h6 h7 h8 h9 h10 h11
  iapply (wp_wand_r frame (wpE (defs₀ (F := F)) 𝒱 (c : Thread nD τ) bd) E)
  isplitl [H1 H2 H3 H4 H5 H6 H7 H8 H9 H10 H11 H12 H13 H14 H15 H16 H17 H18 H19 H20]
  · iapply (body_run (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 E X1 X2 X3 X4 X5 X6 f7 f8 f9 f10 f11 f12 f13 f14 f15 f16 f17 f18 f19 f20)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iintro %_ ⟨H1, H2, H3, H4, H5, H6, %g7, %g8, %g9, %g10, %g11, %g12, %g13, %g14, %g15, %g16, %g17, %g18, %g19, %g20, H7, H8, H9, H10, H11, H12, H13, H14, H15, H16, H17, H18, H19, H20, ⟨%y, %p7, %p8, %p9, %h⟩⟩
  obtain ⟨h7, h8, h9, h10, h11⟩ := h
  isplitl [H1]
  · iexists X1
    isplitr [H1]
    · ipureintro; rfl
    iexact H1
  isplitl [H2]
  · iexists X2
    isplitr [H2]
    · ipureintro; rfl
    iexact H2
  isplitl [H3]
  · iexists X3
    isplitr [H3]
    · ipureintro; rfl
    iexact H3
  isplitl [H4]
  · iexists X4
    isplitr [H4]
    · ipureintro; rfl
    iexact H4
  isplitl [H5]
  · iexists X5
    isplitr [H5]
    · ipureintro; rfl
    iexact H5
  isplitl [H6]
  · iexists X6
    isplitr [H6]
    · ipureintro; rfl
    iexact H6
  isplitl [H7]
  · iexists y, p7, g7
    isplitr [H7]
    · ipureintro; exact h7
    iexact H7
  isplitl [H8]
  · iexists y, p8, g8
    isplitr [H8]
    · ipureintro; exact h8
    iexact H8
  isplitl [H9]
  · iexists y, p9, g9
    isplitr [H9]
    · ipureintro; exact h9
    iexact H9
  isplitl [H10]
  · iexists y, g10
    isplitr [H10]
    · ipureintro; exact h10
    iexact H10
  isplitl [H11]
  · iexists y, g11
    isplitr [H11]
    · ipureintro; exact h11
    iexact H11
  isplitl [H12]; · iexists g12; iexact H12
  isplitl [H13]; · iexists g13; iexact H13
  isplitl [H14]; · iexists g14; iexact H14
  isplitl [H15]; · iexists g15; iexact H15
  isplitl [H16]; · iexists g16; iexact H16
  isplitl [H17]; · iexists g17; iexact H17
  isplitl [H18]; · iexists g18; iexact H18
  isplitl [H19]; · iexists g19; iexact H19
  iexists g20; iexact H20
end body

variable (m : (ℓ : Loc nD τ sig) → Buf (Elt F) ℓ) (ρ : Dev nD → PrngReg)

/-- What the body leaves in each staging buffer at a point, from what it finds there: the inputs stay, the three
    block outputs are written anew, the two accumulators are added to. -/
def aft (c : Dev nD) : (w : Fin cfg0.W) → (t : Fin cfg0.N) → (Y X : (cfg0.win w).block.Idx → Elt F (cfg0.win w).elt) → Prop
  | ⟨0, _⟩ => fun t Y X => X = Y
  | ⟨1, _⟩ => fun t Y X => X = Y
  | ⟨2, _⟩ => fun t Y X => X = Y
  | ⟨3, _⟩ => fun t Y X => X = Y
  | ⟨4, _⟩ => fun t Y X => X = Y
  | ⟨5, _⟩ => fun t Y X => X = Y
  | ⟨6, _⟩ => fun t Y X => ∃ (y : Scr F) (p : Vec F S2048x256 .bf16), X = o7 (Gen.iblk m c 0 t) (Gen.iblk m c 4 t) p (bR y (Gen.iblk m c 0 t) (Gen.iblk m c 1 t) (Gen.iblk m c 2 t) (Gen.iblk m c 3 t) (Gen.iblk m c 4 t) (Gen.iblk m c 5 t))
  | ⟨7, _⟩ => fun t Y X => ∃ (y : Scr F) (p : Vec F S2048x256 .bf16), X = o8 (Gen.iblk m c 1 t) (Gen.iblk m c 5 t) p (bR y (Gen.iblk m c 0 t) (Gen.iblk m c 1 t) (Gen.iblk m c 2 t) (Gen.iblk m c 3 t) (Gen.iblk m c 4 t) (Gen.iblk m c 5 t))
  | ⟨8, _⟩ => fun t Y X => ∃ (y : Scr F) (p : Vec F S2048x256 .bf16), X = o9 p (bR y (Gen.iblk m c 0 t) (Gen.iblk m c 1 t) (Gen.iblk m c 2 t) (Gen.iblk m c 3 t) (Gen.iblk m c 4 t) (Gen.iblk m c 5 t))
  | ⟨9, _⟩ => fun t Y X => ∃ y : Scr F, X = o10 (Gen.iblk m c 0 t) (if t.val = 0 then k0_pay111 else Y) (bR y (Gen.iblk m c 0 t) (Gen.iblk m c 1 t) (Gen.iblk m c 2 t) (Gen.iblk m c 3 t) (Gen.iblk m c 4 t) (Gen.iblk m c 5 t))
  | ⟨10, _⟩ => fun t Y X => ∃ y : Scr F, X = o11 (Gen.iblk m c 1 t) (if t.val = 0 then k0_pay112 else Y) (bR y (Gen.iblk m c 0 t) (Gen.iblk m c 1 t) (Gen.iblk m c 2 t) (Gen.iblk m c 3 t) (Gen.iblk m c 4 t) (Gen.iblk m c 5 t))

/-- The proof data of the pallas_call. -/
def rdat (c : Dev nD) : Pipeline.RDat τ (Elt F) Unit ℕ (UR sig nD τ) ℕ cfg0 c where
  A w := Gen.V m c (Pipeline.arrRef spec0 w)
  after w t Y X := aft m c w t Y X
  Φ _ := Pipeline.ΦA spec0 c
  q := Pipeline.shareOf spec0
  owed _ := 0

theorem finds_0 (c : Dev nD) (t : Fin cfg0.N) (Y) (h : (rdat m c).Finds 0 t Y) : Y = Gen.iblk m c 0 t := by
  obtain ⟨d, rfl⟩ := (rdat m c).finds_in_eq_fetched 0 rfl (fun _ _ _ => rfl) (fun _ _ _ h => h) t Y h
  unfold Pipeline.RDat.fetched Pipeline.RDat.blockOf Gen.iblk; rfl

theorem finds_1 (c : Dev nD) (t : Fin cfg0.N) (Y) (h : (rdat m c).Finds 1 t Y) : Y = Gen.iblk m c 1 t := by
  obtain ⟨d, rfl⟩ := (rdat m c).finds_in_eq_fetched 1 rfl (fun _ _ _ => rfl) (fun _ _ _ h => h) t Y h
  unfold Pipeline.RDat.fetched Pipeline.RDat.blockOf Gen.iblk; rfl

theorem finds_2 (c : Dev nD) (t : Fin cfg0.N) (Y) (h : (rdat m c).Finds 2 t Y) : Y = Gen.iblk m c 2 t := by
  obtain ⟨d, rfl⟩ := (rdat m c).finds_in_eq_fetched 2 rfl (fun _ _ _ => rfl) (fun _ _ _ h => h) t Y h
  unfold Pipeline.RDat.fetched Pipeline.RDat.blockOf Gen.iblk; rfl

theorem finds_3 (c : Dev nD) (t : Fin cfg0.N) (Y) (h : (rdat m c).Finds 3 t Y) : Y = Gen.iblk m c 3 t := by
  obtain ⟨d, rfl⟩ := (rdat m c).finds_in_eq_fetched 3 rfl (fun _ _ _ => rfl) (fun _ _ _ h => h) t Y h
  unfold Pipeline.RDat.fetched Pipeline.RDat.blockOf Gen.iblk; rfl

theorem finds_4 (c : Dev nD) (t : Fin cfg0.N) (Y) (h : (rdat m c).Finds 4 t Y) : Y = Gen.iblk m c 4 t := by
  obtain ⟨d, rfl⟩ := (rdat m c).finds_in_eq_fetched 4 rfl (fun _ _ _ => rfl) (fun _ _ _ h => h) t Y h
  unfold Pipeline.RDat.fetched Pipeline.RDat.blockOf Gen.iblk; rfl

theorem finds_5 (c : Dev nD) (t : Fin cfg0.N) (Y) (h : (rdat m c).Finds 5 t Y) : Y = Gen.iblk m c 5 t := by
  obtain ⟨d, rfl⟩ := (rdat m c).finds_in_eq_fetched 5 rfl (fun _ _ _ => rfl) (fun _ _ _ h => h) t Y h
  unfold Pipeline.RDat.fetched Pipeline.RDat.blockOf Gen.iblk; rfl

theorem coords_val (t : Fin cfg0.N) : (grid0.coords t 0).val = t.val := by
  revert t; exact (by decide : ∀ t : Fin grid0.N, (grid0.coords t 0).val = t.val)

theorem whole_owned (c : Dev nD) (b : Ref sig .tc) :
    (iprop(∃ f : Buf (Elt F) ((c : Thread nD τ).loc b), ((c : Thread nD τ).loc b) ↦{fullShare} f) : sProp 𝕄G)
      = iprop(∃ f : Buf (Elt F) ((Memref.whole b).view.loc (c : Thread nD τ)), ((Memref.whole b).view.loc (c : Thread nD τ) ↦[(Memref.whole b).view.set]{fullShare} f)) := by
  have h : (Memref.whole (κ := .tc) b).view.set = Finset.univ := View.set_whole b
  rw [h]

theorem scratch_eq (c : Dev nD) : (Pipeline.scopedRest (Ix := Unit) (Name := ℕ) (U := UR sig nD τ) (Lvl := ℕ) (Val := Elt F) spec0 c : sProp 𝕄G)
    = iprop((∃ f : Buf (Elt F) ((Memref.whole cc0_scratch0).view.loc (c : Thread nD τ)), ((Memref.whole cc0_scratch0).view.loc (c : Thread nD τ) ↦[(Memref.whole cc0_scratch0).view.set]{fullShare} f)) ∗ (∃ f : Buf (Elt F) ((Memref.whole cc0_scratch1).view.loc (c : Thread nD τ)), ((Memref.whole cc0_scratch1).view.loc (c : Thread nD τ) ↦[(Memref.whole cc0_scratch1).view.set]{fullShare} f)) ∗ (∃ f : Buf (Elt F) ((Memref.whole cc0_scratch2).view.loc (c : Thread nD τ)), ((Memref.whole cc0_scratch2).view.loc (c : Thread nD τ) ↦[(Memref.whole cc0_scratch2).view.set]{fullShare} f)) ∗ (∃ f : Buf (Elt F) ((Memref.whole cc0_scratch3).view.loc (c : Thread nD τ)), ((Memref.whole cc0_scratch3).view.loc (c : Thread nD τ) ↦[(Memref.whole cc0_scratch3).view.set]{fullShare} f)) ∗ (∃ f : Buf (Elt F) ((Memref.whole cc0_scratch4).view.loc (c : Thread nD τ)), ((Memref.whole cc0_scratch4).view.loc (c : Thread nD τ) ↦[(Memref.whole cc0_scratch4).view.set]{fullShare} f)) ∗ (∃ f : Buf (Elt F) ((Memref.whole cc0_scratch5).view.loc (c : Thread nD τ)), ((Memref.whole cc0_scratch5).view.loc (c : Thread nD τ) ↦[(Memref.whole cc0_scratch5).view.set]{fullShare} f)) ∗ (∃ f : Buf (Elt F) ((Memref.whole cc0_scratch6).view.loc (c : Thread nD τ)), ((Memref.whole cc0_scratch6).view.loc (c : Thread nD τ) ↦[(Memref.whole cc0_scratch6).view.set]{fullShare} f)) ∗ (∃ f : Buf (Elt F) ((Memref.whole cc0_scratch7).view.loc (c : Thread nD τ)), ((Memref.whole cc0_scratch7).view.loc (c : Thread nD τ) ↦[(Memref.whole cc0_scratch7).view.set]{fullShare} f)) ∗ (∃ f : Buf (Elt F) ((Memref.whole cc0_scratch8).view.loc (c : Thread nD τ)), ((Memref.whole cc0_scratch8).view.loc (c : Thread nD τ) ↦[(Memref.whole cc0_scratch8).view.set]{fullShare} f))) :=
  (Gen.scopedRest0_eq c).trans (congrArg₂ BI.sep (whole_owned c cc0_scratch0) (congrArg₂ BI.sep (whole_owned c cc0_scratch1) (congrArg₂ BI.sep (whole_owned c cc0_scratch2) (congrArg₂ BI.sep (whole_owned c cc0_scratch3) (congrArg₂ BI.sep (whole_owned c cc0_scratch4) (congrArg₂ BI.sep (whole_owned c cc0_scratch5) (congrArg₂ BI.sep (whole_owned c cc0_scratch6) (congrArg₂ BI.sep (whole_owned c cc0_scratch7) (whole_owned c cc0_scratch8)))))))))

theorem sound_body (c : Dev nD) (t : Fin cfg0.N) (Y1 : Vec F S2048x256 .f32) (Y2 : Vec F S2048x256 .f32) (Y3 : Vec F S2048x256 .f32) (Y4 : Vec F S2048x256 .f32) (Y5 : Vec F S1x128 .f32) (Y6 : Vec F S1x128 .f32) (Y7 : Vec F S2048x256 .bf16) (Y8 : Vec F S2048x256 .bf16) (Y9 : Vec F S2048x256 .bf16) (Y10 : Vec F S1x128 .f32) (Y11 : Vec F S1x128 .f32)
    (hY1 : Y1 = Gen.iblk m c 0 t) (hY2 : Y2 = Gen.iblk m c 1 t) (hY3 : Y3 = Gen.iblk m c 2 t) (hY4 : Y4 = Gen.iblk m c 3 t) (hY5 : Y5 = Gen.iblk m c 4 t) (hY6 : Y6 = Gen.iblk m c 5 t) :
    (iprop((rdat m c).Φ t.castSucc ∗ (rdat m c).owesAt () t.castSucc ∗ owns (c : Thread nD τ) (Gen.st0_0 t) fullShare Y1 ∗ owns (c : Thread nD τ) (Gen.st0_1 t) fullShare Y2 ∗ owns (c : Thread nD τ) (Gen.st0_2 t) fullShare Y3 ∗ owns (c : Thread nD τ) (Gen.st0_3 t) fullShare Y4 ∗ owns (c : Thread nD τ) (Gen.st0_4 t) fullShare Y5 ∗ owns (c : Thread nD τ) (Gen.st0_5 t) fullShare Y6 ∗ owns (c : Thread nD τ) (Gen.st0_6 t) fullShare Y7 ∗ owns (c : Thread nD τ) (Gen.st0_7 t) fullShare Y8 ∗ owns (c : Thread nD τ) (Gen.st0_8 t) fullShare Y9 ∗ owns (c : Thread nD τ) (Gen.st0_9 t) fullShare Y10 ∗ owns (c : Thread nD τ) (Gen.st0_10 t) fullShare Y11) : sProp 𝕄G)
      ⊢ wp frame (wpE (defs₀ (F := F)) Variants.none (c : Thread nD τ) none) Set.univ (Gen.bodyAt0 t)
          (fun _ => iprop((rdat m c).Φ t.succ ∗ (rdat m c).owesAt () t.succ ∗ (∃ X, ⌜X = Y1⌝ ∗ owns (c : Thread nD τ) (Gen.st0_0 t) fullShare X) ∗ (∃ X, ⌜X = Y2⌝ ∗ owns (c : Thread nD τ) (Gen.st0_1 t) fullShare X) ∗ (∃ X, ⌜X = Y3⌝ ∗ owns (c : Thread nD τ) (Gen.st0_2 t) fullShare X) ∗ (∃ X, ⌜X = Y4⌝ ∗ owns (c : Thread nD τ) (Gen.st0_3 t) fullShare X) ∗ (∃ X, ⌜X = Y5⌝ ∗ owns (c : Thread nD τ) (Gen.st0_4 t) fullShare X) ∗ (∃ X, ⌜X = Y6⌝ ∗ owns (c : Thread nD τ) (Gen.st0_5 t) fullShare X) ∗ (∃ X, ⌜∃ (y : Scr F) (p : Vec F S2048x256 .bf16), X = o7 (Gen.iblk m c 0 t) (Gen.iblk m c 4 t) p (bR y (Gen.iblk m c 0 t) (Gen.iblk m c 1 t) (Gen.iblk m c 2 t) (Gen.iblk m c 3 t) (Gen.iblk m c 4 t) (Gen.iblk m c 5 t))⌝ ∗ owns (c : Thread nD τ) (Gen.st0_6 t) fullShare X) ∗ (∃ X, ⌜∃ (y : Scr F) (p : Vec F S2048x256 .bf16), X = o8 (Gen.iblk m c 1 t) (Gen.iblk m c 5 t) p (bR y (Gen.iblk m c 0 t) (Gen.iblk m c 1 t) (Gen.iblk m c 2 t) (Gen.iblk m c 3 t) (Gen.iblk m c 4 t) (Gen.iblk m c 5 t))⌝ ∗ owns (c : Thread nD τ) (Gen.st0_7 t) fullShare X) ∗ (∃ X, ⌜∃ (y : Scr F) (p : Vec F S2048x256 .bf16), X = o9 p (bR y (Gen.iblk m c 0 t) (Gen.iblk m c 1 t) (Gen.iblk m c 2 t) (Gen.iblk m c 3 t) (Gen.iblk m c 4 t) (Gen.iblk m c 5 t))⌝ ∗ owns (c : Thread nD τ) (Gen.st0_8 t) fullShare X) ∗ (∃ X, ⌜∃ y : Scr F, X = o10 (Gen.iblk m c 0 t) (if t.val = 0 then k0_pay111 else Y10) (bR y (Gen.iblk m c 0 t) (Gen.iblk m c 1 t) (Gen.iblk m c 2 t) (Gen.iblk m c 3 t) (Gen.iblk m c 4 t) (Gen.iblk m c 5 t))⌝ ∗ owns (c : Thread nD τ) (Gen.st0_9 t) fullShare X) ∗ (∃ X, ⌜∃ y : Scr F, X = o11 (Gen.iblk m c 1 t) (if t.val = 0 then k0_pay112 else Y11) (bR y (Gen.iblk m c 0 t) (Gen.iblk m c 1 t) (Gen.iblk m c 2 t) (Gen.iblk m c 3 t) (Gen.iblk m c 4 t) (Gen.iblk m c 5 t))⌝ ∗ owns (c : Thread nD τ) (Gen.st0_10 t) fullShare X))) := by
  rw [show (rdat m c).owesAt () t.succ = (rdat m c).owesAt () t.castSucc from rfl,
    show (rdat m c).Φ t.castSucc = Pipeline.ΦA spec0 c from rfl, show (rdat m c).Φ t.succ = Pipeline.ΦA spec0 c from rfl]
  unfold Pipeline.ΦA
  rw [scratch_eq]
  iintro ⟨⟨⟨S12, S13, S14, S15, S16, S17, S18, S19, S20⟩, Hr⟩, Ho, H1, H2, H3, H4, H5, H6, H7, H8, H9, H10, H11⟩
  iapply (wp_wand_r frame (wpE (defs₀ (F := F)) Variants.none (c : Thread nD τ) none) Set.univ)
  isplitl [H1 H2 H3 H4 H5 H6 H7 H8 H9 H10 H11 S12 S13 S14 S15 S16 S17 S18 S19 S20]
  · unfold Gen.bodyAt0
    iapply (body_owns (F := F) Variants.none c none (grid0.coords t) _ _ _ _ _ _ _ _ _ _ _ _ _ _ _ _ _ _ _ _ _ _ _ _ _ _ _ _ _ _ _ _ _ _ _ _ _ _ _ _ Set.univ Y1 Y2 Y3 Y4 Y5 Y6 Y7 Y8 Y9 Y10 Y11)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    iexact S20
  rw [coords_val]
  subst hY1 hY2 hY3 hY4 hY5 hY6
  iintro %_ ⟨H1, H2, H3, H4, H5, H6, ⟨%y7, %p7, H7⟩, ⟨%y8, %p8, H8⟩, ⟨%y9, %p9, H9⟩, ⟨%y10, H10⟩, ⟨%y11, H11⟩, S12, S13, S14, S15, S16, S17, S18, S19, S20⟩
  isplitl [S12 S13 S14 S15 S16 S17 S18 S19 S20 Hr]
  · isplitr [Hr]
    · isplitl [S12]; · iexact S12
      isplitl [S13]; · iexact S13
      isplitl [S14]; · iexact S14
      isplitl [S15]; · iexact S15
      isplitl [S16]; · iexact S16
      isplitl [S17]; · iexact S17
      isplitl [S18]; · iexact S18
      isplitl [S19]; · iexact S19
      iexact S20
    iexact Hr
  isplitl [Ho]; · iexact Ho
  isplitl [H1]
  · iexists _
    isplitr [H1]
    · ipureintro; exact rfl
    iexact H1
  isplitl [H2]
  · iexists _
    isplitr [H2]
    · ipureintro; exact rfl
    iexact H2
  isplitl [H3]
  · iexists _
    isplitr [H3]
    · ipureintro; exact rfl
    iexact H3
  isplitl [H4]
  · iexists _
    isplitr [H4]
    · ipureintro; exact rfl
    iexact H4
  isplitl [H5]
  · iexists _
    isplitr [H5]
    · ipureintro; exact rfl
    iexact H5
  isplitl [H6]
  · iexists _
    isplitr [H6]
    · ipureintro; exact rfl
    iexact H6
  isplitl [H7]
  · iexists _
    isplitr [H7]
    · ipureintro; exact ⟨y7, p7, rfl⟩
    iexact H7
  isplitl [H8]
  · iexists _
    isplitr [H8]
    · ipureintro; exact ⟨y8, p8, rfl⟩
    iexact H8
  isplitl [H9]
  · iexists _
    isplitr [H9]
    · ipureintro; exact ⟨y9, p9, rfl⟩
    iexact H9
  isplitl [H10]
  · iexists _
    isplitr [H10]
    · ipureintro; exact ⟨y10, rfl⟩
    iexact H10
  iexists _
  isplitr [H11]
  · ipureintro; exact ⟨y11, rfl⟩
  iexact H11

theorem defs₀_row (t : Fin cfg0.N) : defs₀ (F := F) .tc cfg0.body (cfg0.bodyArgs t (cfg0.slots t)) = Gen.bodyAt0 t := by
  unfold defs₀; rw [Defs.onTc_tc]

theorem body_obligation (c : Dev nD) : (rdat m c).BodyObligation (defs₀ (F := F)) Variants.none () Set.univ := fun t Y hY => by
  rw [Gen.bigSep_W0, Gen.bigSep_W0, defs₀_row]
  exact triple_restated (sound_body m c t (Y 0) (Y 1) (Y 2) (Y 3) (Y 4) (Y 5) (Y 6) (Y 7) (Y 8) (Y 9) (Y 10)
    (finds_0 m c t _ (hY 0)) (finds_1 m c t _ (hY 1)) (finds_2 m c t _ (hY 2)) (finds_3 m c t _ (hY 3)) (finds_4 m c t _ (hY 4)) (finds_5 m c t _ (hY 5)))
    rfl .rfl fun _ => .rfl

/-- The kernel's run: every execution ends, with the arrays as the proof data says and every counter at zero. -/
theorem run_main : θ_run defs (onTc (τ := τ) (main (F := F))) (s₀ m ρ)
    (fun r => Pipeline.RDat.FramePost (cfgs 0) (rdat m) (Gen.V m) r ∧ r.2.sem = fun _ => 0) :=
  Pipeline.RDat.θ_run_frame_track_shared (Q' := _) cfgs (0 : Fin 1) Gen.launch₀0 defs₀ Variants.none (rdat m) m ρ main
    (hbody := body_obligation m) (hq := fun _ _ _ => rfl) (howed := fun _ _ => rfl) (V := Gen.V m)
    (hmain := Gen.hmain m Variants.none) (hA := fun _ _ => rfl) (hin := fun _ => .rfl) (hout := fun _ => .rfl) (hQ' := fun _ h => h)

end Cert.KernelIdeal.Attn
-- ==== Proof.Frames.lean ====
/- The two frames of the kernel, from its one run. -/
module

public import proofs.«01_k».proof.Defs
public import proofs.«01_k».proof.Proof.Run
public import proofs.«01_k».proof.Proof.Gen.Kernel

@[expose] public section

set_option maxRecDepth 8192

noncomputable section

namespace Cert.KernelIdeal.Attn

open Idealize.ShloMosaic Idealize.SL.Sem

theorem kernel_args {F : FTy → Type} [FloatOps F] {m : (ℓ : Loc nD τ sig) → Buf (Elt F) ℓ} {r : PUnit × MemSt nD τ sig (Elt F)}
    (h : Pipeline.RDat.FramePost (cfgs 0) (rdat m) (Gen.V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨h.arr_in c 2 rfl, h.arr_in c 3 rfl, h.arr_in c 4 rfl, h.arr_in c 5 rfl⟩

/-- The kernel ends, with its arguments as they were and every counter at zero. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => kernel_args h.1 c, h.2⟩) (run_main m ρ)

theorem frame_ideal : Cert.quiescent_KernelIdeal := fun m ρ _ => frame_any (F := Ideal) m ρ

/-- The kernel as compiled and the kernel over the extended reals are one program text: their bodies agree label by label. -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl

theorem defs_eq : Cert.Kernel.defs (F := Bits) = Cert.KernelIdeal.defs (F := Bits) := by
  unfold Cert.Kernel.defs Cert.KernelIdeal.defs
  rw [defs₀_eq]
  rfl

theorem frame_bits : Cert.quiescent_Kernel := fun m ρ _ => by
  rw [defs_eq]
  exact frame_any (F := Bits) m ρ

end Cert.KernelIdeal.Attn
-- ==== Proof.MlpRun.lean ====
/- The SwiGLU sublayer's one run: every buffer that outlives the call ends at the contents the ten regions leave it. -/
module

public import proofs.«01_k».proof.Defs
public import proofs.«01_k».proof.Proof.Gen.Kernel2
public import proofs.«01_k».proof.Proof.Gen.Kernel2Ideal
public import proofs.«01_k».proof.Proof.Gen.Kernel2Ideal.Frame

@[expose] public section

set_option maxRecDepth 16384

noncomputable section

namespace Cert.Kernel2Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.Kernel2Ideal.Gen

variable {F : FTy → Type} [FloatOps F] (m : (ℓ : Loc nD τ sig) → Buf (Elt F) ℓ) (ρ : Dev nD → PrngReg)

local notation "𝕄" => MT nD τ sig Unit (Elt F) ℕ (UR sig nD τ) ℕ

/-- What the run leaves: the contents after the last region in every buffer of a device that outlives the call, and no counter up. -/
def Post (r : PUnit × MemSt nD τ sig (Elt F)) : Prop :=
  (∀ c : Dev nD, ∀ b ∈ Pipeline.ucRefs τ sig, r.2.mem ((c.tc : Thread nD τ).1, b) = W11 m ρ c b) ∧ r.2.sem = fun _ => 0

set_option backward.isDefEq.respectTransparency.types false in
theorem run_all : θ_run defs (onTc (τ := τ) (main (F := F))) ⟨m, fun _ => 0, ρ⟩ (Post m ρ) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h hz => ⟨h, funext fun g => hz g (.inr (no_unscoped g.2))⟩)

variable {m ρ}

theorem args {r : PUnit × MemSt nD τ sig (Elt F)} (h : Post m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.1 c _ (mem_uc main_arg0 (by decide))).trans (W11_main_arg0 m ρ c), (h.1 c _ (mem_uc main_arg1 (by decide))).trans (W11_main_arg1 m ρ c),
    (h.1 c _ (mem_uc main_arg2 (by decide))).trans (W11_main_arg2 m ρ c), (h.1 c _ (mem_uc main_arg3 (by decide))).trans (W11_main_arg3 m ρ c),
    (h.1 c _ (mem_uc main_arg4 (by decide))).trans (W11_main_arg4 m ρ c), (h.1 c _ (mem_uc main_arg5 (by decide))).trans (W11_main_arg5 m ρ c)⟩

theorem frame_ideal : Cert.quiescent_Kernel2Ideal := fun m ρ _ =>
  (θ_run defs _ _).mono (fun _ h => ⟨args h, h.2⟩) (run_all (F := Ideal) m ρ)

end Cert.Kernel2Ideal.Mlp
-- ==== Proof.MlpFrames.lean ====
/- The SwiGLU sublayer as compiled and over the extended reals: one program text, so one run serves both. -/
module

public import proofs.«01_k».proof.Proof.MlpRun

@[expose] public section

set_option maxRecDepth 16384

noncomputable section

namespace Cert.Kernel2Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.Kernel2Ideal.Gen

set_option maxHeartbeats 4000000 in
theorem defs₀_eq : Cert.Kernel2.defs₀ (F := Bits) = Cert.Kernel2Ideal.defs₀ (F := Bits) := by
  unfold Cert.Kernel2.defs₀ Cert.Kernel2Ideal.defs₀
  refine congrArg Defs.onTc ?_
  funext l a
  match l, a with
  | ⟨0, _⟩, (t, s) => rfl
  | ⟨1, _⟩, (t, s) => rfl
  | ⟨2, _⟩, (t, s) => rfl
  | ⟨3, _⟩, (t, s) => rfl
  | ⟨4, _⟩, (t, s) => rfl
  | ⟨5, _⟩, (t, s) => rfl
  | ⟨6, _⟩, (t, s) => rfl
  | ⟨7, _⟩, (t, s) => rfl
  | ⟨8, _⟩, (t, s) => rfl
  | ⟨9, _⟩, (t, s) => rfl

set_option maxHeartbeats 4000000 in
/-- The call as compiled and the call over the extended reals are one program text. -/
theorem defs_eq : Cert.Kernel2.defs (F := Bits) = Cert.Kernel2Ideal.defs (F := Bits) := by
  unfold Cert.Kernel2.defs Cert.Kernel2Ideal.defs
  rw [defs₀_eq]
  rfl

set_option maxHeartbeats 4000000 in
theorem frame_bits : Cert.quiescent_Kernel2 := fun m ρ _ => by
  rw [defs_eq]
  exact (θ_run defs _ _).mono (fun _ h => ⟨args h, h.2⟩) (run_all (F := Bits) m ρ)

end Cert.Kernel2Ideal.Mlp
-- ==== Proof.Lift.lean ====
/- Extended reals that are real numbers: how the operations of the idealized program act on them. -/
module

public import proofs.«01_k».proof.Proof.BlockModel
public import Idealize.ShloMosaic.Lib.Pointwise

@[expose] public section

set_option maxRecDepth 16384
set_option maxHeartbeats 200000

noncomputable section

namespace Cert.KernelIdeal.Attn

open Idealize.ShloMosaic Idealize.ShloMosaic.TcCoe

/-! ## Real numbers among the extended ones -/

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem zero_sub_coe (x : ℝ) : (0 : EReal) - (x : EReal) = ((-x : ℝ) : EReal) := by
  rw [zero_sub, EReal.coe_neg]
theorem coe_sub_zero (x : ℝ) : (x : EReal) - 0 = (x : EReal) := by
  rw [sub_eq_add_neg, neg_zero, add_zero]
theorem one_add_coe (x : ℝ) : (1 : EReal) + (x : EReal) = ((1 + x : ℝ) : EReal) := by
  rw [EReal.coe_add, EReal.coe_one]
theorem max_zero_coe (x : ℝ) : max (x : EReal) 0 = ((max x 0 : ℝ) : EReal) := by
  rw [← EReal.coe_zero]; exact (EReal.coe_strictMono.monotone.map_max).symm
theorem min_zero_coe (x : ℝ) : min (x : EReal) 0 = ((min x 0 : ℝ) : EReal) := by
  rw [← EReal.coe_zero]; exact (EReal.coe_strictMono.monotone.map_min).symm
theorem abs_coe (x : ℝ) : max (x : EReal) (-(x : EReal)) = ((|x| : ℝ) : EReal) := by
  rw [← EReal.coe_neg]; exact (EReal.coe_strictMono.monotone.map_max).symm
theorem absf_coe {φ : FTy} (x : ℝ) : FloatOps.absf (F := Ideal) (φ := φ) (x : EReal) = ((|x| : ℝ) : EReal) := abs_coe x
theorem log_pos {x : ℝ} (h : 0 < x) : Ideal.log (x : EReal) = ((Real.log x : ℝ) : EReal) := by
  rw [Ideal.log_coe, if_neg (not_le.mpr h)]
theorem log_one_add_exp (x : ℝ) : Ideal.log ((1 + Real.exp x : ℝ) : EReal) = ((Real.log (1 + Real.exp x) : ℝ) : EReal) :=
  log_pos (by positivity)
theorem select_coe (p : Prop) [Decidable p] (x y : ℝ) :
    Scalar.select (if p then 1#1 else 0#1) (x : EReal) (y : EReal) = ((if p then x else y : ℝ) : EReal) := by
  by_cases h : p <;> simp [h, Scalar.select]
theorem select_coe_zero (p : Prop) [Decidable p] (x : ℝ) :
    Scalar.select (if p then 1#1 else 0#1) (x : EReal) 0 = ((if p then x else 0 : ℝ) : EReal) := by
  rw [← EReal.coe_zero, select_coe]

/-- A matrix of extended reals holds the real numbers `f`. -/
def Is {m n : ℕ} {φ : FTy} (x : FVec Ideal ⟨2, ![m, n]⟩ φ) (f : ℕ → ℕ → ℝ) : Prop :=
  ∀ (a : Fin m) (c : Fin n), x (ix2 a c) = ((f a.val c.val : ℝ) : EReal)

theorem Is.congr {m n : ℕ} {φ : FTy} {x : FVec Ideal ⟨2, ![m, n]⟩ φ} {f g : ℕ → ℕ → ℝ} (h : Is x f) (e : ∀ a < m, ∀ c < n, f a c = g a c) : Is x g :=
  fun a c => (h a c).trans (congrArg _ (e a.val a.isLt c.val c.isLt))

/-- A page of extended reals holds the real numbers `f`. -/
def Is1 {m n : ℕ} {φ : FTy} (x : FVec Ideal ⟨3, ![1, m, n]⟩ φ) (f : ℕ → ℕ → ℝ) : Prop :=
  ∀ (a : Fin m) (c : Fin n), x (ix3 0 a c) = ((f a.val c.val : ℝ) : EReal)

theorem Is1.congr {m n : ℕ} {φ : FTy} {x : FVec Ideal ⟨3, ![1, m, n]⟩ φ} {f g : ℕ → ℕ → ℝ} (h : Is1 x f) (e : ∀ a < m, ∀ c < n, f a c = g a c) : Is1 x g :=
  fun a c => (h a c).trans (congrArg _ (e a.val a.isLt c.val c.isLt))

/-- The logarithm of the sigmoid, as the kernel computes it. -/
def lsig (x : ℝ) : ℝ := min x 0 - Real.log (1 + Real.exp (-|x|))
/-- The logarithm of one minus the sigmoid, as the kernel computes it. -/
def lsigm (x : ℝ) : ℝ := -max x 0 - Real.log (1 + Real.exp (-|x|))

end Cert.KernelIdeal.Attn
-- ==== Proof.Norm.lean ====
/- The normalisation of the queries and the keys, and its gradient, on real numbers. -/
module

public import proofs.«01_k».proof.Proof.Lift

@[expose] public section

set_option maxRecDepth 16384
set_option maxHeartbeats 200000

noncomputable section

namespace Cert.KernelIdeal.Attn

open Idealize.ShloMosaic Idealize.ShloMosaic.TcCoe
open Cert.KernelIdeal.Gen

/-! ## The constants -/

/-- The scale of the scores and the offset of the mean square, as the programs round them. -/
def scl : ℝ := 11863283 * (2 : ℝ) ^ (-27 : ℤ)
def eps : ℝ := 8796093 * (2 : ℝ) ^ (-43 : ℤ)

theorem eps_pos : 0 < eps := by unfold eps; positivity
theorem lit_scl : Ideal.ofBits .f32 0x3DB504F3#32 = (scl : EReal) := by simp [Ideal.ofBits, Ideal.ieee, -EReal.coe_mul, scl]
theorem lit_eps : Ideal.ofBits .f32 0x358637BD#32 = (eps : EReal) := by simp [Ideal.ofBits, Ideal.ieee, -EReal.coe_mul, eps]
theorem lit_128 : Ideal.ofBits .f32 0x43000000#32 = ((128 : ℝ) : EReal) := by simp [Ideal.ofBits, Ideal.ieee, -EReal.coe_mul]; norm_num

theorem div_128 (x : ℝ) : Ideal.div (x : EReal) ((128 : ℝ) : EReal) = ((x / 128 : ℝ) : EReal) := by
  rw [Ideal.div_coe (by norm_num), ← EReal.coe_mul, mul_one_div]
theorem rsqrt_pos {x : ℝ} (h : 0 < x) : Ideal.rsqrt (x : EReal) = (((Real.sqrt x)⁻¹ : ℝ) : EReal) := by
  rw [Ideal.rsqrt_coe, if_neg h.not_gt, if_neg h.ne']

/-! ## The normalisation -/

/-- The mean square of a row, its reciprocal root, and the normalised row. -/
def ms (x : ℕ → ℕ → ℝ) (i : ℕ) : ℝ := (∑ d : Fin 128, x i d * x i d) / 128 + eps
def rs (x : ℕ → ℕ → ℝ) (i : ℕ) : ℝ := (Real.sqrt (ms x i))⁻¹
def nrm (x : ℕ → ℕ → ℝ) (i d : ℕ) : ℝ := x i d * rs x i

/-- The gradient of the input of the normalisation, and of its gain, from the gradient of its output. -/
def nb (x y : ℕ → ℕ → ℝ) (g : ℕ → ℝ) (i d : ℕ) : ℝ := rs x i * (y i d * g d - nrm x i d * ((∑ e : Fin 128, y i e * g e * nrm x i e) / 128))
def ng (n : ℕ) (x y : ℕ → ℕ → ℝ) (d : ℕ) : ℝ := ∑ i : Fin n, y i d * nrm x i d

theorem ms_pos (x : ℕ → ℕ → ℝ) (i : ℕ) : 0 < ms x i := by
  have : 0 ≤ ∑ d : Fin 128, x i d * x i d := Finset.sum_nonneg fun d _ => mul_self_nonneg _
  have := eps_pos
  unfold ms
  positivity

theorem rsqrt_ms (x : ℕ → ℕ → ℝ) (i : ℕ) : Ideal.rsqrt (((∑ d : Fin 128, x i d * x i d) / 128 + eps : ℝ) : EReal) = ((rs x i : ℝ) : EReal) := rsqrt_pos (ms_pos x i)

section pays
variable {x y : FVec Ideal S2048x128 .f32} {g : FVec Ideal S1x128 .f32} {f w : ℕ → ℕ → ℝ} {γ : ℕ → ℝ}

theorem pay131_is (hx : Is x f) : Is (k0_pay131 x) fun i _ => rs f i := by
  intro a c
  pointwise [k0_pay131]
  simp only [hx _ _, ← EReal.coe_mul, coe_sum, lit_128, lit_eps, div_128, ← EReal.coe_add, rsqrt_ms]

theorem pay132_is (hx : Is x f) : Is (k0_pay132 x) (nrm f) := by
  intro a c
  pointwise [k0_pay132]
  simp only [hx _ _, pay131_is hx _ _, ← EReal.coe_mul, nrm]

theorem pay113_is (hx : Is x f) (hg : Is g fun _ => γ) : Is (k0_pay113 x g) fun i d => nrm f i d * γ d * scl := by
  intro a c
  pointwise [k0_pay113]
  simp only [hx _ _, hg _ _, ← EReal.coe_mul, coe_sum, lit_128, lit_eps, lit_scl, div_128, ← EReal.coe_add, rsqrt_ms, nrm]

theorem pay119_is (hx : Is x f) (hg : Is g fun _ => γ) : Is (k0_pay119 x g) fun i d => nrm f i d * γ d := by
  intro a c
  pointwise [k0_pay119]
  simp only [hx _ _, hg _ _, ← EReal.coe_mul, coe_sum, lit_128, lit_eps, lit_scl, div_128, ← EReal.coe_add, rsqrt_ms, nrm]

theorem pay116_is (hx : Is x f) : Is (k0_pay116 x) f := by
  intro a c
  pointwise [k0_pay116]
  exact hx a c

theorem pay141_is (hx : Is x f) : Is (k0_pay141 x) f := by
  intro a c
  pointwise [k0_pay141]
  exact hx a c

theorem pay130_is (hx : Is x f) : Is (k0_pay130 x) fun i d => f i d * scl := by
  intro a c
  pointwise [k0_pay130]
  simp only [hx _ _, lit_scl, ← EReal.coe_mul]

theorem pay151_is (hx : Is x f) (hy : Is y w) : Is (k0_pay151 x y) fun _ d => ng 2048 f w d := by
  intro a c
  pointwise [k0_pay151]
  simp only [show ∀ a c, k0_pay150 (F := Ideal) x (ix2 a c) = _ from pay132_is hx, hy _ _, ← EReal.coe_mul, coe_sum, ng]

theorem pay153_is (hx : Is x f) (hy : Is y w) (hg : Is g fun _ => γ) : Is (k0_pay153 x g y) (nb f w γ) := by
  intro a c
  pointwise [k0_pay153]
  simp only [show ∀ a c, k0_pay150 (F := Ideal) x (ix2 a c) = _ from pay132_is hx, show ∀ a c, k0_pay149 (F := Ideal) x (ix2 a c) = _ from pay131_is hx,
    hy _ _, hg _ _, ← EReal.coe_mul, coe_sum, lit_128, div_128, ← EReal.coe_sub, nb]

theorem pay142_is {a b : FVec Ideal S1x128 .f32} {α β : ℕ → ℕ → ℝ} (ha : Is a α) (hb : Is b β) : Is (k0_pay142 a b) fun i d => β i d + α i d := by
  intro i c
  obtain rfl : i = 0 := Subsingleton.elim _ _
  pointwise [k0_pay142]
  simp only [ha _ _, hb _ _, ← EReal.coe_add]
  rfl

theorem pay122_is (a : Fin 2048) (c : Fin 256) : k0_pay122 (F := Ideal) (ix2 a c) = 0 := by
  pointwise [k0_pay122]

theorem pay111_is : Is (k0_pay111 (F := Ideal)) fun _ _ => 0 := by
  intro a c
  pointwise [k0_pay111]
  exact EReal.coe_zero.symm

end pays

/-! ## Both heads alike -/

section alike
variable {F : FTy → Type} [FloatOps F]

theorem pay118_eq (x : FVec F S2048x128 .f32) (g) : k0_pay118 x g = k0_pay113 x g := rfl
theorem pay115_eq (x : FVec F S2048x128 .f32) (g) : k0_pay115 (k0_pay114 x g) = k0_pay119 x g := rfl
theorem pay140_eq (x : FVec F S2048x128 .f32) (g y) : k0_pay140 x g y = k0_pay153 x g y := rfl
theorem pay139_eq (x : FVec F S2048x128 .f32) (g y) :
    k0_pay139 (k0_pay131 x) (k0_pay134 g y) (k0_pay135 x g y) = k0_pay153 x g (k0_pay130 y) := rfl
theorem pay152_eq (x : FVec F S2048x128 .f32) (g y) : k0_pay152 (k0_pay145 x) (k0_pay148 x g y) = k0_pay153 x g (k0_pay130 y) := rfl
theorem pay133_eq (x : FVec F S2048x128 .f32) (y) : k0_pay133 x y = k0_pay151 x (k0_pay130 y) := rfl
theorem pay147_eq (x : FVec F S2048x128 .f32) (y) : k0_pay147 x y = k0_pay151 x (k0_pay130 y) := rfl
theorem pay138_eq (x : FVec F S2048x128 .f32) (y) : k0_pay138 x y = k0_pay151 x y := rfl
theorem pay1_eq (x : FVec F S1x128 .f32) (y) : k0_pay1 x y = k0_pay142 x y := rfl
theorem pay2_eq (x : FVec F S1x128 .f32) (y) : k0_pay2 x y = k0_pay142 x y := rfl
theorem pay143_eq (x : FVec F S1x128 .f32) (y) : k0_pay143 x y = k0_pay142 x y := rfl
theorem pay123_eq : k0_pay123 (F := F) = k0_pay122 := rfl
theorem pay112_eq : k0_pay112 (F := F) = k0_pay111 := rfl

end alike

end Cert.KernelIdeal.Attn
-- ==== Proof.RowNorm.lean ====
/- The normalisation of a row of 2048 numbers, and its gradient, on real numbers. -/
module

public import proofs.«01_k».proof.Proof.Norm
public import proofs.«01_k».proof.Proof.Gen.Kernel4Ideal.Skeleton

@[expose] public section

set_option maxRecDepth 16384
set_option maxHeartbeats 200000

noncomputable section

namespace Cert.RowNorm

open Idealize.ShloMosaic Idealize.ShloMosaic.TcCoe
open Cert.KernelIdeal.Attn (Is coe_sum eps eps_pos lit_eps rsqrt_pos)
open Cert.Kernel4Ideal Cert.Kernel4Ideal.Gen

theorem lit_2048 : Ideal.ofBits .f32 0x45000000#32 = ((2048 : ℝ) : EReal) := by simp [Ideal.ofBits, Ideal.ieee, -EReal.coe_mul]; norm_num
theorem div_2048 (x : ℝ) : Ideal.div (x : EReal) ((2048 : ℝ) : EReal) = ((x / 2048 : ℝ) : EReal) := by
  rw [Ideal.div_coe (by norm_num), ← EReal.coe_mul, mul_one_div]

theorem _root_.Cert.KernelIdeal.Attn.Is.at {m n : ℕ} {φ : FTy} {x : FVec Ideal ⟨2, ![m, n]⟩ φ} {f : ℕ → ℕ → ℝ} (h : Is x f) (y : (⟨2, ![m, n]⟩ : Shape).Idx) :
    x y = ((f (y 0).val (y 1).val : ℝ) : EReal) := (congrArg x (eq_ix2 y)).trans (h (y 0) (y 1))

/-! ## On real numbers -/

/-- The mean square of a row, its reciprocal root, the normalised row, and that row with a gain. -/
def ms (x : ℕ → ℕ → ℝ) (i : ℕ) : ℝ := (∑ d : Fin 2048, x i d * x i d) / 2048 + eps
def rs (x : ℕ → ℕ → ℝ) (i : ℕ) : ℝ := (Real.sqrt (ms x i))⁻¹
def nrm (x : ℕ → ℕ → ℝ) (i d : ℕ) : ℝ := x i d * rs x i
def nrmg (x : ℕ → ℕ → ℝ) (γ : ℕ → ℝ) (i d : ℕ) : ℝ := nrm x i d * γ d

/-- The gradient of the input, and of the gain over `n` rows, from the gradient `y` of the output. -/
def nb (x y : ℕ → ℕ → ℝ) (γ : ℕ → ℝ) (i d : ℕ) : ℝ := rs x i * (y i d * γ d - nrm x i d * ((∑ e : Fin 2048, y i e * γ e * nrm x i e) / 2048))
def ng (n : ℕ) (x y : ℕ → ℕ → ℝ) (d : ℕ) : ℝ := ∑ i : Fin n, y i d * nrm x i d

/-- The rows from row `k` on. -/
def low (k : ℕ) (x : ℕ → ℕ → ℝ) (i d : ℕ) : ℝ := x (k + i) d

theorem ms_pos (x : ℕ → ℕ → ℝ) (i : ℕ) : 0 < ms x i := by
  have : 0 ≤ ∑ d : Fin 2048, x i d * x i d := Finset.sum_nonneg fun d _ => mul_self_nonneg _
  have := eps_pos
  unfold ms
  positivity

theorem rsqrt_ms (x : ℕ → ℕ → ℝ) (i : ℕ) : Ideal.rsqrt (((∑ d : Fin 2048, x i d * x i d) / 2048 + eps : ℝ) : EReal) = ((rs x i : ℝ) : EReal) := rsqrt_pos (ms_pos x i)

theorem rs_sq (x : ℕ → ℕ → ℝ) (i : ℕ) : rs x i * rs x i = (ms x i)⁻¹ := by
  unfold rs
  rw [← mul_inv, Real.mul_self_sqrt (ms_pos x i).le]

/-- The gradient of the gain, gathered tile after tile, is the gradient over all rows. -/
theorem ng_tiles (n : ℕ) (x y : ℕ → ℕ → ℝ) (d : ℕ) : ∑ s ∈ Finset.range n, ng 256 (low (s * 256) x) (low (s * 256) y) d = ng (n * 256) x y d := by
  unfold ng
  rw [Fin.sum_univ_eq_sum_range (fun i => y i d * nrm x i d)]
  induction n with
  | zero => rw [Nat.zero_mul]; rfl
  | succ n ih =>
    rw [Finset.sum_range_succ, ih, Nat.succ_mul, Finset.sum_range_add]
    exact congrArg _ (Fin.sum_univ_eq_sum_range (fun i => y (n * 256 + i) d * nrm x (n * 256 + i) d) 256)

/-! ## What the two norm bodies compute -/

section pays
variable {g : FVec Ideal S1x2048 .f32} {f w z : ℕ → ℕ → ℝ} {γ : ℕ → ℝ}

theorem pay_fwd {x : FVec Ideal S512x2048 .f32} (hx : Is x f) (hg : Is g fun _ => γ) : Is (k0_pay1 x g) (nrmg f γ) := by
  intro a c
  pointwise [k0_pay1]
  simp only [hx _ _, hg _ _, ← EReal.coe_mul, coe_sum, lit_2048, lit_eps, div_2048, ← EReal.coe_add, rsqrt_ms, nrm, nrmg]

variable {x y u : FVec Ideal S256x2048 .f32}

theorem pay3_is (hx : Is x f) : Is (k4_pay3 x) fun i _ => rs f i := by
  intro a c
  pointwise [k4_pay3]
  simp only [hx _ _, ← EReal.coe_mul, coe_sum, lit_2048, lit_eps, div_2048, ← EReal.coe_add, rsqrt_ms]

theorem pay4_is (hx : Is x f) : Is (k4_pay4 x) (nrm f) := by
  intro a c
  pointwise [k4_pay4]
  simp only [hx _ _, pay3_is hx _ _, ← EReal.coe_mul, nrm]

theorem pay5_is (hy : Is y w) : Is (k4_pay5 y) w := by
  intro a c
  pointwise [k4_pay5]
  exact hy a c

theorem pay6_is : Is (k4_pay6 (F := Ideal)) fun _ _ => 0 := by
  intro a c
  pointwise [k4_pay6]
  exact EReal.coe_zero.symm

theorem pay7_is {a : FVec Ideal S1x2048 .f32} {α : ℕ → ℕ → ℝ} (hx : Is x f) (hy : Is y w) (ha : Is a α) :
    Is (k4_pay7 x y a) fun i d => α i d + ng 256 f w d := by
  intro i c
  obtain rfl : i = 0 := Subsingleton.elim _ _
  pointwise [k4_pay7]
  simp only [pay4_is hx _ _, pay5_is hy _ _, ha _ _, ← EReal.coe_mul, coe_sum, ← EReal.coe_add, ng]
  rfl

theorem pay8_is (hx : Is x f) (hy : Is y w) (hg : Is g fun _ => γ) : Is (k4_pay8 x y g) (nb f w γ) := by
  intro a c
  pointwise [k4_pay8]
  simp only [pay3_is hx _ _, pay4_is hx _ _, pay5_is hy _ _, hg _ _, ← EReal.coe_mul, coe_sum, lit_2048, div_2048, ← EReal.coe_sub, nb]

theorem pay_bwd (hx : Is x f) (hy : Is y w) (hg : Is g fun _ => γ) (hu : Is u z) : Is (k4_pay1 (k4_pay8 x y g) u) fun i d => nb f w γ i d + z i d := by
  intro a c
  pointwise [k4_pay1]
  rw [pay8_is hx hy hg, hu, ← EReal.coe_add]

theorem pay_bwd16 (hx : Is x f) (hy : Is y w) (hg : Is g fun _ => γ) (hu : Is u z) : Is (k4_pay2 (k4_pay8 x y g) u) fun i d => nb f w γ i d + z i d := by
  intro a c
  pointwise [k4_pay2]
  exact pay_bwd hx hy hg hu a c

end pays

end Cert.RowNorm
-- ==== Proof.Products.lean ====
/- The three matrix products of a linear layer and its derivative, over the extended reals and over real numbers. -/
module

public import proofs.«01_k».proof.Proof.Lift

@[expose] public section

set_option maxRecDepth 16384

noncomputable section

namespace Cert.Products

open Idealize.ShloMosaic Idealize.ShloMosaic.TcCoe
open Cert.KernelIdeal.Attn (Is coe_sum)

/-! ## The products at an index -/

/-- Rows times columns. -/
def nn {m k n : ℕ} (a : (⟨2, ![m, k]⟩ : Shape).Idx → EReal) (b : (⟨2, ![k, n]⟩ : Shape).Idx → EReal) : (⟨2, ![m, n]⟩ : Shape).Idx → EReal :=
  fun i => ∑ q : Fin k, a (ix2 (i 0) q) * b (ix2 q (i 1))
/-- Rows times rows. -/
def nt {m k n : ℕ} (a : (⟨2, ![m, k]⟩ : Shape).Idx → EReal) (b : (⟨2, ![n, k]⟩ : Shape).Idx → EReal) : (⟨2, ![m, n]⟩ : Shape).Idx → EReal :=
  fun i => ∑ q : Fin k, a (ix2 (i 0) q) * b (ix2 (i 1) q)
/-- Columns times columns. -/
def tn {m k n : ℕ} (a : (⟨2, ![k, m]⟩ : Shape).Idx → EReal) (b : (⟨2, ![k, n]⟩ : Shape).Idx → EReal) : (⟨2, ![m, n]⟩ : Shape).Idx → EReal :=
  fun i => ∑ q : Fin k, a (ix2 q (i 0)) * b (ix2 q (i 1))
/-- A product with something added to every element. -/
def plus {s : Shape} (a b : s.Idx → EReal) : s.Idx → EReal := fun i => a i + b i

theorem plus_comm {s : Shape} (a b : s.Idx → EReal) : plus a b = plus b a := funext fun _ => add_comm _ _

/-! ## The products of real matrices -/

/-- Row `r` of `f` with column `c` of `g`, and the two other pairings, over `n` terms. -/
def NN (n : ℕ) (f g : ℕ → ℕ → ℝ) (r c : ℕ) : ℝ := ∑ q : Fin n, f r q.val * g q.val c
def NT (n : ℕ) (f g : ℕ → ℕ → ℝ) (r c : ℕ) : ℝ := ∑ q : Fin n, f r q.val * g c q.val
def TN (n : ℕ) (f g : ℕ → ℕ → ℝ) (r c : ℕ) : ℝ := ∑ q : Fin n, f q.val r * g q.val c

section
variable {m k n : ℕ} {φ ψ χ : FTy} {f g : ℕ → ℕ → ℝ}

theorem nn_is {a : FVec Ideal ⟨2, ![m, k]⟩ φ} {b : FVec Ideal ⟨2, ![k, n]⟩ ψ} (ha : Is a f) (hb : Is b g) :
    Is (φ := χ) (nn a b) (NN k f g) := fun r c => by
  show ∑ q : Fin k, a (ix2 r q) * b (ix2 q c) = _
  simp only [ha _ _, hb _ _, ← EReal.coe_mul, coe_sum, NN]
theorem nt_is {a : FVec Ideal ⟨2, ![m, k]⟩ φ} {b : FVec Ideal ⟨2, ![n, k]⟩ ψ} (ha : Is a f) (hb : Is b g) :
    Is (φ := χ) (nt a b) (NT k f g) := fun r c => by
  show ∑ q : Fin k, a (ix2 r q) * b (ix2 c q) = _
  simp only [ha _ _, hb _ _, ← EReal.coe_mul, coe_sum, NT]
theorem tn_is {a : FVec Ideal ⟨2, ![k, m]⟩ φ} {b : FVec Ideal ⟨2, ![k, n]⟩ ψ} (ha : Is a f) (hb : Is b g) :
    Is (φ := χ) (tn a b) (TN k f g) := fun r c => by
  show ∑ q : Fin k, a (ix2 q r) * b (ix2 q c) = _
  simp only [ha _ _, hb _ _, ← EReal.coe_mul, coe_sum, TN]
theorem plus_is {a b : FVec Ideal ⟨2, ![m, n]⟩ φ} (ha : Is a f) (hb : Is b g) :
    Is (φ := φ) (plus a b) fun r c => f r c + g r c := fun r c => by
  show a (ix2 r c) + b (ix2 r c) = _
  rw [ha, hb, EReal.coe_add]

end

end Cert.Products
-- ==== Proof.MlpMath.lean ====
/- The SwiGLU sublayer on real numbers, and the two bodies of the call that apply its activation. -/
module

public import proofs.«01_k».proof.Proof.RowNorm
public import proofs.«01_k».proof.Proof.Products
public import proofs.«01_k».proof.Proof.Gen.Kernel2Ideal.Skeleton

@[expose] public section

set_option maxRecDepth 16384
set_option maxHeartbeats 200000

noncomputable section

namespace Cert.Mlp

open Idealize.ShloMosaic Idealize.ShloMosaic.TcCoe
open Cert.KernelIdeal.Attn (Is coe_sum zero_sub_coe one_add_coe)
open Cert.Kernel2Ideal Cert.Kernel2Ideal.Gen
open Cert.Products Cert.RowNorm

/-! ## On real numbers -/

/-- The logistic function. -/
def squash (g : ℝ) : ℝ := 1 / (1 + Real.exp (-g))

/-- The activation of gate `G` and value `U`, and the gradients of both from the gradient `Y` of the activation. -/
def act (G U : ℕ → ℕ → ℝ) (i j : ℕ) : ℝ := G i j * squash (G i j) * U i j
def dgate (Y G U : ℕ → ℕ → ℝ) (i j : ℕ) : ℝ := Y i j * U i j * squash (G i j) * (1 + G i j * (1 - squash (G i j)))
def dvalue (Y G : ℕ → ℕ → ℝ) (i j : ℕ) : ℝ := Y i j * G i j * squash (G i j)

/-! The sublayer, stage by stage: rows `f` with gains `γ`, the three weights, the gradient `D` of the output. -/
section stages
variable (f D Wg Wu Wd : ℕ → ℕ → ℝ) (γ : ℕ → ℝ)

def gate : ℕ → ℕ → ℝ := NT 2048 (nrmg f γ) Wg
def value : ℕ → ℕ → ℝ := NT 2048 (nrmg f γ) Wu
def hidden : ℕ → ℕ → ℝ := act (gate f Wg γ) (value f Wu γ)
def output (i d : ℕ) : ℝ := NN 6144 (hidden f Wg Wu γ) Wd i d + f i d
def dhidden : ℕ → ℕ → ℝ := NT 2048 D Wd
def dG : ℕ → ℕ → ℝ := dgate (dhidden D Wd) (gate f Wg γ) (value f Wu γ)
def dU : ℕ → ℕ → ℝ := dvalue (dhidden D Wd) (gate f Wg γ)
def dnorm (i d : ℕ) : ℝ := NN 6144 (dU f D Wg Wd γ) Wu i d + NN 6144 (dG f D Wg Wu Wd γ) Wg i d
def drows (i d : ℕ) : ℝ := nb f (dnorm f D Wg Wu Wd γ) γ i d + D i d

end stages

theorem one_div_coe {x : ℝ} (hx : x ≠ 0) : Ideal.div (1 : EReal) ((x : ℝ) : EReal) = ((1 / x : ℝ) : EReal) := by
  rw [Ideal.div_coe hx, one_mul]

theorem one_add_exp (x : ℝ) : (1 : ℝ) + Real.exp x ≠ 0 := (add_pos one_pos (Real.exp_pos x)).ne'

theorem one_sub_coe (x : ℝ) : (1 : EReal) - (x : EReal) = ((1 - x : ℝ) : EReal) := by
  rw [EReal.coe_sub, EReal.coe_one]

/-! ## The forward body -/

section fwd
variable {h : FVec Ideal S512x2048 .bf16} {a b : FVec Ideal S1024x2048 .bf16} {f α β : ℕ → ℕ → ℝ}

theorem k1_pay2_is (hh : Is h f) (ha : Is a α) : Is (k1_pay2 h a) (NT 2048 f α) := by
  intro r c
  pointwise [k1_pay2, k1_pay1]
  simp only [hh _ _, ha _ _, ← EReal.coe_mul, coe_sum, NT]

theorem k1_pay3_is (hh : Is h f) (hb : Is b β) : Is (k1_pay3 h b) (NT 2048 f β) := k1_pay2_is hh hb

theorem k1_pay4_is (hh : Is h f) (ha : Is a α) (hb : Is b β) : Is (k1_pay4 h a b) (act (NT 2048 f α) (NT 2048 f β)) := by
  intro r c
  pointwise [k1_pay4]
  simp only [k1_pay2_is hh ha _ _, k1_pay3_is hh hb _ _, zero_sub_coe, Ideal.exp_coe, one_add_coe, one_div_coe (one_add_exp _), ← EReal.coe_mul]
  rfl

theorem k1_pay5_is (hh : Is h f) (ha : Is a α) : Is (k1_pay5 h a) (NT 2048 f α) := by
  intro r c
  pointwise [k1_pay5]
  exact k1_pay2_is hh ha r c

theorem k1_pay6_is (hh : Is h f) (hb : Is b β) : Is (k1_pay6 h b) (NT 2048 f β) := by
  intro r c
  pointwise [k1_pay6]
  exact k1_pay3_is hh hb r c

end fwd

/-! ## The backward body -/

section bwd
variable {y : FVec Ideal S512x2048 .bf16} {a : FVec Ideal S1024x2048 .bf16} {g u : FVec Ideal S512x1024 .bf16} {w α G U : ℕ → ℕ → ℝ}

theorem k3_pay1_is (hy : Is y w) (ha : Is a α) : Is (k3_pay1 y a) (NT 2048 w α) := by
  intro r c
  pointwise [k3_pay1]
  simp only [hy _ _, ha _ _, ← EReal.coe_mul, coe_sum, NT]

theorem k3_pay2_is (hg : Is g G) : Is (k3_pay2 g) G := by
  intro r c
  pointwise [k3_pay2]
  exact hg r c

theorem k3_pay3_is (hg : Is g G) : Is (k3_pay3 g) fun i j => squash (G i j) := by
  intro r c
  pointwise [k3_pay3]
  simp only [k3_pay2_is hg _ _, zero_sub_coe, Ideal.exp_coe, one_add_coe, one_div_coe (one_add_exp _), squash]

theorem k3_pay4_is (hy : Is y w) (ha : Is a α) (hg : Is g G) (hu : Is u U) : Is (k3_pay4 y a g u) (dgate (NT 2048 w α) G U) := by
  intro r c
  pointwise [k3_pay4]
  simp only [k3_pay1_is hy ha _ _, k3_pay2_is hg _ _, k3_pay3_is hg _ _, hu _ _, one_sub_coe, ← EReal.coe_mul, one_add_coe]
  rfl

theorem k3_pay5_is (hy : Is y w) (ha : Is a α) (hg : Is g G) : Is (k3_pay5 y a g) (dvalue (NT 2048 w α) G) := by
  intro r c
  pointwise [k3_pay5]
  simp only [k3_pay1_is hy ha _ _, k3_pay2_is hg _ _, k3_pay3_is hg _ _, ← EReal.coe_mul]
  rfl

end bwd

end Cert.Mlp
-- ==== Proof.Cols.lean ====
/- The buffers of the loops head by head: what a tile or a page reads, and what stays after a store. -/
module

public import proofs.«01_k».proof.Proof.Lift

@[expose] public section

set_option maxRecDepth 16384
set_option maxHeartbeats 200000

noncomputable section

namespace Cert.KernelIdeal.Attn

open Idealize.ShloMosaic Idealize.ShloMosaic.TcCoe
open Cert.KernelIdeal.Gen
open VecWindow (put)

/-- The columns of head `h` of a buffer of rows hold the real numbers `f`, on the rows below `n`. -/
def ColTo (n : ℕ) (h : Fin 2) (x : S2048x256.Idx → EReal) (f : ℕ → ℕ → ℝ) : Prop :=
  ∀ (r : Fin 2048) (d : Fin 128), r.val < n → x (ix2 r ⟨128 * h.val + d.val, by omega⟩) = ((f r.val d.val : ℝ) : EReal)
/-- The same on all rows. -/
def Col (h : Fin 2) (x : S2048x256.Idx → EReal) (f : ℕ → ℕ → ℝ) : Prop := ColTo 2048 h x f

/-- The page of key tile `K` of head `h` holds the real numbers `f`. -/
def Pg (h : Fin 2) (K : ℕ) (x : S16x256x256.Idx → EReal) (f : ℕ → ℕ → ℝ) : Prop :=
  ∀ (hK : K < 8) (a c : Fin 256), x (ix3 ⟨8 * h.val + K, by omega⟩ a c) = ((f a.val c.val : ℝ) : EReal)

theorem ColTo.congr {n : ℕ} {h : Fin 2} {x : S2048x256.Idx → EReal} {f g : ℕ → ℕ → ℝ} (hx : ColTo n h x f)
    (e : ∀ r < n, ∀ d < 128, f r d = g r d) : ColTo n h x g :=
  fun r d hr => (hx r d hr).trans (congrArg _ (e r.val hr d.val d.isLt))

theorem Pg.congr {h : Fin 2} {K : ℕ} {x : S16x256x256.Idx → EReal} {f g : ℕ → ℕ → ℝ} (hx : Pg h K x f)
    (e : ∀ a < 256, ∀ c < 256, f a c = g a c) : Pg h K x g :=
  fun hK a c => (hx hK a c).trans (congrArg _ (e a.val a.isLt c.val c.isLt))

theorem tile_is {h : Fin 2} {x : FVec Ideal S2048x256 .f32} {f : ℕ → ℕ → ℝ} (hx : Col h x f) {off : Fin 2 → ℕ}
    (inb : ∀ a, off a + S256x128.size a ≤ S2048x256.size a) {b : ℕ} (e : off = ![b, 128 * h.val]) :
    Is (φ := .f32) (tile (F := Ideal) (e := .f32) x off inb) fun a d => f (b + a) d := by
  subst e
  intro a d
  have hb : b + 256 ≤ 2048 := inb 0
  have := hx ⟨b + a.val, by omega⟩ d (by show b + a.val < 2048; omega)
  rw [← this]
  pointwise [tile]

theorem tile_is16 {h : Fin 2} {x : FVec Ideal S2048x256 .bf16} {f : ℕ → ℕ → ℝ} (hx : Col h x f) {off : Fin 2 → ℕ}
    (inb : ∀ a, off a + S256x128.size a ≤ S2048x256.size a) {b : ℕ} (e : off = ![b, 128 * h.val]) :
    Is (φ := .bf16) (tile (F := Ideal) (e := .bf16) x off inb) fun a d => f (b + a) d := by
  subst e
  intro a d
  have hb : b + 256 ≤ 2048 := inb 0
  have := hx ⟨b + a.val, by omega⟩ d (by show b + a.val < 2048; omega)
  rw [← this]
  pointwise [tile]

theorem page_is {h : Fin 2} {K : ℕ} {x : FVec Ideal S16x256x256 .f32} {f : ℕ → ℕ → ℝ} (hx : Pg h K x f) (hK : K < 8) {off : Fin 3 → ℕ}
    (inb : ∀ a, off a + S1x256x256.size a ≤ S16x256x256.size a) (e : off = ![8 * h.val + K, 0, 0]) :
    Is1 (φ := .f32) (page (F := Ideal) (e := .f32) x off inb) f := by
  subst e
  intro a c
  rw [← hx hK a c]
  pointwise [page]

theorem setTile_to {n : ℕ} {h : Fin 2} {x : FVec Ideal S2048x256 .f32} {w : FVec Ideal S256x128 .f32} {f g : ℕ → ℕ → ℝ} {b : ℕ}
    (hx : ColTo b h x f) (hw : Is w g) {off : Fin 2 → ℕ} (e : off = ![b, 128 * h.val]) (hn : n ≤ b + 256) :
    ColTo n h (setTile (F := Ideal) (e := .f32) x off w) fun r d => if b ≤ r then g (r - b) d else f r d := by
  subst e
  intro r d hr
  beta_reduce
  by_cases hb : b ≤ r.val
  · rw [if_pos hb, ← hw ⟨r.val - b, by omega⟩ d]
    unfold setTile put
    rw [dif_pos (by
      intro a
      match a with
      | 0 => exact ⟨hb, show r.val < b + 256 by omega⟩
      | 1 => exact ⟨show 128 * h.val ≤ 128 * h.val + d.val by omega, show 128 * h.val + d.val < 128 * h.val + 128 by omega⟩)]
    congr 1
    funext a
    match a with
    | 0 => rfl
    | 1 => exact Fin.ext (show 128 * h.val + d.val - 128 * h.val = d.val by omega)
  · rw [if_neg hb, ← hx r d (by omega)]
    unfold setTile put
    rw [dif_neg (fun hall => hb (hall 0).1)]

theorem setTile_col {h : Fin 2} {x : FVec Ideal S2048x256 .f32} {w : FVec Ideal S256x128 .f32} {f g : ℕ → ℕ → ℝ} {b : ℕ}
    (hx : Col h x f) (hw : Is w g) {off : Fin 2 → ℕ} (e : off = ![b, 128 * h.val]) :
    Col h (setTile (F := Ideal) (e := .f32) x off w) fun r d => if b ≤ r ∧ r < b + 256 then g (r - b) d else f r d := by
  subst e
  intro r d hr
  beta_reduce
  by_cases hb : b ≤ r.val ∧ r.val < b + 256
  · rw [if_pos hb, ← hw ⟨r.val - b, by omega⟩ d]
    unfold setTile put
    rw [dif_pos (by
      intro a
      match a with
      | 0 => exact ⟨hb.1, hb.2⟩
      | 1 => exact ⟨show 128 * h.val ≤ 128 * h.val + d.val by omega, show 128 * h.val + d.val < 128 * h.val + 128 by omega⟩)]
    congr 1
    funext a
    match a with
    | 0 => rfl
    | 1 => exact Fin.ext (show 128 * h.val + d.val - 128 * h.val = d.val by omega)
  · rw [if_neg hb, ← hx r d (by omega)]
    unfold setTile put
    rw [dif_neg (fun hall => hb (hall 0))]

theorem setTile_other {n : ℕ} {h h' : Fin 2} (hne : h ≠ h') {x : FVec Ideal S2048x256 .f32} {w : FVec Ideal S256x128 .f32} {f : ℕ → ℕ → ℝ} {b : ℕ}
    (hx : ColTo n h x f) {off : Fin 2 → ℕ} (e : off = ![b, 128 * h'.val]) :
    ColTo n h (setTile (F := Ideal) (e := .f32) x off w) f := by
  subst e
  intro r d hr
  beta_reduce
  rw [← hx r d hr]
  unfold setTile put
  refine dif_neg fun hall => hne ?_
  have h1 : 128 * h'.val ≤ 128 * h.val + d.val ∧ 128 * h.val + d.val < 128 * h'.val + 128 := hall 1
  exact Fin.ext (by omega)

theorem setPage_same {h : Fin 2} {K : ℕ} {x : FVec Ideal S16x256x256 .f32} {w : FVec Ideal S1x256x256 .f32} {g : ℕ → ℕ → ℝ}
    (hw : Is1 w g) {off : Fin 3 → ℕ} (e : off = ![8 * h.val + K, 0, 0]) :
    Pg h K (setPage (F := Ideal) (e := .f32) x off w) g := by
  subst e
  intro hK a c
  rw [← hw a c]
  unfold setPage put
  rw [dif_pos (by
    intro i
    match i with
    | 0 => exact ⟨Nat.le_refl _, Nat.lt_succ_self _⟩
    | 1 => exact ⟨Nat.zero_le _, show a.val < 0 + 256 by omega⟩
    | 2 => exact ⟨Nat.zero_le _, show c.val < 0 + 256 by omega⟩)]
  congr 1
  funext i
  match i with
  | 0 => exact Fin.ext (show 8 * h.val + K - (8 * h.val + K) = 0 by omega)
  | 1 => rfl
  | 2 => rfl

theorem setPage_other {h h' : Fin 2} {K K' : ℕ} (hne : h ≠ h' ∨ K ≠ K') (hK' : K' < 8) {x : FVec Ideal S16x256x256 .f32} {w : FVec Ideal S1x256x256 .f32} {f : ℕ → ℕ → ℝ}
    (hx : Pg h K x f) {off : Fin 3 → ℕ} (e : off = ![8 * h'.val + K', 0, 0]) :
    Pg h K (setPage (F := Ideal) (e := .f32) x off w) f := by
  subst e
  intro hK a c
  rw [← hx hK a c]
  unfold setPage put
  refine dif_neg fun hall => ?_
  have h1 : 8 * h'.val + K' ≤ 8 * h.val + K ∧ 8 * h.val + K < 8 * h'.val + K' + 1 := hall 0
  rcases hne with hne | hne
  · exact hne (Fin.ext (by omega))
  · omega

end Cert.KernelIdeal.Attn
-- ==== Proof.Pays.lean ====
/- What the payloads of the loops compute on real numbers. -/
module

public import proofs.«01_k».proof.Proof.Lift

@[expose] public section

set_option maxRecDepth 16384
set_option maxHeartbeats 200000

noncomputable section

namespace Cert.KernelIdeal.Attn

open Idealize.ShloMosaic Idealize.ShloMosaic.TcCoe
open Cert.KernelIdeal.Gen

/-! ## The masks -/

theorem toInt_small {a : ℕ} (h : a < 256) : (BitVec.ofNat 32 a).toInt = (a : ℤ) := by
  rw [BitVec.toInt_eq_toNat_of_lt (by rw [BitVec.toNat_ofNat]; omega), BitVec.toNat_ofNat]
  omega

theorem slt_small {a c : ℕ} (ha : a < 256) (hc : c < 256) :
    IntOp.cmpi .slt (BitVec.ofNat 32 a) (BitVec.ofNat 32 c) = if a < c then 1#1 else 0#1 := by
  have h : (BitVec.ofNat 32 a).slt (BitVec.ofNat 32 c) = decide (a < c) := by
    rw [BitVec.slt, toInt_small ha, toInt_small hc]; simp
  show BitVec.ofBool ((BitVec.ofNat 32 a).slt (BitVec.ofNat 32 c)) = _
  rw [h]
  by_cases h : a < c <;> simp [h]

theorem sgt_small {a c : ℕ} (ha : a < 256) (hc : c < 256) :
    IntOp.cmpi .sgt (BitVec.ofNat 32 a) (BitVec.ofNat 32 c) = if c < a then 1#1 else 0#1 := slt_small hc ha

theorem float_bit (p : Prop) [Decidable p] :
    FloatOps.sitofp (F := Ideal) FTy.f32 (BitVec.setWidth 32 (if p then 1#1 else 0#1)) = ((if p then 1 else 0 : ℝ) : EReal) := by
  show (((BitVec.setWidth 32 (if p then 1#1 else 0#1)).toInt : ℝ) : EReal) = _
  by_cases h : p <;> simp [h]

theorem pay126_is (a c : Fin 256) : k0_pay126 (ix2 a c) = if c.val < a.val then 1#1 else 0#1 := by
  pointwise [k0_pay126]
  exact slt_small c.isLt a.isLt

theorem pay124_is : Is (k0_pay124 (F := Ideal)) fun a c => if c < a % 256 then 1 else 0 := by
  intro a c
  have := a.isLt
  pointwise [k0_pay124]
  by_cases h : a.val < 256
  · rw [dif_pos h, sgt_small h c.isLt, float_bit, Nat.mod_eq_of_lt h]
  · rw [dif_neg h, sgt_small (by omega) c.isLt, float_bit, (by omega : a.val % 256 = a.val - 256)]

theorem pay125_is : Is (k0_pay125 (F := Ideal)) fun a c => if a % 256 < c then 1 else 0 := by
  intro a c
  have := a.isLt
  pointwise [k0_pay125]
  by_cases h : a.val < 256
  · rw [dif_pos h, slt_small h c.isLt, float_bit, Nat.mod_eq_of_lt h]
  · rw [dif_neg h, slt_small (by omega) c.isLt, float_bit, (by omega : a.val % 256 = a.val - 256)]

/-! ## The first walk -/

theorem pay3_is {x : FVec Ideal S256x128 .bf16} {y : FVec Ideal S256x128 .bf16} {f g : ℕ → ℕ → ℝ} (hx : Is x f) (hy : Is y g) :
    Is (k0_pay3 x y) fun a c => ∑ d : Fin 128, f a d * g c d := by
  intro a c
  pointwise [k0_pay3]
  simp only [hx _ _, hy _ _, ← EReal.coe_mul, coe_sum]

theorem pay5_is {z : FVec Ideal S256x256 .f32} {f : ℕ → ℕ → ℝ} (hz : Is z f) : Is (k0_pay5 z) fun a c => lsig (f a c) := by
  intro a c
  pointwise [k0_pay5, k0_pay4]
  simp only [hz _ _, absf_coe, zero_sub_coe, Ideal.exp_coe, one_add_coe, log_one_add_exp, min_zero_coe, ← EReal.coe_sub, lsig]

theorem pay6_is {z : FVec Ideal S256x256 .f32} {f : ℕ → ℕ → ℝ} (hz : Is z f) : Is (k0_pay6 z) fun a c => lsigm (f a c) := by
  intro a c
  pointwise [k0_pay6, k0_pay4]
  simp only [hz _ _, absf_coe, zero_sub_coe, Ideal.exp_coe, one_add_coe, log_one_add_exp, max_zero_coe, ← EReal.coe_sub, lsigm]

theorem pay7_is {acc : FVec Ideal S256x1 .f32} {z : FVec Ideal S256x256 .f32} {f s : ℕ → ℕ → ℝ}
    (ha : Is acc s) (hz : Is z f) :
    Is (k0_pay7 k0_pay124 acc z) fun a c => Real.exp (lsig (f a c) + (∑ k : Fin 256, lsigm (f a k) * if c < k.val then 1 else 0) + s a 0) := by
  intro a c
  have h5 := pay5_is hz
  have h6 := pay6_is hz
  pointwise [k0_pay7]
  simp only [h5 _ _, h6 _ _, pay124_is _ _, ha _ _, ← EReal.coe_mul, ← EReal.coe_sub, coe_sum, ← EReal.coe_add, Ideal.exp_coe, sub_self, zero_mul,
    Finset.sum_const_zero, add_zero, Fin.val_zero, Nat.mod_eq_of_lt (Fin.isLt _)]

theorem pay9_is {x : FVec Ideal S256x256 .f32} {f : ℕ → ℕ → ℝ} (hx : Is x f) : Is1 (k0_pay9 x) f := by
  intro a c
  pointwise [k0_pay9]
  exact hx a c

theorem pay8_is {acc : FVec Ideal S256x1 .f32} {z : FVec Ideal S256x256 .f32} {o v : FVec Ideal S256x128 .bf16} {w f g : ℕ → ℕ → ℝ}
    (hw : Is (k0_pay7 k0_pay124 acc z) w) (ho : Is o f) (hv : Is v g) :
    Is (k0_pay8 k0_pay124 o acc z v) fun a c => w a c * ∑ d : Fin 128, f a d * g c d := by
  intro a c
  pointwise [k0_pay8]
  simp only [hw _ _, ho _ _, hv _ _, ← EReal.coe_mul, coe_sum]

theorem pay10_is {x : FVec Ideal S256x256 .f32} {f : ℕ → ℕ → ℝ} (hx : Is x f) : Is1 (k0_pay10 x) fun a c => Real.exp (f a c) := by
  intro a c
  pointwise [k0_pay10]
  simp only [hx _ _, Ideal.exp_coe]

theorem pay11_is {o : FVec Ideal S256x128 .bf16} {x : FVec Ideal S256x256 .f32} {y : FVec Ideal S256x128 .f32} {w f g : ℕ → ℕ → ℝ}
    (hw : Is x w) (ho : Is o f) (hy : Is y g) :
    Is (k0_pay11 o x y) fun c d => g c d + ∑ a : Fin 256, w a c * f a d := by
  intro a c
  pointwise [k0_pay11]
  simp only [hw _ _, ho _ _, hy _ _, ← EReal.coe_mul, coe_sum, ← EReal.coe_add]

theorem pay12_is {acc : FVec Ideal S256x1 .f32} {x : FVec Ideal S256x256 .f32} {s f : ℕ → ℕ → ℝ} (ha : Is acc s) (hx : Is x f) :
    Is (k0_pay12 acc x) fun a _ => s a 0 + ∑ k : Fin 256, f a k := by
  intro a c
  obtain rfl : c = 0 := Subsingleton.elim _ _
  pointwise [k0_pay12]
  simp only [ha _ _, hx _ _, coe_sum, ← EReal.coe_add, Fin.val_zero]

/-! ## The diagonal tile of the first walk -/

theorem pay75_is {z : FVec Ideal S256x256 .f32} {f : ℕ → ℕ → ℝ} (hz : Is z f) : Is (k0_pay75 z) fun a c => lsig (f a c) := by
  intro a c
  pointwise [k0_pay75, k0_pay74]
  simp only [hz _ _, absf_coe, zero_sub_coe, Ideal.exp_coe, one_add_coe, log_one_add_exp, min_zero_coe, ← EReal.coe_sub, lsig]

theorem pay76_is {z : FVec Ideal S256x256 .f32} {f : ℕ → ℕ → ℝ} (hz : Is z f) :
    Is (k0_pay76 k0_pay126 z) fun a c => if c < a then lsigm (f a c) else 0 := by
  intro a c
  pointwise [k0_pay76, k0_pay74]
  simp only [hz _ _, absf_coe, zero_sub_coe, Ideal.exp_coe, one_add_coe, log_one_add_exp, max_zero_coe, ← EReal.coe_sub, lsigm, pay126_is, select_coe_zero]

theorem pay79_is {acc : FVec Ideal S256x1 .f32} {z : FVec Ideal S256x256 .f32} {f s : ℕ → ℕ → ℝ} (ha : Is acc s) (hz : Is z f) :
    Is (k0_pay79 k0_pay126 (k0_pay77 k0_pay124 k0_pay126 acc z) k0_pay78) fun a c => if c < a then
      Real.exp (lsig (f a c) + (∑ k : Fin 256, (if k.val < a then lsigm (f a k) else 0) * if c < k.val then 1 else 0) + s a 0) else 0 := by
  intro a c
  have h5 := pay75_is hz
  have h6 := pay76_is hz
  pointwise [k0_pay79, k0_pay77, k0_pay78]
  simp only [h5 _ _, h6 _ _, pay124_is _ _, ha _ _, ← EReal.coe_mul, ← EReal.coe_sub, coe_sum, ← EReal.coe_add, Ideal.exp_coe, sub_self, zero_mul,
    Finset.sum_const_zero, add_zero, Fin.val_zero, Nat.mod_eq_of_lt (Fin.isLt _), pay126_is, select_coe_zero]

theorem pay80_is {x y : FVec Ideal S256x256 .f32} {o v : FVec Ideal S256x128 .bf16} {w f g : ℕ → ℕ → ℝ}
    (hw : Is (k0_pay79 k0_pay126 x y) w) (ho : Is o f) (hv : Is v g) :
    Is1 (k0_pay80 k0_pay126 o x y v) fun a c => w a c * ∑ d : Fin 128, f a d * g c d := by
  intro a c
  pointwise [k0_pay80]
  simp only [hw _ _, ho _ _, hv _ _, ← EReal.coe_mul, coe_sum]

theorem pay82_is {x y : FVec Ideal S256x256 .f32} {o : FVec Ideal S256x128 .bf16} {v : FVec Ideal S256x128 .f32} {w f g : ℕ → ℕ → ℝ}
    (hw : Is (k0_pay79 k0_pay126 x y) w) (ho : Is o f) (hv : Is v g) :
    Is (k0_pay82 k0_pay126 o x y v) fun c d => g c d + ∑ a : Fin 256, w a c * f a d := by
  intro a c
  pointwise [k0_pay82]
  simp only [hw _ _, ho _ _, hv _ _, ← EReal.coe_mul, coe_sum, ← EReal.coe_add]

theorem pay59_is : Is (k0_pay59 (F := Ideal)) fun _ _ => 0 := by
  intro a c
  pointwise [k0_pay59]
  exact EReal.coe_zero.symm

/-! ## The second walk -/

theorem pay33_is {g : FVec Ideal S1x256x256 .f32} {f : ℕ → ℕ → ℝ} (hg : Is1 g f) : Is (k0_pay33 g) f := by
  intro a c
  pointwise [k0_pay33]
  exact hg a c

theorem pay34_is {g : FVec Ideal S1x256x256 .f32} {f : ℕ → ℕ → ℝ} (hg : Is1 g f) :
    Is (k0_pay34 k0_pay125 g) fun a c => ∑ k : Fin 256, f a k * if k.val < c then 1 else 0 := by
  intro a c
  pointwise [k0_pay34]
  simp only [hg _ _, pay125_is _ _, ← EReal.coe_mul, ← EReal.coe_sub, coe_sum, ← EReal.coe_add, sub_self, zero_mul,
    Finset.sum_const_zero, add_zero, Nat.mod_eq_of_lt (Fin.isLt _)]

theorem pay35_is {acc : FVec Ideal S256x1 .f32} {p : FVec Ideal S256x256 .f32} {g b : FVec Ideal S1x256x256 .f32} {s u f β : ℕ → ℕ → ℝ}
    (ha : Is acc s) (hp : Is p u) (hg : Is1 g f) (hb : Is1 b β) :
    Is (k0_pay35 acc p g b) fun a c => f a c - (f a c + u a c + s a 0) * β a c := by
  intro a c
  pointwise [k0_pay35, k0_pay33]
  simp only [ha _ _, hp _ _, hg _ _, hb _ _, ← EReal.coe_mul, ← EReal.coe_sub, ← EReal.coe_add, Fin.val_zero]

theorem pay36_is {acc : FVec Ideal S256x1 .f32} {p : FVec Ideal S256x256 .f32} {g b : FVec Ideal S1x256x256 .f32} {q : FVec Ideal S256x128 .f32}
    {k : FVec Ideal S256x128 .bf16} {w f h : ℕ → ℕ → ℝ} (hw : Is (k0_pay35 acc p g b) w) (hq : Is q f) (hk : Is k h) :
    Is (k0_pay36 q acc p g b k) fun a d => f a d + ∑ c : Fin 256, w a c * h c d := by
  intro a c
  pointwise [k0_pay36]
  simp only [hw _ _, hq _ _, hk _ _, ← EReal.coe_mul, coe_sum, ← EReal.coe_add]

theorem pay37_is {acc : FVec Ideal S256x1 .f32} {p : FVec Ideal S256x256 .f32} {g b : FVec Ideal S1x256x256 .f32} {k : FVec Ideal S256x128 .f32}
    {q : FVec Ideal S256x128 .bf16} {w f h : ℕ → ℕ → ℝ} (hw : Is (k0_pay35 acc p g b) w) (hq : Is q f) (hk : Is k h) :
    Is (k0_pay37 q acc p g b k) fun c d => h c d + ∑ a : Fin 256, w a c * f a d := by
  intro a c
  pointwise [k0_pay37]
  simp only [hw _ _, hq _ _, hk _ _, ← EReal.coe_mul, coe_sum, ← EReal.coe_add]

theorem pay38_is {acc : FVec Ideal S256x1 .f32} {x : FVec Ideal S256x256 .f32} {s f : ℕ → ℕ → ℝ} (ha : Is acc s) (hx : Is x f) :
    Is (k0_pay38 acc x) fun a _ => s a 0 + ∑ k : Fin 256, f a k := pay12_is ha hx

theorem pay96_is : Is (k0_pay96 (F := Ideal)) fun _ _ => 0 := by
  intro a c
  pointwise [k0_pay96]
  exact EReal.coe_zero.symm

/-! ## The diagonal tile of the second walk -/

theorem pay108_is {acc : FVec Ideal S256x1 .f32} {p : FVec Ideal S256x256 .f32} {g b : FVec Ideal S1x256x256 .f32} {s u f β : ℕ → ℕ → ℝ}
    (ha : Is acc s) (hp : Is p u) (hg : Is1 g f) (hb : Is1 b β) :
    Is (k0_pay108 k0_pay126 acc p g b) fun a c => if c < a then f a c - (f a c + u a c + s a 0) * β a c else 0 := by
  intro a c
  pointwise [k0_pay108]
  simp only [ha _ _, hp _ _, hg _ _, hb _ _, ← EReal.coe_mul, ← EReal.coe_sub, ← EReal.coe_add, Fin.val_zero, pay126_is, select_coe_zero]

theorem pay109_is {acc : FVec Ideal S256x1 .f32} {p : FVec Ideal S256x256 .f32} {g b : FVec Ideal S1x256x256 .f32} {q : FVec Ideal S256x128 .f32}
    {k : FVec Ideal S256x128 .bf16} {w f h : ℕ → ℕ → ℝ} (hw : Is (k0_pay108 k0_pay126 acc p g b) w) (hq : Is q f) (hk : Is k h) :
    Is (k0_pay129 (k0_pay109 k0_pay126 q acc p g b k)) fun a d => f a d + ∑ c : Fin 256, w a c * h c d := by
  intro a c
  pointwise [k0_pay129, k0_pay109]
  simp only [hw _ _, hq _ _, hk _ _, ← EReal.coe_mul, coe_sum, ← EReal.coe_add]

theorem pay110_is {acc : FVec Ideal S256x1 .f32} {p : FVec Ideal S256x256 .f32} {g b : FVec Ideal S1x256x256 .f32} {k : FVec Ideal S256x128 .f32}
    {q : FVec Ideal S256x128 .bf16} {w f h : ℕ → ℕ → ℝ} (hw : Is (k0_pay108 k0_pay126 acc p g b) w) (hq : Is q f) (hk : Is k h) :
    Is (k0_pay127 (k0_pay110 k0_pay126 q acc p g b k)) fun c d => h c d + ∑ a : Fin 256, w a c * f a d := by
  intro a c
  pointwise [k0_pay127, k0_pay110]
  simp only [hw _ _, hq _ _, hk _ _, ← EReal.coe_mul, coe_sum, ← EReal.coe_add]

/-! ## The two heads compute alike -/

section alike
variable {F : FTy → Type} [FloatOps F]

theorem pay13_eq (x y : FVec F S256x128 .bf16) : k0_pay13 x y = k0_pay3 x y := rfl
theorem pay58_eq (x y : FVec F S256x128 .bf16) : k0_pay58 x y = k0_pay3 x y := rfl
theorem pay60_eq (x y : FVec F S256x128 .bf16) : k0_pay60 x y = k0_pay3 x y := rfl
theorem pay61_eq (x y : FVec F S256x128 .bf16) : k0_pay61 x y = k0_pay3 x y := rfl
theorem pay73_eq (x y : FVec F S256x128 .bf16) : k0_pay73 x y = k0_pay3 x y := rfl
theorem pay72_eq (a : FVec F S256x1 .f32) (m) (q k : FVec F S256x128 .bf16) :
    k0_pay72 a (k0_pay66 m (k0_pay3 q k) (k0_pay62 q k) k0_pay63) = k0_pay12 a (k0_pay76 m (k0_pay3 q k)) := rfl
theorem pay83_eq (a : FVec F S256x1 .f32) (x) : k0_pay83 a x = k0_pay12 a x := rfl
theorem pay71_eq (m t a) (o q k : FVec F S256x128 .bf16) (v) :
    k0_pay71 o v (k0_pay70 t m a (k0_pay3 q k) (k0_pay62 q k) k0_pay63) (constant S256x128 .f32 0x00000000#32)
      = k0_pay82 m o (k0_pay77 t m a (k0_pay3 q k)) k0_pay78 v := rfl
theorem pay68_eq (m t a) (o q k : FVec F S256x128 .bf16) (v) :
    k0_pay68 t m o a (k0_pay3 q k) (k0_pay62 q k) k0_pay63 v = k0_pay80 m o (k0_pay77 t m a (k0_pay3 q k)) k0_pay78 v := rfl
theorem pay69_eq (q k : FVec F S256x128 .bf16) : k0_pay69 (k0_pay3 q k) (k0_pay62 q k) k0_pay63 = k0_pay10 (k0_pay75 (k0_pay3 q k)) := rfl
theorem pay81_eq (x : FVec F S256x256 .f32) : k0_pay81 x = k0_pay10 x := rfl
theorem pay57_eq : k0_pay57 (F := F) = k0_pay59 := rfl
theorem pay89_eq (a : FVec F S256x1 .f32) (z) : k0_pay89 a (k0_pay14 z) (k0_pay16 z) k0_pay17 = k0_pay12 a (k0_pay6 z) := rfl
theorem pay88_eq (t a z) (o : FVec F S256x128 .bf16) (v) :
    k0_pay88 t o a (k0_pay14 z) (k0_pay15 z) (k0_pay16 z) k0_pay17 v = k0_pay11 o (k0_pay7 t a z) v := rfl
theorem pay86_eq (t a z) (o : FVec F S256x128 .bf16) (v) :
    k0_pay86 t o a (k0_pay14 z) (k0_pay15 z) (k0_pay16 z) k0_pay17 v = k0_pay9 (k0_pay8 t o a z v) := rfl
theorem pay87_eq (z : FVec F S256x256 .f32) : k0_pay87 (k0_pay15 z) = k0_pay10 (k0_pay5 z) := rfl
theorem pay42_eq (q a p g b) (k : FVec F S256x128 .bf16) : k0_pay42 q a p g b k = k0_pay36 q a p g b k := rfl
theorem pay102_eq (a) (g : FVec F S1x256x256 .f32) : k0_pay102 a (k0_pay44 g) = k0_pay38 a (k0_pay33 g) := rfl
theorem pay40_eq (t) (g : FVec F S1x256x256 .f32) : k0_pay40 t g = k0_pay34 t g := rfl
theorem pay43_eq (q : FVec F S256x128 .bf16) (a p g b k) : k0_pay43 q a p g b k = k0_pay37 q a p g b k := rfl
theorem pay98_eq (t) (g : FVec F S1x256x256 .f32) : k0_pay98 t g = k0_pay34 t g := rfl
theorem pay101_eq (t) (g : FVec F S1x256x256 .f32) : k0_pay101 t g = k0_pay34 t g := rfl
theorem pay97_eq : k0_pay97 (F := F) = k0_pay59 := rfl
theorem pay100_eq : k0_pay100 (F := F) = k0_pay59 := rfl
theorem pay99_eq : k0_pay99 (F := F) = k0_pay96 := rfl
theorem pay106_eq (m q a p g b) (k : FVec F S256x128 .bf16) :
    k0_pay128 (k0_pay106 m q (k0_pay104 a p g b) (Scalar.ofBits (F := F) .f32 0x00000000#32) k) = k0_pay129 (k0_pay109 m q a p g b k) := rfl
theorem pay107_eq (m a p g b) (q : FVec F S256x128 .bf16) (k) :
    k0_pay107 m q (k0_pay104 a p g b) (Scalar.ofBits (F := F) .f32 0x00000000#32) k = k0_pay127 (k0_pay110 m q a p g b k) := rfl

end alike

end Cert.KernelIdeal.Attn
-- ==== Proof.Math.lean ====
/- The attention of one head and its gradient over the real numbers, and the sums that the tiles make. -/
module

public import proofs.«01_k».proof.Proof.Lift

@[expose] public section

set_option maxHeartbeats 200000

noncomputable section

namespace Cert.KernelIdeal.Attn

/-! ## One head -/

section head
variable (q k v o : ℕ → ℕ → ℝ)

/-- The scores. -/
def sc (i j : ℕ) : ℝ := ∑ d : Fin 128, q i d * k j d
/-- The weight of key `j` for query `i`: its sigmoid times one minus the sigmoids of the keys between them. -/
def wt (i j : ℕ) : ℝ := if j < i then Real.exp (lsig (sc q k i j) + ∑ x ∈ Finset.Ico (j + 1) i, lsigm (sc q k i x)) else 0
/-- The gradient of the weight, times the weight. -/
def gw (i j : ℕ) : ℝ := wt q k i j * ∑ d : Fin 128, o i d * v j d
/-- The sigmoid of the score. -/
def sg (i j : ℕ) : ℝ := Real.exp (lsig (sc q k i j))
/-- The gradient of the score. -/
def ds (i j : ℕ) : ℝ := if j < i then gw q k v o i j - (gw q k v o i j + ∑ x ∈ Finset.range j, gw q k v o i x) * sg q k i j else 0

/-- The gradients of the values, the keys and the queries, over the first `n` queries or keys. -/
def gv (n j d : ℕ) : ℝ := ∑ i ∈ Finset.range n, wt q k i j * o i d
def gk (n j d : ℕ) : ℝ := ∑ i ∈ Finset.range n, ds q k v o i j * q i d
def gq (n i d : ℕ) : ℝ := ∑ j ∈ Finset.range n, ds q k v o i j * k j d

theorem wt_of_le {i j : ℕ} (h : i ≤ j) : wt q k i j = 0 := if_neg (by omega)
theorem ds_of_le {i j : ℕ} (h : i ≤ j) : ds q k v o i j = 0 := if_neg (by omega)

/-- The queries before a key have no part in its gradients. -/
theorem gv_le {n m j d : ℕ} (h : n ≤ m) (hj : m ≤ j + 1) : gv q k o m j d = gv q k o n j d := by
  refine (Finset.sum_subset (Finset.range_mono h) fun i hi hn => ?_).symm
  rw [Finset.mem_range] at hi
  rw [wt_of_le q k (by omega), zero_mul]
theorem gk_le {n m j d : ℕ} (h : n ≤ m) (hj : m ≤ j + 1) : gk q k v o m j d = gk q k v o n j d := by
  refine (Finset.sum_subset (Finset.range_mono h) fun i hi hn => ?_).symm
  rw [Finset.mem_range] at hi
  rw [ds_of_le q k v o (by omega), zero_mul]
/-- The keys after a query have no part in its gradient. -/
theorem gq_le {n m i d : ℕ} (h : n ≤ m) (hi : i ≤ n) : gq q k v o m i d = gq q k v o n i d := by
  refine (Finset.sum_subset (Finset.range_mono h) fun j hj hn => ?_).symm
  rw [Finset.mem_range] at hn
  rw [ds_of_le q k v o (by omega), zero_mul]

end head

/-! ## Sums over a tile -/

theorem tile_sum (f : ℕ → ℝ) (b : ℕ) : ∑ k : Fin 256, f (b + k) = ∑ j ∈ Finset.Ico b (b + 256), f j := by
  rw [Fin.sum_univ_eq_sum_range (fun k => f (b + k)), Finset.sum_Ico_eq_sum_range, Nat.add_sub_cancel_left]

theorem tile_sum_range (f : ℕ → ℝ) (b : ℕ) : ∑ j ∈ Finset.range b, f j + ∑ k : Fin 256, f (b + k) = ∑ j ∈ Finset.range (b + 256), f j := by
  rw [tile_sum, Finset.range_eq_Ico, Finset.range_eq_Ico, Finset.sum_Ico_consecutive _ (Nat.zero_le _) (by omega)]

theorem tile_after (f : ℕ → ℝ) (b c : ℕ) (hc : c < 256) :
    ∑ k : Fin 256, f (b + k) * (if c < k.val then 1 else 0) = ∑ j ∈ Finset.Ico (b + c + 1) (b + 256), f j := by
  have h := tile_sum (fun j => if b + c < j then f j else 0) b
  have e : ∀ k : Fin 256, (fun j => if b + c < j then f j else 0) (b + k.val) = f (b + k) * (if c < k.val then 1 else 0) := by
    intro k
    by_cases hk : c < k.val <;> simp [hk]
  rw [Finset.sum_congr rfl fun k _ => e k] at h
  rw [h, ← Finset.sum_filter]
  refine Finset.sum_congr ?_ fun _ _ => rfl
  ext j; simp only [Finset.mem_filter, Finset.mem_Ico]; omega

theorem tile_before (f : ℕ → ℝ) (b c : ℕ) (hc : c < 256) :
    ∑ k : Fin 256, f (b + k) * (if k.val < c then 1 else 0) = ∑ j ∈ Finset.Ico b (b + c), f j := by
  have h := tile_sum (fun j => if j < b + c then f j else 0) b
  have e : ∀ k : Fin 256, (fun j => if j < b + c then f j else 0) (b + k.val) = f (b + k) * (if k.val < c then 1 else 0) := by
    intro k
    by_cases hk : k.val < c <;> simp [hk]
  rw [Finset.sum_congr rfl fun k _ => e k] at h
  rw [h, ← Finset.sum_filter]
  refine Finset.sum_congr ?_ fun _ _ => rfl
  ext j; simp only [Finset.mem_filter, Finset.mem_Ico]; omega

theorem tile_masked (f : ℕ → ℝ) (b a : ℕ) (ha : a < 256) :
    ∑ k : Fin 256, (if k.val < a then f (b + k) else 0) = ∑ j ∈ Finset.Ico b (b + a), f j := by
  rw [← tile_before f b a ha]
  exact Finset.sum_congr rfl fun k _ => by by_cases hk : k.val < a <;> simp [hk]

theorem tile_masked_after (f : ℕ → ℝ) (b a c : ℕ) (ha : a < 256) (hc : c < 256) :
    ∑ k : Fin 256, (if k.val < a then f (b + k) else 0) * (if c < k.val then 1 else 0) = ∑ j ∈ Finset.Ico (b + c + 1) (b + a), f j := by
  have h := tile_after (fun j => if j < b + a then f j else 0) b c hc
  have e : ∀ k : Fin 256, (fun j => if j < b + a then f j else 0) (b + k.val) = if k.val < a then f (b + k) else 0 := by
    intro k
    by_cases hk : k.val < a <;> simp [hk]
  simp only [e] at h
  rw [h, ← Finset.sum_filter]
  refine Finset.sum_congr ?_ fun _ _ => rfl
  ext j; simp only [Finset.mem_filter, Finset.mem_Ico]; omega

/-! ## The tiles of the two walks -/

section tiles
variable (q k v o : ℕ → ℕ → ℝ)

/-- What the first walk carries: the logarithm of the discount from key `b` to the query. -/
def cr (b i : ℕ) : ℝ := ∑ x ∈ Finset.Ico b i, lsigm (sc q k i x)
/-- What the second walk carries: the gradients of the weights of the keys before `b`. -/
def pr (b i : ℕ) : ℝ := ∑ x ∈ Finset.range b, gw q k v o i x

theorem cr_diag (b a : ℕ) (ha : a < 256) : ∑ x : Fin 256, (if x.val < a then lsigm (sc q k (b + a) (b + x)) else 0) = cr q k b (b + a) :=
  tile_masked (fun j => lsigm (sc q k (b + a) j)) b a ha

theorem cr_step (b i : ℕ) (h : b + 256 ≤ i) : cr q k (b + 256) i + ∑ x : Fin 256, lsigm (sc q k i (b + x)) = cr q k b i := by
  rw [tile_sum (fun j => lsigm (sc q k i j)), add_comm]
  exact Finset.sum_Ico_consecutive _ (by omega) h

theorem wt_diag (b a c : ℕ) (ha : a < 256) (hc : c < 256) :
    (if c < a then Real.exp (lsig (sc q k (b + a) (b + c)) + (∑ x : Fin 256, (if x.val < a then lsigm (sc q k (b + a) (b + x)) else 0) * if c < x.val then 1 else 0) + 0) else 0)
      = wt q k (b + a) (b + c) := by
  rw [tile_masked_after (fun j => lsigm (sc q k (b + a) j)) b a c ha hc, add_zero, wt]
  by_cases h : c < a
  · rw [if_pos h, if_pos (by omega)]
  · rw [if_neg h, if_neg (by omega)]

theorem wt_tile (b i c : ℕ) (hc : c < 256) (h : b + 256 ≤ i) :
    Real.exp (lsig (sc q k i (b + c)) + (∑ x : Fin 256, lsigm (sc q k i (b + x)) * if c < x.val then 1 else 0) + cr q k (b + 256) i) = wt q k i (b + c) := by
  rw [tile_after (fun j => lsigm (sc q k i j)) b c hc, wt, if_pos (by omega), add_assoc, cr, Finset.sum_Ico_consecutive _ (by omega) h]

theorem gv_step (n j d : ℕ) : gv q k o n j d + ∑ a : Fin 256, wt q k (n + a) j * o (n + a) d = gv q k o (n + 256) j d :=
  tile_sum_range (fun i => wt q k i j * o i d) n
theorem gk_step (n j d : ℕ) : gk q k v o n j d + ∑ a : Fin 256, ds q k v o (n + a) j * q (n + a) d = gk q k v o (n + 256) j d :=
  tile_sum_range (fun i => ds q k v o i j * q i d) n
theorem gq_step (n i d : ℕ) : gq q k v o n i d + ∑ c : Fin 256, ds q k v o i (n + c) * k (n + c) d = gq q k v o (n + 256) i d :=
  tile_sum_range (fun j => ds q k v o i j * k j d) n
theorem pr_step (n i : ℕ) : pr q k v o n i + ∑ c : Fin 256, gw q k v o i (n + c) = pr q k v o (n + 256) i :=
  tile_sum_range (fun j => gw q k v o i j) n

theorem ds_tile (b i c : ℕ) (hc : c < 256) :
    (if b + c < i then gw q k v o i (b + c) - (gw q k v o i (b + c) + (∑ x : Fin 256, gw q k v o i (b + x) * if x.val < c then 1 else 0) + pr q k v o b i) * sg q k i (b + c)
      else 0) = ds q k v o i (b + c) := by
  have e : (∑ x ∈ Finset.Ico b (b + c), gw q k v o i x) + pr q k v o b i = ∑ x ∈ Finset.range (b + c), gw q k v o i x := by
    rw [add_comm, pr, Finset.range_eq_Ico, Finset.range_eq_Ico, Finset.sum_Ico_consecutive _ (Nat.zero_le _) (by omega)]
  rw [tile_before (fun j => gw q k v o i j) b c hc, ds, add_assoc, e]

end tiles

end Cert.KernelIdeal.Attn
-- ==== Proof.DownValue.lean ====
/- The walk towards earlier key tiles, on real numbers. -/
module

public import proofs.«01_k».proof.Proof.Cols
public import proofs.«01_k».proof.Proof.Pays
public import proofs.«01_k».proof.Proof.Math

@[expose] public section

set_option maxRecDepth 16384
set_option maxHeartbeats 200000

noncomputable section

namespace Cert.KernelIdeal.Attn

open Idealize.ShloMosaic Idealize.ShloMosaic.TcCoe
open Cert.KernelIdeal.Gen

/-- What the first walk of query tile `T` has made of head `h` when the key tiles from `T - n` on are done. -/
structure DownInv (h : Fin 2) (q k v o : ℕ → ℕ → ℝ) (T n : ℕ) (a : FVec Ideal S256x1 .f32) (z : FVec Ideal S256x256 .f32)
    (dv : S2048x256.Idx → EReal) (g b : S16x256x256.Idx → EReal) : Prop where
  carry : Is a fun r _ => cr q k (256 * (T - n)) (256 * T + r)
  next : Is z fun r c => sc q k (256 * T + r) (256 * (T - 1 - n) + c)
  dv : Col h dv fun j d => gv q k o (if 256 * (T - n) ≤ j then 256 * T + 256 else 256 * T) j d
  g : ∀ K, T - n ≤ K → K ≤ T → Pg h K g fun r c => gw q k v o (256 * T + r) (256 * K + c)
  b : ∀ K, T - n ≤ K → K ≤ T → Pg h K b fun r c => sg q k (256 * T + r) (256 * K + c)

section step
variable {h : Fin 2} {q k v o : ℕ → ℕ → ℝ} {T n : ℕ} {a : FVec Ideal S256x1 .f32} {z : FVec Ideal S256x256 .f32}
  {dv : S2048x256.Idx → EReal} {g b : S16x256x256.Idx → EReal}

theorem DownInv.wt (I : DownInv h q k v o T n a z dv g b) (hn : n < T) :
    Is (k0_pay7 k0_pay124 a z) fun r c => wt q k (256 * T + r) (256 * (T - 1 - n) + c) := by
  refine (pay7_is I.carry I.next).congr fun r hr c hc => ?_
  have e : 256 * (T - n) = 256 * (T - 1 - n) + 256 := by omega
  rw [e]
  exact wt_tile q k (256 * (T - 1 - n)) (256 * T + r) c hc (by omega)

theorem DownInv.carry' (I : DownInv h q k v o T n a z dv g b) (hn : n < T) :
    Is (k0_pay12 a (k0_pay6 z)) fun r _ => cr q k (256 * (T - (n + 1))) (256 * T + r) := by
  refine (pay12_is I.carry (pay6_is I.next)).congr fun r hr c hc => ?_
  have e : 256 * (T - n) = 256 * (T - 1 - n) + 256 := by omega
  have e' : 256 * (T - (n + 1)) = 256 * (T - 1 - n) := by omega
  rw [e, e']
  exact cr_step q k (256 * (T - 1 - n)) (256 * T + r) (by omega)

theorem next_is {x y : FVec Ideal S256x128 .bf16} {K : ℕ} (hx : Is x fun r d => q (256 * T + r) d) (hy : Is y fun c d => k (256 * K + c) d) :
    Is (k0_pay3 x y) fun r c => sc q k (256 * T + r) (256 * K + c) := pay3_is hx hy

theorem DownInv.dv' (I : DownInv h q k v o T n a z dv g b) (hn : n < T) {x : FVec Ideal S256x128 .bf16} {y : FVec Ideal S256x128 .f32}
    (hx : Is x fun r d => o (256 * T + r) d)
    (hy : Is y fun c d => gv q k o (if 256 * (T - n) ≤ 256 * (T - 1 - n) + c then 256 * T + 256 else 256 * T) (256 * (T - 1 - n) + c) d) :
    Is (k0_pay11 x (k0_pay7 k0_pay124 a z) y) fun c d => gv q k o (256 * T + 256) (256 * (T - 1 - n) + c) d := by
  refine (pay11_is (I.wt hn) hx hy).congr fun c hc d hd => ?_
  beta_reduce
  rw [if_neg (by omega)]
  exact gv_step q k o (256 * T) (256 * (T - 1 - n) + c) d

theorem DownInv.g' (I : DownInv h q k v o T n a z dv g b) (hn : n < T) {x y : FVec Ideal S256x128 .bf16}
    (hx : Is x fun r d => o (256 * T + r) d) (hy : Is y fun c d => v (256 * (T - 1 - n) + c) d) :
    Is1 (k0_pay9 (k0_pay8 k0_pay124 x a z y)) fun r c => gw q k v o (256 * T + r) (256 * (T - 1 - n) + c) :=
  pay9_is (pay8_is (I.wt hn) hx hy)

theorem DownInv.b' (I : DownInv h q k v o T n a z dv g b) :
    Is1 (k0_pay10 (k0_pay5 z)) fun r c => sg q k (256 * T + r) (256 * (T - 1 - n) + c) := pay10_is (pay5_is I.next)

/-- The columns of the gradient of the values after a tile is added. -/
theorem down_col {x : S2048x256.Idx → EReal} (I : Col h x fun j d => gv q k o (if 256 * (T - n) ≤ j then 256 * T + 256 else 256 * T) j d)
    (hn : n < T) {w : FVec Ideal S256x128 .f32}
    (hw : Is w fun c d => gv q k o (256 * T + 256) (256 * (T - 1 - n) + c) d) {off : Fin 2 → ℕ} (e : off = ![256 * (T - 1 - n), 128 * h.val]) :
    Col h (setTile (F := Ideal) (e := .f32) x off w) fun j d => gv q k o (if 256 * (T - (n + 1)) ≤ j then 256 * T + 256 else 256 * T) j d := by
  refine (setTile_col I hw e).congr fun j hj d hd => ?_
  by_cases hb : 256 * (T - 1 - n) ≤ j ∧ j < 256 * (T - 1 - n) + 256
  · rw [if_pos hb, if_pos (by omega)]
    beta_reduce
    rw [show 256 * (T - 1 - n) + (j - 256 * (T - 1 - n)) = j by omega]
  · rw [if_neg hb]
    by_cases hj' : 256 * (T - n) ≤ j
    · rw [if_pos hj', if_pos (by omega)]
    · rw [if_neg hj', if_neg (by omega)]

theorem pages_step {x : S16x256x256.Idx → EReal} {w : FVec Ideal S1x256x256 .f32} {f : ℕ → ℕ → ℕ → ℝ} (hn : n < T) (hT : T < 8)
    (hx : ∀ K, T - n ≤ K → K ≤ T → Pg h K x (f K)) (hw : Is1 w (f (T - 1 - n))) {off : Fin 3 → ℕ} (e : off = ![8 * h.val + (T - 1 - n), 0, 0]) :
    ∀ K, T - (n + 1) ≤ K → K ≤ T → Pg h K (setPage (F := Ideal) (e := .f32) x off w) (f K) := by
  intro K h1 h2
  by_cases hK : K = T - 1 - n
  · subst hK
    exact setPage_same hw e
  · exact setPage_other (.inr hK) (by omega) (hx K (by omega) h2) e

theorem pages_other {x : S16x256x256.Idx → EReal} {w : FVec Ideal S1x256x256 .f32} {f : ℕ → ℕ → ℕ → ℝ} {m K' : ℕ} {h' : Fin 2} (hh : h ≠ h') (hK' : K' < 8)
    (hx : ∀ K, m ≤ K → K ≤ T → Pg h K x (f K)) {off : Fin 3 → ℕ} (e : off = ![8 * h'.val + K', 0, 0]) :
    ∀ K, m ≤ K → K ≤ T → Pg h K (setPage (F := Ideal) (e := .f32) x off w) (f K) :=
  fun K h1 h2 => setPage_other (.inl hh) hK' (hx K h1 h2) e

end step

/-- Both heads. -/
structure DownBoth (q k v o : Fin 2 → ℕ → ℕ → ℝ) (T n : ℕ) (s : DownSt Ideal) : Prop where
  l : DownInv 0 (q 0) (k 0) (v 0) (o 0) T n s.acc.1 s.acc.2.1 s.dv s.g s.b
  r : DownInv 1 (q 1) (k 1) (v 1) (o 1) T n s.acc.2.2.1 s.acc.2.2.2 s.dv s.g s.b

theorem down_step {q k v o : Fin 2 → ℕ → ℕ → ℝ} {x13 x14 : FVec Ideal S2048x256 .bf16} {ql qr ol or' : FVec Ideal S256x128 .bf16}
    {t1 : Fin k0_t1_loop.trips} (t : Fin (k0_t2_loop t1).trips) {s : DownSt Ideal} (hk : ∀ h, Col h x13 (k h)) (hv : ∀ h, Col h x14 (v h))
    (hql : Is ql fun r d => q 0 (256 * t1.val + r) d) (hqr : Is qr fun r d => q 1 (256 * t1.val + r) d)
    (hol : Is ol fun r d => o 0 (256 * t1.val + r) d) (hor : Is or' fun r d => o 1 (256 * t1.val + r) d)
    (I : DownBoth q k v o t1.val t.val s) :
    DownBoth q k v o t1.val (t.val + 1) (downStep k0_pay124 ql qr ol or' x13 x14 t1 t s) := by
  have hT : t1.val < 8 := k0_t1_trips ▸ t1.isLt
  have hn : t.val < t1.val := k0_t2_trips t1 ▸ t.isLt
  have e8l := k0_off8_eq t1 t 0
  have e8r := k0_off8_eq t1 t 1
  refine ⟨⟨I.l.carry' hn, next_is hql (tile_is16 (hk 0) (k0_off6_inb t1 t) (k0_off6_eq t1 t)), ?_, ?_, ?_⟩,
    ⟨?_, ?_, ?_, ?_, ?_⟩⟩
  · exact setTile_other (h := 0) (h' := 1) (by decide)
      (down_col I.l.dv hn (I.l.dv' hn hol (tile_is I.l.dv (k0_off7_inb t1 t) (k0_off7_eq t1 t))) (k0_off7_eq t1 t)) (k0_off10_eq t1 t)
  · exact pages_other (h := 0) (h' := 1) (by decide) (by omega)
      (pages_step hn hT I.l.g (I.l.g' hn hol (tile_is16 (hv 0) (k0_off7_inb t1 t) (k0_off7_eq t1 t))) e8l) e8r
  · exact pages_other (h := 0) (h' := 1) (by decide) (by omega) (pages_step hn hT I.l.b I.l.b' e8l) e8r
  · exact I.r.carry' hn
  · exact next_is hqr (tile_is16 (hk 1) (k0_off9_inb t1 t) (k0_off9_eq t1 t))
  · exact down_col (setTile_other (h := 1) (h' := 0) (by decide) I.r.dv (k0_off7_eq t1 t)) hn
      (I.r.dv' hn hor (tile_is I.r.dv (k0_off10_inb t1 t) (k0_off10_eq t1 t))) (k0_off10_eq t1 t)
  · exact pages_step hn hT (pages_other (h := 1) (h' := 0) (by decide) (by omega) I.r.g e8l)
      (I.r.g' hn hor (tile_is16 (hv 1) (k0_off10_inb t1 t) (k0_off10_eq t1 t))) e8r
  · exact pages_step hn hT (pages_other (h := 1) (h' := 0) (by decide) (by omega) I.r.b e8l) I.r.b' e8r

/-! ## The diagonal tile -/

section diag
variable {q k v o : ℕ → ℕ → ℝ} {b : ℕ} {x y u w : FVec Ideal S256x128 .bf16} {z : FVec Ideal S256x128 .f32}

theorem diag_wt (hx : Is x fun r d => q (b + r) d) (hy : Is y fun c d => k (b + c) d) :
    Is (k0_pay79 k0_pay126 (k0_pay77 k0_pay124 k0_pay126 k0_pay59 (k0_pay3 x y)) k0_pay78) fun r c => wt q k (b + r) (b + c) :=
  (pay79_is pay59_is (pay3_is hx hy)).congr fun r hr c hc => wt_diag q k b r c hr hc

theorem diag_carry (hx : Is x fun r d => q (b + r) d) (hy : Is y fun c d => k (b + c) d) :
    Is (k0_pay12 k0_pay59 (k0_pay76 k0_pay126 (k0_pay3 x y))) fun r _ => cr q k b (b + r) :=
  (pay12_is pay59_is (pay76_is (pay3_is hx hy))).congr fun r hr c hc => (zero_add _).trans (cr_diag q k b r hr)

theorem diag_b (hx : Is x fun r d => q (b + r) d) (hy : Is y fun c d => k (b + c) d) :
    Is1 (k0_pay10 (k0_pay75 (k0_pay3 x y))) fun r c => sg q k (b + r) (b + c) := pay10_is (pay75_is (pay3_is hx hy))

theorem diag_g (hx : Is x fun r d => q (b + r) d) (hy : Is y fun c d => k (b + c) d) (hu : Is u fun r d => o (b + r) d) (hw : Is w fun c d => v (b + c) d) :
    Is1 (k0_pay80 k0_pay126 u (k0_pay77 k0_pay124 k0_pay126 k0_pay59 (k0_pay3 x y)) k0_pay78 w) fun r c => gw q k v o (b + r) (b + c) :=
  pay80_is (diag_wt hx hy) hu hw

theorem diag_dv (hx : Is x fun r d => q (b + r) d) (hy : Is y fun c d => k (b + c) d) (hu : Is u fun r d => o (b + r) d)
    (hz : Is z fun c d => gv q k o b (b + c) d) :
    Is (k0_pay82 k0_pay126 u (k0_pay77 k0_pay124 k0_pay126 k0_pay59 (k0_pay3 x y)) k0_pay78 z) fun c d => gv q k o (b + 256) (b + c) d :=
  (pay82_is (diag_wt hx hy) hu hz).congr fun c hc d hd => gv_step q k o b (b + c) d

theorem diag_col {h : Fin 2} {T : ℕ} {dv : S2048x256.Idx → EReal} {w : FVec Ideal S256x128 .f32} (I : Col h dv fun j d => gv q k o (256 * T) j d)
    (hw : Is w fun c d => gv q k o (256 * T + 256) (256 * T + c) d) {off : Fin 2 → ℕ} (e : off = ![256 * T, 128 * h.val]) :
    Col h (setTile (F := Ideal) (e := .f32) dv off w) fun j d => gv q k o (if 256 * (T - 0) ≤ j then 256 * T + 256 else 256 * T) j d := by
  refine (setTile_col I hw e).congr fun j hj d hd => ?_
  rw [Nat.sub_zero]
  by_cases hb : 256 * T ≤ j ∧ j < 256 * T + 256
  · rw [if_pos hb, if_pos hb.1]
    beta_reduce
    rw [show 256 * T + (j - 256 * T) = j by omega]
  · rw [if_neg hb]
    by_cases hj' : 256 * T ≤ j
    · rw [if_pos hj']
      exact (gv_le q k o (by omega) (by omega)).symm
    · rw [if_neg hj']

theorem diag_page {h : Fin 2} {T : ℕ} {x : S16x256x256.Idx → EReal} {w : FVec Ideal S1x256x256 .f32} {f : ℕ → ℕ → ℕ → ℝ}
    (hw : Is1 w (f T)) {off : Fin 3 → ℕ} (e : off = ![8 * h.val + T, 0, 0]) :
    ∀ K, T - 0 ≤ K → K ≤ T → Pg h K (setPage (F := Ideal) (e := .f32) x off w) (f K) := by
  intro K h1 h2
  obtain rfl : K = T := by omega
  exact setPage_same hw e

end diag

section row
variable {q k v o : Fin 2 → ℕ → ℕ → ℝ} {x12 x13 x14 x15 : FVec Ideal S2048x256 .bf16} (hq : ∀ h, Col h x12 (q h)) (hk : ∀ h, Col h x13 (k h))
  (hv : ∀ h, Col h x14 (v h)) (ho : ∀ h, Col h x15 (o h)) (t1 : Fin k0_t1_loop.trips)
include hq hk hv ho

theorem down_zero {s : RowSt Ideal} (hdv : ∀ h : Fin 2, Col h s.dv fun j d => gv (q h) (k h) (o h) (256 * t1.val) j d) :
    DownBoth q k v o t1.val 0 (rowDown0 (F := Ideal) x12 x13 x14 x15 t1 s) := by
  have hT : t1.val < 8 := k0_t1_trips ▸ t1.isLt
  have e1 := k0_off1_eq t1
  have e2 := k0_off2_eq t1
  have e4l := k0_off4_eq t1 0
  have e4r := k0_off4_eq t1 1
  have ql := tile_is16 (hq 0) (k0_off1_inb t1) e1
  have qr := tile_is16 (hq 1) (k0_off2_inb t1) e2
  have kl := tile_is16 (hk 0) (k0_off1_inb t1) e1
  have kr := tile_is16 (hk 1) (k0_off2_inb t1) e2
  have vl := tile_is16 (hv 0) (k0_off1_inb t1) e1
  have vr := tile_is16 (hv 1) (k0_off2_inb t1) e2
  have ol := tile_is16 (ho 0) (k0_off1_inb t1) e1
  have or' := tile_is16 (ho 1) (k0_off2_inb t1) e2
  refine ⟨⟨diag_carry ql kl, next_is ql (tile_is16 (hk 0) (k0_off3_inb t1) (k0_off3_eq t1)), ?_, ?_, ?_⟩,
    ⟨diag_carry qr kr, next_is qr (tile_is16 (hk 1) (k0_off5_inb t1) (k0_off5_eq t1)), ?_, ?_, ?_⟩⟩
  · exact setTile_other (h := 0) (h' := 1) (by decide) (diag_col (hdv 0) (diag_dv ql kl ol (tile_is (hdv 0) (k0_off1_inb t1) e1)) e1) e2
  · exact pages_other (h := 0) (h' := 1) (by decide) hT (diag_page (diag_g ql kl ol vl) e4l) e4r
  · exact pages_other (h := 0) (h' := 1) (by decide) hT (diag_page (diag_b ql kl) e4l) e4r
  · exact diag_col (setTile_other (h := 1) (h' := 0) (by decide) (hdv 1) e1) (diag_dv qr kr or' (tile_is (hdv 1) (k0_off2_inb t1) e2)) e2
  · exact diag_page (diag_g qr kr or' vr) e4r
  · exact diag_page (diag_b qr kr) e4r

/-- The first walk, done. -/
theorem down_done {s : RowSt Ideal} (hdv : ∀ h : Fin 2, Col h s.dv fun j d => gv (q h) (k h) (o h) (256 * t1.val) j d) :
    DownBoth q k v o t1.val t1.val (rowD (F := Ideal) x12 x13 x14 x15 t1 s) := by
  have e1 := k0_off1_eq t1
  have e2 := k0_off2_eq t1
  have key : ∀ n, n ≤ (k0_t2_loop t1).trips → DownBoth q k v o t1.val n
      (downSt (F := Ideal) k0_pay124 (tl x12 t1) (tr x12 t1) (tl x15 t1) (tr x15 t1) x13 x14 t1 (rowDown0 x12 x13 x14 x15 t1 s) n) := by
    intro n
    induction n with
    | zero => exact fun _ => down_zero hq hk hv ho t1 hdv
    | succ n ih =>
      intro hn
      rw [downSt, iter_succ _ _ _ ⟨n, hn⟩]
      exact down_step ⟨n, hn⟩ hk hv (tile_is16 (hq 0) (k0_off1_inb t1) e1) (tile_is16 (hq 1) (k0_off2_inb t1) e2)
        (tile_is16 (ho 0) (k0_off1_inb t1) e1) (tile_is16 (ho 1) (k0_off2_inb t1) e2) (ih (by omega))
  have := key _ le_rfl
  rw [k0_t2_trips] at this
  rw [rowD, k0_t2_trips]
  exact this

end row

end Cert.KernelIdeal.Attn
-- ==== Proof.UpValue.lean ====
/- The walk back towards later key tiles, and the loop over the query tiles, on real numbers. -/
module

public import proofs.«01_k».proof.Proof.DownValue

@[expose] public section

set_option maxRecDepth 16384
set_option maxHeartbeats 200000

noncomputable section

namespace Cert.KernelIdeal.Attn

open Idealize.ShloMosaic Idealize.ShloMosaic.TcCoe
open Cert.KernelIdeal.Gen

/-- What the second walk of query tile `T` has made of head `h` when `n` key tiles are done. -/
structure UpInv (h : Fin 2) (q k v o : ℕ → ℕ → ℝ) (T n : ℕ) (x : FVec Ideal S256x128 .f32) (a : FVec Ideal S256x1 .f32) (z : FVec Ideal S256x256 .f32)
    (dk : S2048x256.Idx → EReal) : Prop where
  dq : Is x fun r d => gq q k v o (256 * n) (256 * T + r) d
  carry : Is a fun r _ => pr q k v o (256 * n) (256 * T + r)
  pre : Is z fun r c => ∑ x : Fin 256, gw q k v o (256 * T + r) (256 * n + x) * if x.val < c then 1 else 0
  dk : Col h dk fun j d => gk q k v o (if j < 256 * n then 256 * T + 256 else 256 * T) j d

section step
variable {h : Fin 2} {q k v o : ℕ → ℕ → ℝ} {T n : ℕ} {x : FVec Ideal S256x128 .f32} {a : FVec Ideal S256x1 .f32} {z : FVec Ideal S256x256 .f32}
  {dk : S2048x256.Idx → EReal} {g b : FVec Ideal S1x256x256 .f32}

theorem UpInv.gs (I : UpInv h q k v o T n x a z dk) (hn : n < T) (hg : Is1 g fun r c => gw q k v o (256 * T + r) (256 * n + c))
    (hb : Is1 b fun r c => sg q k (256 * T + r) (256 * n + c)) :
    Is (k0_pay35 a z g b) fun r c => ds q k v o (256 * T + r) (256 * n + c) := by
  refine (pay35_is I.carry I.pre hg hb).congr fun r hr c hc => ?_
  have := ds_tile q k v o (256 * n) (256 * T + r) c hc
  rw [if_pos (by omega)] at this
  exact this

theorem UpInv.gsd (I : UpInv h q k v o T T x a z dk) (hg : Is1 g fun r c => gw q k v o (256 * T + r) (256 * T + c))
    (hb : Is1 b fun r c => sg q k (256 * T + r) (256 * T + c)) :
    Is (k0_pay108 k0_pay126 a z g b) fun r c => ds q k v o (256 * T + r) (256 * T + c) := by
  refine (pay108_is I.carry I.pre hg hb).congr fun r hr c hc => ?_
  have := ds_tile q k v o (256 * T) (256 * T + r) c hc
  rw [← this]
  by_cases hrc : c < r
  · rw [if_pos hrc, if_pos (by omega)]
  · rw [if_neg hrc, if_neg (by omega)]

theorem UpInv.dq' (I : UpInv h q k v o T n x a z dk) (hn : n < T) (hg : Is1 g fun r c => gw q k v o (256 * T + r) (256 * n + c))
    (hb : Is1 b fun r c => sg q k (256 * T + r) (256 * n + c)) {y : FVec Ideal S256x128 .bf16} (hy : Is y fun c d => k (256 * n + c) d) :
    Is (k0_pay36 x a z g b y) fun r d => gq q k v o (256 * (n + 1)) (256 * T + r) d :=
  (pay36_is (I.gs hn hg hb) I.dq hy).congr fun r hr d hd => gq_step q k v o (256 * n) (256 * T + r) d

theorem UpInv.carry' (I : UpInv h q k v o T n x a z dk) (hg : Is1 g fun r c => gw q k v o (256 * T + r) (256 * n + c)) :
    Is (k0_pay38 a (k0_pay33 g)) fun r _ => pr q k v o (256 * (n + 1)) (256 * T + r) :=
  (pay38_is I.carry (pay33_is hg)).congr fun r hr d hd => pr_step q k v o (256 * n) (256 * T + r)

theorem UpInv.dk' (I : UpInv h q k v o T n x a z dk) (hn : n < T) (hg : Is1 g fun r c => gw q k v o (256 * T + r) (256 * n + c))
    (hb : Is1 b fun r c => sg q k (256 * T + r) (256 * n + c)) {y : FVec Ideal S256x128 .bf16} (hy : Is y fun r d => q (256 * T + r) d)
    {w : FVec Ideal S256x128 .f32} (hw : Is w fun c d => gk q k v o (if 256 * n + c < 256 * n then 256 * T + 256 else 256 * T) (256 * n + c) d) :
    Is (k0_pay37 y a z g b w) fun c d => gk q k v o (256 * T + 256) (256 * n + c) d := by
  refine (pay37_is (I.gs hn hg hb) hy hw).congr fun c hc d hd => ?_
  beta_reduce
  rw [if_neg (by omega)]
  exact gk_step q k v o (256 * T) (256 * n + c) d

/-- The columns of the gradient of the keys after a tile is added. -/
theorem up_col {dk : S2048x256.Idx → EReal} (I : Col h dk fun j d => gk q k v o (if j < 256 * n then 256 * T + 256 else 256 * T) j d)
    {w : FVec Ideal S256x128 .f32} (hw : Is w fun c d => gk q k v o (256 * T + 256) (256 * n + c) d) {off : Fin 2 → ℕ} (e : off = ![256 * n, 128 * h.val]) :
    Col h (setTile (F := Ideal) (e := .f32) dk off w) fun j d => gk q k v o (if j < 256 * (n + 1) then 256 * T + 256 else 256 * T) j d := by
  refine (setTile_col I hw e).congr fun j hj d hd => ?_
  by_cases hb : 256 * n ≤ j ∧ j < 256 * n + 256
  · rw [if_pos hb, if_pos (by omega)]
    beta_reduce
    rw [show 256 * n + (j - 256 * n) = j by omega]
  · rw [if_neg hb]
    by_cases hj' : j < 256 * n
    · rw [if_pos hj', if_pos (by omega)]
    · rw [if_neg hj', if_neg (by omega)]

theorem up_last {dk : S2048x256.Idx → EReal} (I : Col h dk fun j d => gk q k v o (if j < 256 * (T + 1) then 256 * T + 256 else 256 * T) j d) :
    Col h dk fun j d => gk q k v o (256 * (T + 1)) j d := by
  refine I.congr fun j hj d hd => ?_
  by_cases hj' : j < 256 * (T + 1)
  · rw [if_pos hj']; rfl
  · rw [if_neg hj']
    exact (gk_le q k v o (by omega) (by omega)).symm

end step

/-- Both heads. -/
structure UpBoth (q k v o : Fin 2 → ℕ → ℕ → ℝ) (T n : ℕ) (s : UpSt Ideal) : Prop where
  l : UpInv 0 (q 0) (k 0) (v 0) (o 0) T n s.acc.1 s.acc.2.1 s.acc.2.2.1 s.dk
  r : UpInv 1 (q 1) (k 1) (v 1) (o 1) T n s.acc.2.2.2.1 s.acc.2.2.2.2.1 s.acc.2.2.2.2.2 s.dk

section up
variable {q k v o : Fin 2 → ℕ → ℕ → ℝ} {x13 : FVec Ideal S2048x256 .bf16} {ql qr : FVec Ideal S256x128 .bf16} {g b : FVec Ideal S16x256x256 .f32}
  {T : ℕ} (hT : T < 8)
  (hg : ∀ h, ∀ K ≤ T, Pg h K g fun r c => gw (q h) (k h) (v h) (o h) (256 * T + r) (256 * K + c))
  (hb : ∀ h, ∀ K ≤ T, Pg h K b fun r c => sg (q h) (k h) (256 * T + r) (256 * K + c))
  (hk : ∀ h, Col h x13 (k h))

include hT hg in
theorem up_zero {dk : FVec Ideal S2048x256 .f32} (hdk : ∀ h : Fin 2, Col h dk fun j d => gk (q h) (k h) (v h) (o h) (256 * T) j d) :
    UpBoth q k v o T 0 (rowUp0 (F := Ideal) dk g) := by
  have hdk' : ∀ h : Fin 2, Col h dk fun j d => gk (q h) (k h) (v h) (o h) (if j < 256 * 0 then 256 * T + 256 else 256 * T) j d := fun h =>
    (hdk h).congr fun j hj d hd => by rw [if_neg (by omega)]
  refine ⟨⟨pay96_is.congr fun r hr d hd => ?_, pay59_is.congr fun r hr d hd => ?_,
      pay34_is (f := fun r c => gw (q 0) (k 0) (v 0) (o 0) (256 * T + r) (256 * 0 + c)) (page_is (hg 0 0 (by omega)) (by omega) inb_S16x256x256_S1x256x256_0_0_0 rfl), hdk' 0⟩,
    ⟨pay96_is.congr fun r hr d hd => ?_, pay59_is.congr fun r hr d hd => ?_,
      pay34_is (f := fun r c => gw (q 1) (k 1) (v 1) (o 1) (256 * T + r) (256 * 0 + c)) (page_is (hg 1 0 (by omega)) (by omega) inb_S16x256x256_S1x256x256_8_0_0 rfl), hdk' 1⟩⟩
  all_goals first | exact Finset.sum_range_zero _ | simp [gq, pr]

include hg hb hk in
theorem up_step {t1 : Fin k0_t1_loop.trips} (t : Fin (k0_t4_loop t1).trips) {s : UpSt Ideal} (e1 : T = t1.val)
    (hql : Is ql fun r d => q 0 (256 * T + r) d) (hqr : Is qr fun r d => q 1 (256 * T + r) d) (I : UpBoth q k v o T t.val s) :
    UpBoth q k v o T (t.val + 1) (upStep k0_pay125 ql qr x13 g b t1 t s) := by
  have hT : T < 8 := by have := t1.isLt; have := k0_t1_trips; omega
  have hn : t.val < T := by have := t.isLt; have := k0_t4_trips t1; omega
  have e16l := k0_off16_eq t1 t 0
  have e16r := k0_off16_eq t1 t 1
  have e17l := k0_off17_eq t1 t 0
  have e17r := k0_off17_eq t1 t 1
  rw [Nat.min_eq_left (by omega)] at e17l e17r
  have gl := page_is (hg 0 t.val (by omega)) (by omega) (k0_off16_inb t1 t 0) e16l
  have gr := page_is (hg 1 t.val (by omega)) (by omega) (k0_off16_inb t1 t 1) e16r
  have bl := page_is (hb 0 t.val (by omega)) (by omega) (k0_off16_inb t1 t 0) e16l
  have br := page_is (hb 1 t.val (by omega)) (by omega) (k0_off16_inb t1 t 1) e16r
  have gl' := page_is (hg 0 (t.val + 1) (by omega)) (by omega) (k0_off17_inb t1 t 0) e17l
  have gr' := page_is (hg 1 (t.val + 1) (by omega)) (by omega) (k0_off17_inb t1 t 1) e17r
  have kl := tile_is16 (hk 0) (k0_off18_inb t1 t) (k0_off18_eq t1 t)
  have kr := tile_is16 (hk 1) (k0_off19_inb t1 t) (k0_off19_eq t1 t)
  refine ⟨⟨I.l.dq' hn gl bl kl, I.l.carry' gl, pay34_is gl', ?_⟩, ⟨I.r.dq' hn gr br kr, I.r.carry' gr, pay34_is gr', ?_⟩⟩
  · exact setTile_other (h := 0) (h' := 1) (by decide)
      (up_col I.l.dk (I.l.dk' hn gl bl hql (tile_is I.l.dk (k0_off18_inb t1 t) (k0_off18_eq t1 t))) (k0_off18_eq t1 t)) (k0_off19_eq t1 t)
  · exact up_col (setTile_other (h := 1) (h' := 0) (by decide) I.r.dk (k0_off18_eq t1 t))
      (I.r.dk' hn gr br hqr (tile_is I.r.dk (k0_off19_inb t1 t) (k0_off19_eq t1 t))) (k0_off19_eq t1 t)

include hT hg hb hk in
/-- The second walk, done. -/
theorem up_done {x12 : FVec Ideal S2048x256 .bf16} (hq : ∀ h, Col h x12 (q h)) {t1 : Fin k0_t1_loop.trips} (e : T = t1.val) {D : DownSt Ideal}
    (eg : D.g = g) (eb : D.b = b) {dk : FVec Ideal S2048x256 .f32}
    (hdk : ∀ h : Fin 2, Col h dk fun j d => gk (q h) (k h) (v h) (o h) (256 * T) j d) : UpBoth q k v o T T (rowU (F := Ideal) x12 x13 t1 dk D) := by
  subst e eg eb
  have key : ∀ n, n ≤ (k0_t4_loop t1).trips → UpBoth q k v o t1.val n
      (upSt (F := Ideal) k0_pay125 (tl x12 t1) (tr x12 t1) x13 D.g D.b t1 (rowUp0 dk D.g) n) := by
    intro n
    induction n with
    | zero => exact fun _ => up_zero hT hg hdk
    | succ n ih =>
      intro hn
      rw [upSt, iter_succ _ _ _ ⟨n, hn⟩]
      exact up_step hg hb hk ⟨n, hn⟩ rfl (tile_is16 (hq 0) (k0_off1_inb t1) (k0_off1_eq t1)) (tile_is16 (hq 1) (k0_off2_inb t1) (k0_off2_eq t1)) (ih (by omega))
  have := key _ le_rfl
  rw [k0_t4_trips] at this
  rw [rowU, k0_t4_trips]
  exact this

end up

/-! ## The loop over the query tiles -/

/-- What the loop has made of head `h` when `T` query tiles are done. -/
structure RowInv (h : Fin 2) (q k v o : ℕ → ℕ → ℝ) (T : ℕ) (s : RowSt Ideal) : Prop where
  dq : ColTo (256 * T) h s.dq fun i d => gq q k v o 2048 i d
  dk : Col h s.dk fun j d => gk q k v o (256 * T) j d
  dv : Col h s.dv fun j d => gv q k o (256 * T) j d

theorem row_dq {h : Fin 2} {q k v o : ℕ → ℕ → ℝ} {T : ℕ} (hT : T < 8) {x : FVec Ideal S2048x256 .f32} {w : FVec Ideal S256x128 .f32}
    (hx : ColTo (256 * T) h x fun i d => gq q k v o 2048 i d) (hw : Is w fun r d => gq q k v o (256 * (T + 1)) (256 * T + r) d) {off : Fin 2 → ℕ}
    (e : off = ![256 * T, 128 * h.val]) :
    ColTo (256 * (T + 1)) h (setTile (F := Ideal) (e := .f32) x off w) fun i d => gq q k v o 2048 i d := by
  refine (setTile_to hx hw e (by omega)).congr fun i hi d hd => ?_
  by_cases hb : 256 * T ≤ i
  · rw [if_pos hb]
    beta_reduce
    rw [show 256 * T + (i - 256 * T) = i by omega]
    exact (gq_le q k v o (by omega) (by omega)).symm
  · rw [if_neg hb]

section row
variable {q k v o : Fin 2 → ℕ → ℕ → ℝ} {x12 x13 x14 x15 : FVec Ideal S2048x256 .bf16} (hq : ∀ h, Col h x12 (q h)) (hk : ∀ h, Col h x13 (k h))
  (hv : ∀ h, Col h x14 (v h)) (ho : ∀ h, Col h x15 (o h))
include hq hk hv ho

omit hv ho in
theorem row_end (t1 : Fin k0_t1_loop.trips) {dq : FVec Ideal S2048x256 .f32} {D : DownSt Ideal} {U : UpSt Ideal}
    (hdq : ∀ h, ColTo (256 * t1.val) h dq fun i d => gq (q h) (k h) (v h) (o h) 2048 i d)
    (D' : DownBoth q k v o t1.val t1.val D) (U' : UpBoth q k v o t1.val t1.val U) :
    ∀ h, RowInv h (q h) (k h) (v h) (o h) (t1.val + 1) (rowEnd (F := Ideal) x12 x13 t1 dq D U) := by
  have hT : t1.val < 8 := k0_t1_trips ▸ t1.isLt
  have e1 := k0_off1_eq t1
  have e2 := k0_off2_eq t1
  have e4l := k0_off4_eq t1 0
  have e4r := k0_off4_eq t1 1
  have ql := tile_is16 (hq 0) (k0_off1_inb t1) e1
  have qr := tile_is16 (hq 1) (k0_off2_inb t1) e2
  have kl := tile_is16 (hk 0) (k0_off1_inb t1) e1
  have kr := tile_is16 (hk 1) (k0_off2_inb t1) e2
  have wl := U'.l.gsd (page_is (D'.l.g _ (by omega) le_rfl) hT (k0_off4_inb t1 0) e4l) (page_is (D'.l.b _ (by omega) le_rfl) hT (k0_off4_inb t1 0) e4l)
  have wr := U'.r.gsd (page_is (D'.r.g _ (by omega) le_rfl) hT (k0_off4_inb t1 1) e4r) (page_is (D'.r.b _ (by omega) le_rfl) hT (k0_off4_inb t1 1) e4r)
  have dql := (pay109_is wl U'.l.dq kl).congr fun r hr d hd => gq_step (q 0) (k 0) (v 0) (o 0) (256 * t1.val) (256 * t1.val + r) d
  have dqr := (pay109_is wr U'.r.dq kr).congr fun r hr d hd => gq_step (q 1) (k 1) (v 1) (o 1) (256 * t1.val) (256 * t1.val + r) d
  have dkl := (pay110_is wl ql (tile_is U'.l.dk (k0_off1_inb t1) e1)).congr
    (g := fun c d => gk (q 0) (k 0) (v 0) (o 0) (256 * t1.val + 256) (256 * t1.val + c) d) fun c hc d hd => by
      beta_reduce; rw [if_neg (by omega)]; exact gk_step (q 0) (k 0) (v 0) (o 0) (256 * t1.val) (256 * t1.val + c) d
  have V' := setTile_other (h := 1) (h' := 0) (by decide)
    (w := k0_pay107 k0_pay126 (tl x12 t1) (rowZl (F := Ideal) t1 D U) (Scalar.ofBits (F := Ideal) .f32 0x00000000#32) (tl (F := Ideal) U.dk t1)) U'.r.dk e1
  have dkr := (pay110_is wr qr (tile_is V' (k0_off2_inb t1) e2)).congr
    (g := fun c d => gk (q 1) (k 1) (v 1) (o 1) (256 * t1.val + 256) (256 * t1.val + c) d) fun c hc d hd => by
      beta_reduce; rw [if_neg (by omega)]; exact gk_step (q 1) (k 1) (v 1) (o 1) (256 * t1.val) (256 * t1.val + c) d
  rw [Fin.forall_fin_two]
  refine ⟨⟨?_, ?_, ?_⟩, ⟨?_, ?_, ?_⟩⟩
  · exact setTile_other (h := 0) (h' := 1) (by decide) (row_dq (h := 0) hT (hdq 0) dql e1) e2
  · exact setTile_other (h := 0) (h' := 1) (by decide) (up_last (up_col U'.l.dk dkl e1)) e2
  · exact D'.l.dv.congr fun j hj d hd => by rw [if_pos (by omega)]; rfl
  · exact row_dq (h := 1) hT (setTile_other (h := 1) (h' := 0) (by decide) (hdq 1) e1) dqr e2
  · exact up_last (up_col V' dkr e2)
  · exact D'.r.dv.congr fun j hj d hd => by rw [if_pos (by omega)]; rfl

theorem row_step (t1 : Fin k0_t1_loop.trips) {s : RowSt Ideal} (I : ∀ h, RowInv h (q h) (k h) (v h) (o h) t1.val s) :
    ∀ h, RowInv h (q h) (k h) (v h) (o h) (t1.val + 1) (rowStep (F := Ideal) x12 x13 x14 x15 t1 s) := by
  have hT : t1.val < 8 := k0_t1_trips ▸ t1.isLt
  have D := down_done hq hk hv ho t1 fun h => (I h).dv
  refine row_end hq hk t1 (fun h => (I h).dq) D (up_done hT ?_ ?_ hk hq rfl rfl rfl fun h => (I h).dk)
  · rw [Fin.forall_fin_two]
    exact ⟨fun K hK => D.l.g K (by omega) hK, fun K hK => D.r.g K (by omega) hK⟩
  · rw [Fin.forall_fin_two]
    exact ⟨fun K hK => D.l.b K (by omega) hK, fun K hK => D.r.b K (by omega) hK⟩

/-- The loop over the query tiles, done. -/
theorem row_done {s : RowSt Ideal} (I : ∀ h, RowInv h (q h) (k h) (v h) (o h) 0 s) :
    ∀ h, RowInv h (q h) (k h) (v h) (o h) 8 (rowSt (F := Ideal) x12 x13 x14 x15 s k0_t1_loop.trips) := by
  have key : ∀ n, n ≤ k0_t1_loop.trips → ∀ h, RowInv h (q h) (k h) (v h) (o h) n (rowSt (F := Ideal) x12 x13 x14 x15 s n) := by
    intro n
    induction n with
    | zero => exact fun _ => I
    | succ n ih =>
      intro hn
      rw [rowSt, iter_succ _ _ _ ⟨n, hn⟩]
      exact row_step hq hk hv ho ⟨n, hn⟩ (ih (by omega))
  have := key _ le_rfl
  rw [k0_t1_trips] at this ⊢
  exact this

end row

end Cert.KernelIdeal.Attn
-- ==== Proof.BlockValue.lean ====
/- What one grid point computes, on real numbers. -/
module

public import proofs.«01_k».proof.Proof.UpValue
public import proofs.«01_k».proof.Proof.Norm

@[expose] public section

set_option maxRecDepth 16384
set_option maxHeartbeats 200000

noncomputable section

namespace Cert.KernelIdeal.Attn

open Idealize.ShloMosaic Idealize.ShloMosaic.TcCoe
open Cert.KernelIdeal.Gen

open VecWindow (put)

/-! ## The two heads of a block -/

theorem hl_is {x : FVec Ideal S2048x256 .f32} {f : ℕ → ℕ → ℝ} (hx : Col 0 x f) : Is (φ := .f32) (hl (F := Ideal) (e := .f32) x) f := by
  intro a d
  rw [← hx a d a.isLt]
  pointwise [hl]

theorem hr_is {x : FVec Ideal S2048x256 .f32} {f : ℕ → ℕ → ℝ} (hx : Col 1 x f) : Is (φ := .f32) (hr (F := Ideal) (e := .f32) x) f := by
  intro a d
  rw [← hx a d a.isLt]
  pointwise [hr]

theorem row1_is {x : FVec Ideal S1x128 .f32} {f : ℕ → ℕ → ℝ} (hx : Is x f) : Is (φ := .f32) (row1 (F := Ideal) x) f := by
  intro a d
  obtain rfl : a = 0 := Subsingleton.elim _ _
  rw [← hx 0 d]
  pointwise [row1]

theorem both_l {y : FVec Ideal S2048x256 .bf16} {wl wr : FVec Ideal S2048x128 .bf16} {f : ℕ → ℕ → ℝ} (hw : Is wl f) :
    Col 0 (both (F := Ideal) (e := .bf16) y wl wr) f := by
  intro r d hr
  rw [← hw r d]
  unfold both put
  rw [dif_neg (fun hall => by have h1 : 128 ≤ 128 * 0 + d.val := (hall 1).1; omega), dif_pos (by
    intro a
    match a with
    | 0 => exact ⟨Nat.zero_le _, show r.val < 0 + 2048 by omega⟩
    | 1 => exact ⟨Nat.zero_le _, show 128 * 0 + d.val < 0 + 128 by omega⟩)]
  congr 1
  funext a
  match a with
  | 0 => rfl
  | 1 => exact Fin.ext (show 128 * 0 + d.val - 0 = d.val by omega)

theorem both_r {y : FVec Ideal S2048x256 .bf16} {wl wr : FVec Ideal S2048x128 .bf16} {f : ℕ → ℕ → ℝ} (hw : Is wr f) :
    Col 1 (both (F := Ideal) (e := .bf16) y wl wr) f := by
  intro r d hr
  rw [← hw r d]
  unfold both put
  rw [dif_pos (by
    intro a
    match a with
    | 0 => exact ⟨Nat.zero_le _, show r.val < 0 + 2048 by omega⟩
    | 1 => exact ⟨show 128 ≤ 128 * 1 + d.val by omega, show 128 * 1 + d.val < 128 + 128 by omega⟩)]
  congr 1
  funext a
  match a with
  | 0 => rfl
  | 1 => exact Fin.ext (show 128 * 1 + d.val - 128 = d.val by omega)

/-! ## What a point computes -/

/-- The queries and keys of a head as the scores take them. -/
def qs (x : ℕ → ℕ → ℝ) (γ : ℕ → ℝ) (i d : ℕ) : ℝ := nrm x i d * γ d * scl
def kn (x : ℕ → ℕ → ℝ) (γ : ℕ → ℝ) (i d : ℕ) : ℝ := nrm x i d * γ d

/-- The gradients of the scaled queries, the keys and the values of a head. -/
def DQ (x1 x2 x3 x4 : ℕ → ℕ → ℝ) (γ κ : ℕ → ℝ) (i d : ℕ) : ℝ := gq (qs x1 γ) (kn x2 κ) x3 x4 2048 i d * scl
def DK (x1 x2 x3 x4 : ℕ → ℕ → ℝ) (γ κ : ℕ → ℝ) (i d : ℕ) : ℝ := gk (qs x1 γ) (kn x2 κ) x3 x4 2048 i d
def DV (x1 x2 x4 : ℕ → ℕ → ℝ) (γ κ : ℕ → ℝ) (i d : ℕ) : ℝ := gv (qs x1 γ) (kn x2 κ) x4 2048 i d

section block
variable {y : Scr Ideal} {x1 x2 x3 x4 : FVec Ideal S2048x256 .f32} {x5 x6 : FVec Ideal S1x128 .f32} {f1 f2 f3 f4 : Fin 2 → ℕ → ℕ → ℝ} {γ κ : ℕ → ℝ}
  (h1 : ∀ h, Col h x1 (f1 h)) (h2 : ∀ h, Col h x2 (f2 h)) (h3 : ∀ h, Col h x3 (f3 h)) (h4 : ∀ h, Col h x4 (f4 h))
  (h5 : Is x5 fun _ => γ) (h6 : Is x6 fun _ => κ)

include h1 h5 in
theorem bq_is : ∀ h, Col h (bq (F := Ideal) y x1 x5) (qs (f1 h) γ) :=
  Fin.forall_fin_two.mpr ⟨both_l (pay113_is (hl_is (h1 0)) (row1_is h5)), both_r (pay113_is (hr_is (h1 1)) (row1_is h5))⟩
include h2 h6 in
theorem bk_is : ∀ h, Col h (bk (F := Ideal) y x2 x6) (kn (f2 h) κ) :=
  Fin.forall_fin_two.mpr ⟨both_l (pay119_is (hl_is (h2 0)) (row1_is h6)), both_r (pay119_is (hr_is (h2 1)) (row1_is h6))⟩
include h3 in
theorem bv_is : ∀ h, Col h (bv (F := Ideal) y x3) (f3 h) :=
  Fin.forall_fin_two.mpr ⟨both_l (pay116_is (hl_is (h3 0))), both_r (pay116_is (hr_is (h3 1)))⟩
include h4 in
theorem bo_is : ∀ h, Col h (bo (F := Ideal) y x4) (f4 h) :=
  Fin.forall_fin_two.mpr ⟨both_l (pay116_is (hl_is (h4 0))), both_r (pay116_is (hr_is (h4 1)))⟩

include h1 h2 h3 h4 h5 h6

theorem bR_is : ∀ h, RowInv h (qs (f1 h) γ) (kn (f2 h) κ) (f3 h) (f4 h) 8 (bR (F := Ideal) y x1 x2 x3 x4 x5 x6) := by
  refine row_done (bq_is h1 h5) (bk_is h2 h6) (bv_is h3) (bo_is h4) fun h => ⟨fun r d hr => absurd hr (by omega), fun r d _ => ?_, fun r d _ => ?_⟩
  · refine (pay122_is r ⟨128 * h.val + d.val, by omega⟩).trans ?_
    simp [gk]
  · refine (pay122_is r ⟨128 * h.val + d.val, by omega⟩).trans ?_
    simp [gv]

theorem o7_is {p : FVec Ideal S2048x256 .bf16} : ∀ h, Col h (o7 (F := Ideal) x1 x5 p (bR (F := Ideal) y x1 x2 x3 x4 x5 x6))
    (nb (f1 h) (DQ (f1 h) (f2 h) (f3 h) (f4 h) γ κ) γ) := by
  have R := bR_is (y := y) h1 h2 h3 h4 h5 h6
  exact Fin.forall_fin_two.mpr ⟨both_l (pay153_is (hl_is (h1 0)) (pay130_is (hl_is (R 0).dq)) (row1_is h5)),
    both_r (pay153_is (hr_is (h1 1)) (pay130_is (hr_is (R 1).dq)) (row1_is h5))⟩

theorem o8_is {p : FVec Ideal S2048x256 .bf16} : ∀ h, Col h (o8 (F := Ideal) x2 x6 p (bR (F := Ideal) y x1 x2 x3 x4 x5 x6))
    (nb (f2 h) (DK (f1 h) (f2 h) (f3 h) (f4 h) γ κ) κ) := by
  have R := bR_is (y := y) h1 h2 h3 h4 h5 h6
  exact Fin.forall_fin_two.mpr ⟨both_l (pay153_is (hl_is (h2 0)) (hl_is (R 0).dk) (row1_is h6)),
    both_r (pay153_is (hr_is (h2 1)) (hr_is (R 1).dk) (row1_is h6))⟩

theorem o9_is {p : FVec Ideal S2048x256 .bf16} : ∀ h, Col h (o9 (F := Ideal) p (bR (F := Ideal) y x1 x2 x3 x4 x5 x6))
    (DV (f1 h) (f2 h) (f4 h) γ κ) := by
  have R := bR_is (y := y) h1 h2 h3 h4 h5 h6
  exact Fin.forall_fin_two.mpr ⟨both_l (pay141_is (hl_is (R 0).dv)), both_r (pay141_is (hr_is (R 1).dv))⟩

theorem o10_is {a : FVec Ideal S1x128 .f32} {α : ℕ → ℕ → ℝ} (ha : Is a α) : Is (φ := .f32) (o10 (F := Ideal) x1 a (bR (F := Ideal) y x1 x2 x3 x4 x5 x6))
    fun i d => α i d + ng 2048 (f1 0) (DQ (f1 0) (f2 0) (f3 0) (f4 0) γ κ) d + ng 2048 (f1 1) (DQ (f1 1) (f2 1) (f3 1) (f4 1) γ κ) d := by
  have R := bR_is (y := y) h1 h2 h3 h4 h5 h6
  exact pay142_is (pay151_is (hr_is (h1 1)) (pay130_is (hr_is (R 1).dq))) (pay142_is (pay151_is (hl_is (h1 0)) (pay130_is (hl_is (R 0).dq))) ha)

theorem o11_is {a : FVec Ideal S1x128 .f32} {α : ℕ → ℕ → ℝ} (ha : Is a α) : Is (φ := .f32) (o11 (F := Ideal) x2 a (bR (F := Ideal) y x1 x2 x3 x4 x5 x6))
    fun i d => α i d + ng 2048 (f2 0) (DK (f1 0) (f2 0) (f3 0) (f4 0) γ κ) d + ng 2048 (f2 1) (DK (f1 1) (f2 1) (f3 1) (f4 1) γ κ) d := by
  have R := bR_is (y := y) h1 h2 h3 h4 h5 h6
  exact pay142_is (pay151_is (hr_is (h2 1)) (hr_is (R 1).dk)) (pay142_is (pay151_is (hl_is (h2 0)) (hl_is (R 0).dk)) ha)

end block

end Cert.KernelIdeal.Attn
-- ==== Proof.KernelValue.lean ====
/- What the kernel's result arrays hold after a run on real arguments. -/
module

public import proofs.«01_k».proof.Proof.BlockValue
public import proofs.«01_k».proof.Proof.Run
public import Idealize.ShloMosaic.Lib.Pipeline.ValueKit
public import Idealize.ShloMosaic.Lib.Pipeline.ArrRel

@[expose] public section

set_option maxRecDepth 16384
set_option maxHeartbeats 200000

noncomputable section

namespace Cert.KernelIdeal.Attn

open Idealize.ShloMosaic Idealize.ShloMosaic.TcCoe Idealize.SL.Sem
open Cert.KernelIdeal.Gen

/-! ## The blocks of a point -/

/-- Every window's block at every point: a point's batch is `t / 4`, its pair of heads `t % 4`. -/
theorem idx : ∀ t : Fin cfg0.N, win0_0.index t = ![t.val / 4, t.val % 4] ∧ win0_1.index t = ![t.val / 4, 4 + t.val % 4]
    ∧ win0_2.index t = ![t.val / 4, 8 + t.val % 4] ∧ win0_3.index t = ![t.val / 4, t.val % 4]
    ∧ win0_4.index t = ![0, 0] ∧ win0_5.index t = ![0, 0]
    ∧ win0_6.index t = ![t.val / 4, t.val % 4] ∧ win0_7.index t = ![t.val / 4, t.val % 4] ∧ win0_8.index t = ![t.val / 4, t.val % 4]
    ∧ win0_9.index t = ![0, 0] ∧ win0_10.index t = ![0, 0] ∧ t.val < 8 :=
  (by decide +kernel : ∀ t : Fin grid0.N, _)

/-- The gradients of the gains are never fetched, and written back after the last point alone. -/
theorem fetch9 : ∀ t : Fin cfg0.N, (cfg0.win 9).fetch t = false := (by decide +kernel : ∀ t : Fin grid0.N, win0_9.fetch t = false)
theorem fetch10 : ∀ t : Fin cfg0.N, (cfg0.win 10).fetch t = false := (by decide +kernel : ∀ t : Fin grid0.N, win0_10.fetch t = false)
theorem flush9 : ∀ t : Fin cfg0.N, t.val < 7 → (cfg0.win 9).flush t = false := (by decide +kernel : ∀ t : Fin grid0.N, t.val < 7 → win0_9.flush t = false)
theorem flush10 : ∀ t : Fin cfg0.N, t.val < 7 → (cfg0.win 10).flush t = false := (by decide +kernel : ∀ t : Fin grid0.N, t.val < 7 → win0_10.flush t = false)

/-- Head `h` of batch `b` of an array of the call, its columns beginning at `off`. -/
def hd (A : ℕ → ℕ → ℝ) (off b h i d : ℕ) : ℝ := A (2048 * b + i) (off + 128 * h + d)

section
variable (m : (ℓ : Loc nD τ sig) → Buf (Elt Ideal) ℓ) (c : Dev nD) {A0 A1 : ℕ → ℕ → ℝ} {γ κ : ℕ → ℝ}

/-- The arguments hold real numbers. -/
structure Args (A0 A1 : ℕ → ℕ → ℝ) (γ κ : ℕ → ℝ) : Prop where
  x : Is (m := 4096) (n := 6144) (φ := .f32) (m ((c.tc : Thread nD τ).loc main_arg0)) A0
  o : Is (m := 4096) (n := 1024) (φ := .f32) (m ((c.tc : Thread nD τ).loc main_arg1)) A1
  g : Is (m := 1) (n := 128) (φ := .f32) (m ((c.tc : Thread nD τ).loc main_arg2)) fun _ => γ
  k : Is (m := 1) (n := 128) (φ := .f32) (m ((c.tc : Thread nD τ).loc main_arg3)) fun _ => κ

variable {m c} (H : Args m c A0 A1 γ κ) (t : Fin cfg0.N)
include H

theorem blk0 (h : Fin 2) : Col h (iblk m c 0 t) (hd A0 0 (t.val / 4) (2 * (t.val % 4) + h.val)) := fun r d _ => by
  have ht := (idx t).2.2.2.2.2.2.2.2.2.2.2
  refine Eq.trans ?_ ((H.x ⟨2048 * (t.val / 4) + r.val, by omega⟩ ⟨0 + 128 * (2 * (t.val % 4) + h.val) + d.val, by omega⟩))
  blk_ext [iblk, V, idx t]
theorem blk1 (h : Fin 2) : Col h (iblk m c 1 t) (hd A0 1024 (t.val / 4) (2 * (t.val % 4) + h.val)) := fun r d _ => by
  have ht := (idx t).2.2.2.2.2.2.2.2.2.2.2
  refine Eq.trans ?_ ((H.x ⟨2048 * (t.val / 4) + r.val, by omega⟩ ⟨1024 + 128 * (2 * (t.val % 4) + h.val) + d.val, by omega⟩))
  blk_ext [iblk, V, idx t]
theorem blk2 (h : Fin 2) : Col h (iblk m c 2 t) (hd A0 2048 (t.val / 4) (2 * (t.val % 4) + h.val)) := fun r d _ => by
  have ht := (idx t).2.2.2.2.2.2.2.2.2.2.2
  refine Eq.trans ?_ ((H.x ⟨2048 * (t.val / 4) + r.val, by omega⟩ ⟨2048 + 128 * (2 * (t.val % 4) + h.val) + d.val, by omega⟩))
  blk_ext [iblk, V, idx t]
theorem blk3 (h : Fin 2) : Col h (iblk m c 3 t) (hd A1 0 (t.val / 4) (2 * (t.val % 4) + h.val)) := fun r d _ => by
  have ht := (idx t).2.2.2.2.2.2.2.2.2.2.2
  refine Eq.trans ?_ ((H.o ⟨2048 * (t.val / 4) + r.val, by omega⟩ ⟨0 + 128 * (2 * (t.val % 4) + h.val) + d.val, by omega⟩))
  blk_ext [iblk, V, idx t]
theorem blk4 : Is (m := 1) (n := 128) (φ := .f32) (iblk m c 4 t) fun _ => γ := fun r d => by
  refine Eq.trans ?_ (H.g r d)
  blk_ext [iblk, V, idx t]
theorem blk5 : Is (m := 1) (n := 128) (φ := .f32) (iblk m c 5 t) fun _ => κ := fun r d => by
  refine Eq.trans ?_ (H.k r d)
  blk_ext [iblk, V, idx t]

end

/-! ## The result arrays -/

/-- The gradients of the projected queries, keys and values of head `h` of batch `b`, before the normalisation is undone. -/
def hDQ (A0 A1 : ℕ → ℕ → ℝ) (γ κ : ℕ → ℝ) (b h : ℕ) : ℕ → ℕ → ℝ := DQ (hd A0 0 b h) (hd A0 1024 b h) (hd A0 2048 b h) (hd A1 0 b h) γ κ
def hDK (A0 A1 : ℕ → ℕ → ℝ) (γ κ : ℕ → ℝ) (b h : ℕ) : ℕ → ℕ → ℝ := DK (hd A0 0 b h) (hd A0 1024 b h) (hd A0 2048 b h) (hd A1 0 b h) γ κ
def hDV (A0 A1 : ℕ → ℕ → ℝ) (γ κ : ℕ → ℝ) (b h : ℕ) : ℕ → ℕ → ℝ := DV (hd A0 0 b h) (hd A0 1024 b h) (hd A1 0 b h) γ κ

/-- The five results at an index: an array's row is `2048 · batch + position`, its column `128 · head + channel`. -/
def RQ (A0 A1 : ℕ → ℕ → ℝ) (γ κ : ℕ → ℝ) (r c : ℕ) : ℝ :=
  nb (hd A0 0 (r / 2048) (c / 128)) (hDQ A0 A1 γ κ (r / 2048) (c / 128)) γ (r % 2048) (c % 128)
def RK (A0 A1 : ℕ → ℕ → ℝ) (γ κ : ℕ → ℝ) (r c : ℕ) : ℝ :=
  nb (hd A0 1024 (r / 2048) (c / 128)) (hDK A0 A1 γ κ (r / 2048) (c / 128)) κ (r % 2048) (c % 128)
def RV (A0 A1 : ℕ → ℕ → ℝ) (γ κ : ℕ → ℝ) (r c : ℕ) : ℝ := hDV A0 A1 γ κ (r / 2048) (c / 128) (r % 2048) (c % 128)
/-- What point `s` adds to the gradients of the gains. -/
def TQ (A0 A1 : ℕ → ℕ → ℝ) (γ κ : ℕ → ℝ) (s d : ℕ) : ℝ :=
  ng 2048 (hd A0 0 (s / 4) (2 * (s % 4) + 0)) (hDQ A0 A1 γ κ (s / 4) (2 * (s % 4) + 0)) d + ng 2048 (hd A0 0 (s / 4) (2 * (s % 4) + 1)) (hDQ A0 A1 γ κ (s / 4) (2 * (s % 4) + 1)) d
def TK (A0 A1 : ℕ → ℕ → ℝ) (γ κ : ℕ → ℝ) (s d : ℕ) : ℝ :=
  ng 2048 (hd A0 1024 (s / 4) (2 * (s % 4) + 0)) (hDK A0 A1 γ κ (s / 4) (2 * (s % 4) + 0)) d + ng 2048 (hd A0 1024 (s / 4) (2 * (s % 4) + 1)) (hDK A0 A1 γ κ (s / 4) (2 * (s % 4) + 1)) d

/-- An array of real numbers, given index by index. -/
def arr (m n : ℕ) (f : ℕ → ℕ → ℝ) : (⟨2, ![m, n]⟩ : Shape).Idx → EReal := fun j => ((f (j 0).val (j 1).val : ℝ) : EReal)

theorem arr_ix2 {m n : ℕ} (f : ℕ → ℕ → ℝ) (a : Fin m) (c : Fin n) : arr m n f (ix2 a c) = ((f a.val c.val : ℝ) : EReal) := rfl

/-- Where a point's block lies in the array. -/
theorem place_b (t : ℕ) {r : ℕ} (hr : r < 2048) : (t / 4 * 2048 + r) / 2048 = t / 4 := by omega
theorem place_i (t : ℕ) {r : ℕ} (hr : r < 2048) : (t / 4 * 2048 + r) % 2048 = r := by omega
theorem place_h (t : ℕ) {c : ℕ} (hc : c < 256) : (t % 4 * 256 + c) / 128 = 2 * (t % 4) + c / 128 := by omega
theorem place_d (t c : ℕ) : (t % 4 * 256 + c) % 128 = c % 128 := by omega

theorem cell {x : S2048x256.Idx → EReal} {f : ℕ → ℕ → ℕ → ℝ} (hx : ∀ h : Fin 2, Col h x (f h.val)) (y : S2048x256.Idx) :
    x y = ((f ((y 1).val / 128) (y 0).val ((y 1).val % 128) : ℝ) : EReal) := by
  have h0 : (y 0).val < 2048 := (y 0).isLt
  have h1 : (y 1).val < 256 := (y 1).isLt
  refine (congrArg x ?_).trans (hx ⟨(y 1).val / 128, by omega⟩ ⟨(y 0).val, h0⟩ ⟨(y 1).val % 128, by omega⟩ h0)
  refine (eq_ix2 y).trans (congrArg (ix2 (y 0)) (Fin.ext ?_))
  show (y 1).val = 128 * ((y 1).val / 128) + (y 1).val % 128
  omega

section
variable {m : (ℓ : Loc nD τ sig) → Buf (Elt Ideal) ℓ} {c : Dev nD} {A0 A1 : ℕ → ℕ → ℝ} {γ κ : ℕ → ℝ} (H : Args m c A0 A1 γ κ)
include H

theorem leaves6 {t : Fin cfg0.N} {X : (cfg0.win 6).block.Idx → Elt Ideal (cfg0.win 6).elt} (hX : (rdat m c).Leaves 6 t X) (h : Fin 2) :
    Col h X (nb (hd A0 0 (t.val / 4) (2 * (t.val % 4) + h.val)) (hDQ A0 A1 γ κ (t.val / 4) (2 * (t.val % 4) + h.val)) γ) := by
  obtain ⟨_, _, y, p, rfl⟩ := hX
  exact o7_is (blk0 H t) (blk1 H t) (blk2 H t) (blk3 H t) (blk4 H t) (blk5 H t) h
theorem leaves7 {t : Fin cfg0.N} {X : (cfg0.win 7).block.Idx → Elt Ideal (cfg0.win 7).elt} (hX : (rdat m c).Leaves 7 t X) (h : Fin 2) :
    Col h X (nb (hd A0 1024 (t.val / 4) (2 * (t.val % 4) + h.val)) (hDK A0 A1 γ κ (t.val / 4) (2 * (t.val % 4) + h.val)) κ) := by
  obtain ⟨_, _, y, p, rfl⟩ := hX
  exact o8_is (blk0 H t) (blk1 H t) (blk2 H t) (blk3 H t) (blk4 H t) (blk5 H t) h
theorem leaves8 {t : Fin cfg0.N} {X : (cfg0.win 8).block.Idx → Elt Ideal (cfg0.win 8).elt} (hX : (rdat m c).Leaves 8 t X) (h : Fin 2) :
    Col h X (hDV A0 A1 γ κ (t.val / 4) (2 * (t.val % 4) + h.val)) := by
  obtain ⟨_, _, y, p, rfl⟩ := hX
  exact o9_is (blk0 H t) (blk1 H t) (blk2 H t) (blk3 H t) (blk4 H t) (blk5 H t) h

theorem leaves9 : ∀ (n : ℕ) (t : Fin cfg0.N) (_ : t.val = n) (X : (cfg0.win 9).block.Idx → Elt Ideal (cfg0.win 9).elt), (rdat m c).Leaves 9 t X →
    Is (m := 1) (n := 128) (φ := .f32) X fun _ d => ∑ s ∈ Finset.range (n + 1), TQ A0 A1 γ κ s d
  | 0, t, ht, X, ⟨Y, _, y, e⟩ => by
      rw [if_pos ht] at e
      subst e
      refine (o10_is (blk0 H t) (blk1 H t) (blk2 H t) (blk3 H t) (blk4 H t) (blk5 H t) pay111_is).congr fun a _ d _ => ?_
      rw [Finset.sum_range_one, ht]
      simp only [TQ, hDQ, Fin.val_zero, Fin.val_one, zero_add]
  | n + 1, t, ht, X, ⟨Y, hY, y, e⟩ => by
      rw [if_neg (by omega)] at e
      subst e
      have hp := ((rdat m c).finds_of_pos (by exact fetch9 t) (by omega) Y).mp hY
      have hl := hp.resolve_left (by rw [flush9 _ (show t.val - 1 < 7 by have := (idx t).2.2.2.2.2.2.2.2.2.2.2; omega)]; exact Bool.false_ne_true)
      have ih := leaves9 n _ (show t.val - 1 = n by omega) Y hl
      refine (o10_is (blk0 H t) (blk1 H t) (blk2 H t) (blk3 H t) (blk4 H t) (blk5 H t) ih).congr fun a _ d _ => ?_
      beta_reduce
      rw [Finset.sum_range_succ _ (n + 1), ht]
      exact add_assoc _ _ _

theorem leaves10 : ∀ (n : ℕ) (t : Fin cfg0.N) (_ : t.val = n) (X : (cfg0.win 10).block.Idx → Elt Ideal (cfg0.win 10).elt), (rdat m c).Leaves 10 t X →
    Is (m := 1) (n := 128) (φ := .f32) X fun _ d => ∑ s ∈ Finset.range (n + 1), TK A0 A1 γ κ s d
  | 0, t, ht, X, ⟨Y, _, y, e⟩ => by
      rw [if_pos ht] at e
      subst e
      refine (o11_is (blk0 H t) (blk1 H t) (blk2 H t) (blk3 H t) (blk4 H t) (blk5 H t) (show Is (k0_pay112 (F := Ideal)) fun _ _ => 0 by rw [pay112_eq]; exact pay111_is)).congr fun a _ d _ => ?_
      rw [Finset.sum_range_one, ht]
      simp only [TK, hDK, Fin.val_zero, Fin.val_one, zero_add]
  | n + 1, t, ht, X, ⟨Y, hY, y, e⟩ => by
      rw [if_neg (by omega)] at e
      subst e
      have hp := ((rdat m c).finds_of_pos (by exact fetch10 t) (by omega) Y).mp hY
      have hl := hp.resolve_left (by rw [flush10 _ (show t.val - 1 < 7 by have := (idx t).2.2.2.2.2.2.2.2.2.2.2; omega)]; exact Bool.false_ne_true)
      have ih := leaves10 n _ (show t.val - 1 = n by omega) Y hl
      refine (o11_is (blk0 H t) (blk1 H t) (blk2 H t) (blk3 H t) (blk4 H t) (blk5 H t) ih).congr fun a _ d _ => ?_
      beta_reduce
      rw [Finset.sum_range_succ _ (n + 1), ht]
      exact add_assoc _ _ _

variable {after : (w' : Fin cfg0.W) → Fin cfg0.N → (cfg0.win w').block.Idx → Elt Ideal (cfg0.win w').elt}
  (hL : ∀ (w : Fin cfg0.W) (u : Fin cfg0.N), (cfg0.win w).flush u = true → (rdat m c).Leaves w u (after w u))
include hL

theorem final6 : ((rdat m c).withAfter after).arrAt 6 cfg0.N = arr 4096 1024 (RQ A0 A1 γ κ) := by
  refine Pipeline.Dat.arrAt_eq_of_covers _ 6 _ (by decide +kernel) fun t hf y => ?_
  have hX := cell (f := fun h => nb (hd A0 0 (t.val / 4) (2 * (t.val % 4) + h)) (hDQ A0 A1 γ κ (t.val / 4) (2 * (t.val % 4) + h)) γ) (leaves6 H (hL 6 t hf)) y
  blk_simp
  refine hX.trans ?_
  unfold arr RQ
  blk_simp [idx t]
  have h0 : (y 0).val < 2048 := (y 0).isLt
  have h1 : (y 1).val < 256 := (y 1).isLt
  rw [place_b t.val h0, place_i t.val h0, place_h t.val h1, place_d t.val (y 1).val]

theorem final7 : ((rdat m c).withAfter after).arrAt 7 cfg0.N = arr 4096 1024 (RK A0 A1 γ κ) := by
  refine Pipeline.Dat.arrAt_eq_of_covers _ 7 _ (by decide +kernel) fun t hf y => ?_
  have hX := cell (f := fun h => nb (hd A0 1024 (t.val / 4) (2 * (t.val % 4) + h)) (hDK A0 A1 γ κ (t.val / 4) (2 * (t.val % 4) + h)) κ) (leaves7 H (hL 7 t hf)) y
  blk_simp
  refine hX.trans ?_
  unfold arr RK
  blk_simp [idx t]
  have h0 : (y 0).val < 2048 := (y 0).isLt
  have h1 : (y 1).val < 256 := (y 1).isLt
  rw [place_b t.val h0, place_i t.val h0, place_h t.val h1, place_d t.val (y 1).val]

theorem final8 : ((rdat m c).withAfter after).arrAt 8 cfg0.N = arr 4096 1024 (RV A0 A1 γ κ) := by
  refine Pipeline.Dat.arrAt_eq_of_covers _ 8 _ (by decide +kernel) fun t hf y => ?_
  have hX := cell (f := fun h => hDV A0 A1 γ κ (t.val / 4) (2 * (t.val % 4) + h)) (leaves8 H (hL 8 t hf)) y
  blk_simp
  refine hX.trans ?_
  unfold arr RV
  blk_simp [idx t]
  have h0 : (y 0).val < 2048 := (y 0).isLt
  have h1 : (y 1).val < 256 := (y 1).isLt
  rw [place_b t.val h0, place_i t.val h0, place_h t.val h1, place_d t.val (y 1).val]

theorem final9 : ((rdat m c).withAfter after).arrAt 9 cfg0.N = arr 1 128 (fun _ d => ∑ s ∈ Finset.range 8, TQ A0 A1 γ κ s d) := by
  refine Pipeline.Dat.arrAt_eq_of_after_last _ 9 t0_7 (by decide +kernel) _ fun j => ?_
  have hX := leaves9 H 7 _ rfl _ (hL 9 t0_7 (by decide +kernel))
  exact (congrArg (after 9 t0_7) (eq_ix2 j)).trans (hX (j 0) (j 1))

theorem final10 : ((rdat m c).withAfter after).arrAt 10 cfg0.N = arr 1 128 (fun _ d => ∑ s ∈ Finset.range 8, TK A0 A1 γ κ s d) := by
  refine Pipeline.Dat.arrAt_eq_of_after_last _ 10 t0_7 (by decide +kernel) _ fun j => ?_
  have hX := leaves10 H 7 _ rfl _ (hL 10 t0_7 (by decide +kernel))
  exact (congrArg (after 10 t0_7) (eq_ix2 j)).trans (hX (j 0) (j 1))

end

end Cert.KernelIdeal.Attn
-- ==== Proof.RefNorm.lean ====
/- The reference's normalised queries and keys, read at an index as real numbers. -/
module

public import proofs.«01_k».proof.Proof.KernelValue
public import proofs.«01_k».proof.Proof.Gen.ReferenceIdeal.Run
public import Idealize.ShloMosaic.Lib.Tactic.CleanTypes

@[expose] public section

set_option maxRecDepth 16384
set_option maxHeartbeats 200000

noncomputable section

namespace Cert.ReferenceIdeal.Attn

open Idealize.ShloMosaic Idealize.ShloMosaic.TcCoe Idealize.ShloMosaic.StableHlo
open Cert.ReferenceIdeal Cert.ReferenceIdeal.Gen Cert.ReferenceIdeal.Value
open Cert.KernelIdeal.Attn (Is hd ms rs nrm ms_pos rsqrt_ms lit_128 div_128 lit_eps lit_scl scl eps coe_sum kn qs)

/-- An array of four axes holds the real numbers `f`. -/
def Is4 {m n p q : ℕ} (x : (⟨4, ![m, n, p, q]⟩ : Shape).Idx → EReal) (f : ℕ → ℕ → ℕ → ℕ → ℝ) : Prop :=
  ∀ (a : Fin m) (b : Fin n) (c : Fin p) (d : Fin q), x (ix4 a b c d) = ((f a.val b.val c.val d.val : ℝ) : EReal)

/-- The arguments of the reference hold real numbers. -/
structure Real (V0 : Valuation τ sig (Elt Ideal)) (A0 A1 : ℕ → ℕ → ℝ) (γ κ : ℕ → ℝ) : Prop where
  x : Is (m := 4096) (n := 6144) (φ := .f32) (V0 (Proc.devRef .tc main_arg0)) A0
  o : Is (m := 4096) (n := 1024) (φ := .f32) (V0 (Proc.devRef .tc main_arg1)) A1
  g : Is (m := 1) (n := 128) (φ := .f32) (V0 (Proc.devRef .tc main_arg2)) fun _ => γ
  k : Is (m := 1) (n := 128) (φ := .f32) (V0 (Proc.devRef .tc main_arg3)) fun _ => κ

variable {V0 : Valuation τ sig (Elt Ideal)} {A0 A1 : ℕ → ℕ → ℝ} {γ κ : ℕ → ℝ} (H : Real V0 A0 A1 γ κ)
include H

theorem v3_is : Is4 (m := 2) (n := 2048) (p := 8) (q := 128) (res_main_v3 (F := Ideal) V0) fun b s h d => hd A0 0 b h s d := by
  intro b s h d
  unfold res_main_v3
  clean_types
  pointwise
  refine Eq.trans (congrArg (V0 (Proc.devRef .tc main_arg0)) ?_) (H.x ⟨2048 * b.val + s.val, by omega⟩ ⟨0 + 128 * h.val + d.val, by omega⟩)
  refine congrArg₂ ix2 (Fin.ext ?_) (Fin.ext ?_)
  · show b.val * 2048 + s.val = 2048 * b.val + s.val
    omega
  · show h.val * 128 + d.val = 0 + 128 * h.val + d.val
    omega
theorem v21_is : Is4 (m := 2) (n := 2048) (p := 8) (q := 128) (res_main_v21 (F := Ideal) V0) fun b s h d => hd A0 1024 b h s d := by
  intro b s h d
  unfold res_main_v21
  clean_types
  pointwise
  refine Eq.trans (congrArg (V0 (Proc.devRef .tc main_arg0)) ?_) (H.x ⟨2048 * b.val + s.val, by omega⟩ ⟨1024 + 128 * h.val + d.val, by omega⟩)
  refine congrArg₂ ix2 (Fin.ext ?_) (Fin.ext ?_)
  · show b.val * 2048 + s.val = 2048 * b.val + s.val
    omega
  · show 1024 + (h.val * 128 + d.val) = 1024 + 128 * h.val + d.val
    omega
theorem v39_is : Is4 (m := 2) (n := 2048) (p := 8) (q := 128) (res_main_v39 (F := Ideal) V0) fun b s h d => hd A0 2048 b h s d := by
  intro b s h d
  unfold res_main_v39
  clean_types
  pointwise
  refine Eq.trans (congrArg (V0 (Proc.devRef .tc main_arg0)) ?_) (H.x ⟨2048 * b.val + s.val, by omega⟩ ⟨2048 + 128 * h.val + d.val, by omega⟩)
  refine congrArg₂ ix2 (Fin.ext ?_) (Fin.ext ?_)
  · show b.val * 2048 + s.val = 2048 * b.val + s.val
    omega
  · show 2048 + (h.val * 128 + d.val) = 2048 + 128 * h.val + d.val
    omega
theorem v11_is : Is4 (m := 2) (n := 2048) (p := 8) (q := 1) (res_main_v11 (F := Ideal) V0) fun b s h _ => ms (hd A0 0 b h) s := by
  intro b s h d
  unfold res_main_v11
  clean_types
  pointwise
  simp only [v3_is H _ _ _ _, ← EReal.coe_mul, coe_sum, lit_128, lit_eps, div_128, ← EReal.coe_add, ms]
theorem v12_is : Is4 (m := 2) (n := 2048) (p := 8) (q := 1) (res_main_v12 (F := Ideal) V0) fun b s h _ => rs (hd A0 0 b h) s := by
  intro b s h d
  unfold res_main_v12
  clean_types
  pointwise
  rw [v11_is H b s h d]
  exact rsqrt_ms _ _
theorem v17_is : Is4 (m := 2) (n := 2048) (p := 8) (q := 128) (res_main_v17 (F := Ideal) V0) fun b s h d => nrm (hd A0 0 b h) s d := by
  intro b s h d
  unfold res_main_v17
  clean_types
  pointwise
  rw [v3_is H b s h d, v12_is H b s h 0, ← EReal.coe_mul]
  rfl
theorem v18_is : Is4 (m := 1) (n := 1) (p := 1) (q := 128) (res_main_v18 (F := Ideal) V0) fun _ _ _ d => γ d := by
  intro b s h d
  unfold res_main_v18
  clean_types
  pointwise
  exact H.g 0 d
theorem v20_is : Is4 (m := 2) (n := 2048) (p := 8) (q := 128) (res_main_v20 (F := Ideal) V0) fun b s h d => kn (hd A0 0 b h) γ s d := by
  intro b s h d
  unfold res_main_v20
  clean_types
  pointwise
  rw [v17_is H b s h d, v18_is H 0 0 0 d, ← EReal.coe_mul]
  rfl
theorem v29_is : Is4 (m := 2) (n := 2048) (p := 8) (q := 1) (res_main_v29 (F := Ideal) V0) fun b s h _ => ms (hd A0 1024 b h) s := by
  intro b s h d
  unfold res_main_v29
  clean_types
  pointwise
  simp only [v21_is H _ _ _ _, ← EReal.coe_mul, coe_sum, lit_128, lit_eps, div_128, ← EReal.coe_add, ms]
theorem v30_is : Is4 (m := 2) (n := 2048) (p := 8) (q := 1) (res_main_v30 (F := Ideal) V0) fun b s h _ => rs (hd A0 1024 b h) s := by
  intro b s h d
  unfold res_main_v30
  clean_types
  pointwise
  rw [v29_is H b s h d]
  exact rsqrt_ms _ _
theorem v35_is : Is4 (m := 2) (n := 2048) (p := 8) (q := 128) (res_main_v35 (F := Ideal) V0) fun b s h d => nrm (hd A0 1024 b h) s d := by
  intro b s h d
  unfold res_main_v35
  clean_types
  pointwise
  rw [v21_is H b s h d, v30_is H b s h 0, ← EReal.coe_mul]
  rfl
theorem v36_is : Is4 (m := 1) (n := 1) (p := 1) (q := 128) (res_main_v36 (F := Ideal) V0) fun _ _ _ d => κ d := by
  intro b s h d
  unfold res_main_v36
  clean_types
  pointwise
  exact H.k 0 d
theorem v38_is : Is4 (m := 2) (n := 2048) (p := 8) (q := 128) (res_main_v38 (F := Ideal) V0) fun b s h d => kn (hd A0 1024 b h) κ s d := by
  intro b s h d
  unfold res_main_v38
  clean_types
  pointwise
  rw [v35_is H b s h d, v36_is H 0 0 0 d, ← EReal.coe_mul]
  rfl
theorem v61_is : Is4 (m := 2) (n := 8) (p := 128) (q := 2048) (res_main_v61 (F := Ideal) V0) fun b h d s => hd A1 0 b h s d := by
  intro b h d s
  unfold res_main_v61
  clean_types
  pointwise
  refine Eq.trans (congrArg (V0 (Proc.devRef .tc main_arg1)) ?_) (H.o ⟨2048 * b.val + s.val, by omega⟩ ⟨0 + 128 * h.val + d.val, by omega⟩)
  refine congrArg₂ ix2 (Fin.ext ?_) (Fin.ext ?_)
  · show b.val * 2048 + s.val = 2048 * b.val + s.val
    omega
  · show h.val * 128 + d.val = 0 + 128 * h.val + d.val
    omega

end Cert.ReferenceIdeal.Attn
-- ==== Proof.RefScore.lean ====
/- The reference's scores, their log-sigmoids and the mask, read at an index as real numbers. -/
module

public import proofs.«01_k».proof.Proof.RefNorm

@[expose] public section

set_option maxRecDepth 16384
set_option maxHeartbeats 200000

noncomputable section

namespace Cert.ReferenceIdeal.Attn

open Idealize.ShloMosaic Idealize.ShloMosaic.TcCoe Idealize.ShloMosaic.StableHlo
open Cert.ReferenceIdeal Cert.ReferenceIdeal.Gen Cert.ReferenceIdeal.Value
open Cert.KernelIdeal.Attn (Is hd lit_scl scl coe_sum kn qs sc wt gw lsig lsigm select_coe select_coe_zero absf_coe max_zero_coe one_add_coe log_one_add_exp)

/-- The score of query `i` and key `j` of head `h` of batch `b`. -/
def Z (A0 : ℕ → ℕ → ℝ) (γ κ : ℕ → ℝ) (b h i j : ℕ) : ℝ := sc (qs (hd A0 0 b h) γ) (kn (hd A0 1024 b h) κ) i j

theorem log1p_exp (x : ℝ) : Ideal.log1p ((Real.exp x : ℝ) : EReal) = ((Real.log (1 + Real.exp x) : ℝ) : EReal) := by
  unfold Ideal.log1p
  rw [one_add_coe, log_one_add_exp]
theorem max_neg_zero (x : ℝ) : max (-x) 0 = -min x 0 := by
  rw [← max_neg_neg, neg_zero]
theorem lsig_sub (x : ℝ) : lsig x - x = lsigm x := by
  have := min_add_max x 0
  unfold lsig lsigm
  linarith
theorem zero_id : id (constant (F := Ideal) S_ .f32 0x00000000#32) ix0 = (0 : EReal) := by
  show constant (F := Ideal) S_ .f32 0x00000000#32 ix0 = (0 : EReal)
  pointwise

variable {V0 : Valuation τ sig (Elt Ideal)} {A0 A1 : ℕ → ℕ → ℝ} {γ κ : ℕ → ℝ}

theorem v48_is (i j : Fin 2048) : res_main_v48 (F := Ideal) V0 (ix2 i j) = if j.val < i.val then 1#1 else 0#1 := by
  unfold res_main_v48 res_main_v43
  clean_types
  pointwise
  refine (WordCmp.cmpi_slt_ofNat (by omega) (by omega)).trans ?_
  by_cases h : j.val < i.val <;> simp only [h, decide_true, decide_false, if_true, if_false] <;> rfl
theorem v51_1_is (b : Fin 2) (h : Fin 8) (i j : Fin 2048) : res_main_v51_1 (F := Ideal) V0 (ix4 b h i j) = if j.val < i.val then 1#1 else 0#1 := by
  unfold res_main_v51_1
  clean_types
  pointwise
  exact v48_is i j
theorem v56_1_is (b : Fin 2) (h : Fin 8) (i j : Fin 2048) : res_main_v56_1 (F := Ideal) V0 (ix4 b h i j) = if j.val < i.val then 1#1 else 0#1 := by
  unfold res_main_v56_1
  clean_types
  pointwise
  exact v48_is i j

variable (H : Real V0 A0 A1 γ κ)
include H

theorem v42_is : Is4 (m := 2) (n := 8) (p := 2048) (q := 2048) (res_main_v42 (F := Ideal) V0) (Z A0 γ κ) := by
  intro b h i j
  unfold res_main_v42
  clean_types
  pointwise
  simp only [v20_is H _ _ _ _, v38_is H _ _ _ _, ← EReal.coe_mul, coe_sum, lit_scl]
  refine congrArg _ ?_
  unfold Z sc
  rw [Finset.sum_mul]
  exact Finset.sum_congr rfl fun d _ => by simp only [qs, kn]; ring
theorem call0_v1_0_is : Is4 (m := 2) (n := 8) (p := 2048) (q := 2048) (res_main_call0_v1_0 (F := Ideal) V0) fun b h i j => -lsig (Z A0 γ κ b h i j) := by
  intro b h i j
  unfold res_main_call0_v1_0 res_main_call0_call0_v3 res_main_call0_call0_cst res_main_call0_v0
  clean_types
  pointwise
  rw [v42_is H b h i j, ← EReal.coe_neg, absf_coe, ← EReal.coe_neg, Ideal.exp_coe, log1p_exp, max_zero_coe, ← EReal.coe_add, if_neg (fun h => h rfl)]
  refine congrArg _ ?_
  rw [abs_neg, max_neg_zero]
  unfold lsig
  ring
theorem v49_0_is : Is4 (m := 2) (n := 8) (p := 2048) (q := 2048) (res_main_v49_0 (F := Ideal) V0) fun b h i j => lsig (Z A0 γ κ b h i j) := by
  intro b h i j
  unfold res_main_v49_0
  clean_types
  pointwise
  rw [call0_v1_0_is H b h i j, ← EReal.coe_neg, neg_neg]
theorem v51_0_is : Is4 (m := 2) (n := 8) (p := 2048) (q := 2048) (res_main_v51_0 (F := Ideal) V0) fun b h i j => if j < i then lsigm (Z A0 γ κ b h i j) else 0 := by
  intro b h i j
  unfold res_main_v51_0
  clean_types
  pointwise
  rw [v51_1_is b h i j, v49_0_is H b h i j, v42_is H b h i j, ← EReal.coe_sub, lsig_sub]
  exact (congrArg (Scalar.select _ _) zero_id).trans (select_coe_zero _ _)

end Cert.ReferenceIdeal.Attn
-- ==== Proof.Window.lean ====
/- The running sums of the reference along the keys: a window as long as the axis, padded on one side. -/
module

public import proofs.«01_k».proof.Proof.Lift

@[expose] public section

set_option maxRecDepth 16384
set_option maxHeartbeats 200000

noncomputable section

namespace Cert.ReferenceIdeal.Attn

open Idealize.ShloMosaic Idealize.ShloMosaic.TcCoe
open Cert.KernelIdeal.Attn (coe_sum)

theorem foldl_add {n : ℕ} (g : Fin n → EReal) : (List.finRange n).foldl (fun r k => r + g k) 0 = ∑ k, g k := by
  rw [Fin.sum_univ_def, List.sum_eq_foldl, List.foldl_map]

/-- A window sum along the last of four axes, read at an index. -/
theorem window_sum {A B C N lo hi : ℕ} (x : (⟨4, ![A, B, C, N]⟩ : Shape).Idx → EReal) (f : ℕ → ℝ)
    (h : (⟨4, ![A, B, C, N]⟩ : Shape).ReduceWindows (![1, 1, 1, N] : Fin 4 → ℕ) ![1, 1, 1, 1] ![0, 0, 0, lo] ![0, 0, 0, hi] ⟨4, ![A, B, C, N]⟩)
    (a : Fin A) (b : Fin B) (c : Fin C) (j : Fin N) (hx : ∀ n : Fin N, x (ix4 a b c n) = ((f n.val : ℝ) : EReal)) :
    Ideal.hostReduceWindowAdd ![1, 1, 1, N] ![1, 1, 1, 1] ![0, 0, 0, lo] ![0, 0, 0, hi] h x 0 (ix4 a b c j)
      = ((∑ n ∈ Finset.range N, if lo ≤ j.val + n ∧ j.val + n - lo < N then f (j.val + n - lo) else 0 : ℝ) : EReal) := by
  unfold Ideal.hostReduceWindowAdd Host.reduceWindow
  refine (foldl_add _).trans ?_
  rw [← (Shape.rowMajor ⟨4, ![1, 1, 1, N]⟩).sum_comp, ← coe_sum, Finset.sum_range]
  refine (sum_idx4 (n0 := 1) (n1 := 1) (n2 := 1) (n3 := N) _).trans ?_
  rw [Fin.sum_univ_one, Fin.sum_univ_one, Fin.sum_univ_one]
  refine Finset.sum_congr rfl fun n _ => ?_
  have hw : ∀ e, ((Shape.rowMajor ⟨4, ![1, 1, 1, N]⟩).symm ((Shape.rowMajor ⟨4, ![1, 1, 1, N]⟩) (ix4 0 0 0 n)) e).val = (ix4 (0 : Fin 1) (0 : Fin 1) (0 : Fin 1) n e).val :=
    fun e => by rw [Equiv.symm_apply_apply]
  split
  · next hin =>
    have h3 := hin 3
    have e3 := hw 3
    change lo ≤ j.val * 1 + ((Shape.rowMajor ⟨4, ![1, 1, 1, N]⟩).symm _ 3).val ∧ j.val * 1 + ((Shape.rowMajor ⟨4, ![1, 1, 1, N]⟩).symm _ 3).val - lo < N at h3
    rw [e3, Nat.mul_one] at h3
    change lo ≤ j.val + n.val ∧ j.val + n.val - lo < N at h3
    rw [if_pos h3]
    refine (congrArg x (funext fun e => Fin.ext ?_)).trans (hx ⟨j.val + n.val - lo, h3.2⟩)
    match e with
    | ⟨0, _⟩ => exact (congrArg (fun k => a.val * 1 + k - 0) (hw 0)).trans (Nat.mul_one _)
    | ⟨1, _⟩ => exact (congrArg (fun k => b.val * 1 + k - 0) (hw 1)).trans (Nat.mul_one _)
    | ⟨2, _⟩ => exact (congrArg (fun k => c.val * 1 + k - 0) (hw 2)).trans (Nat.mul_one _)
    | ⟨3, _⟩ => exact (congrArg (fun k => j.val * 1 + k - lo) e3).trans (by rw [Nat.mul_one]; rfl)
  · next hin =>
    rw [if_neg fun h3 => hin fun e => ?_]
    · exact EReal.coe_zero.symm
    · match e with
      | ⟨0, _⟩ => exact ⟨Nat.zero_le _, lt_of_eq_of_lt ((congrArg (fun k => a.val * 1 + k - 0) (hw 0)).trans (Nat.mul_one _)) a.isLt⟩
      | ⟨1, _⟩ => exact ⟨Nat.zero_le _, lt_of_eq_of_lt ((congrArg (fun k => b.val * 1 + k - 0) (hw 1)).trans (Nat.mul_one _)) b.isLt⟩
      | ⟨2, _⟩ => exact ⟨Nat.zero_le _, lt_of_eq_of_lt ((congrArg (fun k => c.val * 1 + k - 0) (hw 2)).trans (Nat.mul_one _)) c.isLt⟩
      | ⟨3, _⟩ =>
        have e : j.val * 1 + ((Shape.rowMajor ⟨4, ![1, 1, 1, N]⟩).symm ((Shape.rowMajor ⟨4, ![1, 1, 1, N]⟩) (ix4 0 0 0 n)) 3).val = j.val + n.val := by
          rw [hw 3, Nat.mul_one]; rfl
        exact ⟨h3.1.trans_eq e.symm, lt_of_eq_of_lt (congrArg (· - lo) e) h3.2⟩

/-- Padded high, the sum of an element and those after it. -/
theorem suffix_sum {N : ℕ} (f : ℕ → ℝ) {j : ℕ} (hj : j < N) :
    (∑ n ∈ Finset.range N, if 0 ≤ j + n ∧ j + n - 0 < N then f (j + n - 0) else 0) = ∑ x ∈ Finset.Ico j N, f x := by
  rw [Finset.sum_Ico_eq_sum_range, ← Finset.sum_filter]
  refine Finset.sum_congr (Finset.ext fun n => ?_) fun n _ => rfl
  rw [Finset.mem_filter, Finset.mem_range, Finset.mem_range]
  omega

/-- Padded low, the sum of an element and those before it. -/
theorem prefix_sum {N lo : ℕ} (f : ℕ → ℝ) (hN : lo + 1 = N) {j : ℕ} (hj : j < N) :
    (∑ n ∈ Finset.range N, if lo ≤ j + n ∧ j + n - lo < N then f (j + n - lo) else 0) = ∑ x ∈ Finset.range (j + 1), f x := by
  rw [← Finset.sum_filter]
  refine Finset.sum_bij' (fun n _ => j + n - lo) (fun x _ => x + lo - j) ?_ ?_ ?_ ?_ ?_
  all_goals simp only [Finset.mem_filter, Finset.mem_range]
  all_goals intros
  all_goals first | omega | trivial

end Cert.ReferenceIdeal.Attn
-- ==== Proof.RefGrad.lean ====
/- The reference's weights and the gradients of its scores, read at an index as real numbers. -/
module

public import proofs.«01_k».proof.Proof.RefScore
public import proofs.«01_k».proof.Proof.Window

@[expose] public section

set_option maxRecDepth 16384
set_option maxHeartbeats 200000

noncomputable section

namespace Cert.ReferenceIdeal.Attn

open Idealize.ShloMosaic Idealize.ShloMosaic.TcCoe Idealize.ShloMosaic.StableHlo
open Cert.ReferenceIdeal Cert.ReferenceIdeal.Gen Cert.ReferenceIdeal.Value
open Cert.KernelIdeal.Attn (Is hd lit_scl scl coe_sum kn qs sc wt gw ds sg gv gk gq lsig lsigm select_coe select_coe_zero DK DQ DV hDK hDQ hDV)

/-- The logarithm of what a score leaves to the keys before it, where its key comes before its query. -/
def L (A0 : ℕ → ℕ → ℝ) (γ κ : ℕ → ℝ) (b h i j : ℕ) : ℝ := if j < i then lsigm (Z A0 γ κ b h i j) else 0
/-- The weights before the mask. -/
def E (A0 : ℕ → ℕ → ℝ) (γ κ : ℕ → ℝ) (b h i j : ℕ) : ℝ :=
  Real.exp (lsig (Z A0 γ κ b h i j) + ((∑ x ∈ Finset.Ico j 2048, L A0 γ κ b h i x) - L A0 γ κ b h i j))
/-- The weights, their gradients times them, and the gradients of the scores. -/
def W (A0 : ℕ → ℕ → ℝ) (γ κ : ℕ → ℝ) (b h i j : ℕ) : ℝ := wt (qs (hd A0 0 b h) γ) (kn (hd A0 1024 b h) κ) i j
def G (A0 A1 : ℕ → ℕ → ℝ) (γ κ : ℕ → ℝ) (b h i j : ℕ) : ℝ := gw (qs (hd A0 0 b h) γ) (kn (hd A0 1024 b h) κ) (hd A0 2048 b h) (hd A1 0 b h) i j
def S (A0 A1 : ℕ → ℕ → ℝ) (γ κ : ℕ → ℝ) (b h i j : ℕ) : ℝ := ds (qs (hd A0 0 b h) γ) (kn (hd A0 1024 b h) κ) (hd A0 2048 b h) (hd A1 0 b h) i j

section
variable (A0 A1 : ℕ → ℕ → ℝ) (γ κ : ℕ → ℝ) (b h : ℕ) {i j : ℕ}

theorem E_eq (hj : j < i) (hi : i < 2048) : E A0 γ κ b h i j = W A0 γ κ b h i j := by
  unfold E W wt
  rw [if_pos hj, Finset.sum_eq_sum_Ico_succ_bot (by omega), add_sub_cancel_left]
  refine congrArg (fun y => Real.exp (lsig (Z A0 γ κ b h i j) + y)) ?_
  rw [← Finset.sum_Ico_consecutive _ (show j + 1 ≤ i by omega) (show i ≤ 2048 by omega),
    Finset.sum_congr rfl (g := fun x => lsigm (Z A0 γ κ b h i x)) fun x hx => show L A0 γ κ b h i x = _ from if_pos (Finset.mem_Ico.mp hx).2,
    Finset.sum_eq_zero (s := Finset.Ico i 2048) fun x hx => show L A0 γ κ b h i x = _ from if_neg (by have := Finset.mem_Ico.mp hx; omega), add_zero]
  rfl

theorem W_eq (hi : i < 2048) : (if j < i then E A0 γ κ b h i j else 0) = W A0 γ κ b h i j := by
  by_cases hj : j < i
  · rw [if_pos hj, E_eq A0 γ κ b h hj hi]
  · rw [if_neg hj]; exact (if_neg hj).symm

theorem G_eq (hi : i < 2048) :
    (if j < i then (∑ d : Fin 128, hd A1 0 b h i d * hd A0 2048 b h j d) * E A0 γ κ b h i j else 0) = G A0 A1 γ κ b h i j := by
  by_cases hj : j < i
  · rw [if_pos hj, E_eq A0 γ κ b h hj hi]; exact mul_comm _ _
  · rw [if_neg hj]
    exact ((congrArg (· * _) (if_neg hj)).trans (zero_mul _)).symm

theorem exp_lsigm (x : ℝ) : Real.exp (lsigm x) = 1 - Real.exp (lsig x) := by
  have hp : 0 < 1 + Real.exp (-|x|) := by positivity
  unfold lsigm lsig
  rw [Real.exp_sub, Real.exp_sub, Real.exp_log hp, eq_sub_iff_add_eq, ← add_div, div_eq_one_iff_eq hp.ne']
  rcases le_total 0 x with hx | hx
  · rw [max_eq_left hx, min_eq_right hx, abs_of_nonneg hx, Real.exp_zero, add_comm]
  · rw [max_eq_right hx, min_eq_left hx, abs_of_nonpos hx, neg_zero, Real.exp_zero, neg_neg]

/-- The reference's way of writing the gradient of a score is the kernel's. -/
theorem S_eq : (-(if j < i then -G A0 A1 γ κ b h i j + ∑ x ∈ Finset.range (j + 1), G A0 A1 γ κ b h i x else 0)
      + -(-(G A0 A1 γ κ b h i j + if j < i then -G A0 A1 γ κ b h i j + ∑ x ∈ Finset.range (j + 1), G A0 A1 γ κ b h i x else 0)
        * Real.exp (lsigm (Z A0 γ κ b h i j)))) * scl = S A0 A1 γ κ b h i j * scl := by
  refine congrArg (· * scl) ?_
  by_cases hj : j < i
  · have e : S A0 A1 γ κ b h i j = G A0 A1 γ κ b h i j - (G A0 A1 γ κ b h i j + ∑ x ∈ Finset.range j, G A0 A1 γ κ b h i x) * Real.exp (lsig (Z A0 γ κ b h i j)) := if_pos hj
    rw [if_pos hj, e, exp_lsigm, Finset.sum_range_succ]
    ring
  · have e : S A0 A1 γ κ b h i j = 0 := if_neg hj
    have g : G A0 A1 γ κ b h i j = 0 := (congrArg (· * _) (if_neg hj)).trans (zero_mul _)
    rw [if_neg hj, e, g]
    ring

end

theorem lit_inf : Ideal.ofBits .f32 0x7F800000#32 = (⊤ : EReal) := by simp [Ideal.ofBits, Ideal.ieee]

theorem init_zero : broadcastInDim S_ ![] bcast_S_S_ (constant (F := Ideal) S_ .f32 0x00000000#32) (Shape.Idx.first h_S_) = (0 : EReal) := by
  exact zero_id

theorem high_sum {x : FVec Ideal S2x8x2048x2048 .f32} {f : ℕ → ℕ → ℕ → ℕ → ℝ} (hx : Is4 (m := 2) (n := 8) (p := 2048) (q := 2048) x f)
    (b : Fin 2) (h : Fin 8) (i j : Fin 2048) :
    Host.reduceWindowAdd ![1, 1, 1, 2048] ![1, 1, 1, 1] ![0, 0, 0, 0] ![0, 0, 0, 2047] x (broadcastInDim S_ ![] bcast_S_S_ (constant S_ FTy.f32 0#32))
      reduceWindows_S2x8x2048x2048_S2x8x2048x2048_w1s1p0_0_w1s1p0_0_w1s1p0_0_w2048s1p0_2047 h_S_ (ix4 b h i j)
      = ((∑ x ∈ Finset.Ico j.val 2048, f b.val h.val i.val x : ℝ) : EReal) := by
  unfold Host.reduceWindowAdd
  rw [Ideal.hostReduceWindowAdd_def, init_zero]
  exact (window_sum x (f b.val h.val i.val) _ b h i j fun n => hx b h i n).trans (congrArg _ (suffix_sum _ j.isLt))

theorem low_sum {x : FVec Ideal S2x8x2048x2048 .f32} {f : ℕ → ℕ → ℕ → ℕ → ℝ} (hx : Is4 (m := 2) (n := 8) (p := 2048) (q := 2048) x f)
    (b : Fin 2) (h : Fin 8) (i j : Fin 2048) :
    Host.reduceWindowAdd ![1, 1, 1, 2048] ![1, 1, 1, 1] ![0, 0, 0, 2047] ![0, 0, 0, 0] x (broadcastInDim S_ ![] bcast_S_S_ (constant S_ FTy.f32 0#32))
      reduceWindows_S2x8x2048x2048_S2x8x2048x2048_w1s1p0_0_w1s1p0_0_w1s1p0_0_w2048s1p2047_0 h_S_ (ix4 b h i j)
      = ((∑ x ∈ Finset.range (j.val + 1), f b.val h.val i.val x : ℝ) : EReal) := by
  unfold Host.reduceWindowAdd
  rw [Ideal.hostReduceWindowAdd_def, init_zero]
  exact (window_sum x (f b.val h.val i.val) _ b h i j fun n => hx b h i n).trans (congrArg _ (prefix_sum _ rfl j.isLt))

variable {V0 : Valuation τ sig (Elt Ideal)} {A0 A1 : ℕ → ℕ → ℝ} {γ κ : ℕ → ℝ} (H : Real V0 A0 A1 γ κ)
include H

theorem v55_is : Is4 (m := 2) (n := 8) (p := 2048) (q := 2048) (res_main_v55 (F := Ideal) V0) (E A0 γ κ) := by
  intro b h i j
  unfold res_main_v55
  clean_types
  pointwise
  rw [v49_0_is H b h i j, v51_0_is H b h i j]
  rw [high_sum (f := L A0 γ κ) (v51_0_is H) b h i j, ← EReal.coe_sub, ← EReal.coe_add, Ideal.exp_coe]
  rfl

theorem v56_0_is : Is4 (m := 2) (n := 8) (p := 2048) (q := 2048) (res_main_v56_0 (F := Ideal) V0) (W A0 γ κ) := by
  intro b h i j
  unfold res_main_v56_0
  clean_types
  pointwise
  rw [v56_1_is b h i j, v55_is H b h i j]
  exact (congrArg (Scalar.select _ _) zero_id).trans ((select_coe_zero _ _).trans (congrArg _ (W_eq A0 γ κ b h i.isLt)))

theorem v66_is : Is4 (m := 2) (n := 8) (p := 2048) (q := 2048) (res_main_v66 (F := Ideal) V0) (G A0 A1 γ κ) := by
  intro b h i j
  unfold res_main_v66
  clean_types
  pointwise
  simp only [v56_1_is b h i j, v55_is H b h i j, v61_is H _ _ _ _, v39_is H _ _ _ _, ← EReal.coe_mul, coe_sum]
  exact (select_coe_zero _ _).trans (congrArg _ (G_eq A0 A1 γ κ b h i.isLt))

theorem v70_is : Is4 (m := 2) (n := 8) (p := 2048) (q := 2048) (res_main_v70 (F := Ideal) V0)
    fun b h i j => if j < i then -G A0 A1 γ κ b h i j + ∑ x ∈ Finset.range (j + 1), G A0 A1 γ κ b h i x else 0 := by
  intro b h i j
  unfold res_main_v70
  clean_types
  pointwise
  rw [v51_1_is b h i j, v66_is H b h i j]
  rw [low_sum (v66_is H) b h i j, ← EReal.coe_neg, ← EReal.coe_add, select_coe_zero]

theorem v76_is : Is4 (m := 2) (n := 8) (p := 2048) (q := 2048) (res_main_v76 (F := Ideal) V0) fun b h i j => S A0 A1 γ κ b h i j * scl := by
  intro b h i j
  unfold res_main_v76 res_main_call0_v0
  clean_types
  pointwise
  rw [v70_is H b h i j, v66_is H b h i j, v42_is H b h i j, call0_v1_0_is H b h i j, ← EReal.coe_neg (Z A0 γ κ b h i j), lit_inf, if_neg (EReal.coe_ne_top _), if_neg (EReal.coe_ne_top _), lit_scl,
    ← EReal.coe_sub, Ideal.exp_coe, ← EReal.coe_add, ← EReal.coe_neg, ← EReal.coe_neg, ← EReal.coe_mul, ← EReal.coe_neg, ← EReal.coe_add, ← EReal.coe_mul,
    show -Z A0 γ κ b h i j - -lsig (Z A0 γ κ b h i j) = lsigm (Z A0 γ κ b h i j) by rw [← lsig_sub]; ring]
  exact congrArg _ (S_eq A0 A1 γ κ b h)

theorem v78_is : Is4 (m := 2) (n := 2048) (p := 8) (q := 128) (res_main_v78 (F := Ideal) V0) fun b j h d => hDK A0 A1 γ κ b h j d := by
  intro b j h d
  unfold res_main_v78
  clean_types
  pointwise
  simp only [v76_is H _ _ _ _, v20_is H _ _ _ _, ← EReal.coe_mul, coe_sum]
  refine congrArg _ ?_
  unfold hDK DK gk
  rw [Finset.sum_range]
  exact Finset.sum_congr rfl fun i _ => by simp only [S, qs, kn]; ring

theorem v80_is : Is4 (m := 2) (n := 2048) (p := 8) (q := 128) (res_main_v80 (F := Ideal) V0) fun b i h d => hDQ A0 A1 γ κ b h i d := by
  intro b i h d
  unfold res_main_v80
  clean_types
  pointwise
  simp only [v76_is H _ _ _ _, v38_is H _ _ _ _, ← EReal.coe_mul, coe_sum]
  refine congrArg _ ?_
  unfold hDQ DQ gq
  rw [Finset.sum_range, Finset.sum_mul]
  exact Finset.sum_congr rfl fun j _ => by simp only [S]; ring

end Cert.ReferenceIdeal.Attn
-- ==== Proof.RefOut.lean ====
/- The reference's five results as arrays of real numbers: the arrays the kernel leaves. -/
module

public import proofs.«01_k».proof.Proof.RefGrad

@[expose] public section

set_option maxRecDepth 16384
set_option maxHeartbeats 200000

noncomputable section

namespace Cert.ReferenceIdeal.Attn

open Idealize.ShloMosaic Idealize.ShloMosaic.TcCoe Idealize.ShloMosaic.StableHlo
open Cert.ReferenceIdeal Cert.ReferenceIdeal.Gen Cert.ReferenceIdeal.Value
open Cert.KernelIdeal.Attn (Is hd lit_scl scl coe_sum kn qs sc wt gw ds sg gv gk gq lsig lsigm select_coe select_coe_zero DK DQ DV hDK hDQ hDV rs ms nrm ms_pos nb ng div_128 lit_128 arr arr_ix2 RQ RK RV TQ TK)

/-- The gradient of a row's mean square, as the reference has it: from the rows `x`, the gradients `y` of the normalised rows times their gain, and the gain. -/
def U (x y : ℕ → ℕ → ℝ) (g : ℕ → ℝ) (i : ℕ) : ℝ := (∑ e : Fin 128, x i e * (y i e * g e)) * (-(1 / 2) * (rs x i / ms x i)) / 128

theorem rs_sq (x : ℕ → ℕ → ℝ) (i : ℕ) : rs x i / ms x i = rs x i * (rs x i * rs x i) := by
  have h := (ms_pos x i).le
  unfold rs
  rw [← mul_inv, Real.mul_self_sqrt h, div_eq_mul_inv]

/-- Both ways of undoing the normalisation are one. -/
theorem nb_eq (x y : ℕ → ℕ → ℝ) (g : ℕ → ℝ) (i d : ℕ) : y i d * g d * rs x i + x i d * U x y g i + U x y g i * x i d = nb x y g i d := by
  have e : ∑ e : Fin 128, y i e * g e * nrm x i e = (∑ e : Fin 128, x i e * (y i e * g e)) * rs x i := by
    rw [Finset.sum_mul]
    exact Finset.sum_congr rfl fun e _ => by unfold nrm; ring
  unfold nb U
  rw [e, rs_sq]
  unfold nrm
  ring

theorem lit_half : Ideal.ofBits .f32 0xBF000000#32 = ((-(1 / 2) : ℝ) : EReal) := by simp [Ideal.ofBits, Ideal.ieee, -EReal.coe_mul]; norm_num

theorem div_ms (r : ℝ) (x : ℕ → ℕ → ℝ) (i : ℕ) : Ideal.div (r : EReal) ((ms x i : ℝ) : EReal) = ((r / ms x i : ℝ) : EReal) := by
  rw [Ideal.div_coe (ms_pos x i).ne', ← EReal.coe_mul, mul_one_div]

/-- The sum over the first three of four axes, read at an index. -/
theorem sum012 {n0 n1 n2 n3 : ℕ} (h : (⟨4, ![n0, n1, n2, n3]⟩ : Shape).ReducesTo [0, 1, 2] ⟨1, ![n3]⟩) (v : (⟨4, ![n0, n1, n2, n3]⟩ : Shape).Idx → EReal) (j : Fin n3) :
    Ideal.hostReduceAdd h v 0 (ix1 j) = ∑ a : Fin n0, ∑ b : Fin n1, ∑ c : Fin n2, v (ix4 a b c j) := by
  unfold Ideal.hostReduceAdd
  rw [zero_add, Finset.sum_filter]
  refine (sum_idx4 (n0 := n0) (n1 := n1) (n2 := n2) (n3 := n3) _).trans ?_
  refine Finset.sum_congr rfl fun a _ => Finset.sum_congr rfl fun b _ => Finset.sum_congr rfl fun c _ => ?_
  have hd : ∀ e : Fin n3, h.drop (ix4 a b c e) = ix1 j ↔ e = j := fun e =>
    ⟨fun he => Fin.ext (congrArg Fin.val (congrFun he 0)), fun he => by
      subst he
      funext k
      match k with
      | ⟨0, _⟩ => exact Fin.ext rfl⟩
  simp only [hd, Finset.sum_ite_eq', Finset.mem_univ, if_true]

/-- Two batches of eight heads are eight points of two heads. -/
theorem sum_heads (T : ℕ → ℕ → ℝ) : ∑ b : Fin 2, ∑ h : Fin 8, T b.val h.val = ∑ s ∈ Finset.range 8, (T (s / 4) (2 * (s % 4) + 0) + T (s / 4) (2 * (s % 4) + 1)) := by
  rw [Finset.sum_range]
  simp only [Fin.sum_univ_succ, Fin.sum_univ_zero, Fin.val_zero, Fin.val_succ]
  norm_num
  ring

variable {V0 : Valuation τ sig (Elt Ideal)} {A0 A1 : ℕ → ℕ → ℝ} {γ κ : ℕ → ℝ} (H : Real V0 A0 A1 γ κ)
include H

theorem v86_is : Is4 (m := 2) (n := 2048) (p := 8) (q := 128) (res_main_v86 (F := Ideal) V0) fun b s h d => hDK A0 A1 γ κ b h s d * κ d := by
  intro b s h d
  unfold res_main_v86
  clean_types
  pointwise
  rw [v78_is H b s h d, v36_is H 0 0 0 d, ← EReal.coe_mul]
theorem v108_is : Is4 (m := 2) (n := 2048) (p := 8) (q := 128) (res_main_v108 (F := Ideal) V0) fun b s h d => hDQ A0 A1 γ κ b h s d * γ d := by
  intro b s h d
  unfold res_main_v108
  clean_types
  pointwise
  rw [v80_is H b s h d, v18_is H 0 0 0 d, ← EReal.coe_mul]
theorem v97_is : Is4 (m := 2) (n := 2048) (p := 8) (q := 128) (res_main_v97 (F := Ideal) V0) fun b s h _ => U (hd A0 1024 b h) (hDK A0 A1 γ κ b h) κ s := by
  intro b s h d
  unfold res_main_v97
  clean_types
  pointwise
  simp only [v21_is H _ _ _ _, v86_is H _ _ _ _, v30_is H _ _ _ _, v29_is H _ _ _ _, ← EReal.coe_mul, coe_sum, lit_half, lit_128, div_ms, div_128, Fin.sum_univ_one]
  rfl
theorem v119_is : Is4 (m := 2) (n := 2048) (p := 8) (q := 128) (res_main_v119 (F := Ideal) V0) fun b s h _ => U (hd A0 0 b h) (hDQ A0 A1 γ κ b h) γ s := by
  intro b s h d
  unfold res_main_v119
  clean_types
  pointwise
  simp only [v3_is H _ _ _ _, v108_is H _ _ _ _, v12_is H _ _ _ _, v11_is H _ _ _ _, ← EReal.coe_mul, coe_sum, lit_half, lit_128, div_ms, div_128, Fin.sum_univ_one]
  rfl
omit H in
theorem Is.eq {m n : ℕ} {φ : FTy} {x : FVec Ideal ⟨2, ![m, n]⟩ φ} {f : ℕ → ℕ → ℝ} (h : Is x f) : x = arr m n f :=
  funext fun y => (congrArg x (eq_ix2 y)).trans (h (y 0) (y 1))

theorem out126 : Is (m := 4096) (n := 1024) (φ := .bf16) (truncf .bf16 (shapeCast _ (addf (addf (mulf (res_main_v108 V0) (broadcastInDim S2x2048x8x128 ![0, 1, 2, 3] bcast_S2x2048x8x1_S2x2048x8x128_0_1_2_3 (res_main_v12 V0))) (mulf (res_main_v3 V0) (res_main_v119 V0))) (mulf (res_main_v119 V0) (res_main_v3 V0))) shapeCasts_S2x2048x8x128_S4096x1024) bitsLt_bf16_f32) (RQ A0 A1 γ κ) := by
  intro r d
  clean_types
  pointwise
  rw [v108_is H, v12_is H, v3_is H, v119_is H, ← EReal.coe_mul, ← EReal.coe_mul, ← EReal.coe_mul, ← EReal.coe_add, ← EReal.coe_add]
  exact congrArg _ (nb_eq _ _ _ _ _)
theorem out127 : Is (m := 4096) (n := 1024) (φ := .bf16) (truncf .bf16 (shapeCast _ (addf (addf (mulf (res_main_v86 V0) (broadcastInDim S2x2048x8x128 ![0, 1, 2, 3] bcast_S2x2048x8x1_S2x2048x8x128_0_1_2_3 (res_main_v30 V0))) (mulf (res_main_v21 V0) (res_main_v97 V0))) (mulf (res_main_v97 V0) (res_main_v21 V0))) shapeCasts_S2x2048x8x128_S4096x1024) bitsLt_bf16_f32) (RK A0 A1 γ κ) := by
  intro r d
  clean_types
  pointwise
  rw [v86_is H, v30_is H, v21_is H, v97_is H, ← EReal.coe_mul, ← EReal.coe_mul, ← EReal.coe_mul, ← EReal.coe_add, ← EReal.coe_add]
  exact congrArg _ (nb_eq _ _ _ _ _)
theorem out128 : Is (m := 4096) (n := 1024) (φ := .bf16) (truncf .bf16 (shapeCast S4096x1024 (transpose S2x2048x8x128 [0, 3, 1, 2] (Host.dotGeneral (φ₁ := .f32) (φ₂ := .f32) dot_S2x8x128x2048_S2x8x2048x2048_S2x8x128x2048_3_2_2_3_01_01 none (res_main_v61 V0) (res_main_v56_0 V0)) transposes_S2x8x128x2048_S2x2048x8x128_0_3_1_2) shapeCasts_S2x2048x8x128_S4096x1024) bitsLt_bf16_f32) (RV A0 A1 γ κ) := by
  intro r d
  clean_types
  pointwise
  simp only [v61_is H _ _ _ _, v56_0_is H _ _ _ _, ← EReal.coe_mul, coe_sum]
  refine congrArg _ ?_
  unfold RV hDV DV gv
  rw [Finset.sum_range]
  exact Finset.sum_congr rfl fun i _ => by simp only [W]; ring
theorem out124 : Is (m := 1) (n := 128) (φ := .f32) (broadcastInDim S1x128 ![1] bcast_S128_S1x128_1 (Host.reduceAdd (shapeCast _ (Host.reduceAdd (mulf (res_main_v17 V0) (res_main_v80 V0)) (constant S_ .f32 0x00000000#32) reducesTo_S2x2048x8x128_S128_d0_1_2 h_S_) shapeCasts_S128_S1x1x1x128) (constant S_ .f32 0x00000000#32) reducesTo_S1x1x1x128_S128_d0_1_2 h_S_)) (fun _ d => ∑ s ∈ Finset.range 8, TQ A0 A1 γ κ s d) := by
  intro r d
  clean_types
  pointwise
  rw [sum012, Fin.sum_univ_one, Fin.sum_univ_one, Fin.sum_univ_one]
  pointwise
  rw [sum012]
  pointwise
  simp only [v17_is H _ _ _ _, v80_is H _ _ _ _, ← EReal.coe_mul, coe_sum]
  refine congrArg _ (Eq.trans ?_ (sum_heads fun b h => ng 2048 (hd A0 0 b h) (hDQ A0 A1 γ κ b h) d))
  refine Finset.sum_congr rfl fun b _ => Finset.sum_comm.trans (Finset.sum_congr rfl fun h _ => Finset.sum_congr rfl fun s _ => mul_comm _ _)
theorem out102 : Is (m := 1) (n := 128) (φ := .f32) (broadcastInDim S1x128 ![1] bcast_S128_S1x128_1 (Host.reduceAdd (shapeCast _ (Host.reduceAdd (mulf (res_main_v35 V0) (res_main_v78 V0)) (constant S_ .f32 0x00000000#32) reducesTo_S2x2048x8x128_S128_d0_1_2 h_S_) shapeCasts_S128_S1x1x1x128) (constant S_ .f32 0x00000000#32) reducesTo_S1x1x1x128_S128_d0_1_2 h_S_)) (fun _ d => ∑ s ∈ Finset.range 8, TK A0 A1 γ κ s d) := by
  intro r d
  clean_types
  pointwise
  rw [sum012, Fin.sum_univ_one, Fin.sum_univ_one, Fin.sum_univ_one]
  pointwise
  rw [sum012]
  pointwise
  simp only [v35_is H _ _ _ _, v78_is H _ _ _ _, ← EReal.coe_mul, coe_sum]
  refine congrArg _ (Eq.trans ?_ (sum_heads fun b h => ng 2048 (hd A0 1024 b h) (hDK A0 A1 γ κ b h) d))
  refine Finset.sum_congr rfl fun b _ => Finset.sum_comm.trans (Finset.sum_congr rfl fun h _ => Finset.sum_congr rfl fun s _ => mul_comm _ _)

end Cert.ReferenceIdeal.Attn
-- ==== Proof.MlpValue.lean ====
/- The SwiGLU sublayer's first nine regions: what each leaves in its arrays. -/
module

public import proofs.«01_k».proof.Proof.MlpRun
public import proofs.«01_k».proof.Proof.MlpMath
public import proofs.«01_k».proof.Proof.RefOut

@[expose] public section

set_option maxRecDepth 16384
set_option maxHeartbeats 400000

noncomputable section

namespace Cert.Kernel2Ideal.Mlp

open Idealize.ShloMosaic Idealize.ShloMosaic.TcCoe
open Cert.KernelIdeal.Attn (Is arr)
open Cert.Kernel2Ideal.Gen
open Cert.Products Cert.RowNorm Cert.Mlp

theorem idx0 : ∀ t : Fin cfg0.N, win0_0.index t = ![t.val, 0] ∧ win0_1.index t = ![0, 0] ∧ win0_2.index t = ![t.val, 0] ∧ t.val < 8 :=
  (by decide +kernel : ∀ t : Fin grid0.N, _)
theorem idx1 : ∀ t : Fin cfg1.N, win1_0.index t = ![t.val / 6, 0] ∧ win1_1.index t = ![t.val % 6, 0] ∧ win1_2.index t = ![t.val % 6, 0]
    ∧ win1_3.index t = ![t.val / 6, t.val % 6] ∧ win1_4.index t = ![t.val / 6, t.val % 6] ∧ win1_5.index t = ![t.val / 6, t.val % 6]
    ∧ t.val < 48 := (by decide +kernel : ∀ t : Fin grid1.N, _)
theorem idx2 : ∀ t : Fin cfg2.N, win2_0.index t = ![t.val / 4, 0] ∧ win2_1.index t = ![0, t.val % 4]
    ∧ win2_2.index t = ![t.val / 4, t.val % 4] ∧ win2_3.index t = ![t.val / 4, t.val % 4] := (by decide +kernel : ∀ t : Fin grid2.N, _)
theorem idx3 : ∀ t : Fin cfg3.N, win3_0.index t = ![t.val / 6, 0] ∧ win3_1.index t = ![t.val % 6, 0] ∧ win3_2.index t = ![t.val / 6, t.val % 6]
    ∧ win3_3.index t = ![t.val / 6, t.val % 6] ∧ win3_4.index t = ![t.val / 6, t.val % 6] ∧ win3_5.index t = ![t.val / 6, t.val % 6]
    ∧ t.val < 48 := (by decide +kernel : ∀ t : Fin grid3.N, _)
theorem idx4 : ∀ t : Fin cfg4.N, win4_0.index t = ![0, t.val / 2] ∧ win4_1.index t = ![0, t.val % 2]
    ∧ win4_2.index t = ![t.val / 2, t.val % 2] := (by decide +kernel : ∀ t : Fin grid4.N, _)
theorem idx5 : ∀ t : Fin cfg5.N, win5_0.index t = ![t.val / 4, 0] ∧ win5_1.index t = ![0, t.val % 4]
    ∧ win5_2.index t = ![t.val / 4, t.val % 4] := (by decide +kernel : ∀ t : Fin grid5.N, _)
theorem idx6 : ∀ t : Fin cfg6.N, win6_0.index t = ![t.val / 4, 0] ∧ win6_1.index t = ![0, t.val % 4]
    ∧ win6_2.index t = ![t.val / 4, t.val % 4] ∧ win6_3.index t = ![t.val / 4, t.val % 4] := (by decide +kernel : ∀ t : Fin grid6.N, _)
theorem idx7 : ∀ t : Fin cfg7.N, win7_0.index t = ![0, t.val / 2] ∧ win7_1.index t = ![0, t.val % 2]
    ∧ win7_2.index t = ![t.val / 2, t.val % 2] := (by decide +kernel : ∀ t : Fin grid7.N, _)
theorem idx8 : ∀ t : Fin cfg8.N, win8_0.index t = ![0, t.val / 2] ∧ win8_1.index t = ![0, t.val % 2]
    ∧ win8_2.index t = ![t.val / 2, t.val % 2] := (by decide +kernel : ∀ t : Fin grid8.N, _)

section
variable (V : (c : Dev nD) → (b : Ref sig .tc) → Buf (Elt Ideal) ((c : Thread nD τ).loc b)) (c : Dev nD)

/-! ## The products -/

theorem arr2 : (dat2 V c).arrAt 3 cfg2.N = plus (nn (m := 4096) (k := 6144) (n := 2048) (V c main_v2_0) (V c main_arg4)) (V c main_arg0) := by
  refine Pipeline.Dat.arrAt_eq_of_covers _ 3 _ (by decide +kernel) fun t _ y => ?_
  blk_simp
  rw [after2_3]
  frame_out
  pointwise [k2_pay1, plus, nn]
  blk_point [iblk2, idx2 t]

theorem arr4 : (dat4 V c).arrAt 2 cfg4.N = tn (m := 6144) (k := 4096) (n := 2048) (V c main_v2_0) (V c main_v0) := by
  refine Pipeline.Dat.arrAt_eq_of_covers _ 2 _ (by decide +kernel) fun t _ y => ?_
  blk_simp
  rw [after4_2]
  frame_out
  pointwise [k4_pay1, tn]
  blk_point [iblk4, idx4 t]

theorem arr5 : (dat5 V c).arrAt 2 cfg5.N = nn (m := 4096) (k := 6144) (n := 2048) (V c main_v4_0) (V c main_arg2) := by
  refine Pipeline.Dat.arrAt_eq_of_covers _ 2 _ (by decide +kernel) fun t _ y => ?_
  blk_simp
  rw [after5_2]
  frame_out
  pointwise [k5_pay1, nn]
  blk_point [iblk5, idx5 t]

theorem arr6 : (dat6 V c).arrAt 3 cfg6.N = plus (nn (m := 4096) (k := 6144) (n := 2048) (V c main_v4_1) (V c main_arg3)) (V c main_v6) := by
  refine Pipeline.Dat.arrAt_eq_of_covers _ 3 _ (by decide +kernel) fun t _ y => ?_
  blk_simp
  rw [after6_3]
  frame_out
  pointwise [k6_pay1, plus, nn]
  blk_point [iblk6, idx6 t]

theorem arr7 : (dat7 V c).arrAt 2 cfg7.N = tn (m := 6144) (k := 4096) (n := 2048) (V c main_v4_0) (V c main_v1) := by
  refine Pipeline.Dat.arrAt_eq_of_covers _ 2 _ (by decide +kernel) fun t _ y => ?_
  blk_simp
  rw [after7_2]
  frame_out
  pointwise [k7_pay1, tn]
  blk_point [iblk7, idx7 t]

theorem arr8 : (dat8 V c).arrAt 2 cfg8.N = tn (m := 6144) (k := 4096) (n := 2048) (V c main_v4_1) (V c main_v1) := by
  refine Pipeline.Dat.arrAt_eq_of_covers _ 2 _ (by decide +kernel) fun t _ y => ?_
  blk_simp
  rw [after8_2]
  frame_out
  pointwise [k8_pay1, tn]
  blk_point [iblk8, idx8 t]

/-! ## The normalised rows -/

variable {V c} {f h a b w G U : ℕ → ℕ → ℝ} {γ : ℕ → ℝ}

theorem blk0_0 (hx : Is (m := 4096) (n := 2048) (φ := .f32) (V c main_arg0) f) (t : Fin cfg0.N) :
    Is (m := 512) (n := 2048) (φ := .f32) (iblk0 V c 0 t) (low (t.val * 512) f) := fun r d => by
  have ht := (idx0 t).2.2.2
  refine Eq.trans ?_ (hx ⟨t.val * 512 + r.val, by omega⟩ d)
  blk_ext [iblk0, idx0 t]

theorem blk0_1 (hg : Is (m := 1) (n := 2048) (φ := .f32) (V c main_arg1) fun _ => γ) (t : Fin cfg0.N) :
    Is (m := 1) (n := 2048) (φ := .f32) (iblk0 V c 1 t) fun _ => γ := fun r d => by
  refine Eq.trans ?_ (hg r d)
  blk_ext [iblk0, idx0 t]

theorem arr0 (hx : Is (m := 4096) (n := 2048) (φ := .f32) (V c main_arg0) f) (hg : Is (m := 1) (n := 2048) (φ := .f32) (V c main_arg1) fun _ => γ) :
    (dat0 V c).arrAt 2 cfg0.N = arr 4096 2048 (nrmg f γ) := by
  refine Pipeline.Dat.arrAt_eq_of_covers _ 2 _ (by decide +kernel) fun t _ y => ?_
  blk_simp
  rw [after0_2]
  frame_out
  refine ((pay_fwd (blk0_0 hx t) (blk0_1 hg t)).at y).trans ?_
  unfold arr
  blk_simp [idx0 t]
  rfl

/-! ## Gate, value and activation -/

theorem blk1_0 (hh : Is (m := 4096) (n := 2048) (φ := .bf16) (V c main_v1) h) (t : Fin cfg1.N) :
    Is (m := 512) (n := 2048) (φ := .bf16) (iblk1 V c 0 t) (low (t.val / 6 * 512) h) := fun r d => by
  have ht := (idx1 t).2.2.2.2.2.2
  refine Eq.trans ?_ (hh ⟨t.val / 6 * 512 + r.val, by omega⟩ d)
  blk_ext [iblk1, idx1 t]

theorem blk1_1 (ha : Is (m := 6144) (n := 2048) (φ := .bf16) (V c main_arg2) a) (t : Fin cfg1.N) :
    Is (m := 1024) (n := 2048) (φ := .bf16) (iblk1 V c 1 t) (low (t.val % 6 * 1024) a) := fun r d => by
  refine Eq.trans ?_ (ha ⟨t.val % 6 * 1024 + r.val, by omega⟩ d)
  blk_ext [iblk1, idx1 t]

theorem blk1_2 (hb : Is (m := 6144) (n := 2048) (φ := .bf16) (V c main_arg3) b) (t : Fin cfg1.N) :
    Is (m := 1024) (n := 2048) (φ := .bf16) (iblk1 V c 2 t) (low (t.val % 6 * 1024) b) := fun r d => by
  refine Eq.trans ?_ (hb ⟨t.val % 6 * 1024 + r.val, by omega⟩ d)
  blk_ext [iblk1, idx1 t]

section
variable (hh : Is (m := 4096) (n := 2048) (φ := .bf16) (V c main_v1) h) (ha : Is (m := 6144) (n := 2048) (φ := .bf16) (V c main_arg2) a)
  (hb : Is (m := 6144) (n := 2048) (φ := .bf16) (V c main_arg3) b)
include hh

theorem arr1_3 (ha : Is (m := 6144) (n := 2048) (φ := .bf16) (V c main_arg2) a) (hb : Is (m := 6144) (n := 2048) (φ := .bf16) (V c main_arg3) b) :
    (dat1 V c).arrAt 3 cfg1.N = arr 4096 6144 (act (NT 2048 h a) (NT 2048 h b)) := by
  refine Pipeline.Dat.arrAt_eq_of_covers _ 3 _ (by decide +kernel) fun t _ y => ?_
  blk_simp
  rw [after1_3]
  frame_out
  refine ((k1_pay4_is (blk1_0 hh t) (blk1_1 ha t) (blk1_2 hb t)).at y).trans ?_
  unfold arr
  blk_simp [idx1 t]
  rfl

theorem arr1_4 (ha : Is (m := 6144) (n := 2048) (φ := .bf16) (V c main_arg2) a) : (dat1 V c).arrAt 4 cfg1.N = arr 4096 6144 (NT 2048 h a) := by
  refine Pipeline.Dat.arrAt_eq_of_covers _ 4 _ (by decide +kernel) fun t _ y => ?_
  blk_simp
  rw [after1_4]
  frame_out
  refine ((k1_pay5_is (blk1_0 hh t) (blk1_1 ha t)).at y).trans ?_
  unfold arr
  blk_simp [idx1 t]
  rfl

theorem arr1_5 (hb : Is (m := 6144) (n := 2048) (φ := .bf16) (V c main_arg3) b) : (dat1 V c).arrAt 5 cfg1.N = arr 4096 6144 (NT 2048 h b) := by
  refine Pipeline.Dat.arrAt_eq_of_covers _ 5 _ (by decide +kernel) fun t _ y => ?_
  blk_simp
  rw [after1_5]
  frame_out
  refine ((k1_pay6_is (blk1_0 hh t) (blk1_2 hb t)).at y).trans ?_
  unfold arr
  blk_simp [idx1 t]
  rfl

end

/-! ## The gradients of gate and value -/

/-- A real matrix from row `i` and column `j` on. -/
def part (i j : ℕ) (x : ℕ → ℕ → ℝ) (r c : ℕ) : ℝ := x (i + r) (j + c)

theorem blk3_0 (hy : Is (m := 4096) (n := 2048) (φ := .bf16) (V c main_v0) w) (t : Fin cfg3.N) :
    Is (m := 512) (n := 2048) (φ := .bf16) (iblk3 V c 0 t) (low (t.val / 6 * 512) w) := fun r d => by
  have ht := (idx3 t).2.2.2.2.2.2
  refine Eq.trans ?_ (hy ⟨t.val / 6 * 512 + r.val, by omega⟩ d)
  blk_ext [iblk3, idx3 t]

theorem blk3_1 (ha : Is (m := 6144) (n := 2048) (φ := .bf16) (V c main_arg4) a) (t : Fin cfg3.N) :
    Is (m := 1024) (n := 2048) (φ := .bf16) (iblk3 V c 1 t) (low (t.val % 6 * 1024) a) := fun r d => by
  refine Eq.trans ?_ (ha ⟨t.val % 6 * 1024 + r.val, by omega⟩ d)
  blk_ext [iblk3, idx3 t]

theorem blk3_2 (hG : Is (m := 4096) (n := 6144) (φ := .bf16) (V c main_v2_1) G) (t : Fin cfg3.N) :
    Is (m := 512) (n := 1024) (φ := .bf16) (iblk3 V c 2 t) (part (t.val / 6 * 512) (t.val % 6 * 1024) G) := fun r d => by
  have ht := (idx3 t).2.2.2.2.2.2
  refine Eq.trans ?_ (hG ⟨t.val / 6 * 512 + r.val, by omega⟩ ⟨t.val % 6 * 1024 + d.val, by omega⟩)
  blk_ext [iblk3, idx3 t]

theorem blk3_3 (hU : Is (m := 4096) (n := 6144) (φ := .bf16) (V c main_v2_2) U) (t : Fin cfg3.N) :
    Is (m := 512) (n := 1024) (φ := .bf16) (iblk3 V c 3 t) (part (t.val / 6 * 512) (t.val % 6 * 1024) U) := fun r d => by
  have ht := (idx3 t).2.2.2.2.2.2
  refine Eq.trans ?_ (hU ⟨t.val / 6 * 512 + r.val, by omega⟩ ⟨t.val % 6 * 1024 + d.val, by omega⟩)
  blk_ext [iblk3, idx3 t]

section
variable (hy : Is (m := 4096) (n := 2048) (φ := .bf16) (V c main_v0) w) (ha : Is (m := 6144) (n := 2048) (φ := .bf16) (V c main_arg4) a)
  (hG : Is (m := 4096) (n := 6144) (φ := .bf16) (V c main_v2_1) G)
include hy ha hG

theorem arr3_4 (hU : Is (m := 4096) (n := 6144) (φ := .bf16) (V c main_v2_2) U) : (dat3 V c).arrAt 4 cfg3.N = arr 4096 6144 (dgate (NT 2048 w a) G U) := by
  refine Pipeline.Dat.arrAt_eq_of_covers _ 4 _ (by decide +kernel) fun t _ y => ?_
  blk_simp
  rw [after3_4]
  frame_out
  refine ((k3_pay4_is (blk3_0 hy t) (blk3_1 ha t) (blk3_2 hG t) (blk3_3 hU t)).at y).trans ?_
  unfold arr
  blk_simp [idx3 t]
  rfl

theorem arr3_5 : (dat3 V c).arrAt 5 cfg3.N = arr 4096 6144 (dvalue (NT 2048 w a) G) := by
  refine Pipeline.Dat.arrAt_eq_of_covers _ 5 _ (by decide +kernel) fun t _ y => ?_
  blk_simp
  rw [after3_5]
  frame_out
  refine ((k3_pay5_is (blk3_0 hy t) (blk3_1 ha t) (blk3_2 hG t)).at y).trans ?_
  unfold arr
  blk_simp [idx3 t]
  rfl

end

end

end Cert.Kernel2Ideal.Mlp
-- ==== Proof.MlpNorm.lean ====
/- The SwiGLU sublayer's last region: the gradient of the normalisation, tile by tile. -/
module

public import proofs.«01_k».proof.Proof.MlpRun
public import proofs.«01_k».proof.Proof.RowNorm
public import proofs.«01_k».proof.Proof.RefOut

@[expose] public section

set_option maxRecDepth 16384
set_option maxHeartbeats 400000

noncomputable section

namespace Cert.Kernel2Ideal.Mlp

open Idealize.ShloMosaic Idealize.ShloMosaic.TcCoe
open Cert.KernelIdeal.Attn (Is arr)
open Cert.Kernel2Ideal.Gen
open Cert.RowNorm

theorem idx9 : ∀ t : Fin cfg9.N, win9_0.index t = ![t.val, 0] ∧ win9_1.index t = ![0, 0] ∧ win9_2.index t = ![t.val, 0] ∧ win9_3.index t = ![t.val, 0]
    ∧ win9_4.index t = ![t.val, 0] ∧ win9_5.index t = ![t.val, 0] ∧ win9_6.index t = ![0, 0] ∧ t.val < 16 := (by decide +kernel : ∀ t : Fin grid9.N, _)

section
variable {V : (c : Dev nD) → (b : Ref sig .tc) → Buf (Elt Ideal) ((c : Thread nD τ).loc b)} {c : Dev nD} {f w z : ℕ → ℕ → ℝ} {γ : ℕ → ℝ}

theorem blk9_0 (hx : Is (m := 4096) (n := 2048) (φ := .f32) (V c main_arg0) f) (t : Fin cfg9.N) :
    Is (m := 256) (n := 2048) (φ := .f32) (iblk9 V c 0 t) (low (t.val * 256) f) := fun r d => by
  have ht := (idx9 t).2.2.2.2.2.2.2
  refine Eq.trans ?_ (hx ⟨t.val * 256 + r.val, by omega⟩ d)
  blk_ext [iblk9, idx9 t]

theorem blk9_1 (hg : Is (m := 1) (n := 2048) (φ := .f32) (V c main_arg1) fun _ => γ) (t : Fin cfg9.N) :
    Is (m := 1) (n := 2048) (φ := .f32) (iblk9 V c 1 t) fun _ => γ := fun r d => by
  refine Eq.trans ?_ (hg r d)
  blk_ext [iblk9, idx9 t]

theorem blk9_2 (hy : Is (m := 4096) (n := 2048) (φ := .f32) (V c main_v7) w) (t : Fin cfg9.N) :
    Is (m := 256) (n := 2048) (φ := .f32) (iblk9 V c 2 t) (low (t.val * 256) w) := fun r d => by
  have ht := (idx9 t).2.2.2.2.2.2.2
  refine Eq.trans ?_ (hy ⟨t.val * 256 + r.val, by omega⟩ d)
  blk_ext [iblk9, idx9 t]

theorem blk9_3 (hu : Is (m := 4096) (n := 2048) (φ := .f32) (V c main_arg5) z) (t : Fin cfg9.N) :
    Is (m := 256) (n := 2048) (φ := .f32) (iblk9 V c 3 t) (low (t.val * 256) z) := fun r d => by
  have ht := (idx9 t).2.2.2.2.2.2.2
  refine Eq.trans ?_ (hu ⟨t.val * 256 + r.val, by omega⟩ d)
  blk_ext [iblk9, idx9 t]

variable (hx : Is (m := 4096) (n := 2048) (φ := .f32) (V c main_arg0) f) (hg : Is (m := 1) (n := 2048) (φ := .f32) (V c main_arg1) fun _ => γ)
  (hy : Is (m := 4096) (n := 2048) (φ := .f32) (V c main_v7) w) (hu : Is (m := 4096) (n := 2048) (φ := .f32) (V c main_arg5) z)
include hx hy

/-- The gradient of the gain after the tiles up to the `n`-th. -/
theorem tiles (n : ℕ) (hn : n < cfg9.N) : Is (m := 1) (n := 2048) (φ := .f32) (outsAt9 V c n hn).2.2
    fun _ d => ∑ s ∈ Finset.range (n + 1), ng 256 (low (s * 256) f) (low (s * 256) w) d := by
  induction n with
  | zero =>
    rw [outsAt9_A V c ⟨0, hn⟩ rfl]
    intro a d
    frame_out
    refine (pay7_is (blk9_0 hx ⟨0, hn⟩) (blk9_2 hy ⟨0, hn⟩) pay6_is a d).trans (congrArg (fun r : ℝ => (r : EReal)) ?_)
    exact (zero_add _).trans (Finset.sum_range_one (fun s => ng 256 (low (s * 256) f) (low (s * 256) w) d)).symm
  | succ n ih =>
    have h16 : n + 1 < 16 := (idx9 ⟨n + 1, hn⟩).2.2.2.2.2.2.2
    rw [outsAt9_B V c ⟨n + 1, hn⟩ (by show ¬(n + 1) % 16 = 0; rw [Nat.mod_eq_of_lt h16]; exact Nat.succ_ne_zero n)]
    intro a d
    frame_out
    refine (pay7_is (blk9_0 hx ⟨n + 1, hn⟩) (blk9_2 hy ⟨n + 1, hn⟩) (ih (Nat.lt_of_succ_lt hn)) a d).trans ?_
    rw [Finset.sum_range_succ _ (n + 1)]

theorem arr9_6 : (dat9 V c).arrAt 6 cfg9.N = arr 1 2048 (fun _ => ng 4096 f w) := by
  refine Pipeline.Dat.arrAt_eq_of_after_last _ 6 t9_15 (by decide +kernel) _ fun j => ?_
  exact (congrFun (after9_6 V c t9_15) _).trans (((tiles hx hy 15 t9_15.isLt).at _).trans (congrArg (fun r : ℝ => (r : EReal)) (ng_tiles 16 f w _)))

include hg hu

/-- The gradient of the rows, what came in beside it added. -/
theorem rows (t : Fin cfg9.N) : Is (m := 256) (n := 2048) (φ := .f32) (outsAt9 V c t.val t.isLt).1 (fun i d => nb (low (t.val * 256) f) (low (t.val * 256) w) γ i d + low (t.val * 256) z i d)
    ∧ Is (m := 256) (n := 2048) (φ := .bf16) (outsAt9 V c t.val t.isLt).2.1 (fun i d => nb (low (t.val * 256) f) (low (t.val * 256) w) γ i d + low (t.val * 256) z i d) := by
  have h1 := pay_bwd (blk9_0 hx t) (blk9_2 hy t) (blk9_1 hg t) (blk9_3 hu t)
  have h2 := pay_bwd16 (blk9_0 hx t) (blk9_2 hy t) (blk9_1 hg t) (blk9_3 hu t)
  by_cases h : t.val % 16 = 0
  · rw [outsAt9_A V c t h]
    exact ⟨fun a d => by frame_out; exact h1 a d, fun a d => by frame_out; exact h2 a d⟩
  · rw [outsAt9_B V c t h]
    exact ⟨fun a d => by frame_out; exact h1 a d, fun a d => by frame_out; exact h2 a d⟩

theorem arr9_4 : (dat9 V c).arrAt 4 cfg9.N = arr 4096 2048 (fun i d => nb f w γ i d + z i d) := by
  refine Pipeline.Dat.arrAt_eq_of_covers _ 4 _ (by decide +kernel) fun t _ y => ?_
  blk_simp
  rw [after9_4, (rows hx hg hy hu t).1.at y]
  unfold arr
  blk_simp [idx9 t]
  rfl

theorem arr9_5 : (dat9 V c).arrAt 5 cfg9.N = arr 4096 2048 (fun i d => nb f w γ i d + z i d) := by
  refine Pipeline.Dat.arrAt_eq_of_covers _ 5 _ (by decide +kernel) fun t _ y => ?_
  blk_simp
  rw [after9_5, (rows hx hg hy hu t).2.at y]
  unfold arr
  blk_simp [idx9 t]
  rfl

end

end Cert.Kernel2Ideal.Mlp
-- ==== Proof.RowNormRef.lean ====
/- The reference's normalisation of the rows and its gradient, read on real numbers. -/
module

public import proofs.«01_k».proof.Proof.RowNorm
public import proofs.«01_k».proof.Proof.Gen.Reference4Ideal.Read
public import Idealize.ShloMosaic.Lib.Tactic.CleanTypes

@[expose] public section

set_option maxRecDepth 16384
set_option maxHeartbeats 200000

noncomputable section

namespace Cert.RowNorm

open Idealize.ShloMosaic Idealize.ShloMosaic.TcCoe Idealize.ShloMosaic.StableHlo
open Cert.KernelIdeal.Attn (Is coe_sum eps lit_eps)
open Cert.Reference4Ideal Cert.Reference4Ideal.Gen Cert.Reference4Ideal.Read

theorem lit_neg_half : Ideal.ofBits .f32 0xBF000000#32 = (((-1 / 2 : ℝ) : ℝ) : EReal) := by simp [Ideal.ofBits, Ideal.ieee, -EReal.coe_mul]; norm_num

theorem div_ms (r : ℝ) (f : ℕ → ℕ → ℝ) (i : ℕ) : Ideal.div (r : EReal) ((ms f i : ℝ) : EReal) = ((r / ms f i : ℝ) : EReal) := by
  rw [Ideal.div_coe (ms_pos f i).ne', ← EReal.coe_mul, mul_one_div]

/-! ## The reference's terms, the gradient of the output given -/

section terms
variable (x : FVec Ideal S4096x2048 .f32) (g : FVec Ideal S1x2048 .f32) (y u : FVec Ideal S4096x2048 .f32)

/-- The gradient of the gain: the normalised rows times the gradient, column by column. -/
def gainGrad : FVec Ideal S1x2048 .f32 :=
  broadcastInDim S1x2048 ![1] bcast_S2048_S1x2048_1 (Host.reduceAdd (shapeCast S1x2048 (Host.reduceAdd (mulf (val_main_v14 (F := Ideal) x) y) (val_main_cst_3 (F := Ideal))
    reducesTo_S4096x2048_S2048_d0 h_S_) shapeCasts_S2048_S1x2048) (val_main_cst_4 (F := Ideal)) reducesTo_S1x2048_S2048_d0 h_S_)
/-- The gradient of the normalised rows. -/
def gained : FVec Ideal S4096x2048 .f32 := mulf y (val_main_v26 (F := Ideal) g)
/-- What the gradient of a row's mean square adds to each of its elements, halved and without the element. -/
def share : FVec Ideal S4096x1 .f32 :=
  Host.divf (mulf (shapeCast S4096x1 (Host.reduceAdd (mulf x (gained g y)) (val_main_cst_5 (F := Ideal)) reducesTo_S4096x2048_S4096_d1 h_S_) shapeCasts_S4096_S4096x1)
    (val_main_v12 (F := Ideal) x)) (val_main_v36 (F := Ideal))
def spread : FVec Ideal S4096x2048 .f32 :=
  broadcastInDim S4096x2048 ![0] bcast_S4096_S4096x2048_0 (Host.reduceAdd (share x g y) (val_main_cst_7 (F := Ideal)) reducesTo_S4096x1_S4096_d1 h_S_)
/-- The gradient of the rows, on top of `u`. -/
def rowGrad : FVec Ideal S4096x2048 .f32 :=
  addf (addf (addf u (mulf (gained g y) (val_main_v32 (F := Ideal) x))) (mulf x (spread x g y))) (mulf (spread x g y) x)

end terms

/-! ## The same terms on real numbers -/

variable {x : FVec Ideal S4096x2048 .f32} {g : FVec Ideal S1x2048 .f32} {y u : FVec Ideal S4096x2048 .f32} {f w z : ℕ → ℕ → ℝ} {γ : ℕ → ℝ}

theorem v8_is (hx : Is x f) : Is (m := 4096) (n := 1) (φ := .f32) (val_main_v8 (F := Ideal) x) fun i _ => ms f i := by
  intro a c
  unfold val_main_v8 val_main_v6 val_main_v4 val_main_v3 val_main_v2
  clean_types
  pointwise [val_main_v5, val_main_v7, val_main_cst, val_main_cst_0, val_main_cst_1]
  simp only [hx _ _, ← EReal.coe_mul, coe_sum, lit_2048, lit_eps, div_2048, ← EReal.coe_add, ms]

theorem v9_is (hx : Is x f) : Is (m := 4096) (n := 1) (φ := .f32) (val_main_v9 (F := Ideal) x) fun i _ => rs f i := by
  intro a c
  unfold val_main_v9
  clean_types
  pointwise
  rw [v8_is hx a c]
  exact rsqrt_ms f a

theorem v12_is (hx : Is x f) : Is (m := 4096) (n := 1) (φ := .f32) (val_main_v12 (F := Ideal) x) fun i _ => -1 / 2 * (rs f i / ms f i) := by
  intro a c
  unfold val_main_v12 val_main_v10
  clean_types
  pointwise [val_main_v11, val_main_cst_2]
  rw [v8_is hx a c, v9_is hx a c, div_ms, lit_neg_half, ← EReal.coe_mul]

theorem v14_is (hx : Is x f) : Is (m := 4096) (n := 2048) (φ := .f32) (val_main_v14 (F := Ideal) x) (nrm f) := by
  intro a c
  unfold val_main_v14 val_main_v13
  clean_types
  pointwise
  rw [hx a c, v9_is hx a 0, ← EReal.coe_mul]
  rfl

theorem v16_is (hg : Is g fun _ => γ) : Is (m := 4096) (n := 2048) (φ := .f32) (val_main_v16 (F := Ideal) g) fun _ => γ := by
  intro a c
  unfold val_main_v16 val_main_v15 val_main_v1
  clean_types
  pointwise
  exact hg 0 c

theorem v17_is (hx : Is x f) (hg : Is g fun _ => γ) : Is (m := 4096) (n := 2048) (φ := .f32) (val_main_v17 (F := Ideal) x g) (nrmg f γ) := by
  intro a c
  unfold val_main_v17
  clean_types
  pointwise
  rw [v14_is hx a c, v16_is hg a c, ← EReal.coe_mul]
  rfl

theorem gainGrad_is (hx : Is x f) (hy : Is y w) : Is (gainGrad x y) fun _ => ng 4096 f w := by
  intro a c
  unfold gainGrad
  clean_types
  pointwise [val_main_cst_3, val_main_cst_4]
  simp only [v14_is hx _ _, hy _ _, ← EReal.coe_mul, coe_sum, ng]
  exact congrArg (fun r : ℝ => (r : EReal)) ((Fin.sum_univ_one _).trans (Finset.sum_congr rfl fun i _ => mul_comm _ _))

theorem gained_is (hy : Is y w) (hg : Is g fun _ => γ) : Is (gained g y) fun i d => w i d * γ d := by
  intro a c
  unfold gained
  clean_types
  pointwise
  rw [hy a c, show val_main_v26 (F := Ideal) g = val_main_v16 g from rfl, v16_is hg a c, ← EReal.coe_mul]

theorem share_is (hx : Is x f) (hy : Is y w) (hg : Is g fun _ => γ) :
    Is (share x g y) fun i _ => (∑ e : Fin 2048, f i e * (w i e * γ e)) * (-1 / 2 * (rs f i / ms f i)) / 2048 := by
  intro a c
  unfold share
  clean_types
  pointwise [val_main_v36, val_main_cst_5, val_main_cst_6]
  obtain rfl : c = 0 := Subsingleton.elim _ _
  simp only [hx _ _, gained_is hy hg _ _, v12_is hx _ _, ← EReal.coe_mul, coe_sum, lit_2048, div_2048]

theorem spread_is (hx : Is x f) (hy : Is y w) (hg : Is g fun _ => γ) :
    Is (spread x g y) fun i _ => (∑ e : Fin 2048, f i e * (w i e * γ e)) * (-1 / 2 * (rs f i / ms f i)) / 2048 := by
  intro a c
  unfold spread
  clean_types
  pointwise [val_main_cst_7]
  exact (Fin.sum_univ_one _).trans (share_is hx hy hg a 0)

/-- The two ways of writing the gradient of a row agree. -/
theorem nb_eq (f w : ℕ → ℕ → ℝ) (γ : ℕ → ℝ) (i d : ℕ) :
    w i d * γ d * rs f i + f i d * ((∑ e : Fin 2048, f i e * (w i e * γ e)) * (-1 / 2 * (rs f i / ms f i)) / 2048)
      + (∑ e : Fin 2048, f i e * (w i e * γ e)) * (-1 / 2 * (rs f i / ms f i)) / 2048 * f i d = nb f w γ i d := by
  have hs : ∑ e : Fin 2048, w i e * γ e * nrm f i e = (∑ e : Fin 2048, f i e * (w i e * γ e)) * rs f i := by
    rw [Finset.sum_mul]
    exact Finset.sum_congr rfl fun e _ => by unfold nrm; ring
  unfold nb
  rw [hs, div_eq_mul_inv (rs f i) (ms f i), ← rs_sq]
  unfold nrm
  ring

theorem rowGrad_is (hx : Is x f) (hy : Is y w) (hg : Is g fun _ => γ) (hu : Is u z) : Is (rowGrad x g y u) fun i d => nb f w γ i d + z i d := by
  intro a c
  unfold rowGrad
  clean_types
  pointwise [val_main_v32]
  rw [hu a c, hx a c, gained_is hy hg a c, v9_is hx a 0, spread_is hx hy hg a c]
  simp only [← EReal.coe_mul, ← EReal.coe_add]
  refine congrArg (fun r : ℝ => (r : EReal)) ?_
  rw [← nb_eq f w γ]
  ring

end Cert.RowNorm
-- ==== Proof.Finite.lean ====
/- The precondition, read: arguments whose elements are all finite hold real numbers. -/
module

public import proofs.«01_k».proof.Defs
public import proofs.«01_k».proof.Proof.KernelValue

@[expose] public section

set_option maxRecDepth 16384

noncomputable section

namespace Cert.KernelIdeal.Attn

open Idealize.ShloMosaic Idealize.ShloMosaic.TcCoe Idealize.SL.Sem

/-- The real numbers of an array, and zero outside it. -/
def reals {m n : ℕ} (x : (⟨2, ![m, n]⟩ : Shape).Idx → EReal) (a c : ℕ) : ℝ :=
  if h : a < m ∧ c < n then (x (ix2 ⟨a, h.1⟩ ⟨c, h.2⟩)).toReal else 0

theorem real_of_lt {x : EReal} (h : Ideal.cmp .olt (max x (-x)) (Ideal.ofBits .f32 0x7F800000#32) = 1#1) : x = (x.toReal : EReal) := by
  have e : Ideal.ofBits .f32 0x7F800000#32 = (⊤ : EReal) := by simp [Ideal.ofBits, Ideal.ieee]
  rw [e] at h
  have hl : max x (-x) < ⊤ := by
    by_contra hn
    have : Ideal.cmp .olt (max x (-x)) ⊤ = 0#1 := by
      show BitVec.ofBool (decide (max x (-x) < ⊤)) = 0#1
      rw [decide_eq_false hn]
      rfl
    rw [this] at h
    exact absurd h (by decide)
  refine (EReal.coe_toReal ?_ ?_).symm
  · rintro rfl
    exact absurd hl (by simp)
  · rintro rfl
    exact absurd hl (by simp)

/-- An array whose elements' absolute values are all below infinity. -/
theorem reals_is {m n : ℕ} {h : (⟨0, ![]⟩ : Shape).BroadcastsInDim ⟨2, ![m, n]⟩ ![]} {x : FVec Ideal ⟨2, ![m, n]⟩ .f32}
    (hx : cmpf .olt (Host.absf x) (broadcastInDim ⟨2, ![m, n]⟩ ![] h (constant ⟨0, ![]⟩ .f32 0x7F800000#32)) = fun _ => 1#1) : Is x (reals x) := by
  intro a c
  have e : reals x a.val c.val = (x (ix2 a c)).toReal := dif_pos ⟨a.isLt, c.isLt⟩
  rw [e]
  exact real_of_lt (congrFun hx (ix2 a c))

theorem reals_row {n : ℕ} {x : FVec Ideal ⟨2, ![1, n]⟩ .f32} (hx : Is x (reals x)) : Is x fun _ => reals x 0 := by
  intro a c
  have := Subsingleton.elim a 0
  subst this
  exact hx 0 c

theorem pre_facts : Cert.Pre_finite.Facts := ⟨by decide, by decide, by decide⟩

/-- Under the precondition, every device's arguments hold real numbers. -/
theorem args_of_pre {m : (ℓ : Loc nD τ sig) → Buf (Elt Ideal) ℓ} (hm : Cert.Pre_KernelIdeal_finite (hPre_finite := pre_facts) m) (c : Dev nD) :
    Args m c (reals (m := 4096) (n := 6144) (m ((c.tc : Thread nD τ).loc main_arg0))) (reals (m := 4096) (n := 1024) (m ((c.tc : Thread nD τ).loc main_arg1)))
      (reals (m := 1) (n := 128) (m ((c.tc : Thread nD τ).loc main_arg2)) 0) (reals (m := 1) (n := 128) (m ((c.tc : Thread nD τ).loc main_arg3)) 0) where
  x := reals_is (hm c).1
  o := reals_is (hm c).2.1
  g := reals_row (reals_is (hm c).2.2.1)
  k := reals_row (reals_is (hm c).2.2.2)

/-- The kernel's run on real arguments: the five results at every index. -/
theorem kernel_value {m : (ℓ : Loc nD τ sig) → Buf (Elt Ideal) ℓ} (ρ : Dev nD → PrngReg) {A0 A1 : Dev nD → ℕ → ℕ → ℝ} {γ κ : Dev nD → ℕ → ℝ}
    (H : ∀ c, Args m c (A0 c) (A1 c) (γ c) (κ c)) :
    θ_run (defs (F := Ideal)) (onTc (τ := τ) (main (F := Ideal))) ⟨m, fun _ => 0, ρ⟩ fun r => ∀ c : Dev nD,
      r.2.mem ((c.tc : Thread nD τ).loc main_v0_0) = arr 4096 1024 (RQ (A0 c) (A1 c) (γ c) (κ c))
      ∧ r.2.mem ((c.tc : Thread nD τ).loc main_v0_1) = arr 4096 1024 (RK (A0 c) (A1 c) (γ c) (κ c))
      ∧ r.2.mem ((c.tc : Thread nD τ).loc main_v0_2) = arr 4096 1024 (RV (A0 c) (A1 c) (γ c) (κ c))
      ∧ r.2.mem ((c.tc : Thread nD τ).loc main_v0_3) = arr 1 128 (fun _ d => ∑ s ∈ Finset.range 8, TQ (A0 c) (A1 c) (γ c) (κ c) s d)
      ∧ r.2.mem ((c.tc : Thread nD τ).loc main_v0_4) = arr 1 128 (fun _ d => ∑ s ∈ Finset.range 8, TK (A0 c) (A1 c) (γ c) (κ c) s d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨after, hL, hA⟩ := Pipeline.RDat.FramePost.exists_exact h.1 c
    exact ⟨(hA 6).trans (final6 (H c) hL), (hA 7).trans (final7 (H c) hL), (hA 8).trans (final8 (H c) hL), (hA 9).trans (final9 (H c) hL),
      (hA 10).trans (final10 (H c) hL), h.1.arr_in c 2 rfl, h.1.arr_in c 3 rfl, h.1.arr_in c 4 rfl, h.1.arr_in c 5 rfl⟩) (run_main m ρ)

end Cert.KernelIdeal.Attn
-- ==== Proof.Finite16.lean ====
/- Arrays of the short format whose elements are all finite hold real numbers, and what an array that holds real numbers is. -/
module

public import proofs.«01_k».proof.Proof.Finite

@[expose] public section

noncomputable section

namespace Cert.KernelIdeal.Attn

open Idealize.ShloMosaic Idealize.ShloMosaic.TcCoe

/-- An array of the short format whose elements' absolute values are all below infinity. -/
theorem reals_is16 {m n : ℕ} {h : (⟨0, ![]⟩ : Shape).BroadcastsInDim ⟨2, ![m, n]⟩ ![]} {x : FVec Ideal ⟨2, ![m, n]⟩ .bf16}
    (hx : cmpf .olt (Host.absf x) (broadcastInDim ⟨2, ![m, n]⟩ ![] h (constant ⟨0, ![]⟩ .bf16 0x7F80#16)) = fun _ => 1#1) : Is x (reals x) := by
  intro a c
  have e : reals x a.val c.val = (x (ix2 a c)).toReal := dif_pos ⟨a.isLt, c.isLt⟩
  have l : Ideal.ofBits .bf16 0x7F80#16 = Ideal.ofBits .f32 0x7F800000#32 := by simp [Ideal.ofBits, Ideal.ieee]
  rw [e]
  refine real_of_lt ?_
  rw [← l]
  exact congrFun hx (ix2 a c)

theorem Is.of_eq {m n : ℕ} {φ : FTy} {x y : FVec Ideal ⟨2, ![m, n]⟩ φ} {f : ℕ → ℕ → ℝ} (h : Is x f) (e : y = x) : Is y f :=
  fun a c => (congrFun e _).trans (h a c)

/-- The array itself. -/
theorem Is.arr {m n : ℕ} {φ : FTy} {x : FVec Ideal ⟨2, ![m, n]⟩ φ} {f : ℕ → ℕ → ℝ} (h : Is x f) : x = arr m n f :=
  funext fun y => (congrArg x (eq_ix2 y)).trans (h (y 0) (y 1))

end Cert.KernelIdeal.Attn
-- ==== Proof.MlpReference.lean ====
/- The SwiGLU sublayer's reference on real numbers: its seven results. -/
module

public import proofs.«01_k».proof.Defs
public import proofs.«01_k».proof.Proof.Gen.Reference2Ideal.Read
public import proofs.«01_k».proof.Proof.MlpMath
public import proofs.«01_k».proof.Proof.RowNormRef
public import proofs.«01_k».proof.Proof.Finite16

@[expose] public section

set_option maxRecDepth 16384
set_option maxHeartbeats 200000

noncomputable section

namespace Cert.Reference2Ideal.Mlp

open Idealize.ShloMosaic Idealize.ShloMosaic.TcCoe Idealize.ShloMosaic.StableHlo Idealize.SL.Sem
open Cert.KernelIdeal.Attn (Is coe_sum one_add_coe)
open Cert.Reference2Ideal.Gen Cert.Reference2Ideal.Read
open Cert.Products Cert.RowNorm Cert.Mlp

variable {x u : FVec Ideal S4096x2048 .f32} {g : FVec Ideal S1x2048 .f32} {wg wu wd : FVec Ideal S6144x2048 .bf16} {f D Wg Wu Wd : ℕ → ℕ → ℝ} {γ : ℕ → ℝ}

/-! ## The products, as such -/

theorem v21_eq : val_main_v21 (F := Ideal) x g wg = nt (m := 4096) (k := 2048) (n := 6144) (val_main_v19 (F := Ideal) x g) wg := by
  funext i
  unfold val_main_v21 val_main_v20 val_main_v0
  clean_types
  pointwise [nt]

theorem v26_eq : val_main_v26 (F := Ideal) x g wg wu wd = nn (m := 4096) (k := 6144) (n := 2048) (val_main_v25 (F := Ideal) x g wg wu) wd := by
  funext i
  unfold val_main_v26 val_main_v2
  clean_types
  pointwise [nn]

theorem v28_eq : val_main_v28 (F := Ideal) u = u := by
  funext i
  unfold val_main_v28
  clean_types
  pointwise

theorem v69_eq : val_main_v69 (F := Ideal) x g wg wu u = tn (m := 6144) (k := 4096) (n := 2048) (val_main_v25 (F := Ideal) x g wg wu) u := by
  funext i
  unfold val_main_v69 val_main_v30 val_main_v29
  rw [v28_eq]
  clean_types
  pointwise [tn]
  exact Finset.sum_congr rfl fun _ _ => mul_comm _ _

theorem v31_eq : val_main_v31 (F := Ideal) wd u = nt (m := 4096) (k := 2048) (n := 6144) u wd := by
  funext i
  unfold val_main_v31 val_main_v2
  rw [v28_eq]
  clean_types
  pointwise [nt]

theorem v68_eq : val_main_v68 (F := Ideal) x g wg wd u = tn (m := 6144) (k := 4096) (n := 2048) (val_main_v32 (F := Ideal) x g wg wd u) (val_main_v19 (F := Ideal) x g) := by
  funext i
  unfold val_main_v68 val_main_v37 val_main_v35 val_main_v34
  clean_types
  pointwise [tn]

theorem v67_eq : val_main_v67 (F := Ideal) x g wg wu wd u = tn (m := 6144) (k := 4096) (n := 2048) (val_main_v38 (F := Ideal) x g wg wu wd u) (val_main_v19 (F := Ideal) x g) := by
  funext i
  unfold val_main_v67 val_main_v43 val_main_v40 val_main_v39
  clean_types
  pointwise [tn]

theorem v42_eq : val_main_v42 (F := Ideal) x g wg wu wd u = plus (nn (m := 4096) (k := 6144) (n := 2048) (val_main_v32 (F := Ideal) x g wg wd u) wu)
    (nn (m := 4096) (k := 6144) (n := 2048) (val_main_v38 (F := Ideal) x g wg wu wd u) wg) := by
  funext i
  unfold val_main_v42 val_main_v36 val_main_v41 val_main_v23 val_main_v20 val_main_v1 val_main_v0
  clean_types
  pointwise [plus, nn]

/-! ## The stages on real numbers -/

section
variable (hx : Is x f) (hg : Is g fun _ => γ) (hwg : Is wg Wg) (hwu : Is wu Wu) (hwd : Is wd Wd) (hu : Is u D)

include hx hg in
theorem v19_is : Is (m := 4096) (n := 2048) (φ := .f32) (val_main_v19 (F := Ideal) x g) (nrmg f γ) :=
  (v17_is hx hg).of_eq rfl

include hx hg hwg in
theorem gate_is : Is (m := 4096) (n := 6144) (φ := .f32) (val_main_v21 (F := Ideal) x g wg) (gate f Wg γ) := by
  rw [v21_eq]
  exact nt_is (v19_is hx hg) hwg

include hx hg hwu in
theorem value_is : Is (m := 4096) (n := 6144) (φ := .f32) (val_main_v24 (F := Ideal) x g wu) (value f Wu γ) :=
  (gate_is hx hg hwu).of_eq rfl

include hx hg hwg in
theorem sig_is : Is (m := 4096) (n := 6144) (φ := .f32) (val_main_v22_2 (F := Ideal) x g wg) fun i j => squash (gate f Wg γ i j) := by
  intro a c
  unfold val_main_v22_2 val_main_call0_v3 val_main_call0_v1 val_main_call0_v0
  clean_types
  pointwise [val_main_call0_v4, val_main_call0_v2, val_main_call0_cst, val_main_call0_cst_0]
  simp only [gate_is hx hg hwg _ _, ← EReal.coe_neg, Ideal.exp_coe, one_add_coe, one_div_coe (one_add_exp _), squash]

include hx hg hwg in
theorem slope_is : Is (m := 4096) (n := 6144) (φ := .f32) (val_main_v22_1 (F := Ideal) x g wg) fun i j => squash (gate f Wg γ i j) * (1 - squash (gate f Wg γ i j)) := by
  intro a c
  unfold val_main_v22_1 val_main_call0_v7
  clean_types
  pointwise [val_main_call0_v6, val_main_call0_cst_1]
  simp only [sig_is hx hg hwg _ _, one_sub_coe, ← EReal.coe_mul]

include hx hg hwg in
theorem swish_is : Is (m := 4096) (n := 6144) (φ := .f32) (val_main_v22_0 (F := Ideal) x g wg) fun i j => gate f Wg γ i j * squash (gate f Wg γ i j) := by
  intro a c
  unfold val_main_v22_0
  clean_types
  pointwise
  simp only [sig_is hx hg hwg _ _, gate_is hx hg hwg _ _, ← EReal.coe_mul]

include hx hg hwg hwu in
theorem hidden_is : Is (m := 4096) (n := 6144) (φ := .f32) (val_main_v25 (F := Ideal) x g wg wu) (hidden f Wg Wu γ) := by
  intro a c
  unfold val_main_v25
  clean_types
  pointwise
  simp only [swish_is hx hg hwg _ _, value_is hx hg hwu _ _, ← EReal.coe_mul]
  rfl

include hx hg hwg hwu hwd in
theorem output_is : Is (m := 4096) (n := 2048) (φ := .f32) (val_main_v27 (F := Ideal) x g wg wu wd) (output f Wg Wu Wd γ) := by
  rw [show val_main_v27 (F := Ideal) x g wg wu wd = plus x (val_main_v26 (F := Ideal) x g wg wu wd) from rfl, v26_eq, plus_comm]
  exact plus_is (nn_is (hidden_is hx hg hwg hwu) hwd) hx

include hwd hu in
theorem dhidden_is : Is (m := 4096) (n := 6144) (φ := .f32) (val_main_v31 (F := Ideal) wd u) (dhidden D Wd) := by
  rw [v31_eq]
  exact nt_is hu hwd

include hx hg hwg hwd hu in
theorem dU_is : Is (m := 4096) (n := 6144) (φ := .f32) (val_main_v32 (F := Ideal) x g wg wd u) (dU f D Wg Wd γ) := by
  intro a c
  unfold val_main_v32
  clean_types
  pointwise
  simp only [swish_is hx hg hwg _ _, dhidden_is hwd hu _ _, ← EReal.coe_mul, dU, dvalue]
  congr 1
  ring

include hx hg hwg hwu hwd hu in
theorem dG_is : Is (m := 4096) (n := 6144) (φ := .f32) (val_main_v38 (F := Ideal) x g wg wu wd u) (dG f D Wg Wu Wd γ) := by
  intro a c
  unfold val_main_v38 val_main_call1_v1 val_main_call1_v2 val_main_call1_v0 val_main_v33
  clean_types
  pointwise
  simp only [gate_is hx hg hwg _ _, value_is hx hg hwu _ _, sig_is hx hg hwg _ _, slope_is hx hg hwg _ _, dhidden_is hwd hu _ _, ← EReal.coe_mul, ← EReal.coe_add, dG, dgate]
  congr 1
  ring

include hx hg hwg hwu hwd hu in
theorem dnorm_is : Is (m := 4096) (n := 2048) (φ := .f32) (val_main_v42 (F := Ideal) x g wg wu wd u) (dnorm f D Wg Wu Wd γ) := by
  rw [v42_eq]
  exact plus_is (nn_is (dU_is hx hg hwg hwd hu) hwu) (nn_is (dG_is hx hg hwg hwu hwd hu) hwg)

/-! ## The gradients -/

include hx hg hwg hwu hu in
theorem down_is : Is (m := 6144) (n := 2048) (φ := .bf16) (val_main_v69 (F := Ideal) x g wg wu u) (TN 4096 (hidden f Wg Wu γ) D) := by
  rw [v69_eq]
  exact tn_is (hidden_is hx hg hwg hwu) hu

include hx hg hwg hwd hu in
theorem up_is : Is (m := 6144) (n := 2048) (φ := .bf16) (val_main_v68 (F := Ideal) x g wg wd u) (TN 4096 (dU f D Wg Wd γ) (nrmg f γ)) := by
  rw [v68_eq]
  exact tn_is (dU_is hx hg hwg hwd hu) (v19_is hx hg)

include hx hg hwg hwu hwd hu

theorem gates_is : Is (m := 6144) (n := 2048) (φ := .bf16) (val_main_v67 (F := Ideal) x g wg wu wd u) (TN 4096 (dG f D Wg Wu Wd γ) (nrmg f γ)) := by
  rw [v67_eq]
  exact tn_is (dG_is hx hg hwg hwu hwd hu) (v19_is hx hg)

theorem rows_is : Is (m := 4096) (n := 2048) (φ := .f32) (val_main_v64 (F := Ideal) x g wg wu wd u) (drows f D Wg Wu Wd γ) := by
  rw [show val_main_v64 (F := Ideal) x g wg wu wd u = rowGrad x g (val_main_v42 (F := Ideal) x g wg wu wd u) u from rfl]
  exact rowGrad_is hx (dnorm_is hx hg hwg hwu hwd hu) hg hu

theorem rows16_is : Is (m := 4096) (n := 2048) (φ := .bf16) (val_main_v66 (F := Ideal) x g wg wu wd u) (drows f D Wg Wu Wd γ) :=
  rows_is hx hg hwg hwu hwd hu

theorem gain_is : Is (m := 1) (n := 2048) (φ := .f32) (val_main_v65 (F := Ideal) x g wg wu wd u) fun _ => ng 4096 f (dnorm f D Wg Wu Wd γ) := by
  rw [show val_main_v65 (F := Ideal) x g wg wu wd u = gainGrad x (val_main_v42 (F := Ideal) x g wg wu wd u) from rfl]
  exact gainGrad_is hx (dnorm_is hx hg hwg hwu hwd hu)

end

theorem reference_frame : Cert.quiescent_Reference2Ideal := fun m ρ _ =>
  (θ_run Cert.Reference2Ideal.defs _ _).mono (fun r h => ⟨fun c => (h c).2.2.2.2.2.2.2, funext fun x => (nomatch x)⟩) (Cert.Reference2Ideal.Value.run m ρ)

end Cert.Reference2Ideal.Mlp
-- ==== Proof.MlpResult.lean ====
/- The SwiGLU sublayer against its reference: the same seven arrays, for arguments that hold real numbers. -/
module

public import proofs.«01_k».proof.Proof.MlpValue
public import proofs.«01_k».proof.Proof.MlpNorm
public import proofs.«01_k».proof.Proof.MlpReference
public import proofs.«01_k».proof.Proof.Finite16

@[expose] public section

set_option maxRecDepth 16384
set_option maxHeartbeats 400000

noncomputable section

namespace Cert.Kernel2Ideal.Mlp

open Idealize.ShloMosaic Idealize.ShloMosaic.TcCoe Idealize.SL.Sem
open Cert.KernelIdeal.Attn (Is arr reals reals_is reals_row reals_is16)
open Cert.Kernel2Ideal.Gen
open Cert.Products Cert.RowNorm Cert.Mlp

theorem arr_is {m n : ℕ} {φ : FTy} (f : ℕ → ℕ → ℝ) : Is (φ := φ) (arr m n f) f := fun _ _ => rfl

/-! ## What the run leaves, from real arguments -/

section
variable (m : (ℓ : Loc nD τ sig) → Buf (Elt Ideal) ℓ) (c : Dev nD)

/-- The arguments hold real numbers. -/
structure Args (f D Wg Wu Wd : ℕ → ℕ → ℝ) (γ : ℕ → ℝ) : Prop where
  x : Is (m := 4096) (n := 2048) (φ := .f32) (m ((c.tc : Thread nD τ).loc main_arg0)) f
  g : Is (m := 1) (n := 2048) (φ := .f32) (m ((c.tc : Thread nD τ).loc main_arg1)) fun _ => γ
  wg : Is (m := 6144) (n := 2048) (φ := .bf16) (m ((c.tc : Thread nD τ).loc main_arg2)) Wg
  wu : Is (m := 6144) (n := 2048) (φ := .bf16) (m ((c.tc : Thread nD τ).loc main_arg3)) Wu
  wd : Is (m := 6144) (n := 2048) (φ := .bf16) (m ((c.tc : Thread nD τ).loc main_arg4)) Wd
  u : Is (m := 4096) (n := 2048) (φ := .f32) (m ((c.tc : Thread nD τ).loc main_arg5)) D

variable {m c} (ρ : Dev nD → PrngReg) {f D Wg Wu Wd : ℕ → ℕ → ℝ} {γ : ℕ → ℝ} (H : Args m c f D Wg Wu Wd γ)
include H

/-! The stages in the order of the regions: each is carried from the region that writes it to those that read it. -/

theorem u16_is : Is (m := 4096) (n := 2048) (φ := .bf16) (V1 m ρ c main_v0) D := by
  intro a d
  refine Eq.trans ?_ (H.u a d)
  show StableHlo.after hostOps0 (W0 m ρ c) (Proc.devRef .tc main_v0) (ix2 a d) = _
  unfold hostOps0
  rfl

theorem h_is : Is (m := 4096) (n := 2048) (φ := .bf16) (V2 m ρ c main_v1) (nrmg f γ) :=
  (arr_is (φ := .bf16) _).of_eq ((W2_arr m ρ c 2).trans (arr0 (V := V1 m ρ) (H.x.of_eq (W1_args m ρ c main_arg0 (by decide))) (H.g.of_eq (W1_args m ρ c main_arg1 (by decide)))))

theorem hidden_is : Is (m := 4096) (n := 6144) (φ := .bf16) (V3 m ρ c main_v2_0) (hidden f Wg Wu γ) :=
  (arr_is (φ := .bf16) _).of_eq ((W3_arr m ρ c 3).trans (arr1_3 (h_is ρ H) (H.wg.of_eq (W2_args m ρ c main_arg2 (by decide))) (H.wu.of_eq (W2_args m ρ c main_arg3 (by decide)))))
theorem gate_is : Is (m := 4096) (n := 6144) (φ := .bf16) (V4 m ρ c main_v2_1) (gate f Wg γ) :=
  (arr_is (φ := .bf16) _).of_eq ((W4_of m ρ c main_v2_1 (by decide +kernel)).trans ((W3_arr m ρ c 4).trans (arr1_4 (h_is ρ H) (H.wg.of_eq (W2_args m ρ c main_arg2 (by decide))))))
theorem value_is : Is (m := 4096) (n := 6144) (φ := .bf16) (V4 m ρ c main_v2_2) (value f Wu γ) :=
  (arr_is (φ := .bf16) _).of_eq ((W4_of m ρ c main_v2_2 (by decide +kernel)).trans ((W3_arr m ρ c 5).trans (arr1_5 (h_is ρ H) (H.wu.of_eq (W2_args m ρ c main_arg3 (by decide))))))

theorem u16_at4 : Is (m := 4096) (n := 2048) (φ := .bf16) (V4 m ρ c main_v0) D :=
  (u16_is ρ H).of_eq ((W4_of m ρ c main_v0 (by decide +kernel)).trans ((W3_of m ρ c main_v0 (by decide +kernel)).trans (W2_of m ρ c main_v0 (by decide +kernel))))

theorem dG_is : Is (m := 4096) (n := 6144) (φ := .bf16) (V5 m ρ c main_v4_0) (dG f D Wg Wu Wd γ) :=
  (arr_is (φ := .bf16) _).of_eq ((W5_arr m ρ c 4).trans (arr3_4 (u16_at4 ρ H) (H.wd.of_eq (W4_args m ρ c main_arg4 (by decide))) (gate_is ρ H) (value_is ρ H)))
theorem dU_is : Is (m := 4096) (n := 6144) (φ := .bf16) (V5 m ρ c main_v4_1) (dU f D Wg Wd γ) :=
  (arr_is (φ := .bf16) _).of_eq ((W5_arr m ρ c 5).trans (arr3_5 (u16_at4 ρ H) (H.wd.of_eq (W4_args m ρ c main_arg4 (by decide))) (gate_is ρ H)))

theorem dG_at6 : Is (m := 4096) (n := 6144) (φ := .bf16) (V6 m ρ c main_v4_0) (dG f D Wg Wu Wd γ) := (dG_is ρ H).of_eq (W6_of m ρ c main_v4_0 (by decide +kernel))
theorem dU_at7 : Is (m := 4096) (n := 6144) (φ := .bf16) (V7 m ρ c main_v4_1) (dU f D Wg Wd γ) :=
  (dU_is ρ H).of_eq ((W7_of m ρ c main_v4_1 (by decide +kernel)).trans (W6_of m ρ c main_v4_1 (by decide +kernel)))

theorem dgates_is : Is (m := 4096) (n := 2048) (φ := .f32) (V7 m ρ c main_v6) (NN 6144 (dG f D Wg Wu Wd γ) Wg) :=
  (nn_is (dG_at6 ρ H) (H.wg.of_eq (W6_args m ρ c main_arg2 (by decide)))).of_eq ((W7_arr m ρ c 2).trans (arr5 (V6 m ρ) c))

theorem dnorm_is : Is (m := 4096) (n := 2048) (φ := .f32) (V10 m ρ c main_v7) (dnorm f D Wg Wu Wd γ) :=
  (plus_is (nn_is (dU_at7 ρ H) (H.wu.of_eq (W7_args m ρ c main_arg3 (by decide)))) (dgates_is ρ H)).of_eq
    ((W10_of m ρ c main_v7 (by decide +kernel)).trans ((W9_of m ρ c main_v7 (by decide +kernel)).trans ((W8_arr m ρ c 3).trans (arr6 (V7 m ρ) c))))

theorem dG_at8 : Is (m := 4096) (n := 6144) (φ := .bf16) (V8 m ρ c main_v4_0) (dG f D Wg Wu Wd γ) :=
  (dG_at6 ρ H).of_eq ((W8_of m ρ c main_v4_0 (by decide +kernel)).trans (W7_of m ρ c main_v4_0 (by decide +kernel)))
theorem dU_at9 : Is (m := 4096) (n := 6144) (φ := .bf16) (V9 m ρ c main_v4_1) (dU f D Wg Wd γ) :=
  (dU_at7 ρ H).of_eq ((W9_of m ρ c main_v4_1 (by decide +kernel)).trans (W8_of m ρ c main_v4_1 (by decide +kernel)))
theorem h_at8 : Is (m := 4096) (n := 2048) (φ := .bf16) (V8 m ρ c main_v1) (nrmg f γ) :=
  (h_is ρ H).of_eq ((W8_of m ρ c main_v1 (by decide +kernel)).trans ((W7_of m ρ c main_v1 (by decide +kernel)).trans ((W6_of m ρ c main_v1 (by decide +kernel)).trans
    ((W5_of m ρ c main_v1 (by decide +kernel)).trans ((W4_of m ρ c main_v1 (by decide +kernel)).trans (W3_of m ρ c main_v1 (by decide +kernel)))))))
theorem h_at9 : Is (m := 4096) (n := 2048) (φ := .bf16) (V9 m ρ c main_v1) (nrmg f γ) := (h_at8 ρ H).of_eq (W9_of m ρ c main_v1 (by decide +kernel))

theorem x_is : Is (m := 4096) (n := 2048) (φ := .f32) (V10 m ρ c main_arg0) f := H.x.of_eq (W10_args m ρ c main_arg0 (by decide))
theorem g_is : Is (m := 1) (n := 2048) (φ := .f32) (V10 m ρ c main_arg1) fun _ => γ := H.g.of_eq (W10_args m ρ c main_arg1 (by decide))
theorem u_is : Is (m := 4096) (n := 2048) (φ := .f32) (V10 m ρ c main_arg5) D := H.u.of_eq (W10_args m ρ c main_arg5 (by decide))

/-! The results. -/

theorem end_v3 : W11 m ρ c (Proc.devRef .tc main_v3) = arr 4096 2048 (output f Wg Wu Wd γ) :=
  (W11_of m ρ c main_v3 (by decide +kernel)).trans ((W10_of m ρ c main_v3 (by decide +kernel)).trans ((W9_of m ρ c main_v3 (by decide +kernel)).trans
    ((W8_of m ρ c main_v3 (by decide +kernel)).trans ((W7_of m ρ c main_v3 (by decide +kernel)).trans ((W6_of m ρ c main_v3 (by decide +kernel)).trans
    ((W5_of m ρ c main_v3 (by decide +kernel)).trans ((W4_arr m ρ c 3).trans ((arr2 (V3 m ρ) c).trans (Is.arr (φ := .f32)
    (plus_is (nn_is (hidden_is ρ H) (H.wd.of_eq (W3_args m ρ c main_arg4 (by decide)))) (H.x.of_eq (W3_args m ρ c main_arg0 (by decide)))))))))))))

theorem end_v5 : W11 m ρ c (Proc.devRef .tc main_v5) = arr 6144 2048 (TN 4096 (hidden f Wg Wu γ) D) :=
  (W11_of m ρ c main_v5 (by decide +kernel)).trans ((W10_of m ρ c main_v5 (by decide +kernel)).trans ((W9_of m ρ c main_v5 (by decide +kernel)).trans
    ((W8_of m ρ c main_v5 (by decide +kernel)).trans ((W7_of m ρ c main_v5 (by decide +kernel)).trans ((W6_arr m ρ c 2).trans ((arr4 (V5 m ρ) c).trans (Is.arr (φ := .bf16)
    (tn_is ((hidden_is ρ H).of_eq ((W5_of m ρ c main_v2_0 (by decide +kernel)).trans (W4_of m ρ c main_v2_0 (by decide +kernel)))) ((u16_at4 ρ H).of_eq (W5_of m ρ c main_v0 (by decide +kernel)))))))))))

theorem end_v8 : W11 m ρ c (Proc.devRef .tc main_v8) = arr 6144 2048 (TN 4096 (dG f D Wg Wu Wd γ) (nrmg f γ)) :=
  (W11_of m ρ c main_v8 (by decide +kernel)).trans ((W10_of m ρ c main_v8 (by decide +kernel)).trans ((W9_arr m ρ c 2).trans ((arr7 (V8 m ρ) c).trans
    (Is.arr (φ := .bf16) (tn_is (dG_at8 ρ H) (h_at8 ρ H))))))
theorem end_v9 : W11 m ρ c (Proc.devRef .tc main_v9) = arr 6144 2048 (TN 4096 (dU f D Wg Wd γ) (nrmg f γ)) :=
  (W11_of m ρ c main_v9 (by decide +kernel)).trans ((W10_arr m ρ c 2).trans ((arr8 (V9 m ρ) c).trans (Is.arr (φ := .bf16) (tn_is (dU_at9 ρ H) (h_at9 ρ H)))))

theorem end_v10_0 : W11 m ρ c (Proc.devRef .tc main_v10_0) = arr 4096 2048 (drows f D Wg Wu Wd γ) :=
  (W11_arr m ρ c 4).trans (arr9_4 (x_is ρ H) (g_is ρ H) (dnorm_is ρ H) (u_is ρ H))
theorem end_v10_1 : W11 m ρ c (Proc.devRef .tc main_v10_1) = arr 4096 2048 (drows f D Wg Wu Wd γ) :=
  (W11_arr m ρ c 5).trans (arr9_5 (x_is ρ H) (g_is ρ H) (dnorm_is ρ H) (u_is ρ H))
theorem end_v10_2 : W11 m ρ c (Proc.devRef .tc main_v10_2) = arr 1 2048 (fun _ => ng 4096 f (dnorm f D Wg Wu Wd γ)) :=
  (W11_arr m ρ c 6).trans (arr9_6 (x_is ρ H) (dnorm_is ρ H))

end

theorem pre_facts : Cert.Pre_mlp_finite.Facts := ⟨by decide, by decide, by decide⟩

theorem args_of_pre {m : (ℓ : Loc nD τ sig) → Buf (Elt Ideal) ℓ} (hm : Cert.Pre_Kernel2Ideal_mlp_finite (hPre_mlp_finite := pre_facts) m) (c : Dev nD) :
    Args m c (reals (m := 4096) (n := 2048) (m ((c.tc : Thread nD τ).loc main_arg0))) (reals (m := 4096) (n := 2048) (m ((c.tc : Thread nD τ).loc main_arg5)))
      (reals (m := 6144) (n := 2048) (m ((c.tc : Thread nD τ).loc main_arg2))) (reals (m := 6144) (n := 2048) (m ((c.tc : Thread nD τ).loc main_arg3)))
      (reals (m := 6144) (n := 2048) (m ((c.tc : Thread nD τ).loc main_arg4))) (reals (m := 1) (n := 2048) (m ((c.tc : Thread nD τ).loc main_arg1)) 0) where
  x := reals_is (hm c).1
  g := reals_row (reals_is (hm c).2.1)
  wg := reals_is16 (hm c).2.2.1
  wu := reals_is16 (hm c).2.2.2.1
  wd := reals_is16 (hm c).2.2.2.2.1
  u := reals_is (hm c).2.2.2.2.2

/-- Call and reference leave the same seven arrays. -/
theorem results : Cert.algebraic_Kernel2Ideal_Reference2Ideal_pre_mlp_finite (hPre_mlp_finite := pre_facts) := fun m g m' g' hm he => by
  have H := args_of_pre hm
  refine ⟨_, _, _, _, _, _, _, (θ_run defs _ _).mono (fun _ h c => ⟨(h.1 c _ (mem_uc main_v3 (by decide))).trans (end_v3 g (H c)),
      (h.1 c _ (mem_uc main_v10_0 (by decide))).trans (end_v10_0 g (H c)), (h.1 c _ (mem_uc main_v10_1 (by decide))).trans (end_v10_1 g (H c)),
      (h.1 c _ (mem_uc main_v10_2 (by decide))).trans (end_v10_2 g (H c)), (h.1 c _ (mem_uc main_v8 (by decide))).trans (end_v8 g (H c)),
      (h.1 c _ (mem_uc main_v9 (by decide))).trans (end_v9 g (H c)), (h.1 c _ (mem_uc main_v5 (by decide))).trans (end_v5 g (H c)), args h c⟩) (run_all m g),
    (θ_run Cert.Reference2Ideal.defs _ _).mono (fun _ h c => ?_) (Cert.Reference2Ideal.Value.run m' g')⟩
  obtain ⟨h0, h1, h2, h3, h4, h5, h6, hr⟩ := h c
  obtain ⟨e0, e1, e2, e3, e4, e5⟩ := he c
  have hx := (H c).x.of_eq e0
  have hg := (H c).g.of_eq e1
  have ha := (H c).wg.of_eq e2
  have hb := (H c).wu.of_eq e3
  have hd := (H c).wd.of_eq e4
  have hu := (H c).u.of_eq e5
  exact ⟨h0.trans ((Cert.Reference2Ideal.Read.val_main_v27_eq _ _ _ _ _).trans (Is.arr (Cert.Reference2Ideal.Mlp.output_is hx hg ha hb hd))),
    h1.trans ((Cert.Reference2Ideal.Read.val_main_v64_eq _ _).trans (Is.arr (Cert.Reference2Ideal.Mlp.rows_is hx hg ha hb hd hu))),
    h2.trans ((Cert.Reference2Ideal.Read.val_main_v66_eq _ _).trans (Is.arr (Cert.Reference2Ideal.Mlp.rows16_is hx hg ha hb hd hu))),
    h3.trans ((Cert.Reference2Ideal.Read.val_main_v65_eq _ _).trans (Is.arr (Cert.Reference2Ideal.Mlp.gain_is hx hg ha hb hd hu))),
    h4.trans ((Cert.Reference2Ideal.Read.val_main_v67_eq _ _).trans (Is.arr (Cert.Reference2Ideal.Mlp.gates_is hx hg ha hb hd hu))),
    h5.trans ((Cert.Reference2Ideal.Read.val_main_v68_eq _ _ _ _ _).trans (Is.arr (Cert.Reference2Ideal.Mlp.up_is hx hg ha hd hu))),
    h6.trans ((Cert.Reference2Ideal.Read.val_main_v69_eq _ _ _ _ _).trans (Is.arr (Cert.Reference2Ideal.Mlp.down_is hx hg ha hb hu))), hr⟩

end Cert.Kernel2Ideal.Mlp
-- ==== Proof.OutRun.lean ====
/- The output projection's one run: every buffer that outlives the call ends at the contents the three regions leave it. -/
module

public import proofs.«01_k».proof.Defs
public import proofs.«01_k».proof.Proof.Gen.Kernel3
public import proofs.«01_k».proof.Proof.Gen.Kernel3Ideal
public import proofs.«01_k».proof.Proof.Gen.Kernel3Ideal.Frame

@[expose] public section

set_option maxRecDepth 16384

noncomputable section

namespace Cert.Kernel3Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.Kernel3Ideal.Gen

variable {F : FTy → Type} [FloatOps F] (m : (ℓ : Loc nD τ sig) → Buf (Elt F) ℓ) (ρ : Dev nD → PrngReg)

local notation "𝕄" => MT nD τ sig Unit (Elt F) ℕ (UR sig nD τ) ℕ

/-- What the run leaves: the contents after the last region in every buffer of a device that outlives the call, and no counter up. -/
def Post (r : PUnit × MemSt nD τ sig (Elt F)) : Prop :=
  (∀ c : Dev nD, ∀ b ∈ Pipeline.ucRefs τ sig, r.2.mem ((c.tc : Thread nD τ).1, b) = W3 m ρ c b) ∧ r.2.sem = fun _ => 0

set_option backward.isDefEq.respectTransparency.types false in
theorem run_all : θ_run defs (onTc (τ := τ) (main (F := F))) ⟨m, fun _ => 0, ρ⟩ (Post m ρ) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h hz => ⟨h, funext fun g => hz g (.inr (no_unscoped g.2))⟩)

variable {m ρ}

theorem args {r : PUnit × MemSt nD τ sig (Elt F)} (h : Post m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.1 c _ (mem_uc main_arg0 (by decide))).trans (W3_main_arg0 m ρ c), (h.1 c _ (mem_uc main_arg1 (by decide))).trans (W3_main_arg1 m ρ c),
    (h.1 c _ (mem_uc main_arg2 (by decide))).trans (W3_main_arg2 m ρ c), (h.1 c _ (mem_uc main_arg3 (by decide))).trans (W3_main_arg3 m ρ c)⟩

theorem frame_ideal : Cert.quiescent_Kernel3Ideal := fun m ρ _ =>
  (θ_run defs _ _).mono (fun _ h => ⟨args h, h.2⟩) (run_all (F := Ideal) m ρ)

theorem defs₀_eq : Cert.Kernel3.defs₀ (F := Bits) = Cert.Kernel3Ideal.defs₀ (F := Bits) := by
  unfold Cert.Kernel3.defs₀ Cert.Kernel3Ideal.defs₀
  refine congrArg Defs.onTc ?_
  funext l a
  match l, a with
  | ⟨0, _⟩, (t, s) => rfl
  | ⟨1, _⟩, (t, s) => rfl
  | ⟨2, _⟩, (t, s) => rfl

/-- The call as compiled and the call over the extended reals are one program text. -/
theorem defs_eq : Cert.Kernel3.defs (F := Bits) = Cert.Kernel3Ideal.defs (F := Bits) := by
  unfold Cert.Kernel3.defs Cert.Kernel3Ideal.defs
  rw [defs₀_eq]
  rfl

theorem frame_bits : Cert.quiescent_Kernel3 := fun m ρ _ => by
  rw [defs_eq]
  exact (θ_run defs _ _).mono (fun _ h => ⟨args h, h.2⟩) (run_all (F := Bits) m ρ)

end Cert.Kernel3Ideal.Out
-- ==== Proof.OutValue.lean ====
/- What the three regions of the output projection leave in their result arrays. -/
module

public import proofs.«01_k».proof.Proof.OutRun
public import proofs.«01_k».proof.Proof.Products
public import Idealize.ShloMosaic.Lib.Pipeline.ValueKit

@[expose] public section

set_option maxRecDepth 16384
set_option maxHeartbeats 400000

noncomputable section

namespace Cert.Kernel3Ideal.Out

open Idealize.ShloMosaic Idealize.ShloMosaic.TcCoe Idealize.SL.Sem
open Cert.Kernel3Ideal.Gen
open Cert.Products

theorem idx0 : ∀ t : Fin cfg0.N, win0_0.index t = ![t.val / 2, 0] ∧ win0_1.index t = ![0, t.val % 2]
    ∧ win0_2.index t = ![t.val / 2, t.val % 2] ∧ win0_3.index t = ![t.val / 2, t.val % 2] := (by decide +kernel : ∀ t : Fin grid0.N, _)
theorem idx1 : ∀ t : Fin cfg1.N, win1_0.index t = ![t.val / 2, 0] ∧ win1_1.index t = ![t.val % 2, 0]
    ∧ win1_2.index t = ![t.val / 2, t.val % 2] := (by decide +kernel : ∀ t : Fin grid1.N, _)
theorem idx2 : ∀ t : Fin cfg2.N, win2_0.index t = ![0, t.val / 2] ∧ win2_1.index t = ![0, t.val % 2]
    ∧ win2_2.index t = ![t.val / 2, t.val % 2] := (by decide +kernel : ∀ t : Fin grid2.N, _)

section
variable (V : (c : Dev nD) → (b : Ref sig .tc) → Buf (Elt Ideal) ((c : Thread nD τ).loc b)) (c : Dev nD)

/-- The projected rows on top of what came in. -/
theorem arr0 : (dat0 V c).arrAt 3 cfg0.N = plus (nn (m := 4096) (k := 2048) (n := 2048) (V c main_arg1) (V c main_arg2)) (V c main_arg0) := by
  refine Pipeline.Dat.arrAt_eq_of_covers _ 3 _ (by decide +kernel) fun t _ y => ?_
  blk_simp
  rw [after0_3]
  frame_out
  pointwise [k0_pay1, plus, nn]
  blk_point [iblk0, idx0 t]

/-- The cotangent through the weights. -/
theorem arr1 : (dat1 V c).arrAt 2 cfg1.N = nt (m := 4096) (k := 2048) (n := 2048) (V c main_arg3) (V c main_arg2) := by
  refine Pipeline.Dat.arrAt_eq_of_covers _ 2 _ (by decide +kernel) fun t _ y => ?_
  blk_simp
  rw [after1_2]
  frame_out
  pointwise [k1_pay1, nt]
  blk_point [iblk1, idx1 t]

/-- The gradient of the weights. -/
theorem arr2 : (dat2 V c).arrAt 2 cfg2.N = tn (m := 2048) (k := 4096) (n := 2048) (V c main_arg1) (V c main_arg3) := by
  refine Pipeline.Dat.arrAt_eq_of_covers _ 2 _ (by decide +kernel) fun t _ y => ?_
  blk_simp
  rw [after2_2]
  frame_out
  pointwise [k2_pay1, tn]
  blk_point [iblk2, idx2 t]

end

end Cert.Kernel3Ideal.Out
-- ==== Proof.OutReference.lean ====
/- The output projection's reference: its three results as matrix products. -/
module

public import proofs.«01_k».proof.Defs
public import proofs.«01_k».proof.Proof.Products
public import proofs.«01_k».proof.Proof.Gen.Reference3Ideal
public import proofs.«01_k».proof.Proof.Gen.Reference3Ideal.Run
public import Idealize.ShloMosaic.Lib.Tactic.CleanTypes

@[expose] public section

set_option maxRecDepth 16384
set_option maxHeartbeats 400000

noncomputable section

namespace Cert.Reference3Ideal.Out

open Idealize.ShloMosaic Idealize.ShloMosaic.TcCoe Idealize.SL.Sem
open Cert.Reference3Ideal.Gen
open Cert.Products

theorem ref_v4 (x : FVec Ideal S4096x2048 .f32) (a : FVec Ideal S4096x2048 .bf16) (w : FVec Ideal S2048x2048 .bf16) :
    addf x (Host.dotGeneral (φ₁ := .f32) (φ₂ := .f32) dot_S4096x2048_S2048x2048_S4096x2048_1_0_0_1_n_n none (extf .f32 a bitsLt_bf16_f32) (extf .f32 w bitsLt_bf16_f32))
      = plus (nn (m := 4096) (k := 2048) (n := 2048) a w) x := by
  funext i
  pointwise [plus, nn]
  exact add_comm _ _

theorem ref_v7 (d : FVec Ideal S4096x2048 .bf16) (w : FVec Ideal S2048x2048 .bf16) :
    Host.dotGeneral (φ₁ := .f32) (φ₂ := .f32) dot_S4096x2048_S2048x2048_S4096x2048_1_1_0_0_n_n none (extf .f32 d bitsLt_bf16_f32) (extf .f32 w bitsLt_bf16_f32)
      = nt (m := 4096) (k := 2048) (n := 2048) d w := by
  funext i
  pointwise [nt]

theorem ref_v8 (a d : FVec Ideal S4096x2048 .bf16) :
    truncf .bf16 (transpose S2048x2048 [1, 0] (Host.dotGeneral (φ₁ := .f32) (φ₂ := .f32) dot_S4096x2048_S4096x2048_S2048x2048_0_0_1_1_n_n none (extf .f32 d bitsLt_bf16_f32) (extf .f32 a bitsLt_bf16_f32))
        transposes_S2048x2048_S2048x2048_1_0) bitsLt_bf16_f32
      = tn (m := 2048) (k := 4096) (n := 2048) a d := by
  funext i
  pointwise [tn]
  exact Finset.sum_congr rfl fun _ _ => mul_comm _ _

theorem reference_frame : Cert.quiescent_Reference3Ideal := fun m ρ _ =>
  (θ_run Cert.Reference3Ideal.defs _ _).mono (fun r h => ⟨fun c => (h c).2.2.2, funext fun x => (nomatch x)⟩) (Cert.Reference3Ideal.Value.run m ρ)

end Cert.Reference3Ideal.Out
-- ==== Proof.OutResult.lean ====
/- The output projection against its reference: the same three arrays, for any arguments. -/
module

public import proofs.«01_k».proof.Proof.OutValue
public import proofs.«01_k».proof.Proof.OutReference

@[expose] public section

set_option maxRecDepth 16384
set_option maxHeartbeats 400000

noncomputable section

namespace Cert.Kernel3Ideal.Out

open Idealize.ShloMosaic Idealize.ShloMosaic.TcCoe Idealize.SL.Sem
open Cert.Kernel3Ideal.Gen
open Cert.Products
open Cert.Reference3Ideal.Out (ref_v4 ref_v7 ref_v8)

section
variable {m : (ℓ : Loc nD τ sig) → Buf (Elt Ideal) ℓ} {ρ : Dev nD → PrngReg} (c : Dev nD)

/-! ## The three results as the run leaves them -/

theorem end_v0 : W3 m ρ c (Proc.devRef .tc main_v0)
    = plus (nn (m := 4096) (k := 2048) (n := 2048) (m ((c.tc : Thread nD τ).loc main_arg1)) (m ((c.tc : Thread nD τ).loc main_arg2))) (m ((c.tc : Thread nD τ).loc main_arg0)) :=
  (W3_of m ρ c main_v0 (by decide +kernel)).trans ((W2_of m ρ c main_v0 (by decide +kernel)).trans ((W1_arr m ρ c 3).trans (arr0 (V0 m ρ) c)))

theorem end_v1 : W3 m ρ c (Proc.devRef .tc main_v1)
    = nt (m := 4096) (k := 2048) (n := 2048) (m ((c.tc : Thread nD τ).loc main_arg3)) (m ((c.tc : Thread nD τ).loc main_arg2)) := by
  refine (W3_of m ρ c main_v1 (by decide +kernel)).trans ((W2_arr m ρ c 2).trans ((arr1 (V1 m ρ) c).trans ?_))
  exact congrArg₂ (nt (m := 4096) (k := 2048) (n := 2048)) (W1_args m ρ c main_arg3 (by decide)) (W1_args m ρ c main_arg2 (by decide))

theorem end_v2 : W3 m ρ c (Proc.devRef .tc main_v2)
    = tn (m := 2048) (k := 4096) (n := 2048) (m ((c.tc : Thread nD τ).loc main_arg1)) (m ((c.tc : Thread nD τ).loc main_arg3)) := by
  refine (W3_arr m ρ c 2).trans ((arr2 (V2 m ρ) c).trans ?_)
  exact congrArg₂ (tn (m := 2048) (k := 4096) (n := 2048)) (W2_args m ρ c main_arg1 (by decide)) (W2_args m ρ c main_arg3 (by decide))

end

/-- Call and reference leave the same three arrays. -/
theorem results : Cert.algebraic_Kernel3Ideal_Reference3Ideal := fun m g m' g' _ he =>
  ⟨_, _, _, (θ_run defs _ _).mono (fun _ h c => ⟨(h.1 c _ (mem_uc main_v0 (by decide))).trans (end_v0 c), (h.1 c _ (mem_uc main_v1 (by decide))).trans (end_v1 c),
      (h.1 c _ (mem_uc main_v2 (by decide))).trans (end_v2 c), args h c⟩) (run_all m g),
    (θ_run Cert.Reference3Ideal.defs _ _).mono (fun _ h c => by
      obtain ⟨h0, h1, h2, hr⟩ := h c
      obtain ⟨e0, e1, e2, e3⟩ := he c
      exact ⟨h0.trans ((ref_v4 _ _ _).trans (congr (congrArg plus (congrArg₂ nn e1 e2)) e0)), h1.trans ((ref_v7 _ _).trans (congrArg₂ nt e3 e2)),
        h2.trans ((ref_v8 _ _).trans (congrArg₂ tn e1 e3)), hr⟩) (Cert.Reference3Ideal.Value.run m' g')⟩

end Cert.Kernel3Ideal.Out
-- ==== Proof.InRun.lean ====
/- The input projection's one run: every buffer that outlives the call ends at the contents the five regions leave it. -/
module

public import proofs.«01_k».proof.Defs
public import proofs.«01_k».proof.Proof.Gen.Kernel4
public import proofs.«01_k».proof.Proof.Gen.Kernel4Ideal
public import proofs.«01_k».proof.Proof.Gen.Kernel4Ideal.Frame

@[expose] public section

set_option maxRecDepth 16384

noncomputable section

namespace Cert.Kernel4Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.Kernel4Ideal.Gen

variable {F : FTy → Type} [FloatOps F] (m : (ℓ : Loc nD τ sig) → Buf (Elt F) ℓ) (ρ : Dev nD → PrngReg)

local notation "𝕄" => MT nD τ sig Unit (Elt F) ℕ (UR sig nD τ) ℕ

/-- What the run leaves: the contents after the last region in every buffer of a device that outlives the call, and no counter up. -/
def Post (r : PUnit × MemSt nD τ sig (Elt F)) : Prop :=
  (∀ c : Dev nD, ∀ b ∈ Pipeline.ucRefs τ sig, r.2.mem ((c.tc : Thread nD τ).1, b) = W5 m ρ c b) ∧ r.2.sem = fun _ => 0

set_option backward.isDefEq.respectTransparency.types false in
theorem run_all : θ_run defs (onTc (τ := τ) (main (F := F))) ⟨m, fun _ => 0, ρ⟩ (Post m ρ) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h hz => ⟨h, funext fun g => hz g (.inr (no_unscoped g.2))⟩)

variable {m ρ}

theorem args {r : PUnit × MemSt nD τ sig (Elt F)} (h : Post m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.1 c _ (mem_uc main_arg0 (by decide))).trans (W5_main_arg0 m ρ c), (h.1 c _ (mem_uc main_arg1 (by decide))).trans (W5_main_arg1 m ρ c),
    (h.1 c _ (mem_uc main_arg2 (by decide))).trans (W5_main_arg2 m ρ c), (h.1 c _ (mem_uc main_arg3 (by decide))).trans (W5_main_arg3 m ρ c),
    (h.1 c _ (mem_uc main_arg4 (by decide))).trans (W5_main_arg4 m ρ c)⟩

theorem frame_ideal : Cert.quiescent_Kernel4Ideal := fun m ρ _ =>
  (θ_run defs _ _).mono (fun _ h => ⟨args h, h.2⟩) (run_all (F := Ideal) m ρ)

set_option maxHeartbeats 4000000 in
theorem defs₀_eq : Cert.Kernel4.defs₀ (F := Bits) = Cert.Kernel4Ideal.defs₀ (F := Bits) := by
  unfold Cert.Kernel4.defs₀ Cert.Kernel4Ideal.defs₀
  refine congrArg Defs.onTc ?_
  funext l a
  match l, a with
  | ⟨0, _⟩, (t, s) => rfl
  | ⟨1, _⟩, (t, s) => rfl
  | ⟨2, _⟩, (t, s) => rfl
  | ⟨3, _⟩, (t, s) => rfl
  | ⟨4, _⟩, (t, s) => rfl

/-- The call as compiled and the call over the extended reals are one program text. -/
theorem defs_eq : Cert.Kernel4.defs (F := Bits) = Cert.Kernel4Ideal.defs (F := Bits) := by
  unfold Cert.Kernel4.defs Cert.Kernel4Ideal.defs
  rw [defs₀_eq]
  rfl

theorem frame_bits : Cert.quiescent_Kernel4 := fun m ρ _ => by
  rw [defs_eq]
  exact (θ_run defs _ _).mono (fun _ h => ⟨args h, h.2⟩) (run_all (F := Bits) m ρ)

end Cert.Kernel4Ideal.In
-- ==== Proof.RowExt.lean ====
/- The normalisation of a row of 2048 extended reals, and its gradient: what the two norm bodies compute, infinite elements or not. -/
module

public import proofs.«01_k».proof.Proof.RowNorm

@[expose] public section

set_option maxRecDepth 16384
set_option maxHeartbeats 200000

noncomputable section

namespace Cert.RowExt

open Idealize.ShloMosaic Idealize.ShloMosaic.TcCoe
open Cert.KernelIdeal.Attn (eps eps_pos lit_eps)
open Cert.RowNorm (lit_2048)
open Cert.Kernel4Ideal Cert.Kernel4Ideal.Gen

/-! ## Matrices by their elements -/

/-- A matrix has the elements `f`. -/
def Holds {m n : ℕ} {φ : FTy} (x : FVec Ideal ⟨2, ![m, n]⟩ φ) (f : ℕ → ℕ → EReal) : Prop := ∀ (a : Fin m) (c : Fin n), x (ix2 a c) = f a.val c.val

/-- The elements of a matrix, and zero outside it. -/
def elems {m n : ℕ} (x : (⟨2, ![m, n]⟩ : Shape).Idx → EReal) (a c : ℕ) : EReal := if h : a < m ∧ c < n then x (ix2 ⟨a, h.1⟩ ⟨c, h.2⟩) else 0

/-- A matrix given by its elements. -/
def mat (m n : ℕ) (f : ℕ → ℕ → EReal) : (⟨2, ![m, n]⟩ : Shape).Idx → EReal := fun j => f (j 0).val (j 1).val

section
variable {m n : ℕ} {φ : FTy} {x : FVec Ideal ⟨2, ![m, n]⟩ φ} {f : ℕ → ℕ → EReal}

theorem holds_elems : Holds x (elems x) := fun a c => by
  have e : elems x a.val c.val = x (ix2 a c) := dif_pos ⟨a.isLt, c.isLt⟩
  exact e.symm
theorem holds_row {n : ℕ} {φ : FTy} {x : FVec Ideal ⟨2, ![1, n]⟩ φ} : Holds x fun _ => elems x 0 := fun a c => by
  obtain rfl : a = 0 := Subsingleton.elim _ _
  exact holds_elems 0 c
theorem Holds.at (h : Holds x f) (y : (⟨2, ![m, n]⟩ : Shape).Idx) : x y = f (y 0).val (y 1).val := (congrArg x (eq_ix2 y)).trans (h (y 0) (y 1))
theorem Holds.eq_mat (h : Holds x f) : x = mat m n f := funext h.at
theorem Holds.of_eq {y : FVec Ideal ⟨2, ![m, n]⟩ φ} (h : Holds x f) (e : y = x) : Holds y f := fun a c => (congrFun e _).trans (h a c)

end

/-! ## The normalisation -/

/-- The mean square of a row and its reciprocal root, the normalised row, and that row with a gain. -/
def sq (x : ℕ → ℕ → EReal) (i : ℕ) : EReal := Ideal.div (∑ d : Fin 2048, x i d * x i d) ((2048 : ℝ) : EReal) + (eps : EReal)
def root (x : ℕ → ℕ → EReal) (i : ℕ) : EReal := Ideal.rsqrt (sq x i)
def unit (x : ℕ → ℕ → EReal) (i d : ℕ) : EReal := x i d * root x i
def unitg (x : ℕ → ℕ → EReal) (γ : ℕ → EReal) (i d : ℕ) : EReal := unit x i d * γ d

/-- The gradient of the input, and of the gain over `n` rows, from the gradient `y` of the output. -/
def back (x y : ℕ → ℕ → EReal) (γ : ℕ → EReal) (i d : ℕ) : EReal :=
  root x i * (y i d * γ d - unit x i d * Ideal.div (∑ e : Fin 2048, y i e * γ e * unit x i e) ((2048 : ℝ) : EReal))
def gain (n : ℕ) (x y : ℕ → ℕ → EReal) (d : ℕ) : EReal := ∑ i : Fin n, y i d * unit x i d

/-- The rows from row `k` on. -/
def below (k : ℕ) (x : ℕ → ℕ → EReal) (i d : ℕ) : EReal := x (k + i) d

/-- The gradient of the gain, gathered tile after tile, is the gradient over all rows. -/
theorem gain_tiles (n : ℕ) (x y : ℕ → ℕ → EReal) (d : ℕ) : ∑ s ∈ Finset.range n, gain 256 (below (s * 256) x) (below (s * 256) y) d = gain (n * 256) x y d := by
  unfold gain
  rw [Fin.sum_univ_eq_sum_range (fun i => y i d * unit x i d)]
  induction n with
  | zero => rw [Nat.zero_mul]; rfl
  | succ n ih =>
    rw [Finset.sum_range_succ, ih, Nat.succ_mul, Finset.sum_range_add]
    exact congrArg _ (Fin.sum_univ_eq_sum_range (fun i => y (n * 256 + i) d * unit x (n * 256 + i) d) 256)

/-! ## What the two norm bodies compute -/

section pays
variable {g : FVec Ideal S1x2048 .f32} {f w z : ℕ → ℕ → EReal} {γ : ℕ → EReal}

theorem pay_fwd {x : FVec Ideal S512x2048 .f32} (hx : Holds x f) (hg : Holds g fun _ => γ) : Holds (k0_pay1 x g) (unitg f γ) := by
  intro a c
  pointwise [k0_pay1]
  simp only [hx _ _, hg _ _, lit_2048, lit_eps, sq, root, unit, unitg]

variable {x y u : FVec Ideal S256x2048 .f32}

theorem pay3_is (hx : Holds x f) : Holds (k4_pay3 x) fun i _ => root f i := by
  intro a c
  pointwise [k4_pay3]
  simp only [hx _ _, lit_2048, lit_eps, sq, root]

theorem pay4_is (hx : Holds x f) : Holds (k4_pay4 x) (unit f) := by
  intro a c
  pointwise [k4_pay4]
  simp only [hx _ _, pay3_is hx _ _, unit]

theorem pay5_is (hy : Holds y w) : Holds (k4_pay5 y) w := by
  intro a c
  pointwise [k4_pay5]
  exact hy a c

theorem pay6_is : Holds (k4_pay6 (F := Ideal)) fun _ _ => 0 := by
  intro a c
  pointwise [k4_pay6]

theorem pay7_is {a : FVec Ideal S1x2048 .f32} {α : ℕ → ℕ → EReal} (hx : Holds x f) (hy : Holds y w) (ha : Holds a α) :
    Holds (k4_pay7 x y a) fun i d => α i d + gain 256 f w d := by
  intro i c
  obtain rfl : i = 0 := Subsingleton.elim _ _
  pointwise [k4_pay7]
  simp only [pay4_is hx _ _, pay5_is hy _ _, ha _ _, gain]
  rfl

theorem pay_bwd (hx : Holds x f) (hy : Holds y w) (hg : Holds g fun _ => γ) (hu : Holds u z) : Holds (k4_pay1 (k4_pay8 x y g) u) fun i d => back f w γ i d + z i d := by
  intro a c
  pointwise [k4_pay1, k4_pay8]
  simp only [pay3_is hx _ _, pay4_is hx _ _, pay5_is hy _ _, hg _ _, hu _ _, lit_2048, back]

theorem pay_bwd16 (hx : Holds x f) (hy : Holds y w) (hg : Holds g fun _ => γ) (hu : Holds u z) : Holds (k4_pay2 (k4_pay8 x y g) u) fun i d => back f w γ i d + z i d := by
  intro a c
  pointwise [k4_pay2]
  exact pay_bwd hx hy hg hu a c

end pays

end Cert.RowExt
-- ==== Proof.InValue.lean ====
/- The input projection's five regions: what each leaves in its arrays. -/
module

public import proofs.«01_k».proof.Proof.InRun
public import proofs.«01_k».proof.Proof.Products
public import proofs.«01_k».proof.Proof.RowExt
public import Idealize.ShloMosaic.Lib.Pipeline.ValueKit

@[expose] public section

set_option maxRecDepth 16384
set_option maxHeartbeats 400000

noncomputable section

namespace Cert.Kernel4Ideal.In

open Idealize.ShloMosaic Idealize.ShloMosaic.TcCoe
open Cert.Kernel4Ideal.Gen
open Cert.Products Cert.RowExt

theorem idx0 : ∀ t : Fin cfg0.N, win0_0.index t = ![t.val, 0] ∧ win0_1.index t = ![0, 0] ∧ win0_2.index t = ![t.val, 0] ∧ t.val < 8 :=
  (by decide +kernel : ∀ t : Fin grid0.N, _)
theorem idx1 : ∀ t : Fin cfg1.N, win1_0.index t = ![t.val / 6, 0] ∧ win1_1.index t = ![0, t.val % 6]
    ∧ win1_2.index t = ![t.val / 6, t.val % 6] := (by decide +kernel : ∀ t : Fin grid1.N, _)
theorem idx2 : ∀ t : Fin cfg2.N, win2_0.index t = ![t.val / 4, 0] ∧ win2_1.index t = ![t.val % 4, 0]
    ∧ win2_2.index t = ![t.val / 4, t.val % 4] := (by decide +kernel : ∀ t : Fin grid2.N, _)
theorem idx3 : ∀ t : Fin cfg3.N, win3_0.index t = ![0, t.val / 6] ∧ win3_1.index t = ![0, t.val % 6]
    ∧ win3_2.index t = ![t.val / 6, t.val % 6] := (by decide +kernel : ∀ t : Fin grid3.N, _)
theorem idx4 : ∀ t : Fin cfg4.N, win4_0.index t = ![t.val, 0] ∧ win4_1.index t = ![0, 0] ∧ win4_2.index t = ![t.val, 0] ∧ win4_3.index t = ![t.val, 0]
    ∧ win4_4.index t = ![t.val, 0] ∧ win4_5.index t = ![t.val, 0] ∧ win4_6.index t = ![0, 0] ∧ t.val < 16 := (by decide +kernel : ∀ t : Fin grid4.N, _)

section
variable (V : (c : Dev nD) → (b : Ref sig .tc) → Buf (Elt Ideal) ((c : Thread nD τ).loc b)) (c : Dev nD)

/-! ## The three products -/

theorem arr1 : (dat1 V c).arrAt 2 cfg1.N = nn (m := 4096) (k := 2048) (n := 6144) (V c main_v0) (V c main_arg2) := by
  refine Pipeline.Dat.arrAt_eq_of_covers _ 2 _ (by decide +kernel) fun t _ y => ?_
  blk_simp
  rw [after1_2]
  frame_out
  pointwise [k1_pay1, nn]
  blk_point [iblk1, idx1 t]

theorem arr2 : (dat2 V c).arrAt 2 cfg2.N = nt (m := 4096) (k := 6144) (n := 2048) (V c main_arg3) (V c main_arg2) := by
  refine Pipeline.Dat.arrAt_eq_of_covers _ 2 _ (by decide +kernel) fun t _ y => ?_
  blk_simp
  rw [after2_2]
  frame_out
  pointwise [k2_pay1, nt]
  blk_point [iblk2, idx2 t]

theorem arr3 : (dat3 V c).arrAt 2 cfg3.N = tn (m := 2048) (k := 4096) (n := 6144) (V c main_v0) (V c main_arg3) := by
  refine Pipeline.Dat.arrAt_eq_of_covers _ 2 _ (by decide +kernel) fun t _ y => ?_
  blk_simp
  rw [after3_2]
  frame_out
  pointwise [k3_pay1, tn]
  blk_point [iblk3, idx3 t]

/-! ## The normalised rows -/

variable {V c} {f w z : ℕ → ℕ → EReal} {γ : ℕ → EReal}

theorem blk0_0 (hx : Holds (m := 4096) (n := 2048) (φ := .f32) (V c main_arg0) f) (t : Fin cfg0.N) :
    Holds (m := 512) (n := 2048) (φ := .f32) (iblk0 V c 0 t) (below (t.val * 512) f) := fun r d => by
  have ht := (idx0 t).2.2.2
  refine Eq.trans ?_ (hx ⟨t.val * 512 + r.val, by omega⟩ d)
  blk_ext [iblk0, idx0 t]

theorem blk0_1 (hg : Holds (m := 1) (n := 2048) (φ := .f32) (V c main_arg1) fun _ => γ) (t : Fin cfg0.N) :
    Holds (m := 1) (n := 2048) (φ := .f32) (iblk0 V c 1 t) fun _ => γ := fun r d => by
  refine Eq.trans ?_ (hg r d)
  blk_ext [iblk0, idx0 t]

theorem arr0 (hx : Holds (m := 4096) (n := 2048) (φ := .f32) (V c main_arg0) f) (hg : Holds (m := 1) (n := 2048) (φ := .f32) (V c main_arg1) fun _ => γ) :
    (dat0 V c).arrAt 2 cfg0.N = mat 4096 2048 (unitg f γ) := by
  refine Pipeline.Dat.arrAt_eq_of_covers _ 2 _ (by decide +kernel) fun t _ y => ?_
  blk_simp
  rw [after0_2]
  frame_out
  rw [(pay_fwd (blk0_0 hx t) (blk0_1 hg t)).at y]
  unfold mat
  blk_simp [idx0 t]
  rfl

/-! ## The gradient of the normalisation -/

theorem blk4_0 (hx : Holds (m := 4096) (n := 2048) (φ := .f32) (V c main_arg0) f) (t : Fin cfg4.N) :
    Holds (m := 256) (n := 2048) (φ := .f32) (iblk4 V c 0 t) (below (t.val * 256) f) := fun r d => by
  have ht := (idx4 t).2.2.2.2.2.2.2
  refine Eq.trans ?_ (hx ⟨t.val * 256 + r.val, by omega⟩ d)
  blk_ext [iblk4, idx4 t]

theorem blk4_1 (hg : Holds (m := 1) (n := 2048) (φ := .f32) (V c main_arg1) fun _ => γ) (t : Fin cfg4.N) :
    Holds (m := 1) (n := 2048) (φ := .f32) (iblk4 V c 1 t) fun _ => γ := fun r d => by
  refine Eq.trans ?_ (hg r d)
  blk_ext [iblk4, idx4 t]

theorem blk4_2 (hy : Holds (m := 4096) (n := 2048) (φ := .f32) (V c main_v2) w) (t : Fin cfg4.N) :
    Holds (m := 256) (n := 2048) (φ := .f32) (iblk4 V c 2 t) (below (t.val * 256) w) := fun r d => by
  have ht := (idx4 t).2.2.2.2.2.2.2
  refine Eq.trans ?_ (hy ⟨t.val * 256 + r.val, by omega⟩ d)
  blk_ext [iblk4, idx4 t]

theorem blk4_3 (hu : Holds (m := 4096) (n := 2048) (φ := .f32) (V c main_arg4) z) (t : Fin cfg4.N) :
    Holds (m := 256) (n := 2048) (φ := .f32) (iblk4 V c 3 t) (below (t.val * 256) z) := fun r d => by
  have ht := (idx4 t).2.2.2.2.2.2.2
  refine Eq.trans ?_ (hu ⟨t.val * 256 + r.val, by omega⟩ d)
  blk_ext [iblk4, idx4 t]

variable (hx : Holds (m := 4096) (n := 2048) (φ := .f32) (V c main_arg0) f) (hg : Holds (m := 1) (n := 2048) (φ := .f32) (V c main_arg1) fun _ => γ)
  (hy : Holds (m := 4096) (n := 2048) (φ := .f32) (V c main_v2) w) (hu : Holds (m := 4096) (n := 2048) (φ := .f32) (V c main_arg4) z)
include hx hy

/-- The gradient of the gain after the tiles up to the `n`-th. -/
theorem tiles (n : ℕ) (hn : n < cfg4.N) : Holds (m := 1) (n := 2048) (φ := .f32) (outsAt4 V c n hn).2.2
    fun _ d => ∑ s ∈ Finset.range (n + 1), gain 256 (below (s * 256) f) (below (s * 256) w) d := by
  induction n with
  | zero =>
    rw [outsAt4_A V c ⟨0, hn⟩ rfl]
    intro a d
    frame_out
    refine (pay7_is (blk4_0 hx ⟨0, hn⟩) (blk4_2 hy ⟨0, hn⟩) pay6_is a d).trans ?_
    exact (zero_add _).trans (Finset.sum_range_one (fun s => gain 256 (below (s * 256) f) (below (s * 256) w) d)).symm
  | succ n ih =>
    have h16 : n + 1 < 16 := (idx4 ⟨n + 1, hn⟩).2.2.2.2.2.2.2
    rw [outsAt4_B V c ⟨n + 1, hn⟩ (by show ¬(n + 1) % 16 = 0; rw [Nat.mod_eq_of_lt h16]; exact Nat.succ_ne_zero n)]
    intro a d
    frame_out
    refine (pay7_is (blk4_0 hx ⟨n + 1, hn⟩) (blk4_2 hy ⟨n + 1, hn⟩) (ih (Nat.lt_of_succ_lt hn)) a d).trans ?_
    rw [Finset.sum_range_succ _ (n + 1)]

theorem arr4_6 : (dat4 V c).arrAt 6 cfg4.N = mat 1 2048 (fun _ => gain 4096 f w) := by
  refine Pipeline.Dat.arrAt_eq_of_after_last _ 6 t4_15 (by decide +kernel) _ fun j => ?_
  exact (congrFun (after4_6 V c t4_15) _).trans (((tiles hx hy 15 t4_15.isLt).at _).trans (gain_tiles 16 f w _))

include hg hu

/-- The gradient of the rows, what came in beside it added. -/
theorem rows (t : Fin cfg4.N) : Holds (m := 256) (n := 2048) (φ := .f32) (outsAt4 V c t.val t.isLt).1 (fun i d => back (below (t.val * 256) f) (below (t.val * 256) w) γ i d + below (t.val * 256) z i d)
    ∧ Holds (m := 256) (n := 2048) (φ := .bf16) (outsAt4 V c t.val t.isLt).2.1 (fun i d => back (below (t.val * 256) f) (below (t.val * 256) w) γ i d + below (t.val * 256) z i d) := by
  have h1 := pay_bwd (blk4_0 hx t) (blk4_2 hy t) (blk4_1 hg t) (blk4_3 hu t)
  have h2 := pay_bwd16 (blk4_0 hx t) (blk4_2 hy t) (blk4_1 hg t) (blk4_3 hu t)
  by_cases h : t.val % 16 = 0
  · rw [outsAt4_A V c t h]
    exact ⟨fun a d => by frame_out; exact h1 a d, fun a d => by frame_out; exact h2 a d⟩
  · rw [outsAt4_B V c t h]
    exact ⟨fun a d => by frame_out; exact h1 a d, fun a d => by frame_out; exact h2 a d⟩

theorem arr4_4 : (dat4 V c).arrAt 4 cfg4.N = mat 4096 2048 (fun i d => back f w γ i d + z i d) := by
  refine Pipeline.Dat.arrAt_eq_of_covers _ 4 _ (by decide +kernel) fun t _ y => ?_
  blk_simp
  rw [after4_4, (rows hx hg hy hu t).1.at y]
  unfold mat
  blk_simp [idx4 t]
  rfl

theorem arr4_5 : (dat4 V c).arrAt 5 cfg4.N = mat 4096 2048 (fun i d => back f w γ i d + z i d) := by
  refine Pipeline.Dat.arrAt_eq_of_covers _ 5 _ (by decide +kernel) fun t _ y => ?_
  blk_simp
  rw [after4_5, (rows hx hg hy hu t).2.at y]
  unfold mat
  blk_simp [idx4 t]
  rfl

end

end Cert.Kernel4Ideal.In
-- ==== Proof.RowExtRef.lean ====
/- The reference's normalisation of the rows and its gradient, read on extended reals: the same functions as the two norm bodies. -/
module

public import proofs.«01_k».proof.Proof.RowExt
public import proofs.«01_k».proof.Proof.RowNormRef

@[expose] public section

set_option maxRecDepth 16384
set_option maxHeartbeats 200000

noncomputable section

namespace Cert.RowExt

open Idealize.ShloMosaic Idealize.ShloMosaic.TcCoe Idealize.ShloMosaic.StableHlo
open Cert.KernelIdeal.Attn (eps eps_pos lit_eps)
open Cert.RowNorm (lit_2048 lit_neg_half gainGrad gained share spread rowGrad)
open Cert.Reference4Ideal Cert.Reference4Ideal.Gen Cert.Reference4Ideal.Read

/-! ## Rules that hold of infinite numbers too -/

/-- A nonnegative real factor goes into a sum. -/
theorem sum_mul_coe {n : ℕ} (h : Fin n → EReal) {r : ℝ} (hr : 0 ≤ r) : (∑ e, h e) * (r : EReal) = ∑ e, h e * (r : EReal) := by
  have key : ∀ s : Finset (Fin n), (∑ e ∈ s, h e) * (r : EReal) = ∑ e ∈ s, h e * (r : EReal) := fun s => by
    induction s using Finset.induction_on with
    | empty => exact zero_mul _
    | insert a s ha ih =>
      rw [Finset.sum_insert ha, Finset.sum_insert ha, ← ih, EReal.right_distrib_of_nonneg_of_ne_top (EReal.coe_nonneg.mpr hr) (EReal.coe_ne_top r)]
  exact key _

/-- A number times a negative real, twice. -/
theorem twice (a : EReal) {k : ℝ} (hk : 0 < k) : a * ((-k : ℝ) : EReal) + a * ((-k : ℝ) : EReal) = -(a * ((2 * k : ℝ) : EReal)) := by
  induction a with
  | bot => rw [EReal.bot_mul_coe_of_neg (neg_neg_of_pos hk), EReal.bot_mul_coe_of_pos (by positivity)]; rfl
  | top => rw [EReal.top_mul_coe_of_neg (neg_neg_of_pos hk), EReal.top_mul_coe_of_pos (by positivity)]; rfl
  | coe a =>
    rw [← EReal.coe_mul, ← EReal.coe_mul, ← EReal.coe_add, ← EReal.coe_neg]
    exact congrArg _ (by ring)

theorem div_2048 (a : EReal) : Ideal.div a ((2048 : ℝ) : EReal) = a * ((1 / 2048 : ℝ) : EReal) := Ideal.div_coe (by norm_num) a

theorem square_nonneg (a : EReal) : 0 ≤ a * a := by
  induction a with
  | bot => rw [EReal.bot_mul_bot]; exact le_top
  | top => rw [EReal.top_mul_top]; exact le_top
  | coe a => rw [← EReal.coe_mul]; exact EReal.coe_nonneg.mpr (mul_self_nonneg a)

theorem sq_pos (x : ℕ → ℕ → EReal) (i : ℕ) : 0 < sq x i := by
  have h : 0 ≤ Ideal.div (∑ d : Fin 2048, x i d * x i d) ((2048 : ℝ) : EReal) := by
    rw [div_2048]
    exact mul_nonneg (Finset.sum_nonneg fun d _ => square_nonneg _) (EReal.coe_nonneg.mpr (by norm_num))
  exact lt_of_lt_of_le (EReal.coe_pos.mpr eps_pos) (le_add_of_nonneg_left h)

/-- A row's reciprocal root is a positive real, or zero where an element is infinite. -/
theorem root_cases (x : ℕ → ℕ → EReal) (i : ℕ) : (∃ r : ℝ, 0 < r ∧ root x i = (r : EReal) ∧ sq x i = (((r * r)⁻¹ : ℝ) : EReal)) ∨ (root x i = 0 ∧ sq x i = ⊤) := by
  have h := sq_pos x i
  unfold root
  revert h
  generalize sq x i = s
  intro h
  induction s with
  | bot => exact absurd h (by simp)
  | top => exact Or.inr ⟨Ideal.rsqrt_top, rfl⟩
  | coe s =>
    have hs : 0 < s := EReal.coe_pos.mp h
    refine Or.inl ⟨(Real.sqrt s)⁻¹, inv_pos.mpr (Real.sqrt_pos.mpr hs), ?_, ?_⟩
    · rw [Ideal.rsqrt_coe, if_neg hs.not_gt, if_neg hs.ne']
    · rw [← mul_inv, inv_inv, Real.mul_self_sqrt hs.le]

/-- What the derivative of a row's mean square adds to each of its elements, halved and without the element. -/
def lift (x y : ℕ → ℕ → EReal) (γ : ℕ → EReal) (i : ℕ) : EReal :=
  Ideal.div ((∑ e : Fin 2048, x i e * (y i e * γ e)) * (((-1 / 2 : ℝ) : EReal) * Ideal.div (root x i) (sq x i))) ((2048 : ℝ) : EReal)

/-- The two ways of writing the gradient of a row agree. -/
theorem back_eq (x y : ℕ → ℕ → EReal) (γ : ℕ → EReal) (i d : ℕ) :
    y i d * γ d * root x i + (x i d * lift x y γ i + lift x y γ i * x i d) = back x y γ i d := by
  unfold lift back unit
  rcases root_cases x i with ⟨r, hr, hr0, hs⟩ | ⟨hr0, hs⟩
  · have hsum : ∑ e : Fin 2048, y i e * γ e * (x i e * (r : EReal)) = (∑ e : Fin 2048, x i e * (y i e * γ e)) * (r : EReal) := by
      rw [sum_mul_coe _ hr.le]
      exact Finset.sum_congr rfl fun e _ => by rw [← mul_assoc, mul_comm (y i e * γ e)]
    rw [hr0, hs, hsum, div_2048, div_2048, Ideal.div_coe (by positivity), one_div, inv_inv]
    generalize ∑ e : Fin 2048, x i e * (y i e * γ e) = A
    generalize y i d * γ d = t
    generalize x i d = a
    have e1 : A * (((-1 / 2 : ℝ) : EReal) * ((r : EReal) * ((r * r : ℝ) : EReal))) * ((1 / 2048 : ℝ) : EReal) = A * ((-(r * (r * r) / 4096) : ℝ) : EReal) := by
      rw [← EReal.coe_mul, ← EReal.coe_mul, mul_assoc, ← EReal.coe_mul]
      exact congrArg (fun k : ℝ => A * (k : EReal)) (by ring)
    have e2 : a * (r : EReal) * (A * (r : EReal) * ((1 / 2048 : ℝ) : EReal)) = a * A * ((r * r / 2048 : ℝ) : EReal) := by
      rw [mul_assoc A, ← EReal.coe_mul, mul_mul_mul_comm, ← EReal.coe_mul]
      exact congrArg (fun k : ℝ => a * A * (k : EReal)) (by ring)
    rw [e1, e2, mul_comm (A * _) a, ← mul_assoc a A, twice _ (by positivity), sub_eq_add_neg,
      EReal.left_distrib_of_nonneg_of_ne_top (EReal.coe_nonneg.mpr hr.le) (EReal.coe_ne_top r), mul_comm (r : EReal) t, mul_comm (r : EReal) (-_), EReal.neg_mul, mul_assoc (a * A),
      ← EReal.coe_mul]
    exact congrArg (fun k : ℝ => t * (r : EReal) + -(a * A * (k : EReal))) (by ring)
  · have e0 : Ideal.div 0 (⊤ : EReal) = 0 := by rw [Ideal.div, if_neg (by simp), zero_mul]
    rw [hr0, hs, e0, mul_zero, mul_zero, div_2048, zero_mul, mul_zero, zero_mul, mul_zero, zero_mul, add_zero, add_zero]

/-! ## The reference's terms -/

variable {x : FVec Ideal S4096x2048 .f32} {g : FVec Ideal S1x2048 .f32} {y u : FVec Ideal S4096x2048 .f32} {f w z : ℕ → ℕ → EReal} {γ : ℕ → EReal}

theorem v8_is (hx : Holds x f) : Holds (m := 4096) (n := 1) (φ := .f32) (val_main_v8 (F := Ideal) x) fun i _ => sq f i := by
  intro a c
  unfold val_main_v8 val_main_v6 val_main_v4 val_main_v3 val_main_v2
  clean_types
  pointwise [val_main_v5, val_main_v7, val_main_cst, val_main_cst_0, val_main_cst_1]
  simp only [hx _ _, lit_2048, lit_eps, sq]

theorem v9_is (hx : Holds x f) : Holds (m := 4096) (n := 1) (φ := .f32) (val_main_v9 (F := Ideal) x) fun i _ => root f i := by
  intro a c
  unfold val_main_v9
  clean_types
  pointwise
  rw [v8_is hx a c]
  rfl

theorem v12_is (hx : Holds x f) : Holds (m := 4096) (n := 1) (φ := .f32) (val_main_v12 (F := Ideal) x) fun i _ => ((-1 / 2 : ℝ) : EReal) * Ideal.div (root f i) (sq f i) := by
  intro a c
  unfold val_main_v12 val_main_v10
  clean_types
  pointwise [val_main_v11, val_main_cst_2]
  rw [v8_is hx a c, v9_is hx a c, lit_neg_half]

theorem v14_is (hx : Holds x f) : Holds (m := 4096) (n := 2048) (φ := .f32) (val_main_v14 (F := Ideal) x) (unit f) := by
  intro a c
  unfold val_main_v14 val_main_v13
  clean_types
  pointwise
  rw [hx a c, v9_is hx a 0]
  rfl

theorem v16_is (hg : Holds g fun _ => γ) : Holds (m := 4096) (n := 2048) (φ := .f32) (val_main_v16 (F := Ideal) g) fun _ => γ := by
  intro a c
  unfold val_main_v16 val_main_v15 val_main_v1
  clean_types
  pointwise
  exact hg 0 c

theorem v17_is (hx : Holds x f) (hg : Holds g fun _ => γ) : Holds (m := 4096) (n := 2048) (φ := .f32) (val_main_v17 (F := Ideal) x g) (unitg f γ) := by
  intro a c
  unfold val_main_v17
  clean_types
  pointwise
  rw [v14_is hx a c, v16_is hg a c]
  rfl

theorem gainGrad_is (hx : Holds x f) (hy : Holds y w) : Holds (gainGrad x y) fun _ => gain 4096 f w := by
  intro a c
  unfold gainGrad
  clean_types
  pointwise [val_main_cst_3, val_main_cst_4]
  simp only [v14_is hx _ _, hy _ _, gain]
  exact (Fin.sum_univ_one _).trans (Finset.sum_congr rfl fun i _ => mul_comm _ _)

theorem gained_is (hy : Holds y w) (hg : Holds g fun _ => γ) : Holds (gained g y) fun i d => w i d * γ d := by
  intro a c
  unfold gained
  clean_types
  pointwise
  rw [hy a c, show val_main_v26 (F := Ideal) g = val_main_v16 g from rfl, v16_is hg a c]

theorem spread_is (hx : Holds x f) (hy : Holds y w) (hg : Holds g fun _ => γ) : Holds (spread x g y) fun i _ => lift f w γ i := by
  intro a c
  unfold spread share
  clean_types
  pointwise [val_main_cst_7, val_main_v36, val_main_cst_5, val_main_cst_6]
  refine (Fin.sum_univ_one _).trans ?_
  simp only [hx _ _, gained_is hy hg _ _, v12_is hx _ _, lit_2048, lift]

theorem rowGrad_is (hx : Holds x f) (hy : Holds y w) (hg : Holds g fun _ => γ) (hu : Holds u z) : Holds (rowGrad x g y u) fun i d => back f w γ i d + z i d := by
  intro a c
  unfold rowGrad
  clean_types
  pointwise [val_main_v32]
  rw [hu a c, hx a c, gained_is hy hg a c, v9_is hx a 0, spread_is hx hy hg a c, ← back_eq f w γ, add_assoc, add_assoc]
  exact add_comm _ _

end Cert.RowExt
-- ==== Proof.InReference.lean ====
/- The input projection's reference on extended reals: its five results. -/
module

public import proofs.«01_k».proof.Defs
public import proofs.«01_k».proof.Proof.Products
public import proofs.«01_k».proof.Proof.RowExtRef

@[expose] public section

set_option maxRecDepth 16384
set_option maxHeartbeats 200000

noncomputable section

namespace Cert.Reference4Ideal.In

open Idealize.ShloMosaic Idealize.ShloMosaic.TcCoe Idealize.ShloMosaic.StableHlo Idealize.SL.Sem
open Cert.Reference4Ideal.Gen Cert.Reference4Ideal.Read
open Cert.Products Cert.RowExt
open Cert.RowNorm (rowGrad gainGrad)

variable {x u : FVec Ideal S4096x2048 .f32} {g : FVec Ideal S1x2048 .f32} {w : FVec Ideal S2048x6144 .bf16} {p : FVec Ideal S4096x6144 .bf16}
  {f z : ℕ → ℕ → EReal} {γ : ℕ → EReal}

theorem v18_eq : val_main_v18 (F := Ideal) x g w = nn (m := 4096) (k := 2048) (n := 6144) (val_main_v17 (F := Ideal) x g) w := by
  funext i
  unfold val_main_v18 val_main_v0
  clean_types
  pointwise [nn]

theorem v22_eq : val_main_v22 (F := Ideal) w p = nt (m := 4096) (k := 6144) (n := 2048) p w := by
  funext i
  unfold val_main_v22 val_main_v19 val_main_v0
  clean_types
  pointwise [nt]

theorem v46_eq : val_main_v46 (F := Ideal) x g p = tn (m := 2048) (k := 4096) (n := 6144) (val_main_v17 (F := Ideal) x g) p := by
  funext i
  unfold val_main_v46 val_main_v21 val_main_v20 val_main_v19
  clean_types
  pointwise [tn]
  exact Finset.sum_congr rfl fun _ _ => mul_comm _ _

section
variable (hx : Holds x f) (hg : Holds g fun _ => γ) (hu : Holds u z)
include hx hg

theorem proj_is : val_main_v18 (F := Ideal) x g w = nn (m := 4096) (k := 2048) (n := 6144) (mat 4096 2048 (unitg f γ)) w :=
  v18_eq.trans (congrArg (nn · w) (v17_is hx hg).eq_mat)

theorem weights_is : val_main_v46 (F := Ideal) x g p = tn (m := 2048) (k := 4096) (n := 6144) (mat 4096 2048 (unitg f γ)) p :=
  v46_eq.trans (congrArg (tn · p) (v17_is hx hg).eq_mat)

include hu in
theorem rows_is : val_main_v43 (F := Ideal) x g w p u = mat 4096 2048 fun i d => back f (elems (nt (m := 4096) (k := 6144) (n := 2048) p w)) γ i d + z i d := by
  rw [show val_main_v43 (F := Ideal) x g w p u = rowGrad x g (val_main_v22 (F := Ideal) w p) u from rfl, v22_eq]
  exact (rowGrad_is hx holds_elems hg hu).eq_mat

include hu in
theorem rows16_is : val_main_v45 (F := Ideal) x g w p u = mat 4096 2048 fun i d => back f (elems (nt (m := 4096) (k := 6144) (n := 2048) p w)) γ i d + z i d :=
  rows_is hx hg hu

omit hg in
theorem gain_is : val_main_v44 (F := Ideal) x w p = mat 1 2048 fun _ => gain 4096 f (elems (nt (m := 4096) (k := 6144) (n := 2048) p w)) := by
  rw [show val_main_v44 (F := Ideal) x w p = gainGrad x (val_main_v22 (F := Ideal) w p) from rfl, v22_eq]
  exact (gainGrad_is hx holds_elems).eq_mat

end

theorem reference_frame : Cert.quiescent_Reference4Ideal := fun m ρ _ =>
  (θ_run Cert.Reference4Ideal.defs _ _).mono (fun r h => ⟨fun c => (h c).2.2.2.2.2, funext fun x => (nomatch x)⟩) (Cert.Reference4Ideal.Value.run m ρ)

end Cert.Reference4Ideal.In
-- ==== Proof.InResult.lean ====
/- The input projection against its reference: the same five arrays, whatever the arguments hold. -/
module

public import proofs.«01_k».proof.Proof.InValue
public import proofs.«01_k».proof.Proof.InReference

@[expose] public section

set_option maxRecDepth 16384
set_option maxHeartbeats 400000

noncomputable section

namespace Cert.Kernel4Ideal.In

open Idealize.ShloMosaic Idealize.ShloMosaic.TcCoe Idealize.SL.Sem
open Cert.Kernel4Ideal.Gen
open Cert.Products Cert.RowExt
open Cert.Reference4Ideal.In (proj_is rows_is rows16_is gain_is weights_is)

/-! ## What the run leaves -/

section
variable (m : (ℓ : Loc nD τ sig) → Buf (Elt Ideal) ℓ) (ρ : Dev nD → PrngReg) (c : Dev nD)

/-- The arguments: the rows, the gain, the weights, the gradient of the projection, and what comes in beside the rows' gradient. -/
def X : (⟨2, ![4096, 2048]⟩ : Shape).Idx → EReal := m ((c.tc : Thread nD τ).loc main_arg0)
def G : (⟨2, ![1, 2048]⟩ : Shape).Idx → EReal := m ((c.tc : Thread nD τ).loc main_arg1)
def W : (⟨2, ![2048, 6144]⟩ : Shape).Idx → EReal := m ((c.tc : Thread nD τ).loc main_arg2)
def P : (⟨2, ![4096, 6144]⟩ : Shape).Idx → EReal := m ((c.tc : Thread nD τ).loc main_arg3)
def U : (⟨2, ![4096, 2048]⟩ : Shape).Idx → EReal := m ((c.tc : Thread nD τ).loc main_arg4)

/-- The normalised rows, the gradient of the normalised rows, and the gradient of the rows. -/
def hidden : (⟨2, ![4096, 2048]⟩ : Shape).Idx → EReal := mat 4096 2048 (unitg (elems (X m c)) (elems (G m c) 0))
def dhidden : (⟨2, ![4096, 2048]⟩ : Shape).Idx → EReal := nt (P m c) (W m c)
def drows : (⟨2, ![4096, 2048]⟩ : Shape).Idx → EReal :=
  mat 4096 2048 fun i d => back (elems (X m c)) (elems (dhidden m c)) (elems (G m c) 0) i d + elems (U m c) i d
def dgain : (⟨2, ![1, 2048]⟩ : Shape).Idx → EReal := mat 1 2048 fun _ => gain 4096 (elems (X m c)) (elems (dhidden m c))

theorem end_v0 : V1 m ρ c main_v0 = hidden m c := (W1_arr m ρ c 2).trans (arr0 (V := V0 m ρ) (holds_elems (x := X m c)) (holds_row (x := G m c)))

theorem end_v1 : W5 m ρ c (Proc.devRef .tc main_v1) = nn (hidden m c) (W m c) :=
  (W5_of m ρ c main_v1 (by decide +kernel)).trans ((W4_of m ρ c main_v1 (by decide +kernel)).trans ((W3_of m ρ c main_v1 (by decide +kernel)).trans
    ((W2_arr m ρ c 2).trans ((arr1 (V1 m ρ) c).trans (congrArg₂ nn (end_v0 m ρ c) (W1_args m ρ c main_arg2 (by decide)))))))

theorem end_v3 : W5 m ρ c (Proc.devRef .tc main_v3) = tn (hidden m c) (P m c) :=
  (W5_of m ρ c main_v3 (by decide +kernel)).trans ((W4_arr m ρ c 2).trans ((arr3 (V3 m ρ) c).trans
    (congrArg₂ tn (((W3_of m ρ c main_v0 (by decide +kernel)).trans (W2_of m ρ c main_v0 (by decide +kernel))).trans (end_v0 m ρ c)) (W3_args m ρ c main_arg3 (by decide)))))

theorem end_v2 : V4 m ρ c main_v2 = dhidden m c :=
  (W4_of m ρ c main_v2 (by decide +kernel)).trans ((W3_arr m ρ c 2).trans ((arr2 (V2 m ρ) c).trans
    (congrArg₂ nt (W2_args m ρ c main_arg3 (by decide)) (W2_args m ρ c main_arg2 (by decide)))))

theorem x_is : Holds (m := 4096) (n := 2048) (φ := .f32) (V4 m ρ c main_arg0) (elems (X m c)) := (holds_elems (x := X m c)).of_eq (W4_args m ρ c main_arg0 (by decide))
theorem g_is : Holds (m := 1) (n := 2048) (φ := .f32) (V4 m ρ c main_arg1) fun _ => elems (G m c) 0 := (holds_row (x := G m c)).of_eq (W4_args m ρ c main_arg1 (by decide))
theorem u_is : Holds (m := 4096) (n := 2048) (φ := .f32) (V4 m ρ c main_arg4) (elems (U m c)) := (holds_elems (x := U m c)).of_eq (W4_args m ρ c main_arg4 (by decide))
theorem dh_is : Holds (m := 4096) (n := 2048) (φ := .f32) (V4 m ρ c main_v2) (elems (dhidden m c)) := (holds_elems (x := dhidden m c)).of_eq (end_v2 m ρ c)

theorem end_v4_0 : W5 m ρ c (Proc.devRef .tc main_v4_0) = drows m c :=
  (W5_arr m ρ c 4).trans (arr4_4 (x_is m ρ c) (g_is m ρ c) (dh_is m ρ c) (u_is m ρ c))
theorem end_v4_1 : W5 m ρ c (Proc.devRef .tc main_v4_1) = drows m c :=
  (W5_arr m ρ c 5).trans (arr4_5 (x_is m ρ c) (g_is m ρ c) (dh_is m ρ c) (u_is m ρ c))
theorem end_v4_2 : W5 m ρ c (Proc.devRef .tc main_v4_2) = dgain m c :=
  (W5_arr m ρ c 6).trans (arr4_6 (x_is m ρ c) (dh_is m ρ c))

end

/-- Call and reference leave the same five arrays. -/
theorem results : Cert.algebraic_Kernel4Ideal_Reference4Ideal := fun m g m' g' _ he => by
  refine ⟨_, _, _, _, _, (θ_run defs _ _).mono (fun _ h c => ⟨(h.1 c _ (mem_uc main_v1 (by decide))).trans (end_v1 m g c),
      (h.1 c _ (mem_uc main_v4_0 (by decide))).trans (end_v4_0 m g c), (h.1 c _ (mem_uc main_v4_1 (by decide))).trans (end_v4_1 m g c),
      (h.1 c _ (mem_uc main_v4_2 (by decide))).trans (end_v4_2 m g c), (h.1 c _ (mem_uc main_v3 (by decide))).trans (end_v3 m g c), args h c⟩) (run_all m g),
    (θ_run Cert.Reference4Ideal.defs _ _).mono (fun _ h c => ?_) (Cert.Reference4Ideal.Value.run m' g')⟩
  obtain ⟨h0, h1, h2, h3, h4, hr⟩ := h c
  obtain ⟨e0, e1, e2, e3, e4⟩ := he c
  have hx := (holds_elems (x := X m c) (φ := .f32)).of_eq e0
  have hg := (holds_row (x := G m c) (φ := .f32)).of_eq e1
  have hu := (holds_elems (x := U m c) (φ := .f32)).of_eq e4
  have ed : nt (m := 4096) (k := 6144) (n := 2048) (m' ((c.tc : Thread _ _).loc Cert.Reference4Ideal.main_arg3)) (m' ((c.tc : Thread _ _).loc Cert.Reference4Ideal.main_arg2)) = dhidden m c :=
    congrArg₂ nt e3 e2
  have r := (rows_is hx hg hu).trans (congrArg (fun y => mat 4096 2048 fun i d => back (elems (X m c)) (elems y) (elems (G m c) 0) i d + elems (U m c) i d) ed)
  have r16 := (rows16_is hx hg hu).trans (congrArg (fun y => mat 4096 2048 fun i d => back (elems (X m c)) (elems y) (elems (G m c) 0) i d + elems (U m c) i d) ed)
  have rg := (gain_is hx).trans (congrArg (fun y => mat 1 2048 fun _ => gain 4096 (elems (X m c)) (elems y)) ed)
  exact ⟨h0.trans ((Cert.Reference4Ideal.Read.val_main_v18_eq _ _ _).trans ((proj_is hx hg).trans (congrArg (nn (hidden m c)) e2))),
    h1.trans ((Cert.Reference4Ideal.Read.val_main_v43_eq ..).trans r), h2.trans ((Cert.Reference4Ideal.Read.val_main_v45_eq ..).trans r16),
    h3.trans ((Cert.Reference4Ideal.Read.val_main_v44_eq ..).trans rg),
    h4.trans ((Cert.Reference4Ideal.Read.val_main_v46_eq ..).trans ((weights_is hx hg).trans (congrArg (tn (hidden m c)) e3))), hr⟩

end Cert.Kernel4Ideal.In
-- ==== Proof.FwdModel.lean ====
/- The attention forward call: what one trip of each loop and one grid point compute, as functions of plain vectors over
   any float type. -/
module

public import proofs.«01_k».proof.Proof.Gen.Kernel5Ideal.Loops
public import proofs.«01_k».proof.Proof.Model

@[expose] public section

set_option maxRecDepth 8192
set_option maxHeartbeats 200000

noncomputable section

namespace Cert.Kernel5Ideal.Fwd

open Idealize.ShloMosaic Idealize.ShloMosaic.TcCoe
open Cert.Kernel5Ideal.Gen
open Cert.KernelIdeal.Attn (iter iter_zero iter_succ)
open VecWindow (put)

variable {F : FTy → Type} [FloatOps F]

/-! ## Where the loops read and write, head by head -/

section offsets
variable (t1 : Fin k0_t1_loop.trips)

/-- The trip's own rows, in the columns of head `h`. -/
def rowOff : Fin 4 → Fin 2 → ℕ
  | 0 => k0_off1 t1 | 1 => k0_off2 t1 | 2 => k0_off3 t1 | 3 => k0_off4 t1
/-- The rows before them, clamped at the first. -/
def prevOff : Fin 4 → Fin 2 → ℕ
  | 0 => k0_off5 t1 | 1 => k0_off6 t1 | 2 => k0_off7 t1 | 3 => k0_off8 t1
/-- The key tile after next of the walk towards earlier keys, clamped at the first. -/
def keyOff (t2 : Fin (k0_t2_loop t1).trips) : Fin 4 → Fin 2 → ℕ
  | 0 => k0_off9 t1 t2 | 1 => k0_off11 t1 t2 | 2 => k0_off13 t1 t2 | 3 => k0_off15 t1 t2
/-- The tile of values of the next keys of the walk. -/
def valOff (t2 : Fin (k0_t2_loop t1).trips) : Fin 4 → Fin 2 → ℕ
  | 0 => k0_off10 t1 t2 | 1 => k0_off12 t1 t2 | 2 => k0_off14 t1 t2 | 3 => k0_off16 t1 t2
end offsets

theorem rowOff_eq : ∀ (t1 : Fin k0_t1_loop.trips) (h : Fin 4), rowOff t1 h = ![256 * t1.val, 128 * h.val] := by decide +kernel
theorem prevOff_eq : ∀ (t1 : Fin k0_t1_loop.trips) (h : Fin 4), prevOff t1 h = ![256 * (t1.val - 1), 128 * h.val] := by decide +kernel
theorem keyOff_eq : ∀ (t1 : Fin k0_t1_loop.trips) (t2 : Fin (k0_t2_loop t1).trips) (h : Fin 4),
    keyOff t1 t2 h = ![256 * (t1.val - 1 - t2.val - 1), 128 * h.val] := by decide +kernel
theorem valOff_eq : ∀ (t1 : Fin k0_t1_loop.trips) (t2 : Fin (k0_t2_loop t1).trips) (h : Fin 4),
    valOff t1 t2 h = ![256 * (t1.val - 1 - t2.val), 128 * h.val] := by decide +kernel

theorem k0_t1_trips : k0_t1_loop.trips = 8 := by decide +kernel
theorem k0_t2_trips : ∀ t1 : Fin k0_t1_loop.trips, (k0_t2_loop t1).trips = t1.val := by decide +kernel
/-- The loop over the rest of an unrolled count makes no trip. -/
theorem k0_t3_trips : ∀ t1 : Fin k0_t1_loop.trips, (k0_t3_loop t1).trips = 0 := by decide +kernel

/-- A tile of 256 rows and one head fits the buffer. -/
abbrev Fits (off : Fin 2 → ℕ) : Prop := ∀ a, off a + S256x128.size a ≤ S2048x512.size a

theorem rowOff_inb (t1 : Fin k0_t1_loop.trips) : ∀ h, Fits (rowOff t1 h)
  | 0 => k0_off1_inb t1 | 1 => k0_off2_inb t1 | 2 => k0_off3_inb t1 | 3 => k0_off4_inb t1
theorem prevOff_inb (t1 : Fin k0_t1_loop.trips) : ∀ h, Fits (prevOff t1 h)
  | 0 => k0_off5_inb t1 | 1 => k0_off6_inb t1 | 2 => k0_off7_inb t1 | 3 => k0_off8_inb t1
theorem keyOff_inb (t1 : Fin k0_t1_loop.trips) (t2 : Fin (k0_t2_loop t1).trips) : ∀ h, Fits (keyOff t1 t2 h)
  | 0 => k0_off9_inb t1 t2 | 1 => k0_off11_inb t1 t2 | 2 => k0_off13_inb t1 t2 | 3 => k0_off15_inb t1 t2
theorem valOff_inb (t1 : Fin k0_t1_loop.trips) (t2 : Fin (k0_t2_loop t1).trips) : ∀ h, Fits (valOff t1 t2 h)
  | 0 => k0_off10_inb t1 t2 | 1 => k0_off12_inb t1 t2 | 2 => k0_off14_inb t1 t2 | 3 => k0_off16_inb t1 t2

/-- A tile of 256 rows and one head of a buffer of rows. -/
abbrev tile {e : EltTy} (x : Vec F S2048x512 e) (off : Fin 2 → ℕ) (inb : Fits off) : Vec F S256x128 e :=
  View.ld x (Rect.unit (s := S2048x512) off S256x128.size inb)

/-- `x` with the tile at `off` replaced by `w`. -/
abbrev setTile {e : EltTy} (x : Vec F S2048x512 e) (off : Fin 2 → ℕ) (w : Vec F S256x128 e) : Vec F S2048x512 e :=
  put (s := S2048x512) x off S256x128.size w

/-! ## One head of the walk towards earlier keys -/

/-- What the walk carries for one head: the sum of the weighted values so far, the discount so far, and the scores of the next
    key tile. -/
structure Head (F : FTy → Type) where
  acc : FVec F S256x128 .f32
  car : FVec F S256x1 .f32
  z : FVec F S256x256 .f32

/-- The diagonal tile done, from the query, key and value tiles of the trip's rows and the key tile before. -/
def first (q k v p : FVec F S256x128 .bf16) : Head F :=
  ⟨k0_pay66 k0_pay50 (k0_pay65 k0_pay4 k0_pay5 k0_pay51 (k0_pay52 q k)) v, k0_pay67 k0_pay51 (k0_pay64 k0_pay5 (k0_pay52 q k)), k0_pay62 q p⟩

/-- One key tile more: its values `v`, and the key tile `p` before it. -/
def next (q v p : FVec F S256x128 .bf16) (s : Head F) : Head F :=
  ⟨k0_pay19 k0_pay4 s.acc s.car s.z v, k0_pay20 s.car s.z, k0_pay16 q p⟩

/-- The carried value of the loop: the four heads side by side. -/
abbrev Acc (F : FTy → Type) : Type :=
  FVec F S256x128 .f32 × FVec F S256x1 .f32 × FVec F S256x256 .f32 × FVec F S256x128 .f32 × FVec F S256x1 .f32 × FVec F S256x256 .f32
    × FVec F S256x128 .f32 × FVec F S256x1 .f32 × FVec F S256x256 .f32 × FVec F S256x128 .f32 × FVec F S256x1 .f32 × FVec F S256x256 .f32

def flat (s : Fin 4 → Head F) : Acc F :=
  ((s 0).acc, (s 0).car, (s 0).z, (s 1).acc, (s 1).car, (s 1).z, (s 2).acc, (s 2).car, (s 2).z, (s 3).acc, (s 3).car, (s 3).z)

/-! ## The loops -/

section loops
variable (x7 x8 x9 : Vec F S2048x512 .bf16) (t1 : Fin k0_t1_loop.trips)

/-- One trip of the walk, all heads. -/
def walkStep (t2 : Fin (k0_t2_loop t1).trips) (s : Fin 4 → Head F) (h : Fin 4) : Head F :=
  next (tile x7 (rowOff t1 h) (rowOff_inb t1 h)) (tile x9 (valOff t1 t2 h) (valOff_inb t1 t2 h)) (tile x8 (keyOff t1 t2 h) (keyOff_inb t1 t2 h)) (s h)

/-- The walk before its first trip, and before trip `n`. -/
def walk0 (h : Fin 4) : Head F :=
  first (tile x7 (rowOff t1 h) (rowOff_inb t1 h)) (tile x8 (rowOff t1 h) (rowOff_inb t1 h)) (tile x9 (rowOff t1 h) (rowOff_inb t1 h))
    (tile x8 (prevOff t1 h) (prevOff_inb t1 h))
def walk (n : ℕ) : Fin 4 → Head F := iter (k0_t2_loop t1).trips (walkStep x7 x8 x9 t1) (walk0 x7 x8 x9 t1) n

/-- One trip of the loop over the query tiles: its four tiles of the output. -/
def rowStep (o : Vec F S2048x512 .f32) : Vec F S2048x512 .f32 :=
  setTile (setTile (setTile (setTile o (rowOff t1 0) (walk x7 x8 x9 t1 (k0_t2_loop t1).trips 0).acc)
    (rowOff t1 1) (walk x7 x8 x9 t1 (k0_t2_loop t1).trips 1).acc) (rowOff t1 2) (walk x7 x8 x9 t1 (k0_t2_loop t1).trips 2).acc)
    (rowOff t1 3) (walk x7 x8 x9 t1 (k0_t2_loop t1).trips 3).acc

end loops

/-- The output before trip `n` of the loop over the query tiles. -/
def rowSt (x7 x8 x9 : Vec F S2048x512 .bf16) (o : Vec F S2048x512 .f32) (n : ℕ) : Vec F S2048x512 .f32 :=
  iter k0_t1_loop.trips (rowStep x7 x8 x9) o n

/-! ## One grid point -/

/-- The columns of one head of a block. -/
abbrev hcol {e : EltTy} (x : Vec F S2048x512 e) (c : ℕ) (inb : ∀ a, (![0, c] : Fin 2 → ℕ) a + S2048x128.size a ≤ S2048x512.size a) : Vec F S2048x128 e :=
  View.ld x (Rect.unit (s := S2048x512) ![0, c] S2048x128.size inb)

/-- The four heads of a block. -/
def head {e : EltTy} (x : Vec F S2048x512 e) : Fin 4 → Vec F S2048x128 e
  | 0 => hcol x 0 inb_S2048x512_S2048x128_0_0 | 1 => hcol x 128 inb_S2048x512_S2048x128_0_128
  | 2 => hcol x 256 inb_S2048x512_S2048x128_0_256 | 3 => hcol x 384 inb_S2048x512_S2048x128_0_384

/-- `y` with its four heads replaced. -/
def four {e : EltTy} (y : Vec F S2048x512 e) (w : Fin 4 → Vec F S2048x128 e) : Vec F S2048x512 e :=
  put (s := S2048x512) (put (s := S2048x512) (put (s := S2048x512) (put (s := S2048x512) y ![0, 0] S2048x128.size (w 0)) ![0, 128] S2048x128.size (w 1))
    ![0, 256] S2048x128.size (w 2)) ![0, 384] S2048x128.size (w 3)

/-- A gain as the body loads it. -/
abbrev row1 (x : Vec F S1x128 .f32) : Vec F S1x128 .f32 := View.ld x (Rect.unit (s := S1x128) ![0, 0] S1x128.size inb_S1x128_S1x128_0_0)

/-- The normalised queries and keys and the values as the loops read them. -/
def bq (y : Vec F S2048x512 .bf16) (x1 : Vec F S2048x512 .f32) (x4 : Vec F S1x128 .f32) : Vec F S2048x512 .bf16 :=
  four y fun h => k0_pay84 (head x1 h) (row1 x4)
def bk (y : Vec F S2048x512 .bf16) (x2 : Vec F S2048x512 .f32) (x5 : Vec F S1x128 .f32) : Vec F S2048x512 .bf16 :=
  four y fun h => k0_pay85 (head x2 h) (row1 x5)
def bv (y : Vec F S2048x512 .bf16) (x3 : Vec F S2048x512 .f32) : Vec F S2048x512 .bf16 :=
  four y fun h => k0_pay86 (head x3 h)

/-- What the scratch buffers and the output block hold when a point starts. -/
structure Old (F : FTy → Type) where
  q : Vec F S2048x512 .bf16
  k : Vec F S2048x512 .bf16
  v : Vec F S2048x512 .bf16
  o : Vec F S2048x512 .f32

/-- The block that a point writes. -/
def out (y : Old F) (x1 x2 x3 : Vec F S2048x512 .f32) (x4 x5 : Vec F S1x128 .f32) : Vec F S2048x512 .f32 :=
  rowSt (bq y.q x1 x4) (bk y.k x2 x5) (bv y.v x3) y.o k0_t1_loop.trips

end Cert.Kernel5Ideal.Fwd
-- ==== Proof.FwdRow.lean ====
/- The attention forward call: the loop over the query tiles, one trip at a symbolic trip. -/
module

public import proofs.«01_k».proof.Proof.FwdModel
public import Idealize.ShloMosaic.Lib.VecWindow

@[expose] public section

set_option maxRecDepth 8192
set_option maxHeartbeats 200000

noncomputable section

namespace Cert.Kernel5Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal.Gen
open Cert.KernelIdeal.Attn (iter iter_zero iter_succ)

variable {F : FTy → Type} [FloatOps F]

local notation "𝕄G" => MT nD τ sig Unit (Elt F) ℕ (UR sig nD τ) ℕ

/-- What a view reads after a tile is stored. -/
theorem read_tile {κ : Kind} {sp : Space} {e : EltTy} (v : View sig κ sp S2048x512 e) (f : v.ty.Contents (Elt F)) (off : Fin 2 → ℕ)
    (inb : Fits off) (w : Vec F S256x128 e) (L : List (View.Piece (Elt F) S2048x512 e))
    (y : Vec F S2048x512 e) (hy : v.read (Elt F) (v.writes (Elt F) f L) = y) :
    v.read (Elt F) (v.writes (Elt F) f (⟨Rect.unit (s := S2048x512) off S256x128.size inb, w⟩ :: L)) = setTile y off w := by
  subst hy; exact View.read_writes_cons_put v f inb w L rfl

section row
variable (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S2048x512 .bf16) (harg9 : arg9.IsWhole)

section walk
variable (x7 : Vec F S2048x512 .bf16) (X8 : BufTy.Contents (Elt F) arg8.view.ty) (X9 : BufTy.Contents (Elt F) arg9.view.ty) (t1 : Fin k0_t1_loop.trips) (arg10 : BitVec 32)

set_option maxHeartbeats 2000000 in
/-- One trip of the walk as run is one step of the model. -/
theorem walk_trip (k : Fin (k0_t2_loop t1).trips) (s : Fin 4 → Head F) :
    tripR_k0_t2 (F := F) 𝒱 c bd i arg1 harg1 arg2 harg2 arg3 harg3 arg4 harg4 arg5 harg5 arg6 harg6 arg7 harg7 arg8 harg8 arg9 harg9 t1 arg10
        (tile x7 (rowOff t1 0) (rowOff_inb t1 0)) (tile x7 (rowOff t1 1) (rowOff_inb t1 1)) (tile x7 (rowOff t1 2) (rowOff_inb t1 2)) (tile x7 (rowOff t1 3) (rowOff_inb t1 3))
        X8 X9 k (flat s)
      = flat (walkStep x7 (arg8.view.read (Elt F) X8) (arg9.view.read (Elt F) X9) t1 k s) := by
  unfold tripR_k0_t2 trip_k0_t2
  rfl

theorem walk_st (s : Fin 4 → Head F) (n : ℕ) (hn : n ≤ (k0_t2_loop t1).trips) :
    st_k0_t2 (F := F) 𝒱 c bd i arg1 harg1 arg2 harg2 arg3 harg3 arg4 harg4 arg5 harg5 arg6 harg6 arg7 harg7 arg8 harg8 arg9 harg9 t1 arg10
        (tile x7 (rowOff t1 0) (rowOff_inb t1 0)) (tile x7 (rowOff t1 1) (rowOff_inb t1 1)) (tile x7 (rowOff t1 2) (rowOff_inb t1 2)) (tile x7 (rowOff t1 3) (rowOff_inb t1 3))
        X8 X9 (flat s) n
      = flat (iter (k0_t2_loop t1).trips (walkStep x7 (arg8.view.read (Elt F) X8) (arg9.view.read (Elt F) X9) t1) s n) := by
  induction n with
  | zero => rfl
  | succ n ih =>
    rw [st_k0_t2_succ _ _ _ _ _ _ _ _ _ _ _ _ _ _ _ _ _ _ _ _ _ _ _ _ _ _ _ _ _ _ _ ⟨n, hn⟩, ih (by omega), iter_succ _ _ _ ⟨n, hn⟩]
    exact walk_trip 𝒱 c bd i arg1 harg1 arg2 harg2 arg3 harg3 arg4 harg4 arg5 harg5 arg6 harg6 arg7 harg7 arg8 harg8 arg9 harg9 x7 X8 X9 t1 arg10 ⟨n, hn⟩ _

end walk

set_option maxHeartbeats 4000000 in
theorem row_trip (E : Set ℕ) (X7 : BufTy.Contents (Elt F) arg7.view.ty) (X8 : BufTy.Contents (Elt F) arg8.view.ty) (X9 : BufTy.Contents (Elt F) arg9.view.ty)
    (f6 : BufTy.Contents (Elt F) arg6.view.ty) (k : Fin k0_t1_loop.trips) (u : Unit) :
    (iprop((arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg6.view.loc (c : Thread nD τ) ↦[arg6.view.set]{fullShare} f6)) : sProp 𝕄G)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 k u)
          (fun _ => iprop((arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ ∃ g6, (arg6.view.loc (c : Thread nD τ) ↦[arg6.view.set]{fullShare} g6)
            ∗ ⌜arg6.view.read (Elt F) g6 = rowStep (arg7.view.read (Elt F) X7) (arg8.view.read (Elt F) X8) (arg9.view.read (Elt F) X9) k (arg6.view.read (Elt F) f6)⌝)) := by
  have htr := k0_t3_trips k
  unfold k0_t1_body
  iintro ⟨H7, H8, H9, H6⟩
  sl_exec
  sl_step
  isplitl [H7]; · iexact H7
  isplitl [H8]; · iexact H8
  isplitl [H9]; · iexact H9
  iexists _
  isplitl [H6]; · iexact H6
  ipureintro
  sl_unfold_run_names
  have h3 : Scf.trips (k0_t3_loop k).lb (k0_t3_loop k).ub (k0_t3_loop k).st = 0 := htr
  simp only [h3, st_k0_t3.eq_1]
  refine (read_tile _ _ _ _ _ _ _ (read_tile _ _ _ _ _ _ _ (read_tile _ _ _ _ _ _ _ (read_tile _ _ _ _ _ _ _ rfl)))).trans ?_
  exact congrArg (fun a : Acc F => setTile (setTile (setTile (setTile (arg6.view.read (Elt F) f6) (rowOff k 0) a.1) (rowOff k 1) a.2.2.2.1)
      (rowOff k 2) a.2.2.2.2.2.2.1) (rowOff k 3) a.2.2.2.2.2.2.2.2.2.1)
    (walk_st (F := F) 𝒱 c bd i arg1 harg1 arg2 harg2 arg3 harg3 arg4 harg4 arg5 harg5 arg6 harg6 arg7 harg7 arg8 harg8 arg9 harg9 (arg7.view.read (Elt F) X7) X8 X9 k (Scf.iv 0#32 1#32 k.val)
      (walk0 (arg7.view.read (Elt F) X7) (arg8.view.read (Elt F) X8) (arg9.view.read (Elt F) X9) k) _ le_rfl)

/-- The invariant of the loop over the query tiles. -/
abbrev rowInv (X7 : BufTy.Contents (Elt F) arg7.view.ty) (X8 : BufTy.Contents (Elt F) arg8.view.ty) (X9 : BufTy.Contents (Elt F) arg9.view.ty)
    (G6 : BufTy.Contents (Elt F) arg6.view.ty) (k : ℕ) (_ : Unit) : sProp 𝕄G :=
  iprop((arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ ∃ g6, (arg6.view.loc (c : Thread nD τ) ↦[arg6.view.set]{fullShare} g6)
    ∗ ⌜arg6.view.read (Elt F) g6 = rowSt (arg7.view.read (Elt F) X7) (arg8.view.read (Elt F) X8) (arg9.view.read (Elt F) X9) (arg6.view.read (Elt F) G6) k⌝)

set_option warn.classDefReducibility false in
@[sl_loop] def loopInv_row (E : Set ℕ) (X7 : BufTy.Contents (Elt F) arg7.view.ty) (X8 : BufTy.Contents (Elt F) arg8.view.ty) (X9 : BufTy.Contents (Elt F) arg9.view.ty)
    (G6 : BufTy.Contents (Elt F) arg6.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 where
  inv := rowInv c arg6 arg7 arg8 arg9 X7 X8 X9 G6
  step k acc := by
    iintro ⟨H7, H8, H9, %g6, H6, %h⟩
    iapply (wp_wand_r Idealize.ShloMosaic.frame (wpE (defs₀ (F := F)) 𝒱 (c : Thread nD τ) bd) E)
    isplitl [H7 H8 H9 H6]
    · iapply (row_trip (F := F) 𝒱 c bd i arg1 harg1 arg2 harg2 arg3 harg3 arg4 harg4 arg5 harg5 arg6 harg6 arg7 harg7 arg8 harg8 arg9 harg9 E X7 X8 X9 g6 k acc)
      isplitl [H7]; · iexact H7
      isplitl [H8]; · iexact H8
      isplitl [H9]; · iexact H9
      iexact H6
    · iintro %yld ⟨H7, H8, H9, %g6', H6, %h'⟩
      isplitl [H7]; · iexact H7
      isplitl [H8]; · iexact H8
      isplitl [H9]; · iexact H9
      iexists g6'
      isplitl [H6]; · iexact H6
      ipureintro
      rw [h', h]
      exact (iter_succ _ _ _ k).symm

end row

end Cert.Kernel5Ideal.Fwd
-- ==== Proof.FwdBody.lean ====
/- The attention forward call: the body at one grid point. -/
module

public import proofs.«01_k».proof.Proof.FwdRow

@[expose] public section

set_option maxRecDepth 8192
set_option maxHeartbeats 200000

noncomputable section

namespace Cert.Kernel5Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal.Gen

variable {F : FTy → Type} [FloatOps F]

local notation "𝕄G" => MT nD τ sig Unit (Elt F) ℕ (UR sig nD τ) ℕ

/-- What a view reads after its four heads are stored. -/
theorem read_four {κ : Kind} {sp : Space} {e : EltTy} (v : View sig κ sp S2048x512 e) (f : v.ty.Contents (Elt F)) (w : Fin 4 → Vec F S2048x128 e) :
    v.read (Elt F) (v.writes (Elt F) f [
      ⟨Rect.unit (s := S2048x512) ![0, 384] S2048x128.size inb_S2048x512_S2048x128_0_384, w 3⟩,
      ⟨Rect.unit (s := S2048x512) ![0, 256] S2048x128.size inb_S2048x512_S2048x128_0_256, w 2⟩,
      ⟨Rect.unit (s := S2048x512) ![0, 128] S2048x128.size inb_S2048x512_S2048x128_0_128, w 1⟩,
      ⟨Rect.unit (s := S2048x512) ![0, 0] S2048x128.size inb_S2048x512_S2048x128_0_0, w 0⟩]) = four (v.read (Elt F) f) w := by
  rw [View.read_writes_cons_put v f _ _ _ rfl, View.read_writes_cons_put v f _ _ _ rfl, View.read_writes_cons_put v f _ _ _ rfl,
    View.read_writes_cons_put v f _ _ _ rfl]
  rfl

/-- The same with the four stored values given one by one. -/
theorem read_heads {κ : Kind} {sp : Space} {e : EltTy} (v : View sig κ sp S2048x512 e) (f : v.ty.Contents (Elt F)) {w0 w1 w2 w3 : Vec F S2048x128 e} (w : Fin 4 → Vec F S2048x128 e)
    (h0 : w0 = w 0) (h1 : w1 = w 1) (h2 : w2 = w 2) (h3 : w3 = w 3) :
    v.read (Elt F) (v.writes (Elt F) f [
      ⟨Rect.unit (s := S2048x512) ![0, 384] S2048x128.size inb_S2048x512_S2048x128_0_384, w3⟩,
      ⟨Rect.unit (s := S2048x512) ![0, 256] S2048x128.size inb_S2048x512_S2048x128_0_256, w2⟩,
      ⟨Rect.unit (s := S2048x512) ![0, 128] S2048x128.size inb_S2048x512_S2048x128_0_128, w1⟩,
      ⟨Rect.unit (s := S2048x512) ![0, 0] S2048x128.size inb_S2048x512_S2048x128_0_0, w0⟩]) = four (v.read (Elt F) f) w := by
  subst h0 h1 h2 h3; exact read_four v f w

/-- A load of one head of a block. -/
theorem readAt_head {κ : Kind} {sp : Space} {e : EltTy} (v : View sig κ sp S2048x512 e) (X : v.ty.Contents (Elt F)) (c : ℕ) (inb) :
    v.readAt (Elt F) (Rect.unit (s := S2048x512) ![0, c] S2048x128.size inb).toLoadRect X = hcol (v.read (Elt F) X) c inb := rfl

/-- A load of one gain. -/
theorem readAt_row1 {κ : Kind} {sp : Space} (v : View sig κ sp S1x128 .f32) (X : v.ty.Contents (Elt F)) :
    v.readAt (Elt F) (Rect.unit (s := S1x128) ![0, 0] S1x128.size inb_S1x128_S1x128_0_0).toLoadRect X = row1 (v.read (Elt F) X) := rfl

/-! The payloads of the four heads are one and the same expression, cut into definitions at different places. -/

section payloads
variable (x : Vec F S2048x128 .f32) (g : Vec F S1x128 .f32)
theorem q1 : k0_pay87 x g = k0_pay84 x g := rfl
theorem q2 : k0_pay91 x g = k0_pay84 x g := rfl
theorem k1 : k0_pay89 (k0_pay88 x) g = k0_pay85 x g := rfl
theorem k2 : k0_pay93 x (k0_pay92 x) g = k0_pay85 x g := rfl
theorem v1 : k0_pay90 x = k0_pay86 x := rfl
theorem v2 : k0_pay94 x = k0_pay86 x := rfl
end payloads

theorem out_eq (y : Old F) (x1 x2 x3 : Vec F S2048x512 .f32) (x4 x5 : Vec F S1x128 .f32) {z7 z8 z9 : Vec F S2048x512 .bf16}
    (h7 : z7 = bq y.q x1 x4) (h8 : z8 = bk y.k x2 x5) (h9 : z9 = bv y.v x3) :
    out y x1 x2 x3 x4 x5 = rowSt z7 z8 z9 y.o (Scf.trips k0_t1_loop.lb k0_t1_loop.ub k0_t1_loop.st) := by
  subst h7 h8 h9; rfl

section body
variable (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S2048x512 .bf16) (harg9 : arg9.IsWhole)

theorem body_run (E : Set ℕ) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄G)
      ⊢ wp frame (wpE (defs₀ (F := F)) 𝒱 (c : Thread nD τ) bd) E (cc0_attn_f (F := F) i arg1 harg1 arg2 harg2 arg3 harg3 arg4 harg4 arg5 harg5 arg6 harg6 arg7 harg7 arg8 harg8 arg9 harg9)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ ∃ g6 g7 g8 g9, (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9)
            ∗ ⌜∃ y : Old F, arg6.view.read (Elt F) g6 = out y (arg1.view.read (Elt F) X1) (arg2.view.read (Elt F) X2) (arg3.view.read (Elt F) X3) (arg4.view.read (Elt F) X4) (arg5.view.read (Elt F) X5)⌝)) := by
  unfold cc0_attn_f
  iintro ⟨H1, H2, H3, H4, H5, H6, H7, H8, H9⟩
  sl_exec
  rename arg6.view.read (Elt F) _ = _ => hR
  sl_step
  isplitl [H1]; · iexact H1
  isplitl [H2]; · iexact H2
  isplitl [H3]; · iexact H3
  isplitl [H4]; · iexact H4
  isplitl [H5]; · iexact H5
  iexists _; iexists _; iexists _; iexists _
  isplitl [H6]; · iexact H6
  isplitl [H7]; · iexact H7
  isplitl [H8]; · iexact H8
  isplitl [H9]; · iexact H9
  ipureintro
  refine ⟨⟨arg7.view.read (Elt F) arg7.view.junk, arg8.view.read (Elt F) arg8.view.junk, arg9.view.read (Elt F) arg9.view.junk, arg6.view.read (Elt F) f6⟩, hR.trans ?_⟩
  sl_unfold_run_names
  refine (out_eq ⟨arg7.view.read (Elt F) arg7.view.junk, arg8.view.read (Elt F) arg8.view.junk, arg9.view.read (Elt F) arg9.view.junk, arg6.view.read (Elt F) f6⟩ (arg1.view.read (Elt F) X1) (arg2.view.read (Elt F) X2) (arg3.view.read (Elt F) X3) (arg4.view.read (Elt F) X4) (arg5.view.read (Elt F) X5) ?_ ?_ ?_).symm
  · unfold bq
    refine read_heads _ _ _ ?_ ?_ ?_ ?_
    · exact congrArg₂ k0_pay84 (readAt_head _ _ _ _) (readAt_row1 _ _)
    · exact (q1 _ _).trans (congrArg₂ k0_pay84 (readAt_head _ _ _ _) (readAt_row1 _ _))
    · exact (q2 _ _).trans (congrArg₂ k0_pay84 (readAt_head _ _ _ _) (readAt_row1 _ _))
    · exact (rfl : _ = k0_pay84 _ _).trans (congrArg₂ k0_pay84 (readAt_head _ _ _ _) (readAt_row1 _ _))
  · unfold bk
    refine read_heads _ _ _ ?_ ?_ ?_ ?_
    · exact congrArg₂ k0_pay85 (readAt_head _ _ _ _) (readAt_row1 _ _)
    · exact (k1 _ _).trans (congrArg₂ k0_pay85 (readAt_head _ _ _ _) (readAt_row1 _ _))
    · exact (k2 _ _).trans (congrArg₂ k0_pay85 (readAt_head _ _ _ _) (readAt_row1 _ _))
    · exact (rfl : _ = k0_pay85 _ _).trans (congrArg₂ k0_pay85 (readAt_head _ _ _ _) (readAt_row1 _ _))
  · unfold bv
    refine read_heads _ _ _ ?_ ?_ ?_ ?_
    · exact congrArg k0_pay86 (readAt_head _ _ _ _)
    · exact (v1 _).trans (congrArg k0_pay86 (readAt_head _ _ _ _))
    · exact (v2 _).trans (congrArg k0_pay86 (readAt_head _ _ _ _))
    · exact (rfl : _ = k0_pay86 _).trans (congrArg k0_pay86 (readAt_head _ _ _ _))

end body

end Cert.Kernel5Ideal.Fwd
-- ==== Proof.FwdRun.lean ====
/- The attention forward call: the kernel's run and its two frames. -/
module

public import proofs.«01_k».proof.Defs
public import proofs.«01_k».proof.Proof.FwdBody
public import proofs.«01_k».proof.Proof.Gen.Kernel5Ideal.Frame
public import proofs.«01_k».proof.Proof.Gen.Kernel5

@[expose] public section

set_option maxRecDepth 8192
set_option maxHeartbeats 200000

noncomputable section

namespace Cert.Kernel5Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal.Gen

variable {F : FTy → Type} [FloatOps F]

local notation "𝕄G" => MT nD τ sig Unit (Elt F) ℕ (UR sig nD τ) ℕ

section body
variable (𝒱 : Variants) (c : Dev nD) (bd : Option 𝒱.V) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2048x512 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S2048x512 .bf16) (harg9 : arg9.IsWhole)

/-- The body at one point, from what the pipeline gives it: the staged blocks and the scratch buffers. -/
theorem body_owns (E : Set ℕ) (Y1 : Vec F S2048x512 .f32) (Y2 : Vec F S2048x512 .f32) (Y3 : Vec F S2048x512 .f32) (Y4 : Vec F S1x128 .f32) (Y5 : Vec F S1x128 .f32) (Y6 : Vec F S2048x512 .f32) :
    (iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ (∃ f : BufTy.Contents (Elt F) arg7.view.ty, (arg7.view.loc (c : Thread nD τ) ↦[arg7.view.set]{fullShare} f)) ∗ (∃ f : BufTy.Contents (Elt F) arg8.view.ty, (arg8.view.loc (c : Thread nD τ) ↦[arg8.view.set]{fullShare} f)) ∗ (∃ f : BufTy.Contents (Elt F) arg9.view.ty, (arg9.view.loc (c : Thread nD τ) ↦[arg9.view.set]{fullShare} f))) : sProp 𝕄G)
      ⊢ wp frame (wpE (defs₀ (F := F)) 𝒱 (c : Thread nD τ) bd) E (cc0_attn_f (F := F) i arg1 harg1 arg2 harg2 arg3 harg3 arg4 harg4 arg5 harg5 arg6 harg6 arg7 harg7 arg8 harg8 arg9 harg9)
          (fun _ => iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ (∃ y : Old F, owns (c : Thread nD τ) arg6 fullShare (out y Y1 Y2 Y3 Y4 Y5)) ∗ (∃ f : BufTy.Contents (Elt F) arg7.view.ty, (arg7.view.loc (c : Thread nD τ) ↦[arg7.view.set]{fullShare} f)) ∗ (∃ f : BufTy.Contents (Elt F) arg8.view.ty, (arg8.view.loc (c : Thread nD τ) ↦[arg8.view.set]{fullShare} f)) ∗ (∃ f : BufTy.Contents (Elt F) arg9.view.ty, (arg9.view.loc (c : Thread nD τ) ↦[arg9.view.set]{fullShare} f)))) := by
  unfold owns
  iintro ⟨⟨%X1, %h1, H1⟩, ⟨%X2, %h2, H2⟩, ⟨%X3, %h3, H3⟩, ⟨%X4, %h4, H4⟩, ⟨%X5, %h5, H5⟩, ⟨%f6, %h6, H6⟩, ⟨%f7, H7⟩, ⟨%f8, H8⟩, ⟨%f9, H9⟩⟩
  subst h1 h2 h3 h4 h5 h6
  iapply (wp_wand_r frame (wpE (defs₀ (F := F)) 𝒱 (c : Thread nD τ) bd) E)
  isplitl [H1 H2 H3 H4 H5 H6 H7 H8 H9]
  · iapply (body_run (F := F) 𝒱 c bd i arg1 harg1 arg2 harg2 arg3 harg3 arg4 harg4 arg5 harg5 arg6 harg6 arg7 harg7 arg8 harg8 arg9 harg9 E X1 X2 X3 X4 X5 f6 f7 f8 f9)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %_ ⟨H1, H2, H3, H4, H5, %g6, %g7, %g8, %g9, H6, H7, H8, H9, ⟨%y, %h⟩⟩
  isplitl [H1]
  · iexists X1
    isplitr [H1]
    · ipureintro; exact rfl
    iexact H1
  isplitl [H2]
  · iexists X2
    isplitr [H2]
    · ipureintro; exact rfl
    iexact H2
  isplitl [H3]
  · iexists X3
    isplitr [H3]
    · ipureintro; exact rfl
    iexact H3
  isplitl [H4]
  · iexists X4
    isplitr [H4]
    · ipureintro; exact rfl
    iexact H4
  isplitl [H5]
  · iexists X5
    isplitr [H5]
    · ipureintro; exact rfl
    iexact H5
  isplitl [H6]
  · iexists y, g6
    isplitr [H6]
    · ipureintro; exact h
    iexact H6
  isplitl [H7]; · iexists g7; iexact H7
  isplitl [H8]; · iexists g8; iexact H8
  iexists g9; iexact H9
end body

variable (m : (ℓ : Loc nD τ sig) → Buf (Elt F) ℓ) (ρ : Dev nD → PrngReg)

/-- What the body leaves in each staging buffer at a point: the inputs stay, the output block is written anew. -/
def aft (c : Dev nD) : (w : Fin cfg0.W) → (t : Fin cfg0.N) → (Y X : (cfg0.win w).block.Idx → Elt F (cfg0.win w).elt) → Prop
  | ⟨0, _⟩ => fun t Y X => X = Y
  | ⟨1, _⟩ => fun t Y X => X = Y
  | ⟨2, _⟩ => fun t Y X => X = Y
  | ⟨3, _⟩ => fun t Y X => X = Y
  | ⟨4, _⟩ => fun t Y X => X = Y
  | ⟨5, _⟩ => fun t Y X => ∃ y : Old F, X = out y (Gen.iblk m c 0 t) (Gen.iblk m c 1 t) (Gen.iblk m c 2 t) (Gen.iblk m c 3 t) (Gen.iblk m c 4 t)

/-- The proof data of the pallas_call. -/
def rdat (c : Dev nD) : Pipeline.RDat τ (Elt F) Unit ℕ (UR sig nD τ) ℕ cfg0 c where
  A w := Gen.V m c (Pipeline.arrRef spec0 w)
  after w t Y X := aft m c w t Y X
  Φ _ := Pipeline.ΦA spec0 c
  q := Pipeline.shareOf spec0
  owed _ := 0

theorem finds_0 (c : Dev nD) (t : Fin cfg0.N) (Y) (h : (rdat m c).Finds 0 t Y) : Y = Gen.iblk m c 0 t := by
  obtain ⟨d, rfl⟩ := (rdat m c).finds_in_eq_fetched 0 rfl (fun _ _ _ => rfl) (fun _ _ _ h => h) t Y h
  unfold Pipeline.RDat.fetched Pipeline.RDat.blockOf Gen.iblk; rfl

theorem finds_1 (c : Dev nD) (t : Fin cfg0.N) (Y) (h : (rdat m c).Finds 1 t Y) : Y = Gen.iblk m c 1 t := by
  obtain ⟨d, rfl⟩ := (rdat m c).finds_in_eq_fetched 1 rfl (fun _ _ _ => rfl) (fun _ _ _ h => h) t Y h
  unfold Pipeline.RDat.fetched Pipeline.RDat.blockOf Gen.iblk; rfl

theorem finds_2 (c : Dev nD) (t : Fin cfg0.N) (Y) (h : (rdat m c).Finds 2 t Y) : Y = Gen.iblk m c 2 t := by
  obtain ⟨d, rfl⟩ := (rdat m c).finds_in_eq_fetched 2 rfl (fun _ _ _ => rfl) (fun _ _ _ h => h) t Y h
  unfold Pipeline.RDat.fetched Pipeline.RDat.blockOf Gen.iblk; rfl

theorem finds_3 (c : Dev nD) (t : Fin cfg0.N) (Y) (h : (rdat m c).Finds 3 t Y) : Y = Gen.iblk m c 3 t := by
  obtain ⟨d, rfl⟩ := (rdat m c).finds_in_eq_fetched 3 rfl (fun _ _ _ => rfl) (fun _ _ _ h => h) t Y h
  unfold Pipeline.RDat.fetched Pipeline.RDat.blockOf Gen.iblk; rfl

theorem finds_4 (c : Dev nD) (t : Fin cfg0.N) (Y) (h : (rdat m c).Finds 4 t Y) : Y = Gen.iblk m c 4 t := by
  obtain ⟨d, rfl⟩ := (rdat m c).finds_in_eq_fetched 4 rfl (fun _ _ _ => rfl) (fun _ _ _ h => h) t Y h
  unfold Pipeline.RDat.fetched Pipeline.RDat.blockOf Gen.iblk; rfl

theorem whole_owned (c : Dev nD) (b : Ref sig .tc) :
    (iprop(∃ f : Buf (Elt F) ((c : Thread nD τ).loc b), ((c : Thread nD τ).loc b) ↦{fullShare} f) : sProp 𝕄G)
      = iprop(∃ f : Buf (Elt F) ((Memref.whole b).view.loc (c : Thread nD τ)), ((Memref.whole b).view.loc (c : Thread nD τ) ↦[(Memref.whole b).view.set]{fullShare} f)) := by
  have h : (Memref.whole (κ := .tc) b).view.set = Finset.univ := View.set_whole b
  rw [h]

theorem scratch_eq (c : Dev nD) : (Pipeline.scopedRest (Ix := Unit) (Name := ℕ) (U := UR sig nD τ) (Lvl := ℕ) (Val := Elt F) spec0 c : sProp 𝕄G)
    = iprop((∃ f : Buf (Elt F) ((Memref.whole cc0_scratch0).view.loc (c : Thread nD τ)), ((Memref.whole cc0_scratch0).view.loc (c : Thread nD τ) ↦[(Memref.whole cc0_scratch0).view.set]{fullShare} f)) ∗ (∃ f : Buf (Elt F) ((Memref.whole cc0_scratch1).view.loc (c : Thread nD τ)), ((Memref.whole cc0_scratch1).view.loc (c : Thread nD τ) ↦[(Memref.whole cc0_scratch1).view.set]{fullShare} f)) ∗ (∃ f : Buf (Elt F) ((Memref.whole cc0_scratch2).view.loc (c : Thread nD τ)), ((Memref.whole cc0_scratch2).view.loc (c : Thread nD τ) ↦[(Memref.whole cc0_scratch2).view.set]{fullShare} f))) :=
  (Gen.scopedRest0_eq c).trans (congrArg₂ BI.sep (whole_owned c cc0_scratch0) (congrArg₂ BI.sep (whole_owned c cc0_scratch1) (whole_owned c cc0_scratch2)))

theorem sound_body (c : Dev nD) (t : Fin cfg0.N) (Y1 : Vec F S2048x512 .f32) (Y2 : Vec F S2048x512 .f32) (Y3 : Vec F S2048x512 .f32) (Y4 : Vec F S1x128 .f32) (Y5 : Vec F S1x128 .f32) (Y6 : Vec F S2048x512 .f32)
    (hY1 : Y1 = Gen.iblk m c 0 t) (hY2 : Y2 = Gen.iblk m c 1 t) (hY3 : Y3 = Gen.iblk m c 2 t) (hY4 : Y4 = Gen.iblk m c 3 t) (hY5 : Y5 = Gen.iblk m c 4 t) :
    (iprop((rdat m c).Φ t.castSucc ∗ (rdat m c).owesAt () t.castSucc ∗ owns (c : Thread nD τ) (Gen.st0_0 t) fullShare Y1 ∗ owns (c : Thread nD τ) (Gen.st0_1 t) fullShare Y2 ∗ owns (c : Thread nD τ) (Gen.st0_2 t) fullShare Y3 ∗ owns (c : Thread nD τ) (Gen.st0_3 t) fullShare Y4 ∗ owns (c : Thread nD τ) (Gen.st0_4 t) fullShare Y5 ∗ owns (c : Thread nD τ) (Gen.st0_5 t) fullShare Y6) : sProp 𝕄G)
      ⊢ wp frame (wpE (defs₀ (F := F)) Variants.none (c : Thread nD τ) none) Set.univ (Gen.bodyAt0 t)
          (fun _ => iprop((rdat m c).Φ t.succ ∗ (rdat m c).owesAt () t.succ ∗ (∃ X, ⌜X = Y1⌝ ∗ owns (c : Thread nD τ) (Gen.st0_0 t) fullShare X) ∗ (∃ X, ⌜X = Y2⌝ ∗ owns (c : Thread nD τ) (Gen.st0_1 t) fullShare X) ∗ (∃ X, ⌜X = Y3⌝ ∗ owns (c : Thread nD τ) (Gen.st0_2 t) fullShare X) ∗ (∃ X, ⌜X = Y4⌝ ∗ owns (c : Thread nD τ) (Gen.st0_3 t) fullShare X) ∗ (∃ X, ⌜X = Y5⌝ ∗ owns (c : Thread nD τ) (Gen.st0_4 t) fullShare X) ∗ (∃ X, ⌜∃ y : Old F, X = out y (Gen.iblk m c 0 t) (Gen.iblk m c 1 t) (Gen.iblk m c 2 t) (Gen.iblk m c 3 t) (Gen.iblk m c 4 t)⌝ ∗ owns (c : Thread nD τ) (Gen.st0_5 t) fullShare X))) := by
  rw [show (rdat m c).owesAt () t.succ = (rdat m c).owesAt () t.castSucc from rfl,
    show (rdat m c).Φ t.castSucc = Pipeline.ΦA spec0 c from rfl, show (rdat m c).Φ t.succ = Pipeline.ΦA spec0 c from rfl]
  unfold Pipeline.ΦA
  rw [scratch_eq]
  iintro ⟨⟨⟨S7, S8, S9⟩, Hr⟩, Ho, H1, H2, H3, H4, H5, H6⟩
  iapply (wp_wand_r frame (wpE (defs₀ (F := F)) Variants.none (c : Thread nD τ) none) Set.univ)
  isplitl [H1 H2 H3 H4 H5 H6 S7 S8 S9]
  · unfold Gen.bodyAt0
    iapply (body_owns (F := F) Variants.none c none (grid0.coords t) _ _ _ _ _ _ _ _ _ _ _ _ _ _ _ _ _ _ Set.univ Y1 Y2 Y3 Y4 Y5 Y6)
    isplitl [H1]; · iexact H1
    isplitl [H2]; · iexact H2
    isplitl [H3]; · iexact H3
    isplitl [H4]; · iexact H4
    isplitl [H5]; · iexact H5
    isplitl [H6]; · iexact H6
    isplitl [S7]; · iexact S7
    isplitl [S8]; · iexact S8
    iexact S9
  subst hY1 hY2 hY3 hY4 hY5
  iintro %_ ⟨H1, H2, H3, H4, H5, ⟨%y, H6⟩, S7, S8, S9⟩
  isplitl [S7 S8 S9 Hr]
  · isplitr [Hr]
    · isplitl [S7]; · iexact S7
      isplitl [S8]; · iexact S8
      iexact S9
    iexact Hr
  isplitl [Ho]; · iexact Ho
  isplitl [H1]
  · iexists _
    isplitr [H1]
    · ipureintro; exact rfl
    iexact H1
  isplitl [H2]
  · iexists _
    isplitr [H2]
    · ipureintro; exact rfl
    iexact H2
  isplitl [H3]
  · iexists _
    isplitr [H3]
    · ipureintro; exact rfl
    iexact H3
  isplitl [H4]
  · iexists _
    isplitr [H4]
    · ipureintro; exact rfl
    iexact H4
  isplitl [H5]
  · iexists _
    isplitr [H5]
    · ipureintro; exact rfl
    iexact H5
  iexists _
  isplitr [H6]
  · ipureintro; exact ⟨y, rfl⟩
  iexact H6

theorem defs₀_row (t : Fin cfg0.N) : defs₀ (F := F) .tc cfg0.body (cfg0.bodyArgs t (cfg0.slots t)) = Gen.bodyAt0 t := by
  unfold defs₀; rw [Defs.onTc_tc]

theorem body_obligation (c : Dev nD) : (rdat m c).BodyObligation (defs₀ (F := F)) Variants.none () Set.univ := fun t Y hY => by
  rw [Gen.bigSep_W0, Gen.bigSep_W0, defs₀_row]
  exact triple_restated (sound_body m c t (Y 0) (Y 1) (Y 2) (Y 3) (Y 4) (Y 5)
    (finds_0 m c t _ (hY 0)) (finds_1 m c t _ (hY 1)) (finds_2 m c t _ (hY 2)) (finds_3 m c t _ (hY 3)) (finds_4 m c t _ (hY 4)))
    rfl .rfl fun _ => .rfl

/-- The kernel's run: every execution ends, with the arrays as the proof data says and every counter at zero. -/
theorem run_main : θ_run defs (onTc (τ := τ) (main (F := F))) (s₀ m ρ)
    (fun r => Pipeline.RDat.FramePost (cfgs 0) (rdat m) (Gen.V m) r ∧ r.2.sem = fun _ => 0) :=
  Pipeline.RDat.θ_run_frame_track_shared (Q' := _) cfgs (0 : Fin 1) Gen.launch₀0 defs₀ Variants.none (rdat m) m ρ main
    (hbody := body_obligation m) (hq := fun _ _ _ => rfl) (howed := fun _ _ => rfl) (V := Gen.V m)
    (hmain := Gen.hmain m Variants.none) (hA := fun _ _ => rfl) (hin := fun _ => .rfl) (hout := fun _ => .rfl) (hQ' := fun _ h => h)

theorem kernel_args {m : (ℓ : Loc nD τ sig) → Buf (Elt F) ℓ} {r : PUnit × MemSt nD τ sig (Elt F)}
    (h : Pipeline.RDat.FramePost (cfgs 0) (rdat m) (Gen.V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨h.arr_in c 2 rfl, h.arr_in c 3 rfl, h.arr_in c 4 rfl⟩

/-- The kernel ends, with its arguments as they were and every counter at zero. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => kernel_args h.1 c, h.2⟩) (run_main m ρ)

theorem frame_ideal : Cert.quiescent_Kernel5Ideal := fun m ρ _ => frame_any (F := Ideal) m ρ

/-- The kernel as compiled and the kernel over the extended reals are one program text: their bodies agree label by label. -/
theorem defs₀_eq : Cert.Kernel5.defs₀ (F := Bits) = Cert.Kernel5Ideal.defs₀ (F := Bits) := by
  unfold Cert.Kernel5.defs₀ Cert.Kernel5Ideal.defs₀
  refine congrArg Defs.onTc ?_
  funext l a
  match l, a with
  | ⟨0, _⟩, (t, s) => rfl

theorem defs_eq : Cert.Kernel5.defs (F := Bits) = Cert.Kernel5Ideal.defs (F := Bits) := by
  unfold Cert.Kernel5.defs Cert.Kernel5Ideal.defs
  rw [defs₀_eq]
  rfl

theorem frame_bits : Cert.quiescent_Kernel5 := fun m ρ _ => by
  rw [defs_eq]
  exact frame_any (F := Bits) m ρ

end Cert.Kernel5Ideal.Fwd
-- ==== Proof.FwdValue.lean ====
/- The attention forward call: what one grid point computes, on real numbers. The walk of a query tile carries for every head
   the sum of the weighted values, the logarithm of the discount and the scores of the next keys; it ends with the whole sum. -/
module

public import proofs.«01_k».proof.Proof.FwdModel
public import proofs.«01_k».proof.Proof.BlockValue

@[expose] public section

set_option maxRecDepth 16384
set_option maxHeartbeats 200000

noncomputable section

namespace Cert.Kernel5Ideal.Fwd

open Idealize.ShloMosaic Idealize.ShloMosaic.TcCoe
open Cert.Kernel5Ideal.Gen
open Cert.KernelIdeal.Attn (Is Is.congr iter iter_succ coe_sum sc wt cr wt_of_le wt_tile cr_step tile_sum lsig lsigm qs kn next_is diag_wt diag_carry pay6_is pay7_is
  pay12_is pay113_is pay116_is pay119_is)
open VecWindow (put)

/-! ## The buffers head by head -/

/-- The columns of head `h` of a buffer of rows hold the real numbers `f`, on the rows below `n`. -/
def ColTo (n : ℕ) (h : Fin 4) (x : S2048x512.Idx → EReal) (f : ℕ → ℕ → ℝ) : Prop :=
  ∀ (r : Fin 2048) (d : Fin 128), r.val < n → x (ix2 r ⟨128 * h.val + d.val, by omega⟩) = ((f r.val d.val : ℝ) : EReal)
/-- The same on all rows. -/
def Col (h : Fin 4) (x : S2048x512.Idx → EReal) (f : ℕ → ℕ → ℝ) : Prop := ColTo 2048 h x f

theorem ColTo.congr {n : ℕ} {h : Fin 4} {x : S2048x512.Idx → EReal} {f g : ℕ → ℕ → ℝ} (hx : ColTo n h x f)
    (e : ∀ r < n, ∀ d < 128, f r d = g r d) : ColTo n h x g :=
  fun r d hr => (hx r d hr).trans (congrArg _ (e r.val hr d.val d.isLt))

theorem tile_is {h : Fin 4} {x : FVec Ideal S2048x512 .bf16} {f : ℕ → ℕ → ℝ} (hx : Col h x f) {off : Fin 2 → ℕ} (inb : Fits off) {b : ℕ}
    (e : off = ![b, 128 * h.val]) : Is (φ := .bf16) (tile (F := Ideal) (e := .bf16) x off inb) fun a d => f (b + a) d := by
  subst e
  intro a d
  have hb : b + 256 ≤ 2048 := inb 0
  have := hx ⟨b + a.val, by omega⟩ d (by show b + a.val < 2048; omega)
  rw [← this]
  pointwise [tile]

theorem head_is {x : FVec Ideal S2048x512 .f32} {f : Fin 4 → ℕ → ℕ → ℝ} (hx : ∀ h, Col h x (f h)) : ∀ h, Is (φ := .f32) (head (F := Ideal) (e := .f32) x h) (f h)
  | 0 => fun a d => by rw [← hx 0 a d a.isLt]; pointwise [head, hcol]
  | 1 => fun a d => by rw [← hx 1 a d a.isLt]; pointwise [head, hcol]
  | 2 => fun a d => by rw [← hx 2 a d a.isLt]; pointwise [head, hcol]
  | 3 => fun a d => by rw [← hx 3 a d a.isLt]; pointwise [head, hcol]

theorem row1_is {x : FVec Ideal S1x128 .f32} {f : ℕ → ℕ → ℝ} (hx : Is x f) : Is (φ := .f32) (row1 (F := Ideal) x) f := by
  intro a d
  obtain rfl : a = 0 := Subsingleton.elim _ _
  rw [← hx 0 d]
  pointwise [row1]

/-- A store of `R` rows of head `h` from row `b` on, of a buffer known below row `b`. -/
theorem put_to {φ : FTy} {R n b : ℕ} {h : Fin 4} {x : S2048x512.Idx → EReal} {w : FVec Ideal ⟨2, ![R, 128]⟩ φ} {f g : ℕ → ℕ → ℝ} (hx : ColTo b h x f)
    (hw : Is w g) {off : Fin 2 → ℕ} (e : off = ![b, 128 * h.val]) (hn : n ≤ b + R) :
    ColTo n h (put (s := S2048x512) x off ![R, 128] w) fun r d => if b ≤ r then g (r - b) d else f r d := by
  subst e
  intro r d hr
  beta_reduce
  by_cases hb : b ≤ r.val
  · rw [if_pos hb, ← hw ⟨r.val - b, by omega⟩ d]
    unfold put
    rw [dif_pos (by
      intro a
      match a with
      | 0 => exact ⟨hb, show r.val < b + R by omega⟩
      | 1 => exact ⟨show 128 * h.val ≤ 128 * h.val + d.val by omega, show 128 * h.val + d.val < 128 * h.val + 128 by omega⟩)]
    congr 1
    funext a
    match a with
    | 0 => rfl
    | 1 => exact Fin.ext (show 128 * h.val + d.val - 128 * h.val = d.val by omega)
  · rw [if_neg hb, ← hx r d (by omega)]
    unfold put
    rw [dif_neg (fun hall => hb (hall 0).1)]

/-- A store in another head's columns. -/
theorem put_other {φ : FTy} {R n b : ℕ} {h h' : Fin 4} (hne : h ≠ h') {x : S2048x512.Idx → EReal} {w : FVec Ideal ⟨2, ![R, 128]⟩ φ} {f : ℕ → ℕ → ℝ}
    (hx : ColTo n h x f) {off : Fin 2 → ℕ} (e : off = ![b, 128 * h'.val]) : ColTo n h (put (s := S2048x512) x off ![R, 128] w) f := by
  subst e
  intro r d hr
  beta_reduce
  rw [← hx r d hr]
  unfold put
  refine dif_neg fun hall => hne ?_
  have h1 : 128 * h'.val ≤ 128 * h.val + d.val ∧ 128 * h.val + d.val < 128 * h'.val + 128 := hall 1
  exact Fin.ext (by omega)

/-- Four stores, one per head, from row `b` on. -/
theorem puts_to {φ : FTy} {R n b : ℕ} {x : S2048x512.Idx → EReal} {w : Fin 4 → FVec Ideal ⟨2, ![R, 128]⟩ φ} {f g : Fin 4 → ℕ → ℕ → ℝ}
    (hx : ∀ h, ColTo b h x (f h)) (hw : ∀ h, Is (w h) (g h)) {off : Fin 4 → Fin 2 → ℕ} (e : ∀ h, off h = ![b, 128 * h.val]) (hn : n ≤ b + R) (hbn : b ≤ n) :
    ∀ h, ColTo n h (put (s := S2048x512) (put (s := S2048x512) (put (s := S2048x512) (put (s := S2048x512) x (off 0) ![R, 128] (w 0)) (off 1) ![R, 128] (w 1))
      (off 2) ![R, 128] (w 2)) (off 3) ![R, 128] (w 3)) fun r d => if b ≤ r then g h (r - b) d else f h r d
  | 0 => put_other (h' := 3) (by decide) (put_other (h' := 2) (by decide) (put_other (h' := 1) (by decide) (put_to (hx 0) (hw 0) (e 0) hn) (e 1)) (e 2)) (e 3)
  | 1 => put_other (h' := 3) (by decide) (put_other (h' := 2) (by decide) (put_to (put_other (h' := 0) (by decide) (hx 1) (e 0)) (hw 1) (e 1) hn) (e 2)) (e 3)
  | 2 => put_other (h' := 3) (by decide) (put_to (put_other (h' := 1) (by decide) (put_other (h' := 0) (by decide) (hx 2) (e 0)) (e 1)) (hw 2) (e 2) hn) (e 3)
  | 3 => put_to (put_other (h' := 2) (by decide) (put_other (h' := 1) (by decide) (put_other (h' := 0) (by decide) (hx 3) (e 0)) (e 1)) (e 2)) (hw 3) (e 3) hn

theorem four_is {y : FVec Ideal S2048x512 .bf16} {w : Fin 4 → FVec Ideal S2048x128 .bf16} {f : Fin 4 → ℕ → ℕ → ℝ} (hw : ∀ h, Is (w h) (f h)) (h : Fin 4) :
    Col h (four (F := Ideal) (e := .bf16) y w) (f h) := by
  have H := puts_to (R := 2048) (n := 2048) (b := 0) (x := y) (f := fun _ _ _ => 0) (off := fun h => ![0, 128 * h.val]) (fun h r d hr => absurd hr (by omega)) hw
    (fun _ => rfl) (by omega) (by omega) h
  exact H.congr fun r _ d _ => (if_pos (Nat.zero_le r)).trans rfl

/-! ## The arithmetic of a tile is that of the backward call -/

section alike
variable {F : FTy → Type} [FloatOps F]

theorem pay52_eq (x y : FVec F S256x128 .bf16) : k0_pay52 x y = Cert.KernelIdeal.Gen.k0_pay3 x y := rfl
theorem pay62_eq (x y : FVec F S256x128 .bf16) : k0_pay62 x y = Cert.KernelIdeal.Gen.k0_pay3 x y := rfl
theorem pay16_eq (x y : FVec F S256x128 .bf16) : k0_pay16 x y = Cert.KernelIdeal.Gen.k0_pay3 x y := rfl
theorem pay20_eq (a : FVec F S256x1 .f32) (z) : k0_pay20 a z = Cert.KernelIdeal.Gen.k0_pay12 a (Cert.KernelIdeal.Gen.k0_pay6 z) := rfl
theorem pay67_eq (z : FVec F S256x256 .f32) : k0_pay67 k0_pay51 (k0_pay64 k0_pay5 z)
    = Cert.KernelIdeal.Gen.k0_pay12 Cert.KernelIdeal.Gen.k0_pay59 (Cert.KernelIdeal.Gen.k0_pay76 Cert.KernelIdeal.Gen.k0_pay126 z) := rfl
theorem pay65_eq (z : FVec F S256x256 .f32) : k0_pay65 k0_pay4 k0_pay5 k0_pay51 z
    = truncf .bf16 (Cert.KernelIdeal.Gen.k0_pay79 Cert.KernelIdeal.Gen.k0_pay126 (Cert.KernelIdeal.Gen.k0_pay77 Cert.KernelIdeal.Gen.k0_pay124
        Cert.KernelIdeal.Gen.k0_pay126 Cert.KernelIdeal.Gen.k0_pay59 z) Cert.KernelIdeal.Gen.k0_pay78) bitsLt_bf16_f32 := rfl
theorem pay19_eq (a : FVec F S256x128 .f32) (c z) (v : FVec F S256x128 .bf16) : k0_pay19 k0_pay4 a c z v
    = k0_pay66 a (truncf .bf16 (Cert.KernelIdeal.Gen.k0_pay7 Cert.KernelIdeal.Gen.k0_pay124 c z) bitsLt_bf16_f32) v := rfl
theorem pay84_eq (x : FVec F S2048x128 .f32) (g) : k0_pay84 x g = Cert.KernelIdeal.Gen.k0_pay113 x g := rfl
theorem pay85_eq (x : FVec F S2048x128 .f32) (g) : k0_pay85 x g = Cert.KernelIdeal.Gen.k0_pay119 x g := rfl
theorem pay86_eq (x : FVec F S2048x128 .f32) : k0_pay86 x = Cert.KernelIdeal.Gen.k0_pay116 x := rfl

end alike

theorem cast_is {x : FVec Ideal S256x256 .f32} {f : ℕ → ℕ → ℝ} (hx : Is x f) : Is (φ := .bf16) (truncf (F := Ideal) .bf16 x bitsLt_bf16_f32) f := hx

theorem pay66_is {a : FVec Ideal S256x128 .f32} {w : FVec Ideal S256x256 .bf16} {v : FVec Ideal S256x128 .bf16} {s f g : ℕ → ℕ → ℝ}
    (ha : Is a s) (hw : Is w f) (hv : Is v g) : Is (k0_pay66 a w v) fun r d => s r d + ∑ c : Fin 256, f r c * g c d := by
  intro r d
  pointwise [k0_pay66]
  simp only [ha _ _, hw _ _, hv _ _, ← EReal.coe_mul, coe_sum, ← EReal.coe_add]

theorem pay50_is : Is (k0_pay50 (F := Ideal)) fun _ _ => 0 := by
  intro a c
  pointwise [k0_pay50]
  exact EReal.coe_zero.symm

/-! ## The walk -/

/-- What the walk of query tile `T` has made of a head when the key tiles from `T - n` on are done. -/
structure Done (q k v : ℕ → ℕ → ℝ) (T n : ℕ) (s : Head Ideal) : Prop where
  car : Is s.car fun r _ => cr q k (256 * (T - n)) (256 * T + r)
  z : Is s.z fun r c => sc q k (256 * T + r) (256 * (T - 1 - n) + c)
  acc : Is s.acc fun r d => ∑ j ∈ Finset.Ico (256 * (T - n)) (256 * T + 256), wt q k (256 * T + r) j * v j d

section walk
variable {q k v : ℕ → ℕ → ℝ} {T n : ℕ} {x y w p : FVec Ideal S256x128 .bf16} (hx : Is x fun r d => q (256 * T + r) d)
include hx

theorem first_done (hy : Is y fun c d => k (256 * T + c) d) (hw : Is w fun c d => v (256 * T + c) d) (hp : Is p fun c d => k (256 * (T - 1) + c) d) :
    Done q k v T 0 (first (F := Ideal) x y w p) where
  car := by
    show Is (k0_pay67 k0_pay51 (k0_pay64 k0_pay5 (k0_pay52 x y))) _
    rw [pay52_eq, pay67_eq]
    exact diag_carry hx hy
  z := by
    show Is (k0_pay62 x p) _
    rw [pay62_eq]
    exact next_is hx hp
  acc := by
    show Is (k0_pay66 k0_pay50 (k0_pay65 k0_pay4 k0_pay5 k0_pay51 (k0_pay52 x y)) w) _
    rw [pay52_eq, pay65_eq]
    refine (pay66_is pay50_is (cast_is (diag_wt hx hy)) hw).congr fun r hr d hd => ?_
    beta_reduce
    rw [zero_add, tile_sum (fun j => wt q k (256 * T + r) j * v j d), Nat.sub_zero]

theorem next_done {s : Head Ideal} (I : Done q k v T n s) (hn : n < T) (hw : Is w fun c d => v (256 * (T - 1 - n) + c) d)
    (hp : Is p fun c d => k (256 * (T - 1 - n - 1) + c) d) : Done q k v T (n + 1) (next (F := Ideal) x w p s) where
  car := by
    show Is (k0_pay20 s.car s.z) _
    rw [pay20_eq]
    refine (pay12_is I.car (pay6_is I.z)).congr fun r hr c hc => ?_
    rw [show 256 * (T - n) = 256 * (T - 1 - n) + 256 by omega, show 256 * (T - (n + 1)) = 256 * (T - 1 - n) by omega]
    exact cr_step q k (256 * (T - 1 - n)) (256 * T + r) (by omega)
  z := by
    show Is (k0_pay16 x p) _
    rw [pay16_eq, show T - 1 - (n + 1) = T - 1 - n - 1 by omega]
    exact next_is hx hp
  acc := by
    show Is (k0_pay19 k0_pay4 s.acc s.car s.z w) _
    rw [pay19_eq]
    have ht : Is (Cert.KernelIdeal.Gen.k0_pay7 Cert.KernelIdeal.Gen.k0_pay124 s.car s.z) fun r c => wt q k (256 * T + r) (256 * (T - 1 - n) + c) := by
      refine (pay7_is I.car I.z).congr fun r hr c hc => ?_
      rw [show 256 * (T - n) = 256 * (T - 1 - n) + 256 by omega]
      exact wt_tile q k (256 * (T - 1 - n)) (256 * T + r) c hc (by omega)
    refine (pay66_is I.acc (cast_is ht) hw).congr fun r hr d hd => ?_
    beta_reduce
    rw [tile_sum (fun j => wt q k (256 * T + r) j * v j d), show 256 * (T - n) = 256 * (T - 1 - n) + 256 by omega,
      show 256 * (T - (n + 1)) = 256 * (T - 1 - n) by omega, add_comm]
    exact Finset.sum_Ico_consecutive _ (by omega) (by omega)

end walk

/-- The attention of one head: the values, weighted. -/
def mix (q k v : ℕ → ℕ → ℝ) (i d : ℕ) : ℝ := ∑ j ∈ Finset.range 2048, wt q k i j * v j d

theorem mix_eq (q k v : ℕ → ℕ → ℝ) {T r d : ℕ} (hT : T < 8) (hr : r < 256) :
    ∑ j ∈ Finset.Ico (256 * (T - T)) (256 * T + 256), wt q k (256 * T + r) j * v j d = mix q k v (256 * T + r) d := by
  rw [Nat.sub_self, Nat.mul_zero, ← Finset.range_eq_Ico]
  refine Finset.sum_subset (Finset.range_mono (by omega)) fun j hj hn => ?_
  rw [Finset.mem_range] at hn
  rw [wt_of_le q k (by omega), zero_mul]

section rows
variable {q k v : Fin 4 → ℕ → ℕ → ℝ} {x7 x8 x9 : FVec Ideal S2048x512 .bf16} (hq : ∀ h, Col h x7 (q h)) (hk : ∀ h, Col h x8 (k h)) (hv : ∀ h, Col h x9 (v h))
include hq hk hv

theorem walk_done (t1 : Fin k0_t1_loop.trips) (h : Fin 4) : ∀ n, n ≤ (k0_t2_loop t1).trips → Done (q h) (k h) (v h) t1.val n (walk (F := Ideal) x7 x8 x9 t1 n h)
  | 0, _ => first_done (tile_is (hq h) _ (rowOff_eq t1 h)) (tile_is (hk h) _ (rowOff_eq t1 h)) (tile_is (hv h) _ (rowOff_eq t1 h)) (tile_is (hk h) _ (prevOff_eq t1 h))
  | n + 1, hn => by
      have hT : n < t1.val := k0_t2_trips t1 ▸ hn
      rw [walk, iter_succ _ _ _ ⟨n, hn⟩]
      exact next_done (tile_is (hq h) _ (rowOff_eq t1 h)) (walk_done t1 h n (by omega)) hT (tile_is (hv h) _ (valOff_eq t1 ⟨n, hn⟩ h))
        (tile_is (hk h) _ (keyOff_eq t1 ⟨n, hn⟩ h))

theorem row_is (t1 : Fin k0_t1_loop.trips) (h : Fin 4) :
    Is (walk (F := Ideal) x7 x8 x9 t1 (k0_t2_loop t1).trips h).acc fun r d => mix (q h) (k h) (v h) (256 * t1.val + r) d := by
  have hT : t1.val < 8 := k0_t1_trips ▸ t1.isLt
  have D := walk_done hq hk hv t1 h _ le_rfl
  refine D.acc.congr fun r hr d hd => ?_
  rw [k0_t2_trips]
  exact mix_eq (q h) (k h) (v h) hT hr

theorem rows_done {o : FVec Ideal S2048x512 .f32} : ∀ n, n ≤ k0_t1_loop.trips → ∀ h, ColTo (256 * n) h (rowSt (F := Ideal) x7 x8 x9 o n) (mix (q h) (k h) (v h))
  | 0, _, _ => fun r d hr => absurd hr (by omega)
  | n + 1, hn, h => by
      rw [rowSt, iter_succ _ _ _ ⟨n, hn⟩]
      refine (puts_to (R := 256) (n := 256 * (n + 1)) (b := 256 * n) (rows_done n (by omega)) (row_is hq hk hv ⟨n, hn⟩) (rowOff_eq ⟨n, hn⟩) (by omega) (by omega) h).congr
        fun r hr d hd => ?_
      beta_reduce
      by_cases hb : 256 * n ≤ r
      · rw [if_pos hb]
        exact congrArg (fun i => mix (q h) (k h) (v h) i d) (show 256 * n + (r - 256 * n) = r by omega)
      · rw [if_neg hb]

end rows

/-! ## A point -/

section block
variable {y : Old Ideal} {x1 x2 x3 : FVec Ideal S2048x512 .f32} {x4 x5 : FVec Ideal S1x128 .f32} {f1 f2 f3 : Fin 4 → ℕ → ℕ → ℝ} {γ κ : ℕ → ℝ}
  (h1 : ∀ h, Col h x1 (f1 h)) (h2 : ∀ h, Col h x2 (f2 h)) (h3 : ∀ h, Col h x3 (f3 h)) (h4 : Is x4 fun _ => γ) (h5 : Is x5 fun _ => κ)

include h1 h4 in
theorem bq_is : ∀ h, Col h (bq (F := Ideal) y.q x1 x4) (qs (f1 h) γ) :=
  four_is (f := fun h => qs (f1 h) γ) fun h => by rw [pay84_eq]; exact pay113_is (head_is h1 h) (row1_is h4)
include h2 h5 in
theorem bk_is : ∀ h, Col h (bk (F := Ideal) y.k x2 x5) (kn (f2 h) κ) :=
  four_is (f := fun h => kn (f2 h) κ) fun h => by rw [pay85_eq]; exact pay119_is (head_is h2 h) (row1_is h5)
include h3 in
theorem bv_is : ∀ h, Col h (bv (F := Ideal) y.v x3) (f3 h) :=
  four_is fun h => by rw [pay86_eq]; exact pay116_is (head_is h3 h)

include h1 h2 h3 h4 h5

theorem out_is (h : Fin 4) : Col h (out (F := Ideal) y x1 x2 x3 x4 x5) (mix (qs (f1 h) γ) (kn (f2 h) κ) (f3 h)) := by
  have R := rows_done (o := y.o) (bq_is (y := y) h1 h4) (bk_is (y := y) h2 h5) (bv_is (y := y) h3) k0_t1_loop.trips le_rfl h
  exact fun r d hr => R r d (by rw [k0_t1_trips]; exact hr)

end block

end Cert.Kernel5Ideal.Fwd
-- ==== Proof.FwdReference.lean ====
/- The attention forward call: the reference's result, read at an index as a real number. Its weights are those that the
   reference of the backward call makes on its way. -/
module

public import proofs.«01_k».proof.Defs
public import proofs.«01_k».proof.Proof.FwdValue
public import proofs.«01_k».proof.Proof.RefOut
public import proofs.«01_k».proof.Proof.Gen.Reference5Ideal
public import proofs.«01_k».proof.Proof.Gen.Reference5Ideal.Run
public import proofs.«01_k».proof.Proof.Gen.Reference5Ideal.Read
public import Idealize.ShloMosaic.Lib.Tactic.CleanTypes

@[expose] public section

set_option maxRecDepth 16384
set_option maxHeartbeats 200000

noncomputable section

namespace Cert.Reference5Ideal.Fwd

open Idealize.ShloMosaic Idealize.ShloMosaic.TcCoe Idealize.ShloMosaic.StableHlo Idealize.SL.Sem
open Cert.Reference5Ideal Cert.Reference5Ideal.Gen Cert.Reference5Ideal.Value
open Cert.KernelIdeal.Attn (Is hd coe_sum kn qs wt)
open Cert.ReferenceIdeal.Attn (Is4 W v56_0_is v39_is)
open Cert.Kernel5Ideal.Fwd (mix)

/-- The reference is host code: it ends, its arguments as they were; it has no counters. -/
theorem reference_frame : Cert.quiescent_Reference5Ideal := fun m ρ _ =>
  (θ_run defs _ _).mono (fun r h => ⟨fun c => (h c).2, funext fun x => (nomatch x)⟩) (Value.run m ρ)

/-- The result at an index: an array's row is `2048 · batch + position`, its column `128 · head + channel`. -/
def RF (A0 : ℕ → ℕ → ℝ) (γ κ : ℕ → ℝ) (r c : ℕ) : ℝ :=
  mix (qs (hd A0 0 (r / 2048) (c / 128)) γ) (kn (hd A0 1024 (r / 2048) (c / 128)) κ) (hd A0 2048 (r / 2048) (c / 128)) (r % 2048) (c % 128)

/-- An element of any type. -/
theorem elt_any : ∀ e : EltTy, Nonempty (Elt Ideal e)
  | .i1 | .i4 | .i8 | .i16 | .i32 | .i64 => ⟨0⟩
  | .fp8e4m3 | .fp8e5m2 | .bf16 | .f16 | .f32 => ⟨(0 : EReal)⟩

/-- The backward call's reference can be given any arguments. -/
theorem exists_args (x : FVec Ideal ⟨2, ![4096, 6144]⟩ .f32) (o : FVec Ideal ⟨2, ![4096, 1024]⟩ .f32) (g k : FVec Ideal ⟨2, ![1, 128]⟩ .f32) :
    ∃ V0 : Valuation Cert.ReferenceIdeal.τ Cert.ReferenceIdeal.sig (Elt Ideal), V0 (Proc.devRef .tc Cert.ReferenceIdeal.main_arg0) = x
      ∧ V0 (Proc.devRef .tc Cert.ReferenceIdeal.main_arg1) = o ∧ V0 (Proc.devRef .tc Cert.ReferenceIdeal.main_arg2) = g
      ∧ V0 (Proc.devRef .tc Cert.ReferenceIdeal.main_arg3) = k :=
  ⟨Function.update (Function.update (Function.update (Function.update (fun b _ => (elt_any b.ty.elt).some)
      (Proc.devRef .tc Cert.ReferenceIdeal.main_arg0) x) (Proc.devRef .tc Cert.ReferenceIdeal.main_arg1) o)
      (Proc.devRef .tc Cert.ReferenceIdeal.main_arg2) g) (Proc.devRef .tc Cert.ReferenceIdeal.main_arg3) k,
    by rw [Function.update_of_ne (by decide +kernel), Function.update_of_ne (by decide +kernel), Function.update_of_ne (by decide +kernel), Function.update_self],
    by rw [Function.update_of_ne (by decide +kernel), Function.update_of_ne (by decide +kernel), Function.update_self],
    by rw [Function.update_of_ne (by decide +kernel), Function.update_self], Function.update_self _ _ _⟩

section
variable (V0 : Valuation Cert.ReferenceIdeal.τ Cert.ReferenceIdeal.sig (Elt Ideal))

/-- The weights are those of the backward call's reference. -/
theorem weights_eq : Read.val_main_v50 (F := Ideal) (V0 (Proc.devRef .tc Cert.ReferenceIdeal.main_arg0)) (V0 (Proc.devRef .tc Cert.ReferenceIdeal.main_arg2))
    (V0 (Proc.devRef .tc Cert.ReferenceIdeal.main_arg3)) = Cert.ReferenceIdeal.Value.res_main_v56_0 (F := Ideal) V0 := rfl

/-- The values too. -/
theorem values_eq : Read.val_main_v33 (F := Ideal) (V0 (Proc.devRef .tc Cert.ReferenceIdeal.main_arg0)) = Cert.ReferenceIdeal.Value.res_main_v39 (F := Ideal) V0 := rfl

theorem out_real {A0 A1 : ℕ → ℕ → ℝ} {γ κ : ℕ → ℝ} (H : Cert.ReferenceIdeal.Attn.Real V0 A0 A1 γ κ) :
    Is (m := 4096) (n := 1024) (φ := .f32) (Read.val_main_v53 (F := Ideal) (V0 (Proc.devRef .tc Cert.ReferenceIdeal.main_arg0))
      (V0 (Proc.devRef .tc Cert.ReferenceIdeal.main_arg2)) (V0 (Proc.devRef .tc Cert.ReferenceIdeal.main_arg3))) (RF A0 γ κ) := by
  intro r d
  unfold Read.val_main_v53 Read.val_main_v52 Read.val_main_v51
  rw [weights_eq, values_eq]
  clean_types
  pointwise
  simp only [v39_is H _ _ _ _, v56_0_is H _ _ _ _, ← EReal.coe_mul, coe_sum]
  refine congrArg _ ?_
  unfold RF mix
  rw [Finset.sum_range]
  exact Finset.sum_congr rfl fun i _ => by simp only [W]; ring

end

/-- On real arguments the reference's result is the real one. -/
theorem out_is {x : FVec Ideal ⟨2, ![4096, 6144]⟩ .f32} {g k : FVec Ideal ⟨2, ![1, 128]⟩ .f32} {A0 : ℕ → ℕ → ℝ} {γ κ : ℕ → ℝ} (hx : Is x A0)
    (hg : Is g fun _ => γ) (hk : Is k fun _ => κ) : Is (m := 4096) (n := 1024) (φ := .f32) (Read.val_main_v53 (F := Ideal) x g k) (RF A0 γ κ) := by
  obtain ⟨V0, rfl, ho, rfl, rfl⟩ := exists_args x (fun _ => ((0 : ℝ) : EReal)) g k
  exact out_real V0 (A1 := fun _ _ => 0) ⟨hx, fun a b => congrFun ho (ix2 a b), hg, hk⟩

end Cert.Reference5Ideal.Fwd
-- ==== Proof.FwdResult.lean ====
/- The attention forward call against its reference: on finite arguments both leave the same array. -/
module

public import proofs.«01_k».proof.Proof.FwdRun
public import proofs.«01_k».proof.Proof.FwdReference
public import proofs.«01_k».proof.Proof.Finite
public import Idealize.ShloMosaic.Lib.Pipeline.ValueKit
public import Idealize.ShloMosaic.Lib.Pipeline.ArrRel

@[expose] public section

set_option maxRecDepth 16384
set_option maxHeartbeats 200000

noncomputable section

namespace Cert.Kernel5Ideal.Fwd

open Idealize.ShloMosaic Idealize.ShloMosaic.TcCoe Idealize.SL.Sem
open Cert.Kernel5Ideal.Gen
open Cert.KernelIdeal.Attn (Is hd qs kn arr reals reals_is reals_row)
open Cert.Reference5Ideal.Fwd (RF)

/-! ## The blocks of a point -/

/-- Every window's block at every point: a point's batch is `t / 2`, its four heads `t % 2`. -/
theorem idx : ∀ t : Fin cfg0.N, win0_0.index t = ![t.val / 2, t.val % 2] ∧ win0_1.index t = ![t.val / 2, 2 + t.val % 2]
    ∧ win0_2.index t = ![t.val / 2, 4 + t.val % 2] ∧ win0_3.index t = ![0, 0] ∧ win0_4.index t = ![0, 0]
    ∧ win0_5.index t = ![t.val / 2, t.val % 2] ∧ t.val < 4 :=
  (by decide +kernel : ∀ t : Fin grid0.N, _)

section
variable (m : (ℓ : Loc nD τ sig) → Buf (Elt Ideal) ℓ) (c : Dev nD) {A0 : ℕ → ℕ → ℝ} {γ κ : ℕ → ℝ}

/-- The arguments hold real numbers. -/
structure Args (A0 : ℕ → ℕ → ℝ) (γ κ : ℕ → ℝ) : Prop where
  x : Is (m := 4096) (n := 6144) (φ := .f32) (m ((c.tc : Thread nD τ).loc main_arg0)) A0
  g : Is (m := 1) (n := 128) (φ := .f32) (m ((c.tc : Thread nD τ).loc main_arg1)) fun _ => γ
  k : Is (m := 1) (n := 128) (φ := .f32) (m ((c.tc : Thread nD τ).loc main_arg2)) fun _ => κ

variable {m c} (H : Args m c A0 γ κ) (t : Fin cfg0.N)
include H

theorem blk0 (h : Fin 4) : Col h (iblk m c 0 t) (hd A0 0 (t.val / 2) (4 * (t.val % 2) + h.val)) := fun r d _ => by
  have ht := (idx t).2.2.2.2.2.2
  refine Eq.trans ?_ ((H.x ⟨2048 * (t.val / 2) + r.val, by omega⟩ ⟨0 + 128 * (4 * (t.val % 2) + h.val) + d.val, by omega⟩))
  blk_ext [iblk, V, idx t]
theorem blk1 (h : Fin 4) : Col h (iblk m c 1 t) (hd A0 1024 (t.val / 2) (4 * (t.val % 2) + h.val)) := fun r d _ => by
  have ht := (idx t).2.2.2.2.2.2
  refine Eq.trans ?_ ((H.x ⟨2048 * (t.val / 2) + r.val, by omega⟩ ⟨1024 + 128 * (4 * (t.val % 2) + h.val) + d.val, by omega⟩))
  blk_ext [iblk, V, idx t]
theorem blk2 (h : Fin 4) : Col h (iblk m c 2 t) (hd A0 2048 (t.val / 2) (4 * (t.val % 2) + h.val)) := fun r d _ => by
  have ht := (idx t).2.2.2.2.2.2
  refine Eq.trans ?_ ((H.x ⟨2048 * (t.val / 2) + r.val, by omega⟩ ⟨2048 + 128 * (4 * (t.val % 2) + h.val) + d.val, by omega⟩))
  blk_ext [iblk, V, idx t]
theorem blk3 : Is (m := 1) (n := 128) (φ := .f32) (iblk m c 3 t) fun _ => γ := fun r d => by
  refine Eq.trans ?_ (H.g r d)
  blk_ext [iblk, V, idx t]
theorem blk4 : Is (m := 1) (n := 128) (φ := .f32) (iblk m c 4 t) fun _ => κ := fun r d => by
  refine Eq.trans ?_ (H.k r d)
  blk_ext [iblk, V, idx t]

end

/-! ## The result array -/

/-- Where a point's block lies in the array. -/
theorem place_b (t : ℕ) {r : ℕ} (hr : r < 2048) : (t / 2 * 2048 + r) / 2048 = t / 2 := by omega
theorem place_i (t : ℕ) {r : ℕ} (hr : r < 2048) : (t / 2 * 2048 + r) % 2048 = r := by omega
theorem place_h (t : ℕ) {c : ℕ} (hc : c < 512) : (t % 2 * 512 + c) / 128 = 4 * (t % 2) + c / 128 := by omega
theorem place_d (t c : ℕ) : (t % 2 * 512 + c) % 128 = c % 128 := by omega

theorem cell {x : S2048x512.Idx → EReal} {f : ℕ → ℕ → ℕ → ℝ} (hx : ∀ h : Fin 4, Col h x (f h.val)) (y : S2048x512.Idx) :
    x y = ((f ((y 1).val / 128) (y 0).val ((y 1).val % 128) : ℝ) : EReal) := by
  have h0 : (y 0).val < 2048 := (y 0).isLt
  have h1 : (y 1).val < 512 := (y 1).isLt
  refine (congrArg x ?_).trans (hx ⟨(y 1).val / 128, by omega⟩ ⟨(y 0).val, h0⟩ ⟨(y 1).val % 128, by omega⟩ h0)
  refine (eq_ix2 y).trans (congrArg (ix2 (y 0)) (Fin.ext ?_))
  show (y 1).val = 128 * ((y 1).val / 128) + (y 1).val % 128
  omega

/-- The attention of head `h` of batch `b`. -/
def hF (A0 : ℕ → ℕ → ℝ) (γ κ : ℕ → ℝ) (b h : ℕ) : ℕ → ℕ → ℝ := mix (qs (hd A0 0 b h) γ) (kn (hd A0 1024 b h) κ) (hd A0 2048 b h)

section
variable {m : (ℓ : Loc nD τ sig) → Buf (Elt Ideal) ℓ} {c : Dev nD} {A0 : ℕ → ℕ → ℝ} {γ κ : ℕ → ℝ} (H : Args m c A0 γ κ)
include H

theorem leaves5 {t : Fin cfg0.N} {X : (cfg0.win 5).block.Idx → Elt Ideal (cfg0.win 5).elt} (hX : (rdat m c).Leaves 5 t X) (h : Fin 4) :
    Col h X (hF A0 γ κ (t.val / 2) (4 * (t.val % 2) + h.val)) := by
  obtain ⟨_, _, y, rfl⟩ := hX
  exact out_is (blk0 H t) (blk1 H t) (blk2 H t) (blk3 H t) (blk4 H t) h

theorem final5 {after : (w' : Fin cfg0.W) → Fin cfg0.N → (cfg0.win w').block.Idx → Elt Ideal (cfg0.win w').elt}
    (hL : ∀ (w : Fin cfg0.W) (u : Fin cfg0.N), (cfg0.win w).flush u = true → (rdat m c).Leaves w u (after w u)) :
    ((rdat m c).withAfter after).arrAt 5 cfg0.N = arr 4096 1024 (RF A0 γ κ) := by
  refine Pipeline.Dat.arrAt_eq_of_covers _ 5 _ (by decide +kernel) fun t hf y => ?_
  have hX := cell (f := fun h => hF A0 γ κ (t.val / 2) (4 * (t.val % 2) + h)) (leaves5 H (hL 5 t hf)) y
  blk_simp
  refine hX.trans ?_
  unfold arr RF hF
  blk_simp [idx t]
  have h0 : (y 0).val < 2048 := (y 0).isLt
  have h1 : (y 1).val < 512 := (y 1).isLt
  rw [place_b t.val h0, place_i t.val h0, place_h t.val h1, place_d t.val (y 1).val]

end

/-- The kernel's run on real arguments: the result at every index. -/
theorem kernel_value {m : (ℓ : Loc nD τ sig) → Buf (Elt Ideal) ℓ} (ρ : Dev nD → PrngReg) {A0 : Dev nD → ℕ → ℕ → ℝ} {γ κ : Dev nD → ℕ → ℝ}
    (H : ∀ c, Args m c (A0 c) (γ c) (κ c)) :
    θ_run (defs (F := Ideal)) (onTc (τ := τ) (main (F := Ideal))) ⟨m, fun _ => 0, ρ⟩ fun r => ∀ c : Dev nD,
      r.2.mem ((c.tc : Thread nD τ).loc main_v0) = arr 4096 1024 (RF (A0 c) (γ c) (κ c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨after, hL, hA⟩ := Pipeline.RDat.FramePost.exists_exact h.1 c
    exact ⟨(hA 5).trans (final5 (H c) hL), kernel_args h.1 c⟩) (run_main m ρ)

theorem pre_facts : Cert.Pre_att_finite.Facts := ⟨by decide, by decide⟩

/-- Under the precondition, every device's arguments hold real numbers. -/
theorem args_of_pre {m : (ℓ : Loc nD τ sig) → Buf (Elt Ideal) ℓ} (hm : Cert.Pre_Kernel5Ideal_att_finite (hPre_att_finite := pre_facts) m) (c : Dev nD) :
    Args m c (reals (m := 4096) (n := 6144) (m ((c.tc : Thread nD τ).loc main_arg0))) (reals (m := 1) (n := 128) (m ((c.tc : Thread nD τ).loc main_arg1)) 0)
      (reals (m := 1) (n := 128) (m ((c.tc : Thread nD τ).loc main_arg2)) 0) where
  x := reals_is (hm c).1
  g := reals_row (reals_is (hm c).2.1)
  k := reals_row (reals_is (hm c).2.2)

/-- On finite arguments the call and the reference leave the same array. -/
theorem results : Cert.algebraic_Kernel5Ideal_Reference5Ideal_pre_att_finite (hPre_att_finite := pre_facts) := fun m g m' g' hm he =>
  have H := args_of_pre hm
  ⟨_, kernel_value g H, (θ_run Cert.Reference5Ideal.defs _ _).mono (fun r h c => by
    obtain ⟨h0, h1⟩ := h c
    obtain ⟨e0, e1, e2⟩ := he c
    refine ⟨h0.trans ((Cert.Reference5Ideal.Read.val_main_v53_eq m' c).trans (Cert.ReferenceIdeal.Attn.Is.eq (Cert.Reference5Ideal.Fwd.out_is ?_ ?_ ?_))), h1⟩
    · exact fun a b => (congrFun e0 (ix2 a b)).trans ((H c).x a b)
    · exact fun a b => (congrFun e1 (ix2 a b)).trans ((H c).g a b)
    · exact fun a b => (congrFun e2 (ix2 a b)).trans ((H c).k a b)) (Cert.Reference5Ideal.Value.run m' g')⟩

end Cert.Kernel5Ideal.Fwd
-- ==== Proof.MixValue.lean ====
/- The forward gating and normalisation: what one tile computes, and what the call leaves in its array. -/
module

public import proofs.«01_k».proof.Proof.RowExt
public import proofs.«01_k».proof.Proof.Gen.Kernel6Ideal.Value
public import Idealize.ShloMosaic.Lib.Pipeline.ValueKit

@[expose] public section

set_option maxRecDepth 16384
set_option maxHeartbeats 400000

noncomputable section

namespace Cert.Mix

open Idealize.ShloMosaic Idealize.ShloMosaic.TcCoe
open Cert.KernelIdeal.Attn (eps eps_pos lit_eps)
open Cert.RowExt

/-! ## The mathematics -/

theorem lit_1024 : Ideal.ofBits .f32 0x44800000#32 = ((1024 : ℝ) : EReal) := by simp [Ideal.ofBits, Ideal.ieee, -EReal.coe_mul]; norm_num
theorem lit_512 : Ideal.ofBits .f32 0x44000000#32 = ((512 : ℝ) : EReal) := by simp [Ideal.ofBits, Ideal.ieee, -EReal.coe_mul]; norm_num

/-- The reciprocal root of the mean square of the `n` elements of row `i` from column `o` on. -/
def scale (n o : ℕ) (x : ℕ → ℕ → EReal) (i : ℕ) : EReal := Ideal.rsqrt (Ideal.div (∑ e : Fin n, x i (o + e.val) * x i (o + e.val)) ((n : ℝ) : EReal) + (eps : EReal))

/-- The elements `y` gated by `z`. -/
def gated (y z : ℕ → ℕ → EReal) (i d : ℕ) : EReal := y i d * (z i d * Ideal.div 1 (1 + Ideal.exp (-z i d)))

/-- Two halves side by side: `x` normalised over its 1024 columns with gain `g`, and the gated `y` normalised over each half of its 1024 columns with gain `h`. -/
def mixed (x y z : ℕ → ℕ → EReal) (g h : ℕ → EReal) (i d : ℕ) : EReal :=
  if d < 1024 then x i d * scale 1024 0 x i * g d
  else if d < 1536 then gated y z i (d - 1024) * scale 512 0 (gated y z) i * h (d - 1024)
  else gated y z i (d - 1024) * scale 512 512 (gated y z) i * h (d - 1024)

end Cert.Mix

namespace Cert.Kernel6Ideal.Mix

open Idealize.ShloMosaic Idealize.ShloMosaic.TcCoe Idealize.SL.Sem
open Cert.KernelIdeal.Attn (lit_eps)
open Cert.Kernel6Ideal Cert.Kernel6Ideal.Gen Cert.RowExt Cert.Mix

/-! ## One tile -/

section
variable {x y z : FVec Ideal S256x1024 .f32} {g h : FVec Ideal S1x1024 .f32} {k : FVec Ideal S1x512 .f32} {f v w : ℕ → ℕ → EReal} {γ κ : ℕ → EReal}

theorem pay3_is (hx : Holds x f) (hg : Holds g fun _ => γ) : Holds (k0_pay3 x g) fun i d => f i d * scale 1024 0 f i * γ d := by
  intro a c
  pointwise [k0_pay3]
  simp only [hx _ _, hg _ _, lit_1024, lit_eps, scale, Nat.zero_add, Nat.cast_ofNat]

theorem pay4_is (hy : Holds y v) (hz : Holds z w) : Holds (k0_pay4 z y) (gated v w) := by
  intro a c
  pointwise [k0_pay4]
  simp only [hy _ _, hz _ _, gated, zero_sub]

theorem pay5_is (hy : Holds y v) (hz : Holds z w) (hk : Holds k fun _ => κ) : Holds (k0_pay1 (k0_pay5 z y) k) fun i d => gated v w i d * scale 512 0 (gated v w) i * κ d := by
  intro a c
  pointwise [k0_pay1, k0_pay5]
  simp only [pay4_is hy hz _ _, hk _ _, lit_512, lit_eps, scale, Nat.zero_add, Nat.cast_ofNat]

theorem pay2_is {u : FVec Ideal S256x1024 .f32} (hu : Holds u v) (hk : Holds k fun _ => κ) : Holds (k0_pay2 u k) fun i d => v i (512 + d) * scale 512 512 v i * κ d := by
  intro a c
  pointwise [k0_pay2]
  simp only [hu _ _, hk _ _, lit_512, lit_eps, scale, Nat.cast_ofNat]

end

/-! ## The call -/

/-- A load of a rectangle of a whole buffer reads the elements from the rectangle's corner on. -/
theorem part_is {M N m n o₁ : ℕ} {r : Memref sig .tc .vmem ⟨2, ![M, N]⟩ .f32} (hr : r.IsWhole) {x : FVec Ideal ⟨2, ![M, N]⟩ .f32} {f : ℕ → ℕ → EReal} (hx : Holds x f)
    (inb : ∀ a, (![0, o₁] : Fin 2 → ℕ) a + (![m, n] : Fin 2 → ℕ) a ≤ (⟨2, ![M, N]⟩ : Shape).size a) :
    Holds (m := m) (n := n) (φ := .f32) (View.readAt (Elt Ideal) r.view (Rect.unit (s := ⟨2, ![M, N]⟩) ![0, o₁] ![m, n] inb).toLoadRect (hr.unread x)) fun i d => f i (o₁ + d) := by
  intro a d
  refine (congrFun (hr.read_unread (Val := Elt Ideal) x) _).trans ((hx.at _).trans ?_)
  refine congrArg₂ f ?_ ?_
  · show 0 + 1 * a.val = a.val
    omega
  · show o₁ + 1 * d.val = o₁ + d.val
    omega

/-- A load of a whole buffer. -/
theorem whole_is {M N : ℕ} {r : Memref sig .tc .vmem ⟨2, ![M, N]⟩ .f32} (hr : r.IsWhole) {x : FVec Ideal ⟨2, ![M, N]⟩ .f32} {f : ℕ → ℕ → EReal} (hx : Holds x f)
    (inb : ∀ a, (![0, 0] : Fin 2 → ℕ) a + (![M, N] : Fin 2 → ℕ) a ≤ (⟨2, ![M, N]⟩ : Shape).size a) :
    Holds (m := M) (n := N) (φ := .f32) (View.readAt (Elt Ideal) r.view (Rect.unit (s := ⟨2, ![M, N]⟩) ![0, 0] ![M, N] inb).toLoadRect (hr.unread x)) f := by
  have h := part_is hr hx inb
  simp only [Nat.zero_add] at h
  exact h

section
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 3] ∧ win0_3.index t = ![0, 0] ∧ win0_4.index t = ![0, 0]
    ∧ win0_5.index t = ![t.val, 0] ∧ t.val < 16 := (by decide +kernel : ∀ t : Fin grid0.N, _)

variable {m c} {f v w : ℕ → ℕ → EReal} {γ κ : ℕ → EReal}
variable (hx : Holds (m := 4096) (n := 1024) (φ := .f32) (m ((c.tc : Thread nD τ).loc main_arg0)) f) (hy : Holds (m := 4096) (n := 1024) (φ := .f32) (m ((c.tc : Thread nD τ).loc main_arg1)) v)
  (hz : Holds (m := 4096) (n := 6144) (φ := .f32) (m ((c.tc : Thread nD τ).loc main_arg2)) w)
  (hg : Holds (m := 1) (n := 1024) (φ := .f32) (m ((c.tc : Thread nD τ).loc main_arg3)) fun _ => γ) (hh : Holds (m := 1) (n := 1024) (φ := .f32) (m ((c.tc : Thread nD τ).loc main_arg4)) fun _ => κ)

theorem blk0 (hx : Holds (m := 4096) (n := 1024) (φ := .f32) (m ((c.tc : Thread nD τ).loc main_arg0)) f) (t : Fin cfg0.N) :
    Holds (m := 256) (n := 1024) (φ := .f32) (iblk m c 0 t) (below (t.val * 256) f) := fun r d => by
  have ht := (idx t).2.2.2.2.2.2
  refine Eq.trans ?_ (hx ⟨t.val * 256 + r.val, by omega⟩ d)
  blk_ext [iblk, idx t]

theorem blk1 (hy : Holds (m := 4096) (n := 1024) (φ := .f32) (m ((c.tc : Thread nD τ).loc main_arg1)) v) (t : Fin cfg0.N) :
    Holds (m := 256) (n := 1024) (φ := .f32) (iblk m c 1 t) (below (t.val * 256) v) := fun r d => by
  have ht := (idx t).2.2.2.2.2.2
  refine Eq.trans ?_ (hy ⟨t.val * 256 + r.val, by omega⟩ d)
  blk_ext [iblk, idx t]

theorem blk2 (hz : Holds (m := 4096) (n := 6144) (φ := .f32) (m ((c.tc : Thread nD τ).loc main_arg2)) w) (t : Fin cfg0.N) :
    Holds (m := 256) (n := 1024) (φ := .f32) (iblk m c 2 t) (below (t.val * 256) fun i d => w i (3072 + d)) := fun r d => by
  have ht := (idx t).2.2.2.2.2.2
  refine Eq.trans ?_ (hz ⟨t.val * 256 + r.val, by omega⟩ ⟨3072 + d.val, by omega⟩)
  blk_ext [iblk, idx t]

theorem blk3 (hg : Holds (m := 1) (n := 1024) (φ := .f32) (m ((c.tc : Thread nD τ).loc main_arg3)) fun _ => γ) (t : Fin cfg0.N) :
    Holds (m := 1) (n := 1024) (φ := .f32) (iblk m c 3 t) fun _ => γ := fun r d => by
  refine Eq.trans ?_ (hg r d)
  blk_ext [iblk, idx t]

theorem blk4 (hh : Holds (m := 1) (n := 1024) (φ := .f32) (m ((c.tc : Thread nD τ).loc main_arg4)) fun _ => κ) (t : Fin cfg0.N) :
    Holds (m := 1) (n := 1024) (φ := .f32) (iblk m c 4 t) fun _ => κ := fun r d => by
  refine Eq.trans ?_ (hh r d)
  blk_ext [iblk, idx t]

include hx hy hz hg hh

theorem tile (t : Fin cfg0.N) : Holds (m := 256) (n := 2048) (φ := .bf16) (outsAt0 m c t) (mixed (below (t.val * 256) f) (below (t.val * 256) v) (below (t.val * 256) fun i d => w i (3072 + d)) γ κ) := by
  intro r d
  refine View.read_writes_apply_of_pieces (Val := Elt Ideal) VO0_5 _ (mat 256 2048 (mixed (below (t.val * 256) f) (below (t.val * 256) v) (below (t.val * 256) fun i d => w i (3072 + d)) γ κ)) _ ?_
    (ix2 r d) (cover0_A_5 (F := Ideal) c (grid0.coords t) _ _ _ _ _ _ _ _ _ _ _ _ _ _ _ _ _ _)
  refine List.forall_mem_cons.mpr ⟨?_, List.forall_mem_cons.mpr ⟨?_, List.forall_mem_cons.mpr ⟨?_, fun p hp => absurd hp List.not_mem_nil⟩⟩⟩
  · intro y
    refine ((pay2_is (pay4_is (whole_is _ (blk1 hy t) _) (whole_is _ (blk2 hz t) _)) (part_is _ (blk4 hh t) _)).at y).trans ?_
    have hd : (y 1).val < 512 := (y 1).isLt
    show _ = mixed _ _ _ _ _ (0 + 1 * (y 0).val) (1536 + 1 * (y 1).val)
    rw [Nat.zero_add, Nat.one_mul, Nat.one_mul]
    unfold mixed
    rw [if_neg (by omega), if_neg (by omega), show 1536 + (y 1).val - 1024 = 512 + (y 1).val by omega]
  · intro y
    refine ((pay5_is (whole_is _ (blk1 hy t) _) (whole_is _ (blk2 hz t) _) (part_is _ (blk4 hh t) _)).at y).trans ?_
    have hd : (y 1).val < 512 := (y 1).isLt
    show _ = mixed _ _ _ _ _ (0 + 1 * (y 0).val) (1024 + 1 * (y 1).val)
    rw [Nat.zero_add, Nat.one_mul, Nat.one_mul]
    unfold mixed
    rw [if_neg (by omega), if_pos (by omega), Nat.add_sub_cancel_left]
    simp only [Nat.zero_add]
  · intro y
    refine ((pay3_is (whole_is _ (blk0 hx t) _) (whole_is _ (blk3 hg t) _)).at y).trans ?_
    have hd : (y 1).val < 1024 := (y 1).isLt
    show _ = mixed _ _ _ _ _ (0 + 1 * (y 0).val) (0 + 1 * (y 1).val)
    rw [Nat.zero_add, Nat.one_mul, Nat.zero_add, Nat.one_mul]
    unfold mixed
    rw [if_pos hd]

theorem arr5 : (dats m 0 c).arrAt 5 cfg0.N = mat 4096 2048 (mixed f v (fun i d => w i (3072 + d)) γ κ) := by
  refine Pipeline.Dat.arrAt_eq_of_covers _ 5 _ (by decide +kernel) fun t _ y => ?_
  blk_simp
  rw [after0_5, (tile hx hy hz hg hh t).at y]
  unfold mat
  blk_simp [idx t]
  rfl

end

end Cert.Kernel6Ideal.Mix
-- ==== Proof.MixReference.lean ====
/- The reference's gating and normalisation, read on extended reals. -/
module

public import proofs.«01_k».proof.Proof.MixValue
public import proofs.«01_k».proof.Proof.RefOut
public import proofs.«01_k».proof.Proof.Gen.Reference6Ideal.Read

@[expose] public section

set_option maxRecDepth 16384
set_option maxHeartbeats 400000

noncomputable section

namespace Cert.Reference6Ideal.Mix

open Idealize.ShloMosaic Idealize.ShloMosaic.TcCoe Idealize.ShloMosaic.StableHlo
open Cert.KernelIdeal.Attn (lit_eps)
open Cert.Reference6Ideal Cert.Reference6Ideal.Gen Cert.Reference6Ideal.Read Cert.RowExt Cert.Mix

variable {x y : FVec Ideal S4096x1024 .f32} {z : FVec Ideal S4096x6144 .f32} {g h : FVec Ideal S1x1024 .f32} {f v w : ℕ → ℕ → EReal} {γ κ : ℕ → EReal}

theorem att_is (hx : Holds x f) (hg : Holds g fun _ => γ) : Holds (m := 4096) (n := 1024) (φ := .f32) (val_main_v14 (F := Ideal) x g) fun i d => f i d * scale 1024 0 f i * γ d := by
  intro a c
  unfold val_main_v14 val_main_v11 val_main_v10 val_main_v9 val_main_v8 val_main_v6 val_main_v4 val_main_v3 val_main_v2 val_main_v13 val_main_v12 val_main_v1
  clean_types
  pointwise [val_main_v5, val_main_v7, val_main_cst, val_main_cst_0, val_main_cst_1]
  simp only [hx _ _, hg _ _, lit_1024, lit_eps, scale, Nat.zero_add, Nat.cast_ofNat]

theorem gated_is (hy : Holds y v) (hz : Holds z w) : Holds (m := 4096) (n := 1024) (φ := .f32) (val_main_v16 (F := Ideal) y z) (gated v fun i d => w i (3072 + d)) := by
  intro a c
  unfold val_main_v16 val_main_v15 val_main_call0_v5 val_main_call0_v3 val_main_call0_v1 val_main_call0_v0 val_main_v0
  clean_types
  pointwise [val_main_call0_v4, val_main_call0_v2, val_main_call0_cst, val_main_call0_cst_0]
  simp only [hy _ _, hz _ _, gated]

/-- Group `p` of a row's gated elements. -/
theorem group_is (hy : Holds y v) (hz : Holds z w) (a : Fin 4096) (p : Fin 2) (e : Fin 512) :
    val_main_v17 (F := Ideal) y z (ix3 a p e) = gated v (fun i d => w i (3072 + d)) a.val (512 * p.val + e.val) := by
  rw [val_main_v17_apply, (gated_is hy hz).at]
  have h0 := a.isLt; have h1 := p.isLt; have h2 := e.isLt
  refine congrArg₂ (gated v fun i d => w i (3072 + d)) ?_ ?_
  · show ((a.val * 2 + p.val) * 512 + e.val) / 1024 = a.val
    omega
  · show ((a.val * 2 + p.val) * 512 + e.val) % 1024 = 512 * p.val + e.val
    omega

theorem ssm_is (hy : Holds y v) (hz : Holds z w) (hh : Holds h fun _ => κ) : Holds (m := 4096) (n := 1024) (φ := .f32) (val_main_v32 (F := Ideal) y z h)
    fun i d => gated v (fun i d => w i (3072 + d)) i d * scale 512 (512 * (d / 512)) (gated v fun i d => w i (3072 + d)) i * κ d := by
  intro a c
  unfold val_main_v32 val_main_v28 val_main_v27 val_main_v26 val_main_v25 val_main_v24 val_main_v22 val_main_v20 val_main_v19 val_main_v18 val_main_v31 val_main_v30 val_main_v29
  clean_types
  pointwise [val_main_v21, val_main_v23, val_main_cst_2, val_main_cst_3, val_main_cst_4]
  simp only [group_is hy hz _ _ _, hh _ _, lit_512, lit_eps, scale, Nat.cast_ofNat]
  rw [Nat.div_add_mod]

theorem mixed_is (hx : Holds x f) (hy : Holds y v) (hz : Holds z w) (hg : Holds g fun _ => γ) (hh : Holds h fun _ => κ) :
    val_main_v34 (F := Ideal) x y z g h = mat 4096 2048 (mixed f v (fun i d => w i (3072 + d)) γ κ) := by
  refine Holds.eq_mat (φ := .bf16) fun a c => ?_
  unfold val_main_v34 val_main_v33
  clean_types
  pointwise
  unfold mixed
  have hc := c.isLt
  by_cases h : c.val < 1024
  · rw [dif_pos h, if_pos h]
    exact att_is hx hg a _
  · rw [dif_neg h, if_neg h]
    refine (ssm_is hy hz hh a ⟨c.val - 1024, by omega⟩).trans ?_
    show gated _ _ _ _ * scale 512 (512 * ((c.val - 1024) / 512)) _ _ * _ = _
    by_cases h5 : c.val < 1536
    · rw [if_pos h5, show 512 * ((c.val - 1024) / 512) = 0 by omega]
    · rw [if_neg h5, show 512 * ((c.val - 1024) / 512) = 512 by omega]

end Cert.Reference6Ideal.Mix
-- ==== Proof.MixResult.lean ====
/- The forward gating and normalisation against its reference: the same array, whatever the arguments hold. -/
module

public import proofs.«01_k».proof.Defs
public import proofs.«01_k».proof.Proof.MixReference
public import proofs.«01_k».proof.Proof.Gen.Kernel6Ideal
public import proofs.«01_k».proof.Proof.Gen.Reference6Ideal.Run

@[expose] public section

set_option maxRecDepth 16384
set_option maxHeartbeats 400000

noncomputable section

namespace Cert.Kernel6Ideal.Mix

open Idealize.ShloMosaic Idealize.ShloMosaic.TcCoe Idealize.SL.Sem
open Cert.RowExt Cert.Mix
open Cert.Reference6Ideal.Mix (mixed_is)

/-- Call and reference leave the same array. -/
theorem results : Cert.algebraic_Kernel6Ideal_Reference6Ideal := fun m g m' g' _ he => by
  refine ⟨fun c => (Cert.Kernel6Ideal.Gen.dats m 0 c).arrAt 5 Cert.Kernel6Ideal.cfg0.N, Cert.Kernel6Ideal.Value.run_blocks m g,
    (θ_run Cert.Reference6Ideal.defs _ _).mono (fun _ h c => ?_) (Cert.Reference6Ideal.Value.run m' g')⟩
  obtain ⟨h0, hr⟩ := h c
  obtain ⟨e0, e1, e2, e3, e4⟩ := he c
  have hx := holds_elems (m := 4096) (n := 1024) (φ := .f32) (x := m ((c.tc : Thread nD τ).loc main_arg0))
  have hy := holds_elems (m := 4096) (n := 1024) (φ := .f32) (x := m ((c.tc : Thread nD τ).loc main_arg1))
  have hz := holds_elems (m := 4096) (n := 6144) (φ := .f32) (x := m ((c.tc : Thread nD τ).loc main_arg2))
  have hg := holds_row (n := 1024) (φ := .f32) (x := m ((c.tc : Thread nD τ).loc main_arg3))
  have hh := holds_row (n := 1024) (φ := .f32) (x := m ((c.tc : Thread nD τ).loc main_arg4))
  exact ⟨h0.trans ((Cert.Reference6Ideal.Read.val_main_v34_eq ..).trans ((mixed_is (hx.of_eq e0) (hy.of_eq e1) (hz.of_eq e2) (hg.of_eq e3) (hh.of_eq e4)).trans
    (arr5 hx hy hz hg hh).symm)), hr⟩

end Cert.Kernel6Ideal.Mix
-- ==== Proof.GateMath.lean ====
/- The gradient of the gating and normalisation on real numbers, and what one tile of the backward call computes. -/
module

public import proofs.«01_k».proof.Proof.MlpMath
public import proofs.«01_k».proof.Proof.MixValue
public import proofs.«01_k».proof.Proof.Gen.Kernel7Ideal.Skeleton

@[expose] public section

set_option maxRecDepth 16384
set_option maxHeartbeats 400000

noncomputable section

namespace Cert.Gate

open Idealize.ShloMosaic Idealize.ShloMosaic.TcCoe
open Cert.KernelIdeal.Attn (Is coe_sum eps eps_pos lit_eps rsqrt_pos zero_sub_coe one_add_coe)
open Cert.Mix (lit_1024 lit_512)
open Cert.Mlp (squash one_div_coe one_add_exp one_sub_coe)

/-! ## On real numbers -/

/-- The mean square of the `n` elements of row `i` from column `o` on, its reciprocal root, and an element of the row scaled by it. -/
def msq (n o : ℕ) (x : ℕ → ℕ → ℝ) (i : ℕ) : ℝ := (∑ e : Fin n, x i (o + e.val) * x i (o + e.val)) / n + eps
def rt (n o : ℕ) (x : ℕ → ℕ → ℝ) (i : ℕ) : ℝ := (Real.sqrt (msq n o x i))⁻¹
def unit (n o : ℕ) (x : ℕ → ℕ → ℝ) (i d : ℕ) : ℝ := x i d * rt n o x i

/-- The gradient of the row, and of the gain over `N` rows, from the gradient `y` of the output. -/
def rowGrad (n o : ℕ) (x y : ℕ → ℕ → ℝ) (γ : ℕ → ℝ) (i d : ℕ) : ℝ :=
  rt n o x i * (y i d * γ d - unit n o x i d * ((∑ e : Fin n, y i (o + e.val) * γ (o + e.val) * unit n o x i (o + e.val)) / n))
def colGrad (N n o : ℕ) (x y : ℕ → ℕ → ℝ) (d : ℕ) : ℝ := ∑ i : Fin N, y i.val d * unit n o x i.val d

/-- The elements `y` gated by `z`. -/
def gated (y z : ℕ → ℕ → ℝ) (i d : ℕ) : ℝ := y i d * (z i d * squash (z i d))

/-- The first column of the group of 512 that column `d` lies in. -/
def first (d : ℕ) : ℕ := 512 * (d / 512)

/-- The right half of the gradient of the output. -/
def right (D : ℕ → ℕ → ℝ) (i d : ℕ) : ℝ := D i (1024 + d)

/-- The gradient of the gated elements, of the elements, and of what gates them. -/
def dgated (v w D : ℕ → ℕ → ℝ) (κ : ℕ → ℝ) (i d : ℕ) : ℝ := rowGrad 512 (first d) (gated v w) (right D) κ i d
def dvalue (v w D : ℕ → ℕ → ℝ) (κ : ℕ → ℝ) (i d : ℕ) : ℝ := dgated v w D κ i d * (w i d * squash (w i d))
def dgate (v w D : ℕ → ℕ → ℝ) (κ : ℕ → ℝ) (i d : ℕ) : ℝ := dgated v w D κ i d * v i d * (squash (w i d) * (1 + w i d * (1 - squash (w i d))))
def dgain (N : ℕ) (v w D : ℕ → ℕ → ℝ) (d : ℕ) : ℝ := colGrad N 512 (first d) (gated v w) (right D) d

theorem msq_pos (n o : ℕ) (x : ℕ → ℕ → ℝ) (i : ℕ) : 0 < msq n o x i := by
  have : 0 ≤ ∑ e : Fin n, x i (o + e.val) * x i (o + e.val) := Finset.sum_nonneg fun d _ => mul_self_nonneg _
  have := eps_pos
  unfold msq
  positivity

theorem rsqrt_msq (n o : ℕ) (x : ℕ → ℕ → ℝ) (i : ℕ) : Ideal.rsqrt ((msq n o x i : ℝ) : EReal) = ((rt n o x i : ℝ) : EReal) := rsqrt_pos (msq_pos n o x i)

theorem rt_sq (n o : ℕ) (x : ℕ → ℕ → ℝ) (i : ℕ) : rt n o x i * rt n o x i = (msq n o x i)⁻¹ := by
  unfold rt
  rw [← mul_inv, Real.mul_self_sqrt (msq_pos n o x i).le]

/-- The two ways of writing the gradient of a row agree. -/
theorem rowGrad_eq (n o : ℕ) (x y : ℕ → ℕ → ℝ) (γ : ℕ → ℝ) (i d : ℕ) :
    y i d * γ d * rt n o x i + x i d * ((∑ e : Fin n, x i (o + e.val) * (y i (o + e.val) * γ (o + e.val))) * (-1 / 2 * (rt n o x i / msq n o x i)) / n)
      + (∑ e : Fin n, x i (o + e.val) * (y i (o + e.val) * γ (o + e.val))) * (-1 / 2 * (rt n o x i / msq n o x i)) / n * x i d = rowGrad n o x y γ i d := by
  have hs : ∑ e : Fin n, y i (o + e.val) * γ (o + e.val) * unit n o x i (o + e.val) = (∑ e : Fin n, x i (o + e.val) * (y i (o + e.val) * γ (o + e.val))) * rt n o x i := by
    rw [Finset.sum_mul]
    exact Finset.sum_congr rfl fun e _ => by unfold unit; ring
  unfold rowGrad
  rw [hs, div_eq_mul_inv (rt n o x i) (msq n o x i), ← rt_sq]
  unfold unit
  ring

/-- The rows from row `k` on. -/
abbrev low (k : ℕ) (x : ℕ → ℕ → ℝ) : ℕ → ℕ → ℝ := Cert.RowNorm.low k x

/-- The gradient of a gain, gathered tile after tile, is the gradient over all rows. -/
theorem colGrad_tiles (k n o : ℕ) (x y : ℕ → ℕ → ℝ) (d : ℕ) : ∑ s ∈ Finset.range k, colGrad 256 n o (low (s * 256) x) (low (s * 256) y) d = colGrad (k * 256) n o x y d := by
  unfold colGrad
  rw [Fin.sum_univ_eq_sum_range (fun i => y i d * unit n o x i d)]
  induction k with
  | zero => rw [Nat.zero_mul]; rfl
  | succ k ih =>
    rw [Finset.sum_range_succ, ih, Nat.succ_mul, Finset.sum_range_add]
    exact congrArg _ (Fin.sum_univ_eq_sum_range (fun i => y (k * 256 + i) d * unit n o x (k * 256 + i) d) 256)

theorem div_512 (x : ℝ) : Ideal.div (x : EReal) ((512 : ℝ) : EReal) = ((x / 512 : ℝ) : EReal) := by rw [Ideal.div_coe (by norm_num), ← EReal.coe_mul, mul_one_div]
theorem div_1024 (x : ℝ) : Ideal.div (x : EReal) ((1024 : ℝ) : EReal) = ((x / 1024 : ℝ) : EReal) := by rw [Ideal.div_coe (by norm_num), ← EReal.coe_mul, mul_one_div]

/-! ## One tile -/

open Cert.Kernel7Ideal Cert.Kernel7Ideal.Gen

section left
variable {x y : FVec Ideal S256x1024 .f32} {g a : FVec Ideal S1x1024 .f32} {f w : ℕ → ℕ → ℝ} {γ : ℕ → ℝ} {α : ℕ → ℕ → ℝ}

theorem pay6_is (hx : Is x f) : Is (k0_pay6 x) fun i _ => rt 1024 0 f i := by
  intro a c
  pointwise [k0_pay6]
  simp only [← rsqrt_msq, msq, hx _ _, ← EReal.coe_mul, coe_sum, lit_1024, lit_eps, div_1024, ← EReal.coe_add, Nat.zero_add, Nat.cast_ofNat]

theorem pay7_is (hx : Is x f) : Is (k0_pay7 x) (unit 1024 0 f) := by
  intro a c
  pointwise [k0_pay7]
  simp only [hx _ _, pay6_is hx _ _, ← EReal.coe_mul, unit]

theorem pay8_is (hx : Is x f) (hy : Is y w) (ha : Is a α) : Is (k0_pay8 x y a) fun i d => α i d + colGrad 256 1024 0 f w d := by
  intro i c
  obtain rfl : i = 0 := Subsingleton.elim _ _
  pointwise [k0_pay8]
  simp only [pay7_is hx _ _, hy _ _, ha _ _, ← EReal.coe_mul, coe_sum, ← EReal.coe_add, colGrad]
  rfl

theorem pay9_is (hx : Is x f) (hy : Is y w) (hg : Is g fun _ => γ) : Is (k0_pay9 x y g) (rowGrad 1024 0 f w γ) := by
  intro a c
  pointwise [k0_pay9]
  simp only [pay6_is hx _ _, pay7_is hx _ _, hy _ _, hg _ _, ← EReal.coe_mul, coe_sum, lit_1024, div_1024, ← EReal.coe_sub, rowGrad, Nat.zero_add, Nat.cast_ofNat]

theorem pay4_is : Is (k0_pay4 (F := Ideal)) fun _ _ => 0 := by
  intro a c
  pointwise [k0_pay4]
  exact EReal.coe_zero.symm

theorem pay5_is : Is (k0_pay5 (F := Ideal)) fun _ _ => 0 := pay4_is

end left

section right
variable {z y : FVec Ideal S256x1024 .f32} {w v : ℕ → ℕ → ℝ}

theorem pay10_is (hz : Is z w) : Is (k0_pay10 z) fun i d => squash (w i d) := by
  intro a c
  pointwise [k0_pay10]
  simp only [hz _ _, zero_sub_coe, Ideal.exp_coe, one_add_coe, one_div_coe (one_add_exp _), squash]

theorem pay11_is (hz : Is z w) : Is (k0_pay11 z) fun i d => w i d * squash (w i d) := by
  intro a c
  pointwise [k0_pay11]
  simp only [hz _ _, pay10_is hz _ _, ← EReal.coe_mul]

theorem pay12_is (hz : Is z w) (hy : Is y v) : Is (k0_pay12 z y) (gated v w) := by
  intro a c
  pointwise [k0_pay12]
  simp only [hy _ _, pay11_is hz _ _, ← EReal.coe_mul, gated]

/-! The first group of columns. -/

theorem pay13_is (hz : Is z w) (hy : Is y v) : Is (k0_pay13 z y) (gated v w) := by
  intro a c
  pointwise [k0_pay13]
  rw [pay12_is hz hy _ _]

theorem pay14_is (hz : Is z w) (hy : Is y v) : Is (k0_pay14 z y) fun i _ => rt 512 0 (gated v w) i := by
  intro a c
  pointwise [k0_pay14]
  simp only [← rsqrt_msq, msq, pay13_is hz hy _ _, ← EReal.coe_mul, coe_sum, lit_512, lit_eps, div_512, ← EReal.coe_add, Nat.zero_add, Nat.cast_ofNat]

theorem pay15_is (hz : Is z w) (hy : Is y v) : Is (k0_pay15 z y) (unit 512 0 (gated v w)) := by
  intro a c
  pointwise [k0_pay15]
  simp only [pay13_is hz hy _ _, pay14_is hz hy _ _, ← EReal.coe_mul, unit]

variable {d : FVec Ideal S256x512 .f32} {k a : FVec Ideal S1x512 .f32} {δ α : ℕ → ℕ → ℝ} {κ : ℕ → ℝ}

theorem pay16_is (hz : Is z w) (hy : Is y v) (hd : Is d δ) (ha : Is a α) : Is (k0_pay16 z y d a) fun i j => α i j + colGrad 256 512 0 (gated v w) δ j := by
  intro i c
  obtain rfl : i = 0 := Subsingleton.elim _ _
  pointwise [k0_pay16]
  simp only [pay15_is hz hy _ _, hd _ _, ha _ _, ← EReal.coe_mul, coe_sum, ← EReal.coe_add, colGrad]
  rfl

theorem pay17_is (hd : Is d δ) (hk : Is k fun _ => κ) : Is (k0_pay17 d k) fun i j => δ i j * κ j := by
  intro a c
  pointwise [k0_pay17]
  simp only [hd _ _, hk _ _, ← EReal.coe_mul]

theorem pay18_is (hz : Is z w) (hy : Is y v) (hd : Is d δ) (hk : Is k fun _ => κ) :
    Is (k0_pay18 z y d k) fun i _ => (∑ e : Fin 512, δ i e * κ e * unit 512 0 (gated v w) i e) / 512 := by
  intro a c
  pointwise [k0_pay18]
  simp only [pay17_is hd hk _ _, pay15_is hz hy _ _, ← EReal.coe_mul, coe_sum, lit_512, div_512]

theorem pay19_is (hz : Is z w) (hy : Is y v) (hd : Is d δ) (hk : Is k fun _ => κ) :
    Is (k0_pay19 (k0_pay14 z y) (k0_pay15 z y) (k0_pay17 d k) (k0_pay18 z y d k)) (rowGrad 512 0 (gated v w) δ κ) := by
  intro a c
  pointwise [k0_pay19]
  simp only [pay14_is hz hy _ _, pay15_is hz hy _ _, pay17_is hd hk _ _, pay18_is hz hy hd hk _ _, ← EReal.coe_mul, ← EReal.coe_sub, rowGrad, Nat.zero_add, Nat.cast_ofNat]

theorem pay20_is (hz : Is z w) (hy : Is y v) (hd : Is d δ) (hk : Is k fun _ => κ) :
    Is (k0_pay20 (k0_pay11 z) (k0_pay14 z y) (k0_pay15 z y) (k0_pay17 d k) (k0_pay18 z y d k)) fun i j => rowGrad 512 0 (gated v w) δ κ i j * (w i j * squash (w i j)) := by
  intro a c
  pointwise [k0_pay20]
  simp only [pay19_is hz hy hd hk _ _, pay11_is hz _ _, ← EReal.coe_mul]

theorem pay21_is (hz : Is z w) (hy : Is y v) (hd : Is d δ) (hk : Is k fun _ => κ) :
    Is (k0_pay21 z y (k0_pay10 z) (k0_pay14 z y) (k0_pay15 z y) (k0_pay17 d k) (k0_pay18 z y d k))
      fun i j => rowGrad 512 0 (gated v w) δ κ i j * v i j * (squash (w i j) * (1 + w i j * (1 - squash (w i j)))) := by
  intro a c
  pointwise [k0_pay21]
  simp only [pay19_is hz hy hd hk _ _, pay10_is hz _ _, hy _ _, hz _ _, one_sub_coe, ← EReal.coe_mul, one_add_coe]

/-! The second group of columns. -/

variable {u : FVec Ideal S256x1024 .f32} {f : ℕ → ℕ → ℝ}

theorem pay22_is (hu : Is u f) : Is (k0_pay22 u) fun i j => f i (512 + j) := by
  intro a c
  pointwise [k0_pay22]
  rw [hu _ _]

theorem pay23_is (hu : Is u f) : Is (k0_pay23 u) fun i _ => rt 512 512 f i := by
  intro a c
  pointwise [k0_pay23]
  simp only [← rsqrt_msq, msq, pay22_is hu _ _, ← EReal.coe_mul, coe_sum, lit_512, lit_eps, div_512, ← EReal.coe_add, Nat.cast_ofNat]

theorem pay24_is (hu : Is u f) : Is (k0_pay24 u) fun i j => unit 512 512 f i (512 + j) := by
  intro a c
  pointwise [k0_pay24]
  simp only [pay22_is hu _ _, pay23_is hu _ _, ← EReal.coe_mul, unit]

theorem pay25_is (hu : Is u f) (hd : Is d fun i j => δ i (512 + j)) (ha : Is a α) : Is (k0_pay25 u d a) fun i j => α i j + colGrad 256 512 512 f δ (512 + j) := by
  intro i c
  obtain rfl : i = 0 := Subsingleton.elim _ _
  pointwise [k0_pay25]
  simp only [pay24_is hu _ _, hd _ _, ha _ _, ← EReal.coe_mul, coe_sum, ← EReal.coe_add, colGrad]
  rfl

theorem pay1_is (hu : Is u f) (hd : Is d fun i j => δ i (512 + j)) (hk : Is k fun _ j => κ (512 + j)) :
    Is (k0_pay1 (k0_pay23 u) (k0_pay24 u) d k) fun i j => rowGrad 512 512 f δ κ i (512 + j) := by
  intro a c
  pointwise [k0_pay1]
  simp only [pay23_is hu _ _, pay24_is hu _ _, hd _ _, hk _ _, ← EReal.coe_mul, coe_sum, lit_512, div_512, ← EReal.coe_sub, rowGrad, Nat.cast_ofNat]

theorem pay2_is (hz : Is z w) (hu : Is u f) (hd : Is d fun i j => δ i (512 + j)) (hk : Is k fun _ j => κ (512 + j)) :
    Is (k0_pay2 (k0_pay11 z) (k0_pay23 u) (k0_pay24 u) d k) fun i j => rowGrad 512 512 f δ κ i (512 + j) * (w i (512 + j) * squash (w i (512 + j))) := by
  intro a c
  pointwise [k0_pay2]
  simp only [pay1_is hu hd hk _ _, pay11_is hz _ _, ← EReal.coe_mul]

theorem pay3_is (hz : Is z w) (hy : Is y v) (hu : Is u f) (hd : Is d fun i j => δ i (512 + j)) (hk : Is k fun _ j => κ (512 + j)) :
    Is (k0_pay3 z y (k0_pay10 z) (k0_pay23 u) (k0_pay24 u) d k)
      fun i j => rowGrad 512 512 f δ κ i (512 + j) * v i (512 + j) * (squash (w i (512 + j)) * (1 + w i (512 + j) * (1 - squash (w i (512 + j))))) := by
  intro a c
  pointwise [k0_pay3]
  simp only [pay1_is hu hd hk _ _, pay10_is hz _ _, hy _ _, hz _ _, one_sub_coe, ← EReal.coe_mul, one_add_coe]

end right

end Cert.Gate
-- ==== Proof.GateValue.lean ====
/- The gradient of the gating and normalisation: what the call leaves in its five arrays. -/
module

public import proofs.«01_k».proof.Proof.GateMath
public import proofs.«01_k».proof.Proof.RefOut
public import proofs.«01_k».proof.Proof.Gen.Kernel7Ideal.Value
public import Idealize.ShloMosaic.Lib.Pipeline.ValueKit
public import Idealize.ShloMosaic.Lib.Pipeline.ReadBack

@[expose] public section

set_option maxRecDepth 16384
set_option maxHeartbeats 400000

noncomputable section

namespace Cert.Kernel7Ideal.Gate

open Idealize.ShloMosaic Idealize.ShloMosaic.TcCoe Idealize.SL.Sem
open Cert.KernelIdeal.Attn (Is arr)
open Cert.Kernel7Ideal Cert.Kernel7Ideal.Gen Cert.Gate

/-- A load of a rectangle of a whole buffer reads the elements from the rectangle's corner on. -/
theorem part_is {M N m n o₁ : ℕ} {r : Memref sig .tc .vmem ⟨2, ![M, N]⟩ .f32} (hr : r.IsWhole) {x : FVec Ideal ⟨2, ![M, N]⟩ .f32} {f : ℕ → ℕ → ℝ} (hx : Is x f)
    (inb : ∀ a, (![0, o₁] : Fin 2 → ℕ) a + (![m, n] : Fin 2 → ℕ) a ≤ (⟨2, ![M, N]⟩ : Shape).size a) :
    Is (m := m) (n := n) (φ := .f32) (View.readAt (Elt Ideal) r.view (Rect.unit (s := ⟨2, ![M, N]⟩) ![0, o₁] ![m, n] inb).toLoadRect (hr.unread x)) fun i d => f i (o₁ + d) := by
  intro a d
  refine (congrFun (hr.read_unread (Val := Elt Ideal) x) _).trans ((hx.at _).trans (congrArg (fun r : ℝ => (r : EReal)) ?_))
  refine congrArg₂ f ?_ ?_
  · show 0 + 1 * a.val = a.val
    omega
  · show o₁ + 1 * d.val = o₁ + d.val
    omega

/-- A load from the buffer's first element on. -/
theorem whole_is {M N m n : ℕ} {r : Memref sig .tc .vmem ⟨2, ![M, N]⟩ .f32} (hr : r.IsWhole) {x : FVec Ideal ⟨2, ![M, N]⟩ .f32} {f : ℕ → ℕ → ℝ} (hx : Is x f)
    (inb : ∀ a, (![0, 0] : Fin 2 → ℕ) a + (![m, n] : Fin 2 → ℕ) a ≤ (⟨2, ![M, N]⟩ : Shape).size a) :
    Is (m := m) (n := n) (φ := .f32) (View.readAt (Elt Ideal) r.view (Rect.unit (s := ⟨2, ![M, N]⟩) ![0, 0] ![m, n] inb).toLoadRect (hr.unread x)) f := by
  have h := part_is hr hx inb
  simp only [Nat.zero_add] at h
  exact h

section
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 3] ∧ win0_4.index t = ![0, 0]
    ∧ win0_5.index t = ![0, 0] ∧ win0_6.index t = ![t.val, 0] ∧ win0_7.index t = ![t.val, 0] ∧ win0_8.index t = ![t.val, 0] ∧ t.val < 16 := (by decide +kernel : ∀ t : Fin grid0.N, _)

theorem lt (t : Fin cfg0.N) : t.val < 16 := (idx t).2.2.2.2.2.2.2.2.2

variable {m c} {D f v w : ℕ → ℕ → ℝ} {γ κ : ℕ → ℝ}

theorem blk0 (hD : Is (m := 4096) (n := 2048) (φ := .f32) (m ((c.tc : Thread nD τ).loc main_arg0)) D) (t : Fin cfg0.N) :
    Is (m := 256) (n := 2048) (φ := .f32) (iblk m c 0 t) (low (t.val * 256) D) := fun r d => by
  have ht := lt t
  refine Eq.trans ?_ (hD ⟨t.val * 256 + r.val, by omega⟩ d)
  blk_ext [iblk, idx t]

theorem blk1 (hx : Is (m := 4096) (n := 1024) (φ := .f32) (m ((c.tc : Thread nD τ).loc main_arg1)) f) (t : Fin cfg0.N) :
    Is (m := 256) (n := 1024) (φ := .f32) (iblk m c 1 t) (low (t.val * 256) f) := fun r d => by
  have ht := lt t
  refine Eq.trans ?_ (hx ⟨t.val * 256 + r.val, by omega⟩ d)
  blk_ext [iblk, idx t]

theorem blk2 (hy : Is (m := 4096) (n := 1024) (φ := .f32) (m ((c.tc : Thread nD τ).loc main_arg2)) v) (t : Fin cfg0.N) :
    Is (m := 256) (n := 1024) (φ := .f32) (iblk m c 2 t) (low (t.val * 256) v) := fun r d => by
  have ht := lt t
  refine Eq.trans ?_ (hy ⟨t.val * 256 + r.val, by omega⟩ d)
  blk_ext [iblk, idx t]

theorem blk3 (hz : Is (m := 4096) (n := 6144) (φ := .f32) (m ((c.tc : Thread nD τ).loc main_arg3)) w) (t : Fin cfg0.N) :
    Is (m := 256) (n := 1024) (φ := .f32) (iblk m c 3 t) (low (t.val * 256) fun i d => w i (3072 + d)) := fun r d => by
  have ht := lt t
  refine Eq.trans ?_ (hz ⟨t.val * 256 + r.val, by omega⟩ ⟨3072 + d.val, by omega⟩)
  blk_ext [iblk, idx t]

theorem blk4 (hg : Is (m := 1) (n := 1024) (φ := .f32) (m ((c.tc : Thread nD τ).loc main_arg4)) fun _ => γ) (t : Fin cfg0.N) :
    Is (m := 1) (n := 1024) (φ := .f32) (iblk m c 4 t) fun _ => γ := fun r d => by
  refine Eq.trans ?_ (hg r d)
  blk_ext [iblk, idx t]

theorem blk5 (hh : Is (m := 1) (n := 1024) (φ := .f32) (m ((c.tc : Thread nD τ).loc main_arg5)) fun _ => κ) (t : Fin cfg0.N) :
    Is (m := 1) (n := 1024) (φ := .f32) (iblk m c 5 t) fun _ => κ := fun r d => by
  refine Eq.trans ?_ (hh r d)
  blk_ext [iblk, idx t]

variable (hD : Is (m := 4096) (n := 2048) (φ := .f32) (m ((c.tc : Thread nD τ).loc main_arg0)) D) (hx : Is (m := 4096) (n := 1024) (φ := .f32) (m ((c.tc : Thread nD τ).loc main_arg1)) f)
  (hy : Is (m := 4096) (n := 1024) (φ := .f32) (m ((c.tc : Thread nD τ).loc main_arg2)) v) (hz : Is (m := 4096) (n := 6144) (φ := .f32) (m ((c.tc : Thread nD τ).loc main_arg3)) w)
  (hg : Is (m := 1) (n := 1024) (φ := .f32) (m ((c.tc : Thread nD τ).loc main_arg4)) fun _ => γ) (hh : Is (m := 1) (n := 1024) (φ := .f32) (m ((c.tc : Thread nD τ).loc main_arg5)) fun _ => κ)

/-! ## The left half -/

section
include hD hx hg

/-- The gradient of the normalised rows, one tile. -/
theorem tile6 (t : Fin cfg0.N) : Is (m := 256) (n := 1024) (φ := .f32) (outsAt0 m c t.val t.isLt).1 (rowGrad 1024 0 (low (t.val * 256) f) (low (t.val * 256) D) γ) := by
  by_cases h : t.val % 16 = 0
  · rw [outsAt0_A m c t h]
    dsimp only
    unfold out0_A_6
    intro a d
    refine View.read_writes_apply_of_pieces (Val := Elt Ideal) VO0_6 _ (arr 256 1024 (rowGrad 1024 0 (low (t.val * 256) f) (low (t.val * 256) D) γ)) _ ?_ (ix2 a d)
      (cover0_A_6 (F := Ideal) c (grid0.coords t) _ _ _ _ _ _ _ _ _ _ _ _ _ _ _ _ _ _ _ _ _ _ _ _ _ _ _ _ _ _)
    refine List.forall_mem_cons.mpr ⟨?_, fun p hp => absurd hp List.not_mem_nil⟩
    intro y
    refine ((pay9_is (whole_is _ (blk1 hx t) _) (whole_is _ (blk0 hD t) _) (whole_is _ (blk4 hg t) _)).at y).trans ?_
    show _ = ((rowGrad _ _ _ _ _ (0 + 1 * (y 0).val) (0 + 1 * (y 1).val) : ℝ) : EReal)
    rw [Nat.zero_add, Nat.one_mul, Nat.zero_add, Nat.one_mul]
  · rw [outsAt0_B m c t h]
    dsimp only
    unfold out0_B_6
    intro a d
    refine View.read_writes_apply_of_pieces (Val := Elt Ideal) VO0_6 _ (arr 256 1024 (rowGrad 1024 0 (low (t.val * 256) f) (low (t.val * 256) D) γ)) _ ?_ (ix2 a d)
      (cover0_B_6 (F := Ideal) c (grid0.coords t) _ _ _ _ _ _ _ _ _ _ _ _ _ _ _ _ _ _ _ _ _ _ _ _ _ _ _ _ _ _ _ _)
    refine List.forall_mem_cons.mpr ⟨?_, fun p hp => absurd hp List.not_mem_nil⟩
    intro y
    refine ((pay9_is (whole_is _ (blk1 hx t) _) (whole_is _ (blk0 hD t) _) (whole_is _ (blk4 hg t) _)).at y).trans ?_
    show _ = ((rowGrad _ _ _ _ _ (0 + 1 * (y 0).val) (0 + 1 * (y 1).val) : ℝ) : EReal)
    rw [Nat.zero_add, Nat.one_mul, Nat.zero_add, Nat.one_mul]

theorem arr6 : (dats m 0 c).arrAt 6 cfg0.N = arr 4096 1024 (rowGrad 1024 0 f D γ) := by
  refine Pipeline.Dat.arrAt_eq_of_covers _ 6 _ (by decide +kernel) fun t _ y => ?_
  blk_simp
  rw [after0_6, (tile6 hD hx hg t).at y]
  unfold arr
  blk_simp [idx t]
  rfl

end

/-! ## The right half -/

theorem first_low {d : ℕ} (h : d < 512) : first d = 0 := by unfold first; omega
theorem first_high {d : ℕ} (h : d < 512) : first (512 + d) = 512 := by unfold first; omega

/-- The two loads of the right half of the gradient that comes in. -/
theorem left_is {r : Memref sig .tc .vmem S256x2048 .f32} (hr : r.IsWhole) {x : FVec Ideal S256x2048 .f32} {D : ℕ → ℕ → ℝ} (hx : Is x D)
    (inb : ∀ a, (![0, 1024] : Fin 2 → ℕ) a + (![256, 512] : Fin 2 → ℕ) a ≤ S256x2048.size a) :
    Is (m := 256) (n := 512) (φ := .f32) (View.readAt (Elt Ideal) r.view (Rect.unit (s := S256x2048) ![0, 1024] ![256, 512] inb).toLoadRect (hr.unread x)) (right D) := part_is hr hx inb
theorem right_is {r : Memref sig .tc .vmem S256x2048 .f32} (hr : r.IsWhole) {x : FVec Ideal S256x2048 .f32} {D : ℕ → ℕ → ℝ} (hx : Is x D)
    (inb : ∀ a, (![0, 1536] : Fin 2 → ℕ) a + (![256, 512] : Fin 2 → ℕ) a ≤ S256x2048.size a) :
    Is (m := 256) (n := 512) (φ := .f32) (View.readAt (Elt Ideal) r.view (Rect.unit (s := S256x2048) ![0, 1536] ![256, 512] inb).toLoadRect (hr.unread x)) fun i d => right D i (512 + d) :=
  (part_is hr hx inb).congr fun a _ e _ => congrArg (D a) (by omega)

section
include hD hy hz hh

/-- The gradient of the elements before the gate, one tile. -/
theorem tile7 (t : Fin cfg0.N) : Is (m := 256) (n := 1024) (φ := .f32) (outsAt0 m c t.val t.isLt).2.1 (dvalue (low (t.val * 256) v) (low (t.val * 256) fun i d => w i (3072 + d)) (low (t.val * 256) D) κ) := by
  by_cases h : t.val % 16 = 0
  · rw [outsAt0_A m c t h]
    dsimp only
    unfold out0_A_7
    intro a d
    refine View.read_writes_apply_of_pieces (Val := Elt Ideal) VO0_7 _ (arr 256 1024 (dvalue (low (t.val * 256) v) (low (t.val * 256) fun i d => w i (3072 + d)) (low (t.val * 256) D) κ)) _ ?_ (ix2 a d)
      (cover0_A_7 (F := Ideal) c (grid0.coords t) _ _ _ _ _ _ _ _ _ _ _ _ _ _ _ _ _ _ _ _ _ _ _ _ _ _ _ _ _ _)
    refine List.forall_mem_cons.mpr ⟨?_, List.forall_mem_cons.mpr ⟨?_, fun p hp => absurd hp List.not_mem_nil⟩⟩
    · intro y
      refine ((pay2_is (whole_is _ (blk3 hz t) _) (pay12_is (whole_is _ (blk3 hz t) _) (whole_is _ (blk2 hy t) _)) (right_is _ (blk0 hD t) _) (part_is _ (blk5 hh t) _)).at y).trans ?_
      show _ = ((dvalue _ _ _ _ (0 + 1 * (y 0).val) (512 + 1 * (y 1).val) : ℝ) : EReal)
      rw [Nat.zero_add, Nat.one_mul, Nat.one_mul]
      unfold dvalue dgated
      rw [first_high (y 1).isLt]
    · intro y
      refine ((pay20_is (whole_is _ (blk3 hz t) _) (whole_is _ (blk2 hy t) _) (left_is _ (blk0 hD t) _) (whole_is _ (blk5 hh t) _)).at y).trans ?_
      show _ = ((dvalue _ _ _ _ (0 + 1 * (y 0).val) (0 + 1 * (y 1).val) : ℝ) : EReal)
      rw [Nat.zero_add, Nat.one_mul, Nat.zero_add, Nat.one_mul]
      unfold dvalue dgated
      rw [first_low (y 1).isLt]
  · rw [outsAt0_B m c t h]
    dsimp only
    unfold out0_B_7
    intro a d
    refine View.read_writes_apply_of_pieces (Val := Elt Ideal) VO0_7 _ (arr 256 1024 (dvalue (low (t.val * 256) v) (low (t.val * 256) fun i d => w i (3072 + d)) (low (t.val * 256) D) κ)) _ ?_ (ix2 a d)
      (cover0_B_7 (F := Ideal) c (grid0.coords t) _ _ _ _ _ _ _ _ _ _ _ _ _ _ _ _ _ _ _ _ _ _ _ _ _ _ _ _ _ _ _ _)
    refine List.forall_mem_cons.mpr ⟨?_, List.forall_mem_cons.mpr ⟨?_, fun p hp => absurd hp List.not_mem_nil⟩⟩
    · intro y
      refine ((pay2_is (whole_is _ (blk3 hz t) _) (pay12_is (whole_is _ (blk3 hz t) _) (whole_is _ (blk2 hy t) _)) (right_is _ (blk0 hD t) _) (part_is _ (blk5 hh t) _)).at y).trans ?_
      show _ = ((dvalue _ _ _ _ (0 + 1 * (y 0).val) (512 + 1 * (y 1).val) : ℝ) : EReal)
      rw [Nat.zero_add, Nat.one_mul, Nat.one_mul]
      unfold dvalue dgated
      rw [first_high (y 1).isLt]
    · intro y
      refine ((pay20_is (whole_is _ (blk3 hz t) _) (whole_is _ (blk2 hy t) _) (left_is _ (blk0 hD t) _) (whole_is _ (blk5 hh t) _)).at y).trans ?_
      show _ = ((dvalue _ _ _ _ (0 + 1 * (y 0).val) (0 + 1 * (y 1).val) : ℝ) : EReal)
      rw [Nat.zero_add, Nat.one_mul, Nat.zero_add, Nat.one_mul]
      unfold dvalue dgated
      rw [first_low (y 1).isLt]

theorem arr7 : (dats m 0 c).arrAt 7 cfg0.N = arr 4096 1024 (dvalue v (fun i d => w i (3072 + d)) D κ) := by
  refine Pipeline.Dat.arrAt_eq_of_covers _ 7 _ (by decide +kernel) fun t _ y => ?_
  blk_simp
  rw [after0_7, (tile7 hD hy hz hh t).at y]
  unfold arr
  blk_simp [idx t]
  rfl

/-- The gradient of what gates them, one tile. -/
theorem tile8 (t : Fin cfg0.N) : Is (m := 256) (n := 1024) (φ := .bf16) (outsAt0 m c t.val t.isLt).2.2.1 (dgate (low (t.val * 256) v) (low (t.val * 256) fun i d => w i (3072 + d)) (low (t.val * 256) D) κ) := by
  by_cases h : t.val % 16 = 0
  · rw [outsAt0_A m c t h]
    dsimp only
    unfold out0_A_8
    intro a d
    refine View.read_writes_apply_of_pieces (Val := Elt Ideal) VO0_8 _ (arr 256 1024 (dgate (low (t.val * 256) v) (low (t.val * 256) fun i d => w i (3072 + d)) (low (t.val * 256) D) κ)) _ ?_ (ix2 a d)
      (cover0_A_8 (F := Ideal) c (grid0.coords t) _ _ _ _ _ _ _ _ _ _ _ _ _ _ _ _ _ _ _ _ _ _ _ _ _ _ _ _ _ _)
    refine List.forall_mem_cons.mpr ⟨?_, List.forall_mem_cons.mpr ⟨?_, fun p hp => absurd hp List.not_mem_nil⟩⟩
    · intro y
      refine ((pay3_is (whole_is _ (blk3 hz t) _) (whole_is _ (blk2 hy t) _) (pay12_is (whole_is _ (blk3 hz t) _) (whole_is _ (blk2 hy t) _)) (right_is _ (blk0 hD t) _) (part_is _ (blk5 hh t) _)).at y).trans ?_
      show _ = ((dgate _ _ _ _ (0 + 1 * (y 0).val) (512 + 1 * (y 1).val) : ℝ) : EReal)
      rw [Nat.zero_add, Nat.one_mul, Nat.one_mul]
      unfold dgate dgated
      rw [first_high (y 1).isLt]
    · intro y
      refine ((pay21_is (whole_is _ (blk3 hz t) _) (whole_is _ (blk2 hy t) _) (left_is _ (blk0 hD t) _) (whole_is _ (blk5 hh t) _)).at y).trans ?_
      show _ = ((dgate _ _ _ _ (0 + 1 * (y 0).val) (0 + 1 * (y 1).val) : ℝ) : EReal)
      rw [Nat.zero_add, Nat.one_mul, Nat.zero_add, Nat.one_mul]
      unfold dgate dgated
      rw [first_low (y 1).isLt]
  · rw [outsAt0_B m c t h]
    dsimp only
    unfold out0_B_8
    intro a d
    refine View.read_writes_apply_of_pieces (Val := Elt Ideal) VO0_8 _ (arr 256 1024 (dgate (low (t.val * 256) v) (low (t.val * 256) fun i d => w i (3072 + d)) (low (t.val * 256) D) κ)) _ ?_ (ix2 a d)
      (cover0_B_8 (F := Ideal) c (grid0.coords t) _ _ _ _ _ _ _ _ _ _ _ _ _ _ _ _ _ _ _ _ _ _ _ _ _ _ _ _ _ _ _ _)
    refine List.forall_mem_cons.mpr ⟨?_, List.forall_mem_cons.mpr ⟨?_, fun p hp => absurd hp List.not_mem_nil⟩⟩
    · intro y
      refine ((pay3_is (whole_is _ (blk3 hz t) _) (whole_is _ (blk2 hy t) _) (pay12_is (whole_is _ (blk3 hz t) _) (whole_is _ (blk2 hy t) _)) (right_is _ (blk0 hD t) _) (part_is _ (blk5 hh t) _)).at y).trans ?_
      show _ = ((dgate _ _ _ _ (0 + 1 * (y 0).val) (512 + 1 * (y 1).val) : ℝ) : EReal)
      rw [Nat.zero_add, Nat.one_mul, Nat.one_mul]
      unfold dgate dgated
      rw [first_high (y 1).isLt]
    · intro y
      refine ((pay21_is (whole_is _ (blk3 hz t) _) (whole_is _ (blk2 hy t) _) (left_is _ (blk0 hD t) _) (whole_is _ (blk5 hh t) _)).at y).trans ?_
      show _ = ((dgate _ _ _ _ (0 + 1 * (y 0).val) (0 + 1 * (y 1).val) : ℝ) : EReal)
      rw [Nat.zero_add, Nat.one_mul, Nat.zero_add, Nat.one_mul]
      unfold dgate dgated
      rw [first_low (y 1).isLt]

theorem arr8 : (dats m 0 c).arrAt 8 cfg0.N = arr 4096 1024 (dgate v (fun i d => w i (3072 + d)) D κ) := by
  refine Pipeline.Dat.arrAt_eq_of_covers _ 8 _ (by decide +kernel) fun t _ y => ?_
  blk_simp
  rw [after0_8, (tile8 hD hy hz hh t).at y]
  unfold arr
  blk_simp [idx t]
  rfl

end

/-! ## The gains -/

/-- The accumulators start at zero, and so reads every load of what the first tile finds there. -/
theorem zero_is {n o₁ : ℕ} (v : View sig .tc .vmem S1x1024 .f32) (inb : ∀ a, (![0, o₁] : Fin 2 → ℕ) a + (![1, n] : Fin 2 → ℕ) a ≤ S1x1024.size a) (z : FVec Ideal S1x1024 .f32)
    (hz : Is z fun _ _ => 0) :
    Is (m := 1) (n := n) (φ := .f32) (v.readCov (Val := Elt Ideal) [⟨Rect.unit (s := S1x1024) ![0, 0] S1x1024.size inb_S1x1024_S1x1024_0_0, z⟩] (Rect.unit (s := S1x1024) ![0, o₁] ![1, n] inb).toLoadRect)
      fun _ _ => 0 := by
  intro a d
  exact (congrFun (View.readCov_fill (Val := Elt Ideal) v (off := ![0, 0]) inb_S1x1024_S1x1024_0_0 z [] (Rect.unit (s := S1x1024) ![0, o₁] ![1, n] inb) (by decide)) (ix2 a d)).trans (hz.at _)

section
include hD hx

/-- The gradient of the first gain after the tiles up to the `n`-th. -/
theorem tiles9 (n : ℕ) (hn : n < cfg0.N) : Is (m := 1) (n := 1024) (φ := .f32) (outsAt0 m c n hn).2.2.2.1
    fun _ d => ∑ s ∈ Finset.range (n + 1), colGrad 256 1024 0 (low (s * 256) f) (low (s * 256) D) d := by
  induction n with
  | zero =>
    rw [outsAt0_A m c ⟨0, hn⟩ rfl]
    dsimp only
    unfold out0_A_9
    intro a d
    refine (View.read_writes_cons_hit_of_coords VO0_9 _ _ _ _ (ix2 a d) (ix2 a d) (fun b => ?_)).trans ?_
    · fin_cases b
      · show a.val = 0 + 1 * a.val
        omega
      · show d.val = 0 + 1 * d.val
        omega
    refine (pay8_is (whole_is _ (blk1 hx ⟨0, hn⟩) _) (whole_is _ (blk0 hD ⟨0, hn⟩) _) (zero_is _ _ _ pay4_is) a d).trans (congrArg (fun r : ℝ => (r : EReal)) ?_)
    exact (zero_add _).trans (Finset.sum_range_one (fun s => colGrad 256 1024 0 (low (s * 256) f) (low (s * 256) D) d)).symm
  | succ n ih =>
    have h16 : n + 1 < 16 := lt ⟨n + 1, hn⟩
    rw [outsAt0_B m c ⟨n + 1, hn⟩ (by show ¬(n + 1) % 16 = 0; rw [Nat.mod_eq_of_lt h16]; exact Nat.succ_ne_zero n)]
    dsimp only
    unfold out0_B_9
    intro a d
    refine (View.read_writes_cons_hit_of_coords VO0_9 _ _ _ _ (ix2 a d) (ix2 a d) (fun b => ?_)).trans ?_
    · fin_cases b
      · show a.val = 0 + 1 * a.val
        omega
      · show d.val = 0 + 1 * d.val
        omega
    refine (pay8_is (whole_is _ (blk1 hx ⟨n + 1, hn⟩) _) (whole_is _ (blk0 hD ⟨n + 1, hn⟩) _) (whole_is _ (ih (Nat.lt_of_succ_lt hn)) _) a d).trans ?_
    exact congrArg (fun r : ℝ => (r : EReal)) (Finset.sum_range_succ _ (n + 1)).symm

theorem arr9 : (dats m 0 c).arrAt 9 cfg0.N = arr 1 1024 (fun _ => colGrad 4096 1024 0 f D) := by
  refine Pipeline.Dat.arrAt_eq_of_after_last _ 9 t0_15 (by decide +kernel) _ fun j => ?_
  exact (congrFun (after0_9 m c t0_15) _).trans (((tiles9 hD hx 15 t0_15.isLt).at _).trans (congrArg (fun r : ℝ => (r : EReal)) (colGrad_tiles 16 1024 0 f D _)))

end

/-- A load of the second half after a store to the first finds the zeros still. -/
theorem zero_skip_is (v : View sig .tc .vmem S1x1024 .f32) (z : FVec Ideal S1x1024 .f32) (o : FVec Ideal S1x512 .f32) (inb : ∀ a, (![0, 512] : Fin 2 → ℕ) a + (![1, 512] : Fin 2 → ℕ) a ≤ S1x1024.size a)
    (hz : Is z fun _ _ => 0) :
    Is (m := 1) (n := 512) (φ := .f32) (v.readCov (Val := Elt Ideal) [⟨Rect.unit (s := S1x1024) ![0, 0] S1x512.size inb_S1x1024_S1x512_0_0, o⟩,
      ⟨Rect.unit (s := S1x1024) ![0, 0] S1x1024.size inb_S1x1024_S1x1024_0_0, z⟩] (Rect.unit (s := S1x1024) ![0, 512] ![1, 512] inb).toLoadRect) fun _ _ => 0 := by
  intro a d
  exact (congrFun (View.readCov_skip (Val := Elt Ideal) v (Rect.unit (s := S1x1024) ![0, 0] S1x512.size inb_S1x1024_S1x512_0_0) o _
    (Rect.unit (s := S1x1024) ![0, 512] ![1, 512] inb).toLoadRect rfl) (ix2 a d)).trans (zero_is v inb z hz a d)

/-- Two stores, one to each half, leave a row that is read half by half. -/
theorem halves_is {κ' : Kind} {sp : Space} (v : View sig κ' sp S1x1024 .f32) (f₀ : v.ty.Contents (Elt Ideal)) {lo hi : FVec Ideal S1x512 .f32}
    (inb₁ : ∀ a, (![0, 512] : Fin 2 → ℕ) a + (![1, 512] : Fin 2 → ℕ) a ≤ S1x1024.size a) (inb₀ : ∀ a, (![0, 0] : Fin 2 → ℕ) a + (![1, 512] : Fin 2 → ℕ) a ≤ S1x1024.size a)
    (L : List (View.Piece (Elt Ideal) S1x1024 .f32)) {q : ℕ → ℕ → ℝ} (hlo : Is lo q) (hhi : Is hi fun i d => q i (512 + d)) :
    Is (m := 1) (n := 1024) (φ := .f32) (v.read (Elt Ideal) (v.writes (Elt Ideal) f₀ (⟨Rect.unit (s := S1x1024) ![0, 512] ![1, 512] inb₁, hi⟩ :: ⟨Rect.unit (s := S1x1024) ![0, 0] ![1, 512] inb₀, lo⟩ :: L))) q := by
  intro a d
  have hd := d.isLt
  by_cases h : d.val < 512
  · refine (View.read_writes_cons_miss_of_axis v f₀ ⟨Rect.unit (s := S1x1024) ![0, 512] ![1, 512] inb₁, hi⟩ _ (ix2 a d) 1 512 512 rfl rfl rfl (Or.inl h)).trans ?_
    refine (View.read_writes_cons_hit_of_coords v f₀ (Rect.unit (s := S1x1024) ![0, 0] ![1, 512] inb₀) lo L (ix2 a ⟨d.val, h⟩) (ix2 a d) (fun b => ?_)).trans (hlo a ⟨d.val, h⟩)
    fin_cases b
    · show a.val = 0 + 1 * a.val
      omega
    · show d.val = 0 + 1 * d.val
      omega
  · refine (View.read_writes_cons_hit_of_coords v f₀ (Rect.unit (s := S1x1024) ![0, 512] ![1, 512] inb₁) hi _ (ix2 a ⟨d.val - 512, by omega⟩) (ix2 a d) (fun b => ?_)).trans ((hhi a ⟨d.val - 512, by omega⟩).trans ?_)
    · fin_cases b
      · show a.val = 0 + 1 * a.val
        omega
      · show d.val = 512 + 1 * (d.val - 512)
        omega
    · show ((q a.val (512 + (d.val - 512)) : ℝ) : EReal) = _
      rw [Nat.add_sub_cancel' (by omega)]

section
include hD hy hz

/-- The gradient of the second gain after the tiles up to the `n`-th. -/
theorem tiles10 (n : ℕ) (hn : n < cfg0.N) : Is (m := 1) (n := 1024) (φ := .f32) (outsAt0 m c n hn).2.2.2.2
    fun _ d => ∑ s ∈ Finset.range (n + 1), dgain 256 (low (s * 256) v) (low (s * 256) fun i d => w i (3072 + d)) (low (s * 256) D) d := by
  induction n with
  | zero =>
    rw [outsAt0_A m c ⟨0, hn⟩ rfl]
    dsimp only
    unfold out0_A_10
    refine halves_is VO0_10 _ _ _ _ ((pay16_is (whole_is _ (blk3 hz ⟨0, hn⟩) _) (whole_is _ (blk2 hy ⟨0, hn⟩) _) (left_is _ (blk0 hD ⟨0, hn⟩) _) (zero_is _ _ _ pay5_is)).congr fun i _ d hd => ?_) ((pay25_is (pay12_is (whole_is _ (blk3 hz ⟨0, hn⟩) _) (whole_is _ (blk2 hy ⟨0, hn⟩) _)) (right_is _ (blk0 hD ⟨0, hn⟩) _) (zero_skip_is _ _ _ _ pay5_is)).congr fun i _ d hd => ?_)
    · rw [zero_add, Finset.sum_range_one]
      unfold dgain
      rw [first_low hd]
    · rw [zero_add, Finset.sum_range_one]
      unfold dgain
      rw [first_high hd]
  | succ n ih =>
    have h16 : n + 1 < 16 := lt ⟨n + 1, hn⟩
    rw [outsAt0_B m c ⟨n + 1, hn⟩ (by show ¬(n + 1) % 16 = 0; rw [Nat.mod_eq_of_lt h16]; exact Nat.succ_ne_zero n)]
    dsimp only
    unfold out0_B_10
    refine halves_is VO0_10 _ _ _ _ ((pay16_is (whole_is _ (blk3 hz ⟨n + 1, hn⟩) _) (whole_is _ (blk2 hy ⟨n + 1, hn⟩) _) (left_is _ (blk0 hD ⟨n + 1, hn⟩) _) (whole_is _ (ih (Nat.lt_of_succ_lt hn)) _)).congr fun i _ d hd => ?_) ((pay25_is (pay12_is (whole_is _ (blk3 hz ⟨n + 1, hn⟩) _) (whole_is _ (blk2 hy ⟨n + 1, hn⟩) _)) (right_is _ (blk0 hD ⟨n + 1, hn⟩) _) (part_is _ (ih (Nat.lt_of_succ_lt hn)) _)).congr fun i _ d hd => ?_)
    · refine Eq.trans ?_ (Finset.sum_range_succ _ (n + 1)).symm
      refine congrArg _ ?_
      unfold dgain
      rw [first_low hd]
    · refine Eq.trans ?_ (Finset.sum_range_succ _ (n + 1)).symm
      refine congrArg _ ?_
      unfold dgain
      rw [first_high hd]

theorem arr10 : (dats m 0 c).arrAt 10 cfg0.N = arr 1 1024 (fun _ => dgain 4096 v (fun i d => w i (3072 + d)) D) := by
  refine Pipeline.Dat.arrAt_eq_of_after_last _ 10 t0_15 (by decide +kernel) _ fun j => ?_
  exact (congrFun (after0_10 m c t0_15) _).trans (((tiles10 hD hy hz 15 t0_15.isLt).at _).trans
    (congrArg (fun r : ℝ => (r : EReal)) (colGrad_tiles 16 512 (first _) (gated v fun i d => w i (3072 + d)) (right D) _)))

end

end

end Cert.Kernel7Ideal.Gate
-- ==== Proof.GateReference.lean ====
/- The reference's gradient of the gating and normalisation, read on real numbers. -/
module

public import proofs.«01_k».proof.Proof.GateMath
public import proofs.«01_k».proof.Proof.RefOut
public import proofs.«01_k».proof.Proof.RowNormRef
public import proofs.«01_k».proof.Proof.Gen.Reference7Ideal.Read

@[expose] public section

set_option maxRecDepth 16384
set_option maxHeartbeats 400000

noncomputable section

namespace Cert.Reference7Ideal.Gate

open Idealize.ShloMosaic Idealize.ShloMosaic.TcCoe Idealize.ShloMosaic.StableHlo
open Cert.KernelIdeal.Attn (Is arr coe_sum eps lit_eps)
open Cert.Mix (lit_1024 lit_512)
open Cert.Mlp (squash one_div_coe one_add_exp one_sub_coe)
open Cert.RowNorm (lit_neg_half)
open Cert.Reference7Ideal Cert.Reference7Ideal.Gen Cert.Reference7Ideal.Read Cert.Gate

theorem div_msq (r : ℝ) (n o : ℕ) (f : ℕ → ℕ → ℝ) (i : ℕ) : Ideal.div (r : EReal) ((msq n o f i : ℝ) : EReal) = ((r / msq n o f i : ℝ) : EReal) := by
  rw [Ideal.div_coe (msq_pos n o f i).ne', ← EReal.coe_mul, mul_one_div]

variable {u : FVec Ideal S4096x2048 .f32} {x y : FVec Ideal S4096x1024 .f32} {z : FVec Ideal S4096x6144 .f32} {g h : FVec Ideal S1x1024 .f32}
variable {D f v w : ℕ → ℕ → ℝ} {γ κ : ℕ → ℝ}

/-! ## The left half -/

theorem v8_is (hx : Is x f) : Is (m := 4096) (n := 1) (φ := .f32) (val_main_v8 (F := Ideal) x) fun i _ => msq 1024 0 f i := by
  intro a c
  unfold val_main_v8 val_main_v6 val_main_v4 val_main_v3 val_main_v2
  clean_types
  pointwise [val_main_v5, val_main_v7, val_main_cst, val_main_cst_0, val_main_cst_1]
  simp only [hx _ _, ← EReal.coe_mul, coe_sum, lit_1024, lit_eps, div_1024, ← EReal.coe_add, msq, Nat.zero_add, Nat.cast_ofNat]

theorem v9_is (hx : Is x f) : Is (m := 4096) (n := 1) (φ := .f32) (val_main_v9 (F := Ideal) x) fun i _ => rt 1024 0 f i := by
  intro a c
  unfold val_main_v9
  clean_types
  pointwise
  rw [v8_is hx a c]
  exact rsqrt_msq 1024 0 f a

theorem v12_is (hx : Is x f) : Is (m := 4096) (n := 1) (φ := .f32) (val_main_v12 (F := Ideal) x) fun i _ => -1 / 2 * (rt 1024 0 f i / msq 1024 0 f i) := by
  intro a c
  unfold val_main_v12 val_main_v10
  clean_types
  pointwise [val_main_v11, val_main_cst_2]
  rw [v8_is hx a c, v9_is hx a c, div_msq, lit_neg_half, ← EReal.coe_mul]

theorem v14_is (hx : Is x f) : Is (m := 4096) (n := 1024) (φ := .f32) (val_main_v14 (F := Ideal) x) (unit 1024 0 f) := by
  intro a c
  unfold val_main_v14 val_main_v13
  clean_types
  pointwise
  rw [hx a c, v9_is hx a 0, ← EReal.coe_mul]
  rfl

theorem v40_is (hu : Is u D) : Is (m := 4096) (n := 1024) (φ := .f32) (val_main_v40 (F := Ideal) u) D := by
  intro a c
  unfold val_main_v40
  clean_types
  pointwise
  rw [hu _ _]

/-- The gradient of the first gain. -/
theorem v88_is (hu : Is u D) (hx : Is x f) : Is (m := 1) (n := 1024) (φ := .f32) (val_main_v88 (F := Ideal) u x) fun _ => colGrad 4096 1024 0 f D := by
  intro a c
  unfold val_main_v88 val_main_v73 val_main_v70 val_main_v69 val_main_v68
  clean_types
  pointwise [val_main_cst_12, val_main_cst_13]
  simp only [v14_is hx _ _, v40_is hu _ _, ← EReal.coe_mul, coe_sum, colGrad]
  exact congrArg (fun r : ℝ => (r : EReal)) ((Fin.sum_univ_one _).trans (Finset.sum_congr rfl fun i _ => mul_comm _ _))

theorem v72_is (hu : Is u D) (hg : Is g fun _ => γ) : Is (m := 4096) (n := 1024) (φ := .f32) (val_main_v72 (F := Ideal) u g) fun i d => D i d * γ d := by
  intro a c
  unfold val_main_v72 val_main_v71 val_main_v15 val_main_v1
  clean_types
  pointwise
  rw [v40_is hu a c, hg 0 c, ← EReal.coe_mul]

theorem v81_is (hu : Is u D) (hx : Is x f) (hg : Is g fun _ => γ) : Is (m := 4096) (n := 1) (φ := .f32) (val_main_v81 (F := Ideal) u x g)
    fun i _ => (∑ e : Fin 1024, f i e * (D i e * γ e)) * (-1 / 2 * (rt 1024 0 f i / msq 1024 0 f i)) / 1024 := by
  intro a c
  unfold val_main_v81 val_main_v79 val_main_v76 val_main_v75 val_main_v74
  clean_types
  pointwise [val_main_v80, val_main_cst_14, val_main_cst_15]
  obtain rfl : c = 0 := Subsingleton.elim _ _
  simp only [hx _ _, v72_is hu hg _ _, v12_is hx _ _, ← EReal.coe_mul, coe_sum, lit_1024, div_1024]

theorem v83_is (hu : Is u D) (hx : Is x f) (hg : Is g fun _ => γ) : Is (m := 4096) (n := 1024) (φ := .f32) (val_main_v83 (F := Ideal) u x g)
    fun i _ => (∑ e : Fin 1024, f i e * (D i e * γ e)) * (-1 / 2 * (rt 1024 0 f i / msq 1024 0 f i)) / 1024 := by
  intro a c
  unfold val_main_v83 val_main_v82
  clean_types
  pointwise [val_main_cst_16]
  simp only [v81_is hu hx hg _ _, coe_sum]
  exact congrArg (fun r : ℝ => (r : EReal)) (Fin.sum_univ_one _)

/-- The gradient of the normalised rows. -/
theorem v87_is (hu : Is u D) (hx : Is x f) (hg : Is g fun _ => γ) : Is (m := 4096) (n := 1024) (φ := .f32) (val_main_v87 (F := Ideal) u x g) (rowGrad 1024 0 f D γ) := by
  intro a c
  unfold val_main_v87 val_main_v86 val_main_v85 val_main_v84 val_main_v78 val_main_v77
  clean_types
  pointwise
  simp only [hx _ _, v83_is hu hx hg _ _, v72_is hu hg _ _, v9_is hx _ _, ← EReal.coe_mul, ← EReal.coe_add]
  rw [← rowGrad_eq]
  simp only [Nat.zero_add, Nat.cast_ofNat]

/-! ## The gate -/

theorem v0_is (hz : Is z w) : Is (m := 4096) (n := 1024) (φ := .f32) (val_main_v0 (F := Ideal) z) fun i d => w i (3072 + d) := by
  intro a c
  unfold val_main_v0
  clean_types
  pointwise
  rw [hz _ _]

theorem sig_is (hz : Is z w) : Is (m := 4096) (n := 1024) (φ := .f32) (val_main_v18_2 (F := Ideal) z) fun i d => squash (w i (3072 + d)) := by
  intro a c
  unfold val_main_v18_2 val_main_call0_v3 val_main_call0_v1 val_main_call0_v0
  clean_types
  pointwise [val_main_call0_v2, val_main_call0_v4, val_main_call0_cst, val_main_call0_cst_0]
  simp only [v0_is hz _ _, ← EReal.coe_neg, Ideal.exp_coe, Cert.KernelIdeal.Attn.one_add_coe, one_div_coe (one_add_exp _), squash]

theorem silu_is (hz : Is z w) : Is (m := 4096) (n := 1024) (φ := .f32) (val_main_v18_0 (F := Ideal) z) fun i d => w i (3072 + d) * squash (w i (3072 + d)) := by
  intro a c
  unfold val_main_v18_0
  clean_types
  pointwise
  rw [v0_is hz _ _, sig_is hz _ _, ← EReal.coe_mul]

theorem slope_is (hz : Is z w) : Is (m := 4096) (n := 1024) (φ := .f32) (val_main_v18_1 (F := Ideal) z) fun i d => squash (w i (3072 + d)) * (1 - squash (w i (3072 + d))) := by
  intro a c
  unfold val_main_v18_1 val_main_call0_v7
  clean_types
  pointwise [val_main_call0_v6, val_main_call0_cst_1]
  simp only [sig_is hz _ _, one_sub_coe, ← EReal.coe_mul]

theorem gated_is (hy : Is y v) (hz : Is z w) : Is (m := 4096) (n := 1024) (φ := .f32) (val_main_v19 (F := Ideal) y z) (gated v fun i d => w i (3072 + d)) := by
  intro a c
  unfold val_main_v19
  clean_types
  pointwise
  rw [hy _ _, silu_is hz _ _, ← EReal.coe_mul]
  rfl

/-! ## The right half, group by group -/

theorem group_is {s : FVec Ideal S4096x1024 .f32} {q : ℕ → ℕ → ℝ} (hs : Is s q) (a : Fin 4096) (p : Fin 2) (e : Fin 512) :
    shapeCast S4096x2x512 s shapeCasts_S4096x1024_S4096x2x512 (ix3 a p e) = ((q a.val (512 * p.val + e.val) : ℝ) : EReal) := by
  pointwise
  refine (hs _ _).trans (congrArg (fun r : ℝ => (r : EReal)) (congrArg (q a.val) ?_))
  show p.val * 512 + e.val = 512 * p.val + e.val
  omega

theorem v20_is (hy : Is y v) (hz : Is z w) (a : Fin 4096) (p : Fin 2) (e : Fin 512) :
    val_main_v20 (F := Ideal) y z (ix3 a p e) = ((gated v (fun i d => w i (3072 + d)) a.val (512 * p.val + e.val) : ℝ) : EReal) := group_is (gated_is hy hz) a p e

theorem v27_is (hy : Is y v) (hz : Is z w) (a : Fin 4096) (p : Fin 2) :
    val_main_v27 (F := Ideal) y z (ix3 a p 0) = ((msq 512 (512 * p.val) (gated v fun i d => w i (3072 + d)) a.val : ℝ) : EReal) := by
  unfold val_main_v27 val_main_v25 val_main_v23 val_main_v22 val_main_v21
  clean_types
  pointwise [val_main_v24, val_main_v26, val_main_cst_3, val_main_cst_4, val_main_cst_5]
  simp only [v20_is hy hz _ _ _, ← EReal.coe_mul, coe_sum, lit_512, lit_eps, div_512, ← EReal.coe_add, msq, Nat.cast_ofNat]

theorem v28_is (hy : Is y v) (hz : Is z w) (a : Fin 4096) (p : Fin 2) :
    val_main_v28 (F := Ideal) y z (ix3 a p 0) = ((rt 512 (512 * p.val) (gated v fun i d => w i (3072 + d)) a.val : ℝ) : EReal) := by
  unfold val_main_v28
  clean_types
  pointwise
  rw [v27_is hy hz a p]
  exact rsqrt_msq _ _ _ _

theorem v31_is (hy : Is y v) (hz : Is z w) (a : Fin 4096) (p : Fin 2) : val_main_v31 (F := Ideal) y z (ix3 a p 0)
    = ((-1 / 2 * (rt 512 (512 * p.val) (gated v fun i d => w i (3072 + d)) a.val / msq 512 (512 * p.val) (gated v fun i d => w i (3072 + d)) a.val) : ℝ) : EReal) := by
  unfold val_main_v31 val_main_v29
  clean_types
  pointwise [val_main_v30, val_main_cst_6]
  rw [v27_is hy hz a p, v28_is hy hz a p, div_msq, lit_neg_half, ← EReal.coe_mul]

/-- The normalised groups, as rows again. -/
theorem v34_is (hy : Is y v) (hz : Is z w) : Is (m := 4096) (n := 1024) (φ := .f32) (val_main_v34 (F := Ideal) y z) fun i d => unit 512 (first d) (gated v fun i d => w i (3072 + d)) i d := by
  intro a c
  unfold val_main_v34 val_main_v33 val_main_v32
  clean_types
  pointwise
  simp only [v20_is hy hz _ _ _, v28_is hy hz _ _, ← EReal.coe_mul, unit, first]
  rw [Nat.div_add_mod]

theorem v41_is (hu : Is u D) : Is (m := 4096) (n := 1024) (φ := .f32) (val_main_v41 (F := Ideal) u) (right D) := by
  intro a c
  unfold val_main_v41
  clean_types
  pointwise
  rw [hu _ _]
  rfl

/-- The gradient of the second gain. -/
theorem v48_is (hu : Is u D) (hy : Is y v) (hz : Is z w) : Is (m := 1) (n := 1024) (φ := .f32) (val_main_v48 (F := Ideal) u y z) fun _ => dgain 4096 v (fun i d => w i (3072 + d)) D := by
  intro a c
  unfold val_main_v48 val_main_v47 val_main_v44 val_main_v43 val_main_v42
  clean_types
  pointwise [val_main_cst_7, val_main_cst_8]
  simp only [v34_is hy hz _ _, v41_is hu _ _, ← EReal.coe_mul, coe_sum, dgain, colGrad]
  exact congrArg (fun r : ℝ => (r : EReal)) ((Fin.sum_univ_one _).trans (Finset.sum_congr rfl fun i _ => mul_comm _ _))

theorem v46_is (hu : Is u D) (hh : Is h fun _ => κ) : Is (m := 4096) (n := 1024) (φ := .f32) (val_main_v46 (F := Ideal) u h) fun i d => right D i d * κ d := by
  intro a c
  unfold val_main_v46 val_main_v45 val_main_v36 val_main_v35
  clean_types
  pointwise
  rw [v41_is hu a c, hh 0 c, ← EReal.coe_mul]

theorem v49_is (hu : Is u D) (hh : Is h fun _ => κ) (a : Fin 4096) (p : Fin 2) (e : Fin 512) :
    val_main_v49 (F := Ideal) u h (ix3 a p e) = ((right D a.val (512 * p.val + e.val) * κ (512 * p.val + e.val) : ℝ) : EReal) := group_is (v46_is hu hh) a p e

/-- What the gradient of a group's mean square adds to each of its elements, halved and without the element. -/
def share (v w D : ℕ → ℕ → ℝ) (κ : ℕ → ℝ) (i o : ℕ) : ℝ :=
  (∑ e : Fin 512, gated v w i (o + e.val) * (right D i (o + e.val) * κ (o + e.val))) * (-1 / 2 * (rt 512 o (gated v w) i / msq 512 o (gated v w) i)) / 512

theorem v57_is (hu : Is u D) (hy : Is y v) (hz : Is z w) (hh : Is h fun _ => κ) (a : Fin 4096) (p : Fin 2) :
    val_main_v57 (F := Ideal) u y z h (ix3 a p 0) = ((share v (fun i d => w i (3072 + d)) D κ a.val (512 * p.val) : ℝ) : EReal) := by
  unfold val_main_v57 val_main_v55 val_main_v52 val_main_v51 val_main_v50
  clean_types
  pointwise [val_main_v56, val_main_cst_9, val_main_cst_10]
  simp only [v20_is hy hz _ _ _, v49_is hu hh _ _ _, v31_is hy hz _ _, ← EReal.coe_mul, coe_sum, lit_512, div_512, share]

theorem v59_is (hu : Is u D) (hy : Is y v) (hz : Is z w) (hh : Is h fun _ => κ) (a : Fin 4096) (p : Fin 2) (e : Fin 512) :
    val_main_v59 (F := Ideal) u y z h (ix3 a p e) = ((share v (fun i d => w i (3072 + d)) D κ a.val (512 * p.val) : ℝ) : EReal) := by
  unfold val_main_v59 val_main_v58
  clean_types
  pointwise [val_main_cst_11]
  rw [Fin.sum_univ_one]
  exact v57_is hu hy hz hh a p

/-- The gradient of the gated elements. -/
theorem v64_is (hu : Is u D) (hy : Is y v) (hz : Is z w) (hh : Is h fun _ => κ) :
    Is (m := 4096) (n := 1024) (φ := .f32) (val_main_v64 (F := Ideal) u y z h) (dgated v (fun i d => w i (3072 + d)) D κ) := by
  intro a c
  unfold val_main_v64 val_main_v63 val_main_v62 val_main_v61 val_main_v60 val_main_v54 val_main_v53
  clean_types
  pointwise
  simp only [v20_is hy hz _ _ _, v28_is hy hz _ _, v49_is hu hh _ _ _, v59_is hu hy hz hh _ _ _, ← EReal.coe_mul, ← EReal.coe_add]
  unfold dgated
  rw [← rowGrad_eq, Nat.div_add_mod]
  simp only [share, first, Nat.cast_ofNat]

/-- The gradient of the elements before the gate. -/
theorem v66_is (hu : Is u D) (hy : Is y v) (hz : Is z w) (hh : Is h fun _ => κ) :
    Is (m := 4096) (n := 1024) (φ := .f32) (val_main_v66 (F := Ideal) u y z h) (dvalue v (fun i d => w i (3072 + d)) D κ) := by
  intro a c
  unfold val_main_v66
  clean_types
  pointwise
  rw [v64_is hu hy hz hh a c, silu_is hz a c, ← EReal.coe_mul]
  rfl

/-- The gradient of what gates them. -/
theorem v89_is (hu : Is u D) (hy : Is y v) (hz : Is z w) (hh : Is h fun _ => κ) :
    Is (m := 4096) (n := 1024) (φ := .bf16) (val_main_v89 (F := Ideal) u y z h) (dgate v (fun i d => w i (3072 + d)) D κ) := by
  intro a c
  unfold val_main_v89 val_main_v67 val_main_call1_v2 val_main_call1_v1 val_main_call1_v0 val_main_v65
  clean_types
  pointwise
  simp only [hy _ _, v64_is hu hy hz hh _ _, sig_is hz _ _, slope_is hz _ _, v0_is hz _ _, ← EReal.coe_mul, ← EReal.coe_add, dgate]
  exact congrArg (fun r : ℝ => (r : EReal)) (by ring)

end Cert.Reference7Ideal.Gate
-- ==== Proof.GateResult.lean ====
/- The backward of gating and normalisation against its reference: the same five arrays, for arguments that hold real numbers. -/
module

public import proofs.«01_k».proof.Defs
public import proofs.«01_k».proof.Proof.Finite16
public import proofs.«01_k».proof.Proof.GateValue
public import proofs.«01_k».proof.Proof.GateReference
public import proofs.«01_k».proof.Proof.Gen.Kernel7Ideal
public import proofs.«01_k».proof.Proof.Gen.Reference7Ideal.Run

@[expose] public section

set_option maxRecDepth 16384
set_option maxHeartbeats 400000

noncomputable section

namespace Cert.Kernel7Ideal.Gate

open Idealize.ShloMosaic Idealize.ShloMosaic.TcCoe Idealize.SL.Sem
open Cert.KernelIdeal.Attn (Is arr reals reals_is reals_row)
open Cert.Gate
open Cert.Reference7Ideal.Gate (v48_is v66_is v87_is v88_is v89_is)
open Cert.Reference7Ideal.Read

theorem pre_facts : Cert.Pre_gate_finite.Facts := ⟨by decide, by decide, by decide, by decide⟩

theorem is_arr {m n : ℕ} {φ : FTy} {x : FVec Ideal ⟨2, ![m, n]⟩ φ} {f : ℕ → ℕ → ℝ} (h : Is x f) : x = arr m n f := Cert.ReferenceIdeal.Attn.Is.eq h

/-- The arguments hold real numbers. -/
structure Args (m : (ℓ : Loc nD τ sig) → Buf (Elt Ideal) ℓ) (c : Dev nD) (D f v w : ℕ → ℕ → ℝ) (γ κ : ℕ → ℝ) : Prop where
  u : Is (m := 4096) (n := 2048) (φ := .f32) (m ((c.tc : Thread nD τ).loc main_arg0)) D
  x : Is (m := 4096) (n := 1024) (φ := .f32) (m ((c.tc : Thread nD τ).loc main_arg1)) f
  y : Is (m := 4096) (n := 1024) (φ := .f32) (m ((c.tc : Thread nD τ).loc main_arg2)) v
  z : Is (m := 4096) (n := 6144) (φ := .f32) (m ((c.tc : Thread nD τ).loc main_arg3)) w
  g : Is (m := 1) (n := 1024) (φ := .f32) (m ((c.tc : Thread nD τ).loc main_arg4)) fun _ => γ
  h : Is (m := 1) (n := 1024) (φ := .f32) (m ((c.tc : Thread nD τ).loc main_arg5)) fun _ => κ

theorem args_of_pre {m : (ℓ : Loc nD τ sig) → Buf (Elt Ideal) ℓ} (hm : Cert.Pre_Kernel7Ideal_gate_finite (hPre_gate_finite := pre_facts) m) (c : Dev nD) :
    Args m c (reals (m := 4096) (n := 2048) (m ((c.tc : Thread nD τ).loc main_arg0))) (reals (m := 4096) (n := 1024) (m ((c.tc : Thread nD τ).loc main_arg1)))
      (reals (m := 4096) (n := 1024) (m ((c.tc : Thread nD τ).loc main_arg2))) (reals (m := 4096) (n := 6144) (m ((c.tc : Thread nD τ).loc main_arg3)))
      (reals (m := 1) (n := 1024) (m ((c.tc : Thread nD τ).loc main_arg4)) 0) (reals (m := 1) (n := 1024) (m ((c.tc : Thread nD τ).loc main_arg5)) 0) where
  u := reals_is (hm c).1
  x := reals_is (hm c).2.1
  y := reals_is (hm c).2.2.1
  z := reals_is (hm c).2.2.2.1
  g := reals_row (reals_is (hm c).2.2.2.2.1)
  h := reals_row (reals_is (hm c).2.2.2.2.2)

/-- Call and reference leave the same five arrays. -/
theorem results : Cert.algebraic_Kernel7Ideal_Reference7Ideal_pre_gate_finite (hPre_gate_finite := pre_facts) := fun m g m' g' hm he => by
  have H := args_of_pre hm
  refine ⟨fun c => (Cert.Kernel7Ideal.Gen.dats m 0 c).arrAt 6 Cert.Kernel7Ideal.cfg0.N, fun c => (Cert.Kernel7Ideal.Gen.dats m 0 c).arrAt 7 Cert.Kernel7Ideal.cfg0.N,
    fun c => (Cert.Kernel7Ideal.Gen.dats m 0 c).arrAt 8 Cert.Kernel7Ideal.cfg0.N, fun c => (Cert.Kernel7Ideal.Gen.dats m 0 c).arrAt 9 Cert.Kernel7Ideal.cfg0.N,
    fun c => (Cert.Kernel7Ideal.Gen.dats m 0 c).arrAt 10 Cert.Kernel7Ideal.cfg0.N, Cert.Kernel7Ideal.Value.run_blocks m g,
    (θ_run Cert.Reference7Ideal.defs _ _).mono (fun _ h c => ?_) (Cert.Reference7Ideal.Value.run m' g')⟩
  obtain ⟨h0, h1, h2, h3, h4, hr⟩ := h c
  obtain ⟨e0, e1, e2, e3, e4, e5⟩ := he c
  have hu := (H c).u.of_eq e0
  have hx := (H c).x.of_eq e1
  have hy := (H c).y.of_eq e2
  have hz := (H c).z.of_eq e3
  have hg := (H c).g.of_eq e4
  have hh := (H c).h.of_eq e5
  refine ⟨h0.trans ?_, h1.trans ?_, h2.trans ?_, h3.trans ?_, h4.trans ?_, hr⟩ <;> clear h0 h1 h2 h3 h4 hr h
  · exact (val_main_v87_eq ..).trans ((is_arr (v87_is hu hx hg)).trans (arr6 (H c).u (H c).x (H c).g).symm)
  · exact (val_main_v66_eq ..).trans ((is_arr (v66_is hu hy hz hh)).trans (arr7 (H c).u (H c).y (H c).z (H c).h).symm)
  · exact (val_main_v89_eq ..).trans ((is_arr (v89_is hu hy hz hh)).trans (arr8 (H c).u (H c).y (H c).z (H c).h).symm)
  · exact (val_main_v88_eq ..).trans ((is_arr (v88_is hu hx)).trans (arr9 (H c).u (H c).x).symm)
  · exact (val_main_v48_eq ..).trans ((is_arr (v48_is hu hy hz)).trans (arr10 (H c).u (H c).y (H c).z).symm)

end Cert.Kernel7Ideal.Gate
-- ==== Proof.GateFrames.lean ====
/- The frames of the two gating calls, as compiled and over the extended reals, and of their references, which are host code: each ends with its arguments as they were. -/
module

public import proofs.«01_k».proof.Defs
public import proofs.«01_k».proof.Proof.Gen.Kernel6.Frame
public import proofs.«01_k».proof.Proof.Gen.Kernel7.Frame
public import proofs.«01_k».proof.Proof.Gen.Kernel6Ideal.Frame
public import proofs.«01_k».proof.Proof.Gen.Kernel7Ideal.Frame
public import proofs.«01_k».proof.Proof.Gen.Reference6Ideal
public import proofs.«01_k».proof.Proof.Gen.Reference7Ideal
public import proofs.«01_k».proof.Proof.Gen.Reference6Ideal.Run
public import proofs.«01_k».proof.Proof.Gen.Reference7Ideal.Run

@[expose] public section

set_option maxRecDepth 16384

noncomputable section

open Idealize.ShloMosaic Idealize.SL.Sem

namespace Cert.Reference6Ideal.Mix

theorem reference_frame : Cert.quiescent_Reference6Ideal := fun m ρ _ =>
  (θ_run Cert.Reference6Ideal.defs _ _).mono (fun _ h => ⟨fun c => (h c).2, funext fun x => (nomatch x)⟩) (Cert.Reference6Ideal.Value.run m ρ)

theorem frame_bits : Cert.quiescent_Kernel6 := fun m ρ _ => Cert.Kernel6.Gen.frame m ρ

theorem frame_ideal : Cert.quiescent_Kernel6Ideal := fun m ρ _ => Cert.Kernel6Ideal.Gen.frame m ρ

end Cert.Reference6Ideal.Mix

namespace Cert.Reference7Ideal.Gate

theorem reference_frame : Cert.quiescent_Reference7Ideal := fun m ρ _ =>
  (θ_run Cert.Reference7Ideal.defs _ _).mono (fun _ h => ⟨fun c => (h c).2.2.2.2.2, funext fun x => (nomatch x)⟩) (Cert.Reference7Ideal.Value.run m ρ)

theorem frame_bits : Cert.quiescent_Kernel7 := fun m ρ _ => Cert.Kernel7.Gen.frame m ρ

theorem frame_ideal : Cert.quiescent_Kernel7Ideal := fun m ρ _ => Cert.Kernel7Ideal.Gen.frame m ρ

end Cert.Reference7Ideal.Gate
-- ==== Proof.lean ====
module

public import proofs.«01_k».proof.Defs
public import proofs.«01_k».proof.Proof.Frames
public import proofs.«01_k».proof.Proof.MlpFrames
public import proofs.«01_k».proof.Proof.MlpResult
public import proofs.«01_k».proof.Proof.OutResult
public import proofs.«01_k».proof.Proof.InResult
public import proofs.«01_k».proof.Proof.FwdResult
public import proofs.«01_k».proof.Proof.MixResult
public import proofs.«01_k».proof.Proof.GateResult
public import proofs.«01_k».proof.Proof.GateFrames
public import proofs.«01_k».proof.Proof.Finite
public import proofs.«01_k».proof.Proof.RefOut
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.SL.Sem
open Cert.KernelIdeal.Attn (reals arr RQ RK RV TQ TK pre_facts args_of_pre kernel_value frame_any)

/-- The reference is host code: it ends, its arguments as they were; it has no counters. -/
theorem reference_frame : Cert.quiescent_ReferenceIdeal := fun m ρ _ =>
  (θ_run Cert.ReferenceIdeal.defs _ _).mono (fun r h => ⟨fun c => (h c).2.2.2.2.2, funext fun x => (nomatch x)⟩) (Cert.ReferenceIdeal.Value.run m ρ)

/-- On finite arguments the kernel and the reference leave the same five arrays. -/
theorem results : Cert.algebraic_KernelIdeal_ReferenceIdeal_pre_finite (hPre_finite := pre_facts) := fun m g m' g' hm he =>
  have H := args_of_pre hm
  ⟨_, _, _, _, _, kernel_value g H, (θ_run Cert.ReferenceIdeal.defs _ _).mono (fun r h c => by
    have R : Cert.ReferenceIdeal.Attn.Real (StableHlo.launchContents m' c) _ _ _ _ :=
      ⟨fun a b => (congrFun (he c).1 (ix2 a b)).trans ((H c).x a b), fun a b => (congrFun (he c).2.1 (ix2 a b)).trans ((H c).o a b),
        fun a b => (congrFun (he c).2.2.1 (ix2 a b)).trans ((H c).g a b), fun a b => (congrFun (he c).2.2.2 (ix2 a b)).trans ((H c).k a b)⟩
    obtain ⟨h0, h1, h2, h3, h4, h5⟩ := h c
    exact ⟨h0.trans (Cert.ReferenceIdeal.Attn.Is.eq (Cert.ReferenceIdeal.Attn.out126 R)), h1.trans (Cert.ReferenceIdeal.Attn.Is.eq (Cert.ReferenceIdeal.Attn.out127 R)),
      h2.trans (Cert.ReferenceIdeal.Attn.Is.eq (Cert.ReferenceIdeal.Attn.out128 R)), h3.trans (Cert.ReferenceIdeal.Attn.Is.eq (Cert.ReferenceIdeal.Attn.out124 R)),
      h4.trans (Cert.ReferenceIdeal.Attn.Is.eq (Cert.ReferenceIdeal.Attn.out102 R)), h5⟩) (Cert.ReferenceIdeal.Value.run m' g')⟩

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts, Cert.Reference5Ideal.Gen.facts, Cert.Kernel6.Gen.facts, Cert.Kernel6Ideal.Gen.facts,
  Cert.Reference6Ideal.Gen.facts, Cert.Kernel7.Gen.facts, Cert.Kernel7Ideal.Gen.facts, Cert.Reference7Ideal.Gen.facts, pre_facts, Cert.Kernel2Ideal.Mlp.pre_facts,
  Cert.Kernel5Ideal.Fwd.pre_facts, Cert.Kernel7Ideal.Gate.pre_facts,
  Cert.KernelIdeal.Attn.frame_bits, Cert.KernelIdeal.Attn.frame_ideal, fun m ρ _ => frame_any (F := Ideal) m ρ, reference_frame, fun m ρ _ => reference_frame m ρ trivial,
  Cert.Kernel2Ideal.Mlp.frame_bits, Cert.Kernel2Ideal.Mlp.frame_ideal, fun m ρ _ => Cert.Kernel2Ideal.Mlp.frame_ideal m ρ trivial,
  Cert.Reference2Ideal.Mlp.reference_frame, fun m ρ _ => Cert.Reference2Ideal.Mlp.reference_frame m ρ trivial,
  Cert.Kernel3Ideal.Out.frame_bits, Cert.Kernel3Ideal.Out.frame_ideal, Cert.Reference3Ideal.Out.reference_frame,
  Cert.Kernel4Ideal.In.frame_bits, Cert.Kernel4Ideal.In.frame_ideal, Cert.Reference4Ideal.In.reference_frame,
  Cert.Kernel5Ideal.Fwd.frame_bits, Cert.Kernel5Ideal.Fwd.frame_ideal, fun m ρ _ => Cert.Kernel5Ideal.Fwd.frame_ideal m ρ trivial,
  Cert.Reference5Ideal.Fwd.reference_frame, fun m ρ _ => Cert.Reference5Ideal.Fwd.reference_frame m ρ trivial,
  Cert.Reference6Ideal.Mix.frame_bits, Cert.Reference6Ideal.Mix.frame_ideal, Cert.Reference6Ideal.Mix.reference_frame,
  Cert.Reference7Ideal.Gate.frame_bits, Cert.Reference7Ideal.Gate.frame_ideal, fun m ρ _ => Cert.Reference7Ideal.Gate.frame_ideal m ρ trivial,
  Cert.Reference7Ideal.Gate.reference_frame, fun m ρ _ => Cert.Reference7Ideal.Gate.reference_frame m ρ trivial,
  trivial, results, trivial, Cert.Kernel2Ideal.Mlp.results, trivial, Cert.Kernel3Ideal.Out.results, trivial, Cert.Kernel4Ideal.In.results,
  trivial, Cert.Kernel5Ideal.Fwd.results, trivial, Cert.Kernel6Ideal.Mix.results, trivial, Cert.Kernel7Ideal.Gate.results⟩

end Cert.Proof
